-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v11_4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v87_0)) (v1 : (c : Dev Cert.Kernel4Ideal.nD) → Buf (Elt Ideal) ((c.tc : Thread Cert.Kernel4Ideal.nD Cert.Kernel4Ideal.τ).loc Cert.Kernel4Ideal.main_v87_1)) (v2 : (c : Dev Cert.Kernel4Ideal.nD) → Buf (Elt Ideal) ((c.tc : Thread Cert.Kernel4Ideal.nD Cert.Kernel4Ideal.τ).loc Cert.Kernel4Ideal.main_v87_2)) (v3 : (c : Dev Cert.Kernel4Ideal.nD) → Buf (Elt Ideal) ((c.tc : Thread Cert.Kernel4Ideal.nD Cert.Kernel4Ideal.τ).loc Cert.Kernel4Ideal.main_v87_3)) (v4 : (c : Dev Cert.Kernel4Ideal.nD) → Buf (Elt Ideal) ((c.tc : Thread Cert.Kernel4Ideal.nD Cert.Kernel4Ideal.τ).loc Cert.Kernel4Ideal.main_v87_4)) (v5 : (c : Dev Cert.Kernel4Ideal.nD) → Buf (Elt Ideal) ((c.tc : Thread Cert.Kernel4Ideal.nD Cert.Kernel4Ideal.τ).loc Cert.Kernel4Ideal.main_v87_5)) (v6 : (c : Dev Cert.Kernel4Ideal.nD) → Buf (Elt Ideal) ((c.tc : Thread Cert.Kernel4Ideal.nD Cert.Kernel4Ideal.τ).loc Cert.Kernel4Ideal.main_v87_6)) (v7 : (c : Dev Cert.Kernel4Ideal.nD) → Buf (Elt Ideal) ((c.tc : Thread Cert.Kernel4Ideal.nD Cert.Kernel4Ideal.τ).loc Cert.Kernel4Ideal.main_v87_7)) (v8 : (c : Dev Cert.Kernel4Ideal.nD) → Buf (Elt Ideal) ((c.tc : Thread Cert.Kernel4Ideal.nD Cert.Kernel4Ideal.τ).loc Cert.Kernel4Ideal.main_v87_8)) (v9 : (c : Dev Cert.Kernel4Ideal.nD) → Buf (Elt Ideal) ((c.tc : Thread Cert.Kernel4Ideal.nD Cert.Kernel4Ideal.τ).loc Cert.Kernel4Ideal.main_v87_9)) (v10 : (c : Dev Cert.Kernel4Ideal.nD) → Buf (Elt Ideal) ((c.tc : Thread Cert.Kernel4Ideal.nD Cert.Kernel4Ideal.τ).loc Cert.Kernel4Ideal.main_v87_10)) (v11 : (c : Dev Cert.Kernel4Ideal.nD) → Buf (Elt Ideal) ((c.tc : Thread Cert.Kernel4Ideal.nD Cert.Kernel4Ideal.τ).loc Cert.Kernel4Ideal.main_v87_11)) (v12 : (c : Dev Cert.Kernel4Ideal.nD) → Buf (Elt Ideal) ((c.tc : Thread Cert.Kernel4Ideal.nD Cert.Kernel4Ideal.τ).loc Cert.Kernel4Ideal.main_v87_12)) (v13 : (c : Dev Cert.Kernel4Ideal.nD) → Buf (Elt Ideal) ((c.tc : Thread Cert.Kernel4Ideal.nD Cert.Kernel4Ideal.τ).loc Cert.Kernel4Ideal.main_v87_13)) (v14 : (c : Dev Cert.Kernel4Ideal.nD) → Buf (Elt Ideal) ((c.tc : Thread Cert.Kernel4Ideal.nD Cert.Kernel4Ideal.τ).loc Cert.Kernel4Ideal.main_v87_14)) (v15 : (c : Dev Cert.Kernel4Ideal.nD) → Buf (Elt Ideal) ((c.tc : Thread Cert.Kernel4Ideal.nD Cert.Kernel4Ideal.τ).loc Cert.Kernel4Ideal.main_v87_15)) (v16 : (c : Dev Cert.Kernel4Ideal.nD) → Buf (Elt Ideal) ((c.tc : Thread Cert.Kernel4Ideal.nD Cert.Kernel4Ideal.τ).loc Cert.Kernel4Ideal.main_v87_16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v87_0) = v0 c
          ∧ r.2.mem ((c.tc : Thread Cert.Kernel4Ideal.nD Cert.Kernel4Ideal.τ).loc Cert.Kernel4Ideal.main_v87_1) = v1 c
          ∧ r.2.mem ((c.tc : Thread Cert.Kernel4Ideal.nD Cert.Kernel4Ideal.τ).loc Cert.Kernel4Ideal.main_v87_2) = v2 c
          ∧ r.2.mem ((c.tc : Thread Cert.Kernel4Ideal.nD Cert.Kernel4Ideal.τ).loc Cert.Kernel4Ideal.main_v87_3) = v3 c
          ∧ r.2.mem ((c.tc : Thread Cert.Kernel4Ideal.nD Cert.Kernel4Ideal.τ).loc Cert.Kernel4Ideal.main_v87_4) = v4 c
          ∧ r.2.mem ((c.tc : Thread Cert.Kernel4Ideal.nD Cert.Kernel4Ideal.τ).loc Cert.Kernel4Ideal.main_v87_5) = v5 c
          ∧ r.2.mem ((c.tc : Thread Cert.Kernel4Ideal.nD Cert.Kernel4Ideal.τ).loc Cert.Kernel4Ideal.main_v87_6) = v6 c
          ∧ r.2.mem ((c.tc : Thread Cert.Kernel4Ideal.nD Cert.Kernel4Ideal.τ).loc Cert.Kernel4Ideal.main_v87_7) = v7 c
          ∧ r.2.mem ((c.tc : Thread Cert.Kernel4Ideal.nD Cert.Kernel4Ideal.τ).loc Cert.Kernel4Ideal.main_v87_8) = v8 c
          ∧ r.2.mem ((c.tc : Thread Cert.Kernel4Ideal.nD Cert.Kernel4Ideal.τ).loc Cert.Kernel4Ideal.main_v87_9) = v9 c
          ∧ r.2.mem ((c.tc : Thread Cert.Kernel4Ideal.nD Cert.Kernel4Ideal.τ).loc Cert.Kernel4Ideal.main_v87_10) = v10 c
          ∧ r.2.mem ((c.tc : Thread Cert.Kernel4Ideal.nD Cert.Kernel4Ideal.τ).loc Cert.Kernel4Ideal.main_v87_11) = v11 c
          ∧ r.2.mem ((c.tc : Thread Cert.Kernel4Ideal.nD Cert.Kernel4Ideal.τ).loc Cert.Kernel4Ideal.main_v87_12) = v12 c
          ∧ r.2.mem ((c.tc : Thread Cert.Kernel4Ideal.nD Cert.Kernel4Ideal.τ).loc Cert.Kernel4Ideal.main_v87_13) = v13 c
          ∧ r.2.mem ((c.tc : Thread Cert.Kernel4Ideal.nD Cert.Kernel4Ideal.τ).loc Cert.Kernel4Ideal.main_v87_14) = v14 c
          ∧ r.2.mem ((c.tc : Thread Cert.Kernel4Ideal.nD Cert.Kernel4Ideal.τ).loc Cert.Kernel4Ideal.main_v87_15) = v15 c
          ∧ r.2.mem ((c.tc : Thread Cert.Kernel4Ideal.nD Cert.Kernel4Ideal.τ).loc Cert.Kernel4Ideal.main_v87_16) = v16 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v68) = v0 c
          ∧ r.2.mem ((c.tc : Thread Cert.Reference4Ideal.nD Cert.Reference4Ideal.τ).loc Cert.Reference4Ideal.main_v105) = v1 c
          ∧ r.2.mem ((c.tc : Thread Cert.Reference4Ideal.nD Cert.Reference4Ideal.τ).loc Cert.Reference4Ideal.main_v106) = v2 c
          ∧ r.2.mem ((c.tc : Thread Cert.Reference4Ideal.nD Cert.Reference4Ideal.τ).loc Cert.Reference4Ideal.main_v107) = v3 c
          ∧ r.2.mem ((c.tc : Thread Cert.Reference4Ideal.nD Cert.Reference4Ideal.τ).loc Cert.Reference4Ideal.main_v142) = v4 c
          ∧ r.2.mem ((c.tc : Thread Cert.Reference4Ideal.nD Cert.Reference4Ideal.τ).loc Cert.Reference4Ideal.main_v177) = v5 c
          ∧ r.2.mem ((c.tc : Thread Cert.Reference4Ideal.nD Cert.Reference4Ideal.τ).loc Cert.Reference4Ideal.main_v178) = v6 c
          ∧ r.2.mem ((c.tc : Thread Cert.Reference4Ideal.nD Cert.Reference4Ideal.τ).loc Cert.Reference4Ideal.main_v179) = v7 c
          ∧ r.2.mem ((c.tc : Thread Cert.Reference4Ideal.nD Cert.Reference4Ideal.τ).loc Cert.Reference4Ideal.main_v214) = v8 c
          ∧ r.2.mem ((c.tc : Thread Cert.Reference4Ideal.nD Cert.Reference4Ideal.τ).loc Cert.Reference4Ideal.main_v249) = v9 c
          ∧ r.2.mem ((c.tc : Thread Cert.Reference4Ideal.nD Cert.Reference4Ideal.τ).loc Cert.Reference4Ideal.main_v250) = v10 c
          ∧ r.2.mem ((c.tc : Thread Cert.Reference4Ideal.nD Cert.Reference4Ideal.τ).loc Cert.Reference4Ideal.main_v251) = v11 c
          ∧ r.2.mem ((c.tc : Thread Cert.Reference4Ideal.nD Cert.Reference4Ideal.τ).loc Cert.Reference4Ideal.main_v286) = v12 c
          ∧ r.2.mem ((c.tc : Thread Cert.Reference4Ideal.nD Cert.Reference4Ideal.τ).loc Cert.Reference4Ideal.main_v321) = v13 c
          ∧ r.2.mem ((c.tc : Thread Cert.Reference4Ideal.nD Cert.Reference4Ideal.τ).loc Cert.Reference4Ideal.main_v322) = v14 c
          ∧ r.2.mem ((c.tc : Thread Cert.Reference4Ideal.nD Cert.Reference4Ideal.τ).loc Cert.Reference4Ideal.main_v323) = v15 c
          ∧ r.2.mem ((c.tc : Thread Cert.Reference4Ideal.nD Cert.Reference4Ideal.τ).loc Cert.Reference4Ideal.main_v324) = v16 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S32768x256 : Shape := ⟨2, ![32768, 256]⟩
abbrev S32768x512 : Shape := ⟨2, ![32768, 512]⟩
abbrev S512 : Shape := ⟨1, ![512]⟩
abbrev S_ : Shape := ⟨0, ![]⟩
abbrev S8x4x64x128 : Shape := ⟨4, ![8, 4, 64, 128]⟩
abbrev S1x512 : Shape := ⟨2, ![1, 512]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S8x4096x256 : Shape := ⟨3, ![8, 4096, 256]⟩
abbrev S8x4096x512 : Shape := ⟨3, ![8, 4096, 512]⟩
abbrev S8x128x256 : Shape := ⟨3, ![8, 128, 256]⟩
abbrev S8x128x512 : Shape := ⟨3, ![8, 128, 512]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩
abbrev S128x64 : Shape := ⟨2, ![128, 64]⟩
abbrev S1x1x64x128 : Shape := ⟨4, ![1, 1, 64, 128]⟩
abbrev S64x128 : Shape := ⟨2, ![64, 128]⟩
abbrev S1x128x1 : Shape := ⟨3, ![1, 128, 1]⟩
abbrev S1x1x1 : Shape := ⟨3, ![1, 1, 1]⟩
abbrev S1x1 : Shape := ⟨2, ![1, 1]⟩

abbrev nBuf : Space → Nat
  | .hbm => 73
  | .vmem => 17
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x512, .f32⟩
  | .hbm, ⟨3, _⟩ => ⟨S32768x512, .f32⟩
  | .hbm, ⟨4, _⟩ => ⟨S512, .f32⟩
  | .hbm, ⟨5, _⟩ => ⟨S_, .f32⟩
  | .hbm, ⟨6, _⟩ => ⟨S8x4x64x128, .f32⟩
  | .hbm, ⟨7, _⟩ => ⟨S1x512, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S128, .f32⟩
  | .hbm, ⟨19, _⟩ => ⟨S128x1, .f32⟩
  | .hbm, ⟨20, _⟩ => ⟨S1x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S1x128x128, .f32⟩
  | .hbm, ⟨25, _⟩ => ⟨S_, .f32⟩
  | .hbm, ⟨26, _⟩ => ⟨S1x128x128, .f32⟩
  | .hbm, ⟨27, _⟩ => ⟨S1x128x128, .i1⟩
  | .hbm, ⟨28, _⟩ => ⟨S_, .f32⟩
  | .hbm, ⟨29, _⟩ => ⟨S128x128, .f32⟩
  | .hbm, ⟨30, _⟩ => ⟨S128x128, .f32⟩
  | .hbm, ⟨31, _⟩ => ⟨S1x128x128, .f32⟩
  | .hbm, ⟨32, _⟩ => ⟨S4x1x1, .f32⟩
  | .hbm, ⟨33, _⟩ => ⟨S4x128x128, .f32⟩
  | .hbm, ⟨34, _⟩ => ⟨S4x128x128, .f32⟩
  | .hbm, ⟨35, _⟩ => ⟨S4x128x128, .f32⟩
  | .hbm, ⟨36, _⟩ => ⟨S4x128x128, .f32⟩
  | .hbm, ⟨37, _⟩ => ⟨S_, .f32⟩
  | .hbm, ⟨38, _⟩ => ⟨S_, .f32⟩
  | .hbm, ⟨39, _⟩ => ⟨S4x128x128, .i1⟩
  | .hbm, ⟨40, _⟩ => ⟨S4x128x128, .f32⟩
  | .hbm, ⟨41, _⟩ => ⟨S4x128x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S4x1, .f32⟩
  | .hbm, ⟨47, _⟩ => ⟨S4x128, .f32⟩
  | .hbm, ⟨48, _⟩ => ⟨S4x128, .f32⟩
  | .hbm, ⟨49, _⟩ => ⟨S4x128, .f32⟩
  | .hbm, ⟨50, _⟩ => ⟨S4x128, .f32⟩
  | .hbm, ⟨51, _⟩ => ⟨S4x128x1, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S4x1, .f32⟩
  | .hbm, ⟨57, _⟩ => ⟨S4x128, .f32⟩
  | .hbm, ⟨58, _⟩ => ⟨S4x128, .f32⟩
  | .hbm, ⟨59, _⟩ => ⟨S4x128, .f32⟩
  | .hbm, ⟨60, _⟩ => ⟨S4x128, .f32⟩
  | .hbm, ⟨61, _⟩ => ⟨S4x128x1, .f32⟩
  | .hbm, ⟨62, _⟩ => ⟨S_, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S4x1x1, .f32⟩
  | .hbm, ⟨67, _⟩ => ⟨S8x4096x256, .f32⟩
  | .hbm, ⟨68, _⟩ => ⟨S8x4096x256, .f32⟩
  | .hbm, ⟨69, _⟩ => ⟨S8x4096x512, .f32⟩
  | .hbm, ⟨70, _⟩ => ⟨S8x4096x512, .f32⟩
  | .hbm, ⟨71, _⟩ => ⟨S8x4096x512, .f32⟩
  | .hbm, ⟨72, _⟩ => ⟨S8x4x64x128, .f32⟩
  | .local _ .vmem, ⟨0, _⟩ => ⟨S8x128x256, .f32⟩
  | .local _ .vmem, ⟨1, _⟩ => ⟨S8x128x256, .f32⟩
  | .local _ .vmem, ⟨2, _⟩ => ⟨S8x128x256, .f32⟩
  | .local _ .vmem, ⟨3, _⟩ => ⟨S8x128x256, .f32⟩
  | .local _ .vmem, ⟨4, _⟩ => ⟨S8x128x512, .f32⟩
  | .local _ .vmem, ⟨5, _⟩ => ⟨S8x128x512, .f32⟩
  | .local _ .vmem, ⟨6, _⟩ => ⟨S8x128x512, .f32⟩
  | .local _ .vmem, ⟨7, _⟩ => ⟨S8x128x512, .f32⟩
  | .local _ .vmem, ⟨8, _⟩ => ⟨S8x4x64x128, .f32⟩
  | .local _ .vmem, ⟨9, _⟩ => ⟨S4x128x128, .f32⟩
  | .local _ .vmem, ⟨10, _⟩ => ⟨S4x128x1, .f32⟩
  | .local _ .vmem, ⟨11, _⟩ => ⟨S4x128x1, .f32⟩
  | .local _ .vmem, ⟨12, _⟩ => ⟨S4x1x1, .f32⟩
  | .local _ .vmem, ⟨13, _⟩ => ⟨S1x512, .f32⟩
  | .local _ .vmem, ⟨14, _⟩ => ⟨S8x128x512, .f32⟩
  | .local _ .vmem, ⟨15, _⟩ => ⟨S8x128x512, .f32⟩
  | .local _ .vmem, ⟨16, _⟩ => ⟨S8x4x64x128, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54_0 : Ref sig .tc := ⟨.hbm, 71, rfl⟩
abbrev main_v54_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16

abbrev nD : Nat := 1
abbrev τ : Topo := Topo.v7x

variable {F : FTy → Type} [FloatOps F]

abbrev grid0 : Pipeline.Grid := ⟨2, ![1, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x4x64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S8x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S8x4x64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== ReferenceIdeal.lean ====
abbrev S32768x256 : Shape := ⟨2, ![32768, 256]⟩
abbrev S32768x512 : Shape := ⟨2, ![32768, 512]⟩
abbrev S512 : Shape := ⟨1, ![512]⟩
abbrev S8x4096x4x64 : Shape := ⟨4, ![8, 4096, 4, 64]⟩
abbrev S8x4096x4x128 : Shape := ⟨4, ![8, 4096, 4, 128]⟩
abbrev S_ : Shape := ⟨0, ![]⟩
abbrev S8x4x64x128 : Shape := ⟨4, ![8, 4, 64, 128]⟩
abbrev S8x32x128x4x64 : Shape := ⟨5, ![8, 32, 128, 4, 64]⟩
abbrev S32x8x128x4x64 : Shape := ⟨5, ![32, 8, 128, 4, 64]⟩
abbrev S8x32x128x4x128 : Shape := ⟨5, ![8, 32, 128, 4, 128]⟩
abbrev S32x8x128x4x128 : Shape := ⟨5, ![32, 8, 128, 4, 128]⟩
abbrev S1x8x128x4x64 : Shape := ⟨5, ![1, 8, 128, 4, 64]⟩
abbrev S8x128x4x64 : Shape := ⟨4, ![8, 128, 4, 64]⟩
abbrev S1x8x128x4x128 : Shape := ⟨5, ![1, 8, 128, 4, 128]⟩
abbrev S8x128x4x128 : Shape := ⟨4, ![8, 128, 4, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S8x4x128x128 : Shape := ⟨4, ![8, 4, 128, 128]⟩
abbrev S1x4x128x128 : Shape := ⟨4, ![1, 4, 128, 128]⟩
abbrev S1x4 : Shape := ⟨2, ![1, 4]⟩
abbrev S128x4 : Shape := ⟨2, ![128, 4]⟩
abbrev S1x128x4x1 : Shape := ⟨4, ![1, 128, 4, 1]⟩
abbrev S1x4x1x1 : Shape := ⟨4, ![1, 4, 1, 1]⟩
abbrev S8x4096x4 : Shape := ⟨3, ![8, 4096, 4]⟩
abbrev S8x4096x4x1 : Shape := ⟨4, ![8, 4096, 4, 1]⟩
abbrev S8x4096x512 : Shape := ⟨3, ![8, 4096, 512]⟩
abbrev S1x1x512 : Shape := ⟨3, ![1, 1, 512]⟩

abbrev nBuf : Space → Nat
  | .hbm => 169
  | .vmem => 0
  | .smem => 0
  | _ => 0

abbrev hbmTy0_0 (i : Nat) : BufTy := match i % 128 with
  | 0 => ⟨S32768x256, .f32⟩
  | 1 => ⟨S32768x256, .f32⟩
  | 2 => ⟨S32768x512, .f32⟩
  | 3 => ⟨S32768x512, .f32⟩
  | 4 => ⟨S512, .f32⟩
  | 5 => ⟨S8x4096x4x64, .f32⟩
  | 6 => ⟨S8x4096x4x64, .f32⟩
  | 7 => ⟨S8x4096x4x128, .f32⟩
  | 8 => ⟨S_, .f32⟩
  | 9 => ⟨S8x4x64x128, .f32⟩
  | 10 => ⟨S8x32x128x4x64, .f32⟩
  | 11 => ⟨S32x8x128x4x64, .f32⟩
  | 12 => ⟨S8x32x128x4x64, .f32⟩
  | 13 => ⟨S32x8x128x4x64, .f32⟩
  | 14 => ⟨S8x32x128x4x128, .f32⟩
  | 15 => ⟨S32x8x128x4x128, .f32⟩
  | 16 => ⟨S_, .f32⟩
  | 17 => ⟨S32x8x128x4x128, .f32⟩
  | 18 => ⟨S_, .i32⟩
  | 19 => ⟨S32x8x128x4x64, .f32⟩
  | 20 => ⟨S32x8x128x4x64, .f32⟩
  | 21 => ⟨S32x8x128x4x128, .f32⟩
  | 22 => ⟨S_, .i32⟩
  | 23 => ⟨S8x4x64x128, .f32⟩
  | 24 => ⟨S32x8x128x4x128, .f32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S1x8x128x4x64, .f32⟩
  | 32 => ⟨S8x128x4x64, .f32⟩
  | 33 => ⟨S_, .i32⟩
  | 34 => ⟨S_, .i32⟩
  | 35 => ⟨S_, .i32⟩
  | 36 => ⟨S_, .i32⟩
  | 37 => ⟨S1x8x128x4x64, .f32⟩
  | 38 => ⟨S8x128x4x64, .f32⟩
  | 39 => ⟨S_, .i32⟩
  | 40 => ⟨S_, .i32⟩
  | 41 => ⟨S_, .i32⟩
  | 42 => ⟨S_, .i32⟩
  | 43 => ⟨S1x8x128x4x128, .f32⟩
  | 44 => ⟨S8x128x4x128, .f32⟩
  | 45 => ⟨S4, .f32⟩
  | 46 => ⟨S_, .f32⟩
  | 47 => ⟨S4, .f32⟩
  | 48 => ⟨S4, .f32⟩
  | 49 => ⟨S_, .f32⟩
  | 50 => ⟨S4, .f32⟩
  | 51 => ⟨S4, .f32⟩
  | 52 => ⟨S4, .f32⟩
  | 53 => ⟨S4, .f32⟩
  | 54 => ⟨S4, .f32⟩
  | 55 => ⟨S128, .f32⟩
  | 56 => ⟨S128x1, .f32⟩
  | 57 => ⟨S1x128, .f32⟩
  | 58 => ⟨S128x128, .f32⟩
  | 59 => ⟨S128x128, .f32⟩
  | 60 => ⟨S128x128, .f32⟩
  | 61 => ⟨S1x128x128, .f32⟩
  | 62 => ⟨S_, .f32⟩
  | 63 => ⟨S1x128x128, .f32⟩
  | 64 => ⟨S1x128x128, .i1⟩
  | 65 => ⟨S_, .f32⟩
  | 66 => ⟨S128x128, .f32⟩
  | 67 => ⟨S128x128, .f32⟩
  | 68 => ⟨S1x128x128, .f32⟩
  | 69 => ⟨S4x1x1, .f32⟩
  | 70 => ⟨S4x128x128, .f32⟩
  | 71 => ⟨S4x128x128, .f32⟩
  | 72 => ⟨S4x128x128, .f32⟩
  | 73 => ⟨S4x128x128, .f32⟩
  | 74 => ⟨S_, .f32⟩
  | 75 => ⟨S_, .f32⟩
  | 76 => ⟨S4x128x128, .i1⟩
  | 77 => ⟨S4x128x128, .f32⟩
  | 78 => ⟨S4x128x128, .f32⟩
  | 79 => ⟨S8x4x128x128, .f32⟩
  | 80 => ⟨S1x4x128x128, .f32⟩
  | 81 => ⟨S8x4x128x128, .f32⟩
  | 82 => ⟨S8x4x128x128, .f32⟩
  | 83 => ⟨S8x4x128x128, .f32⟩
  | 84 => ⟨S8x128x4x128, .f32⟩
  | 85 => ⟨S8x4x128x128, .f32⟩
  | 86 => ⟨S8x128x4x128, .f32⟩
  | 87 => ⟨S128x1, .f32⟩
  | 88 => ⟨S_, .f32⟩
  | 89 => ⟨S128x1, .f32⟩
  | 90 => ⟨S128x1, .f32⟩
  | 91 => ⟨S1x4, .f32⟩
  | 92 => ⟨S128x4, .f32⟩
  | 93 => ⟨S128x4, .f32⟩
  | 94 => ⟨S128x4, .f32⟩
  | 95 => ⟨S128x4, .f32⟩
  | 96 => ⟨S1x128x4x1, .f32⟩
  | 97 => ⟨S8x128x4x128, .f32⟩
  | 98 => ⟨S8x128x4x128, .f32⟩
  | 99 => ⟨S8x128x4x128, .f32⟩
  | 100 => ⟨S_, .f32⟩
  | 101 => ⟨S128, .f32⟩
  | 102 => ⟨S128, .f32⟩
  | 103 => ⟨S128x1, .f32⟩
  | 104 => ⟨S1x4, .f32⟩
  | 105 => ⟨S128x4, .f32⟩
  | 106 => ⟨S128x4, .f32⟩
  | 107 => ⟨S128x4, .f32⟩
  | 108 => ⟨S128x4, .f32⟩
  | 109 => ⟨S_, .f32⟩
  | 110 => ⟨S4, .f32⟩
  | 111 => ⟨S4, .f32⟩
  | 112 => ⟨S4, .f32⟩
  | 113 => ⟨S1x4x1x1, .f32⟩
  | 114 => ⟨S8x4x64x128, .f32⟩
  | 115 => ⟨S8x4x64x128, .f32⟩
  | 116 => ⟨S1x128x4x1, .f32⟩
  | 117 => ⟨S8x128x4x64, .f32⟩
  | 118 => ⟨S8x128x4x64, .f32⟩
  | 119 => ⟨S8x4x64x128, .f32⟩
  | 120 => ⟨S8x4x64x128, .f32⟩
  | 121 => ⟨S1x8x128x4x128, .f32⟩
  | 122 => ⟨S_, .i32⟩
  | 123 => ⟨S_, .i32⟩
  | 124 => ⟨S_, .i32⟩
  | 125 => ⟨S_, .i32⟩
  | 126 => ⟨S32x8x128x4x128, .f32⟩
  | 127 => ⟨S_, .i32⟩
  | _ => ⟨S32768x256, .f32⟩

abbrev hbmTy0_1 (i : Nat) : BufTy := match i % 128 with
  | 0 => ⟨S_, .i32⟩
  | 1 => ⟨S8x32x128x4x128, .f32⟩
  | 2 => ⟨S8x4096x4x128, .f32⟩
  | 3 => ⟨S_, .f32⟩
  | 4 => ⟨S8x4096x4, .f32⟩
  | 5 => ⟨S8x4096x4x1, .f32⟩
  | 6 => ⟨S_, .f32⟩
  | 7 => ⟨S8x4096x4x1, .f32⟩
  | 8 => ⟨S8x4096x4x1, .f32⟩
  | 9 => ⟨S8x4096x4x128, .f32⟩
  | 10 => ⟨S8x4096x4x128, .f32⟩
  | 11 => ⟨S8x4096x4x128, .f32⟩
  | 12 => ⟨S_, .f32⟩
  | 13 => ⟨S8x4096x4, .f32⟩
  | 14 => ⟨S8x4096x4x1, .f32⟩
  | 15 => ⟨S_, .f32⟩
  | 16 => ⟨S8x4096x4x1, .f32⟩
  | 17 => ⟨S8x4096x4x1, .f32⟩
  | 18 => ⟨S8x4096x4x128, .f32⟩
  | 19 => ⟨S8x4096x4x128, .f32⟩
  | 20 => ⟨S_, .f32⟩
  | 21 => ⟨S8x4096x4x1, .f32⟩
  | 22 => ⟨S8x4096x4x1, .f32⟩
  | 23 => ⟨S8x4096x4x1, .f32⟩
  | 24 => ⟨S8x4096x4x128, .f32⟩
  | 25 => ⟨S8x4096x4x128, .f32⟩
  | 26 => ⟨S8x4096x512, .f32⟩
  | 27 => ⟨S1x1x512, .f32⟩
  | 28 => ⟨S8x4096x512, .f32⟩
  | 29 => ⟨S8x4096x512, .f32⟩
  | 30 => ⟨S8x4096x512, .f32⟩
  | 31 => ⟨S8x4096x512, .f32⟩
  | 32 => ⟨S8x4096x512, .f32⟩
  | 33 => ⟨S_, .f32⟩
  | 34 => ⟨S8x4096x512, .f32⟩
  | 35 => ⟨S8x4096x512, .f32⟩
  | 36 => ⟨S_, .f32⟩
  | 37 => ⟨S8x4096x512, .f32⟩
  | 38 => ⟨S8x4096x512, .f32⟩
  | 39 => ⟨S8x4096x512, .f32⟩
  | 40 => ⟨S8x4096x512, .f32⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_c : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev main_while0c_c_11 : Ref sig .tc := ⟨.hbm, 25, rfl⟩
abbrev main_while0c_v39 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_c_1 : Ref sig .tc := ⟨.hbm, 29, rfl⟩
abbrev main_while0b_call0_c_2 : Ref sig .tc := ⟨.hbm, 30, rfl⟩
abbrev main_while0b_call0_v0 : Ref sig .tc := ⟨.hbm, 31, rfl⟩
abbrev main_while0b_v39 : Ref sig .tc := ⟨.hbm, 32, rfl⟩
abbrev main_while0b_call1_c : Ref sig .tc := ⟨.hbm, 33, rfl⟩
abbrev main_while0b_call1_c_0 : Ref sig .tc := ⟨.hbm, 34, rfl⟩
abbrev main_while0b_call1_c_1 : Ref sig .tc := ⟨.hbm, 35, rfl⟩
abbrev main_while0b_call1_c_2 : Ref sig .tc := ⟨.hbm, 36, rfl⟩
abbrev main_while0b_call1_v0 : Ref sig .tc := ⟨.hbm, 37, rfl⟩
abbrev main_while0b_v40 : Ref sig .tc := ⟨.hbm, 38, rfl⟩
abbrev main_while0b_call2_c : Ref sig .tc := ⟨.hbm, 39, rfl⟩
abbrev main_while0b_call2_c_0 : Ref sig .tc := ⟨.hbm, 40, rfl⟩
abbrev main_while0b_call2_c_1 : Ref sig .tc := ⟨.hbm, 41, rfl⟩
abbrev main_while0b_call2_c_2 : Ref sig .tc := ⟨.hbm, 42, rfl⟩
abbrev main_while0b_call2_v0 : Ref sig .tc := ⟨.hbm, 43, rfl⟩
abbrev main_while0b_v41 : Ref sig .tc := ⟨.hbm, 44, rfl⟩
abbrev main_while0b_v42 : Ref sig .tc := ⟨.hbm, 45, rfl⟩
abbrev main_while0b_cst_11 : Ref sig .tc := ⟨.hbm, 46, rfl⟩
abbrev main_while0b_v43 : Ref sig .tc := ⟨.hbm, 47, rfl⟩
abbrev main_while0b_v44 : Ref sig .tc := ⟨.hbm, 48, rfl⟩
abbrev main_while0b_cst_12 : Ref sig .tc := ⟨.hbm, 49, rfl⟩
abbrev main_while0b_v45 : Ref sig .tc := ⟨.hbm, 50, rfl⟩
abbrev main_while0b_v46 : Ref sig .tc := ⟨.hbm, 51, rfl⟩
abbrev main_while0b_v47 : Ref sig .tc := ⟨.hbm, 52, rfl⟩
abbrev main_while0b_v48 : Ref sig .tc := ⟨.hbm, 53, rfl⟩
abbrev main_while0b_v49 : Ref sig .tc := ⟨.hbm, 54, rfl⟩
abbrev main_while0b_v50 : Ref sig .tc := ⟨.hbm, 55, rfl⟩
abbrev main_while0b_v51 : Ref sig .tc := ⟨.hbm, 56, rfl⟩
abbrev main_while0b_v52 : Ref sig .tc := ⟨.hbm, 57, rfl⟩
abbrev main_while0b_v53 : Ref sig .tc := ⟨.hbm, 58, rfl⟩
abbrev main_while0b_v54 : Ref sig .tc := ⟨.hbm, 59, rfl⟩
abbrev main_while0b_v55 : Ref sig .tc := ⟨.hbm, 60, rfl⟩
abbrev main_while0b_v56 : Ref sig .tc := ⟨.hbm, 61, rfl⟩
abbrev main_while0b_cst_13 : Ref sig .tc := ⟨.hbm, 62, rfl⟩
abbrev main_while0b_v57 : Ref sig .tc := ⟨.hbm, 63, rfl⟩
abbrev main_while0b_v58 : Ref sig .tc := ⟨.hbm, 64, rfl⟩
abbrev main_while0b_cst_14 : Ref sig .tc := ⟨.hbm, 65, rfl⟩
abbrev main_while0b_v59 : Ref sig .tc := ⟨.hbm, 66, rfl⟩
abbrev main_while0b_v60 : Ref sig .tc := ⟨.hbm, 67, rfl⟩
abbrev main_while0b_v61 : Ref sig .tc := ⟨.hbm, 68, rfl⟩
abbrev main_while0b_v62 : Ref sig .tc := ⟨.hbm, 69, rfl⟩
abbrev main_while0b_v63 : Ref sig .tc := ⟨.hbm, 70, rfl⟩
abbrev main_while0b_v64 : Ref sig .tc := ⟨.hbm, 71, rfl⟩
abbrev main_while0b_v65 : Ref sig .tc := ⟨.hbm, 72, rfl⟩
abbrev main_while0b_v66 : Ref sig .tc := ⟨.hbm, 73, rfl⟩
abbrev main_while0b_cst_15 : Ref sig .tc := ⟨.hbm, 74, rfl⟩
abbrev main_while0b_call3_v0 : Ref sig .tc := ⟨.hbm, 75, rfl⟩
abbrev main_while0b_call3_v1 : Ref sig .tc := ⟨.hbm, 76, rfl⟩
abbrev main_while0b_call3_v2 : Ref sig .tc := ⟨.hbm, 77, rfl⟩
abbrev main_while0b_v67 : Ref sig .tc := ⟨.hbm, 78, rfl⟩
abbrev main_while0b_v68 : Ref sig .tc := ⟨.hbm, 79, rfl⟩
abbrev main_while0b_v69 : Ref sig .tc := ⟨.hbm, 80, rfl⟩
abbrev main_while0b_v70 : Ref sig .tc := ⟨.hbm, 81, rfl⟩
abbrev main_while0b_v71 : Ref sig .tc := ⟨.hbm, 82, rfl⟩
abbrev main_while0b_v72 : Ref sig .tc := ⟨.hbm, 83, rfl⟩
abbrev main_while0b_v73 : Ref sig .tc := ⟨.hbm, 84, rfl⟩
abbrev main_while0b_v74 : Ref sig .tc := ⟨.hbm, 85, rfl⟩
abbrev main_while0b_v75 : Ref sig .tc := ⟨.hbm, 86, rfl⟩
abbrev main_while0b_v76 : Ref sig .tc := ⟨.hbm, 87, rfl⟩
abbrev main_while0b_cst_16 : Ref sig .tc := ⟨.hbm, 88, rfl⟩
abbrev main_while0b_v77 : Ref sig .tc := ⟨.hbm, 89, rfl⟩
abbrev main_while0b_v78 : Ref sig .tc := ⟨.hbm, 90, rfl⟩
abbrev main_while0b_v79 : Ref sig .tc := ⟨.hbm, 91, rfl⟩
abbrev main_while0b_v80 : Ref sig .tc := ⟨.hbm, 92, rfl⟩
abbrev main_while0b_v81 : Ref sig .tc := ⟨.hbm, 93, rfl⟩
abbrev main_while0b_v82 : Ref sig .tc := ⟨.hbm, 94, rfl⟩
abbrev main_while0b_v83 : Ref sig .tc := ⟨.hbm, 95, rfl⟩
abbrev main_while0b_v84 : Ref sig .tc := ⟨.hbm, 96, rfl⟩
abbrev main_while0b_v85 : Ref sig .tc := ⟨.hbm, 97, rfl⟩
abbrev main_while0b_v86 : Ref sig .tc := ⟨.hbm, 98, rfl⟩
abbrev main_while0b_v87 : Ref sig .tc := ⟨.hbm, 99, rfl⟩
abbrev main_while0b_cst_17 : Ref sig .tc := ⟨.hbm, 100, rfl⟩
abbrev main_while0b_v88 : Ref sig .tc := ⟨.hbm, 101, rfl⟩
abbrev main_while0b_v89 : Ref sig .tc := ⟨.hbm, 102, rfl⟩
abbrev main_while0b_v90 : Ref sig .tc := ⟨.hbm, 103, rfl⟩
abbrev main_while0b_v91 : Ref sig .tc := ⟨.hbm, 104, rfl⟩
abbrev main_while0b_v92 : Ref sig .tc := ⟨.hbm, 105, rfl⟩
abbrev main_while0b_v93 : Ref sig .tc := ⟨.hbm, 106, rfl⟩
abbrev main_while0b_v94 : Ref sig .tc := ⟨.hbm, 107, rfl⟩
abbrev main_while0b_v95 : Ref sig .tc := ⟨.hbm, 108, rfl⟩
abbrev main_while0b_cst_18 : Ref sig .tc := ⟨.hbm, 109, rfl⟩
abbrev main_while0b_v96 : Ref sig .tc := ⟨.hbm, 110, rfl⟩
abbrev main_while0b_v97 : Ref sig .tc := ⟨.hbm, 111, rfl⟩
abbrev main_while0b_v98 : Ref sig .tc := ⟨.hbm, 112, rfl⟩
abbrev main_while0b_v99 : Ref sig .tc := ⟨.hbm, 113, rfl⟩
abbrev main_while0b_v100 : Ref sig .tc := ⟨.hbm, 114, rfl⟩
abbrev main_while0b_v101 : Ref sig .tc := ⟨.hbm, 115, rfl⟩
abbrev main_while0b_v102 : Ref sig .tc := ⟨.hbm, 116, rfl⟩
abbrev main_while0b_v103 : Ref sig .tc := ⟨.hbm, 117, rfl⟩
abbrev main_while0b_v104 : Ref sig .tc := ⟨.hbm, 118, rfl⟩
abbrev main_while0b_v105 : Ref sig .tc := ⟨.hbm, 119, rfl⟩
abbrev main_while0b_v106 : Ref sig .tc := ⟨.hbm, 120, rfl⟩
abbrev main_while0b_call4_v0 : Ref sig .tc := ⟨.hbm, 121, rfl⟩
abbrev main_while0b_call4_c : Ref sig .tc := ⟨.hbm, 122, rfl⟩
abbrev main_while0b_call4_c_0 : Ref sig .tc := ⟨.hbm, 123, rfl⟩
abbrev main_while0b_call4_c_1 : Ref sig .tc := ⟨.hbm, 124, rfl⟩
abbrev main_while0b_call4_c_2 : Ref sig .tc := ⟨.hbm, 125, rfl⟩
abbrev main_while0b_v107 : Ref sig .tc := ⟨.hbm, 126, rfl⟩
abbrev main_while0b_c_19 : Ref sig .tc := ⟨.hbm, 127, rfl⟩
abbrev main_while0b_v108 : Ref sig .tc := ⟨.hbm, 128, rfl⟩
abbrev main_v12 : Ref sig .tc := ⟨.hbm, 129, rfl⟩
abbrev main_v13 : Ref sig .tc := ⟨.hbm, 130, rfl⟩
abbrev main_cst_1 : Ref sig .tc := ⟨.hbm, 131, rfl⟩
abbrev main_v14 : Ref sig .tc := ⟨.hbm, 132, rfl⟩
abbrev main_v15 : Ref sig .tc := ⟨.hbm, 133, rfl⟩
abbrev main_cst_2 : Ref sig .tc := ⟨.hbm, 134, rfl⟩
abbrev main_v16 : Ref sig .tc := ⟨.hbm, 135, rfl⟩
abbrev main_v17 : Ref sig .tc := ⟨.hbm, 136, rfl⟩
abbrev main_v18 : Ref sig .tc := ⟨.hbm, 137, rfl⟩
abbrev main_v19 : Ref sig .tc := ⟨.hbm, 138, rfl⟩
abbrev main_v20 : Ref sig .tc := ⟨.hbm, 139, rfl⟩
abbrev main_cst_3 : Ref sig .tc := ⟨.hbm, 140, rfl⟩
abbrev main_v21 : Ref sig .tc := ⟨.hbm, 141, rfl⟩
abbrev main_v22 : Ref sig .tc := ⟨.hbm, 142, rfl⟩
abbrev main_cst_4 : Ref sig .tc := ⟨.hbm, 143, rfl⟩
abbrev main_v23 : Ref sig .tc := ⟨.hbm, 144, rfl⟩
abbrev main_v24 : Ref sig .tc := ⟨.hbm, 145, rfl⟩
abbrev main_v25 : Ref sig .tc := ⟨.hbm, 146, rfl⟩
abbrev main_v26 : Ref sig .tc := ⟨.hbm, 147, rfl⟩
abbrev main_cst_5 : Ref sig .tc := ⟨.hbm, 148, rfl⟩
abbrev main_v27 : Ref sig .tc := ⟨.hbm, 149, rfl⟩
abbrev main_v28 : Ref sig .tc := ⟨.hbm, 150, rfl⟩
abbrev main_v29 : Ref sig .tc := ⟨.hbm, 151, rfl⟩
abbrev main_v30 : Ref sig .tc := ⟨.hbm, 152, rfl⟩
abbrev main_v31 : Ref sig .tc := ⟨.hbm, 153, rfl⟩
abbrev main_v32 : Ref sig .tc := ⟨.hbm, 154, rfl⟩
abbrev main_v33 : Ref sig .tc := ⟨.hbm, 155, rfl⟩
abbrev main_v34 : Ref sig .tc := ⟨.hbm, 156, rfl⟩
abbrev main_v35 : Ref sig .tc := ⟨.hbm, 157, rfl⟩
abbrev main_v36 : Ref sig .tc := ⟨.hbm, 158, rfl⟩
abbrev main_call5_v0 : Ref sig .tc := ⟨.hbm, 159, rfl⟩
abbrev main_call5_v1 : Ref sig .tc := ⟨.hbm, 160, rfl⟩
abbrev main_call5_cst : Ref sig .tc := ⟨.hbm, 161, rfl⟩
abbrev main_call5_v2 : Ref sig .tc := ⟨.hbm, 162, rfl⟩
abbrev main_call5_v3 : Ref sig .tc := ⟨.hbm, 163, rfl⟩
abbrev main_call5_cst_0 : Ref sig .tc := ⟨.hbm, 164, rfl⟩
abbrev main_call5_v4 : Ref sig .tc := ⟨.hbm, 165, rfl⟩
abbrev main_call5_v5 : Ref sig .tc := ⟨.hbm, 166, rfl⟩
abbrev main_v37 : Ref sig .tc := ⟨.hbm, 167, rfl⟩
abbrev main_v38 : Ref sig .tc := ⟨.hbm, 168, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S32768x1024 : Shape := ⟨2, ![32768, 1024]⟩
abbrev S1024 : Shape := ⟨1, ![1024]⟩
abbrev S1024x10568 : Shape := ⟨2, ![1024, 10568]⟩
abbrev S32768x512 : Shape := ⟨2, ![32768, 512]⟩
abbrev S4x512x1024 : Shape := ⟨3, ![4, 512, 1024]⟩
abbrev S1024x1024 : Shape := ⟨2, ![1024, 1024]⟩
abbrev S1024x4096 : Shape := ⟨2, ![1024, 4096]⟩
abbrev S1x1024 : Shape := ⟨2, ![1, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x512x1024 : Shape := ⟨3, ![1, 512, 1024]⟩
abbrev S512x1024 : Shape := ⟨2, ![512, 1024]⟩

abbrev nBuf : Space → Nat
  | .hbm => 17
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x10568, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S32768x512, .f32⟩
  | .hbm, ⟨7, _⟩ => ⟨S4x512x1024, .f32⟩
  | .hbm, ⟨8, _⟩ => ⟨S1024x1024, .f32⟩
  | .hbm, ⟨9, _⟩ => ⟨S1024, .f32⟩
  | .hbm, ⟨10, _⟩ => ⟨S1024x4096, .f32⟩
  | .hbm, ⟨11, _⟩ => ⟨S1024x4096, .bf16⟩
  | .hbm, ⟨12, _⟩ => ⟨S1x1024, .f32⟩
  | .hbm, ⟨13, _⟩ => ⟨S4x512x1024, .bf16⟩
  | .hbm, ⟨14, _⟩ => ⟨S1024x1024, .bf16⟩
  | .hbm, ⟨15, _⟩ => ⟨S1x1024, .f32⟩
  | .hbm, ⟨16, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S4x512x1024, .bf16⟩
  | .local _ .vmem, ⟨13, _⟩ => ⟨S1024x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S32768x1024 : Shape := ⟨2, ![32768, 1024]⟩
abbrev S1024 : Shape := ⟨1, ![1024]⟩
abbrev S1024x10568 : Shape := ⟨2, ![1024, 10568]⟩
abbrev S32768x512 : Shape := ⟨2, ![32768, 512]⟩
abbrev S4x512x1024 : Shape := ⟨3, ![4, 512, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x10568 : Shape := ⟨2, ![32768, 10568]⟩
abbrev S32768x6472 : Shape := ⟨2, ![32768, 6472]⟩
abbrev S32768x4096 : Shape := ⟨2, ![32768, 4096]⟩
abbrev S32768x1x512 : Shape := ⟨3, ![32768, 1, 512]⟩
abbrev S32768x4x512 : Shape := ⟨3, ![32768, 4, 512]⟩
abbrev S4x1024x32768 : Shape := ⟨3, ![4, 1024, 32768]⟩
abbrev S32768x4x1024 : Shape := ⟨3, ![32768, 4, 1024]⟩

abbrev nBuf : Space → Nat
  | .hbm => 66
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x10568, .f32⟩
  | .hbm, ⟨3, _⟩ => ⟨S32768x512, .f32⟩
  | .hbm, ⟨4, _⟩ => ⟨S32768x512, .f32⟩
  | .hbm, ⟨5, _⟩ => ⟨S32768x512, .f32⟩
  | .hbm, ⟨6, _⟩ => ⟨S32768x512, .f32⟩
  | .hbm, ⟨7, _⟩ => ⟨S4x512x1024, .f32⟩
  | .hbm, ⟨8, _⟩ => ⟨S1024x1024, .f32⟩
  | .hbm, ⟨9, _⟩ => ⟨S1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x10568, .f32⟩
  | .hbm, ⟨27, _⟩ => ⟨S32768x6472, .f32⟩
  | .hbm, ⟨28, _⟩ => ⟨S32768x4096, .f32⟩
  | .hbm, ⟨29, _⟩ => ⟨S32768x1x512, .f32⟩
  | .hbm, ⟨30, _⟩ => ⟨S32768x1x512, .f32⟩
  | .hbm, ⟨31, _⟩ => ⟨S32768x1x512, .f32⟩
  | .hbm, ⟨32, _⟩ => ⟨S32768x1x512, .f32⟩
  | .hbm, ⟨33, _⟩ => ⟨S32768x4x512, .f32⟩
  | .hbm, ⟨34, _⟩ => ⟨S4x1024x32768, .f32⟩
  | .hbm, ⟨35, _⟩ => ⟨S32768x4x1024, .f32⟩
  | .hbm, ⟨36, _⟩ => ⟨S32768x4x1024, .f32⟩
  | .hbm, ⟨37, _⟩ => ⟨S32768x4x1024, .f32⟩
  | .hbm, ⟨38, _⟩ => ⟨S32768x4x1024, .f32⟩
  | .hbm, ⟨39, _⟩ => ⟨S_, .f32⟩
  | .hbm, ⟨40, _⟩ => ⟨S32768x4x1024, .f32⟩
  | .hbm, ⟨41, _⟩ => ⟨S32768x4x1024, .f32⟩
  | .hbm, ⟨42, _⟩ => ⟨S_, .f32⟩
  | .hbm, ⟨43, _⟩ => ⟨S32768x4x1024, .f32⟩
  | .hbm, ⟨44, _⟩ => ⟨S32768x4x1024, .f32⟩
  | .hbm, ⟨45, _⟩ => ⟨S32768x4x1024, .f32⟩
  | .hbm, ⟨46, _⟩ => ⟨S_, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S1x1024, .f32⟩
  | .hbm, ⟨64, _⟩ => ⟨S32768x1024, .f32⟩
  | .hbm, ⟨65, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Kernel3.lean ====
abbrev S8x256x1024 : Shape := ⟨3, ![8, 256, 1024]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S2048x512 : Shape := ⟨2, ![2048, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S1x1024, .f32⟩
  | .hbm, ⟨5, _⟩ => ⟨S1024x1024, .bf16⟩
  | .hbm, ⟨6, _⟩ => ⟨S2048x512, .f32⟩
  | .hbm, ⟨7, _⟩ => ⟨S2048x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8x256x1024 : Shape := ⟨3, ![8, 256, 1024]⟩
abbrev S1024 : Shape := ⟨1, ![1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x512 : Shape := ⟨3, ![8, 256, 512]⟩
abbrev S2048x512 : Shape := ⟨2, ![2048, 512]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S8x256x1024, .f32⟩
  | .hbm, ⟨20, _⟩ => ⟨S8x256x512, .f32⟩
  | .hbm, ⟨21, _⟩ => ⟨S8x256x512, .f32⟩
  | .hbm, ⟨22, _⟩ => ⟨S2048x512, .f32⟩
  | .hbm, ⟨23, _⟩ => ⟨S2048x512, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x10568 : Shape := ⟨2, ![1024, 10568]⟩
abbrev S4096 : Shape := ⟨1, ![4096]⟩
abbrev S1x1024 : Shape := ⟨2, ![1, 1024]⟩
abbrev S1024x1536 : Shape := ⟨2, ![1024, 1536]⟩
abbrev S1024x2048 : Shape := ⟨2, ![1024, 2048]⟩
abbrev S1024x1280 : Shape := ⟨2, ![1024, 1280]⟩
abbrev S1024x584 : Shape := ⟨2, ![1024, 584]⟩
abbrev S1024x1024 : Shape := ⟨2, ![1024, 1024]⟩
abbrev S1024x4096 : Shape := ⟨2, ![1024, 4096]⟩
abbrev S_ : Shape := ⟨0, ![]⟩
abbrev S1024x640 : Shape := ⟨2, ![1024, 640]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x0 : Shape := ⟨2, ![4096, 0]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x4096x128 : Shape := ⟨3, ![1, 4096, 128]⟩
abbrev S3x4096x128 : Shape := ⟨3, ![3, 4096, 128]⟩
abbrev S8 : Shape := ⟨1, ![8]⟩
abbrev S1x8 : Shape := ⟨2, ![1, 8]⟩
abbrev S4096x8 : Shape := ⟨2, ![4096, 8]⟩
abbrev S4096x48 : Shape := ⟨2, ![4096, 48]⟩
abbrev S32768x256 : Shape := ⟨2, ![32768, 256]⟩
abbrev S32768x512 : Shape := ⟨2, ![32768, 512]⟩
abbrev S32768x128 : Shape := ⟨2, ![32768, 128]⟩
abbrev S32768x64 : Shape := ⟨2, ![32768, 64]⟩
abbrev S32768x8 : Shape := ⟨2, ![32768, 8]⟩
abbrev S128x1x512 : Shape := ⟨3, ![128, 1, 512]⟩
abbrev S256x1024 : Shape := ⟨2, ![256, 1024]⟩
abbrev S3x256x128 : Shape := ⟨3, ![3, 256, 128]⟩
abbrev S256x256 : Shape := ⟨2, ![256, 256]⟩
abbrev S256x512 : Shape := ⟨2, ![256, 512]⟩
abbrev S256x128 : Shape := ⟨2, ![256, 128]⟩
abbrev S256x64 : Shape := ⟨2, ![256, 64]⟩
abbrev S256x8 : Shape := ⟨2, ![256, 8]⟩
abbrev S1x1x512 : Shape := ⟨3, ![1, 1, 512]⟩
abbrev S256 : Shape := ⟨1, ![256]⟩
abbrev S256x1 : Shape := ⟨2, ![256, 1]⟩
abbrev S256x1536 : Shape := ⟨2, ![256, 1536]⟩
abbrev S1x256x128 : Shape := ⟨3, ![1, 256, 128]⟩
abbrev S256x2048 : Shape := ⟨2, ![256, 2048]⟩
abbrev S512 : Shape := ⟨1, ![512]⟩
abbrev S1x512 : Shape := ⟨2, ![1, 512]⟩
abbrev S256x1280 : Shape := ⟨2, ![256, 1280]⟩
abbrev S256x640 : Shape := ⟨2, ![256, 640]⟩

abbrev nBuf : Space → Nat
  | .hbm => 124
  | .vmem => 52
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x10568, .f32⟩
  | .hbm, ⟨3, _⟩ => ⟨S4096, .i32⟩
  | .hbm, ⟨4, _⟩ => ⟨S1x1024, .f32⟩
  | .hbm, ⟨5, _⟩ => ⟨S1024x1536, .f32⟩
  | .hbm, ⟨6, _⟩ => ⟨S1024x2048, .f32⟩
  | .hbm, ⟨7, _⟩ => ⟨S1024x1280, .f32⟩
  | .hbm, ⟨8, _⟩ => ⟨S1024x584, .f32⟩
  | .hbm, ⟨9, _⟩ => ⟨S1024x1024, .f32⟩
  | .hbm, ⟨10, _⟩ => ⟨S1024x4096, .f32⟩
  | .hbm, ⟨11, _⟩ => ⟨S_, .i32⟩
  | .hbm, ⟨12, _⟩ => ⟨S_, .f32⟩
  | .hbm, ⟨13, _⟩ => ⟨S1024x640, .f32⟩
  | .hbm, ⟨14, _⟩ => ⟨S1024x1536, .bf16⟩
  | .hbm, ⟨15, _⟩ => ⟨S1024x2048, .bf16⟩
  | .hbm, ⟨16, _⟩ => ⟨S1024x1280, .bf16⟩
  | .hbm, ⟨17, _⟩ => ⟨S1024x640, .bf16⟩
  | .hbm, ⟨18, _⟩ => ⟨S1024x1024, .bf16⟩
  | .hbm, ⟨19, _⟩ => ⟨S1024x4096, .bf16⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S4096, .f32⟩
  | .hbm, ⟨32, _⟩ => ⟨S4096x1, .f32⟩
  | .hbm, ⟨33, _⟩ => ⟨S1x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S_, .f32⟩
  | .hbm, ⟨40, _⟩ => ⟨S4096x32, .f32⟩
  | .hbm, ⟨41, _⟩ => ⟨S_, .f32⟩
  | .hbm, ⟨42, _⟩ => ⟨S4096x0, .f32⟩
  | .hbm, ⟨43, _⟩ => ⟨S_, .f32⟩
  | .hbm, ⟨44, _⟩ => ⟨S4096x0, .f32⟩
  | .hbm, ⟨45, _⟩ => ⟨S4096x64, .f32⟩
  | .hbm, ⟨46, _⟩ => ⟨S4096x32, .f32⟩
  | .hbm, ⟨47, _⟩ => ⟨S4096x64, .f32⟩
  | .hbm, ⟨48, _⟩ => ⟨S4096x64, .f32⟩
  | .hbm, ⟨49, _⟩ => ⟨S1x4096x1x64, .f32⟩
  | .hbm, ⟨50, _⟩ => ⟨S1x4096x2x64, .f32⟩
  | .hbm, ⟨51, _⟩ => ⟨S4096x128, .f32⟩
  | .hbm, ⟨52, _⟩ => ⟨S1x4096x1x64, .f32⟩
  | .hbm, ⟨53, _⟩ => ⟨S1x4096x2x64, .f32⟩
  | .hbm, ⟨54, _⟩ => ⟨S4096x128, .f32⟩
  | .hbm, ⟨55, _⟩ => ⟨S1x4096x1x64, .f32⟩
  | .hbm, ⟨56, _⟩ => ⟨S1x4096x2x64, .f32⟩
  | .hbm, ⟨57, _⟩ => ⟨S4096x128, .f32⟩
  | .hbm, ⟨58, _⟩ => ⟨S1x4096x128, .f32⟩
  | .hbm, ⟨59, _⟩ => ⟨S1x4096x128, .f32⟩
  | .hbm, ⟨60, _⟩ => ⟨S1x4096x128, .f32⟩
  | .hbm, ⟨61, _⟩ => ⟨S3x4096x128, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S_, .f32⟩
  | .hbm, ⟨71, _⟩ => ⟨S8, .f32⟩
  | .hbm, ⟨72, _⟩ => ⟨S8, .f32⟩
  | .hbm, ⟨73, _⟩ => ⟨S4096, .f32⟩
  | .hbm, ⟨74, _⟩ => ⟨S4096x1, .f32⟩
  | .hbm, ⟨75, _⟩ => ⟨S1x8, .f32⟩
  | .hbm, ⟨76, _⟩ => ⟨S4096x8, .f32⟩
  | .hbm, ⟨77, _⟩ => ⟨S4096x8, .f32⟩
  | .hbm, ⟨78, _⟩ => ⟨S4096x8, .f32⟩
  | .hbm, ⟨79, _⟩ => ⟨S4096x8, .f32⟩
  | .hbm, ⟨80, _⟩ => ⟨S4096x8, .f32⟩
  | .hbm, ⟨81, _⟩ => ⟨S_, .f32⟩
  | .hbm, ⟨82, _⟩ => ⟨S4096x8, .f32⟩
  | .hbm, ⟨83, _⟩ => ⟨S_, .f32⟩
  | .hbm, ⟨84, _⟩ => ⟨S4096x48, .f32⟩
  | .hbm, ⟨85, _⟩ => ⟨S_, .f32⟩
  | .hbm, ⟨86, _⟩ => ⟨S4096x48, .f32⟩
  | .hbm, ⟨87, _⟩ => ⟨S4096x64, .f32⟩
  | .hbm, ⟨88, _⟩ => ⟨S4096x8, .f32⟩
  | .hbm, ⟨89, _⟩ => ⟨S4096x64, .f32⟩
  | .hbm, ⟨90, _⟩ => ⟨S4096x64, .f32⟩
  | .hbm, ⟨91, _⟩ => ⟨S1x4096x1x64, .f32⟩
  | .hbm, ⟨92, _⟩ => ⟨S1x4096x2x64, .f32⟩
  | .hbm, ⟨93, _⟩ => ⟨S4096x128, .f32⟩
  | .hbm, ⟨94, _⟩ => ⟨S1x4096x1x64, .f32⟩
  | .hbm, ⟨95, _⟩ => ⟨S1x4096x2x64, .f32⟩
  | .hbm, ⟨96, _⟩ => ⟨S4096x128, .f32⟩
  | .hbm, ⟨97, _⟩ => ⟨S1x4096x1x64, .f32⟩
  | .hbm, ⟨98, _⟩ => ⟨S1x4096x2x64, .f32⟩
  | .hbm, ⟨99, _⟩ => ⟨S4096x128, .f32⟩
  | .hbm, ⟨100, _⟩ => ⟨S1x4096x128, .f32⟩
  | .hbm, ⟨101, _⟩ => ⟨S1x4096x128, .f32⟩
  | .hbm, ⟨102, _⟩ => ⟨S1x4096x128, .f32⟩
  | .hbm, ⟨103, _⟩ => ⟨S3x4096x128, .f32⟩
  | .hbm, ⟨104, _⟩ => ⟨S32768x256, .f32⟩
  | .hbm, ⟨105, _⟩ => ⟨S32768x256, .f32⟩
  | .hbm, ⟨106, _⟩ => ⟨S32768x512, .f32⟩
  | .hbm, ⟨107, _⟩ => ⟨S32768x512, .f32⟩
  | .hbm, ⟨108, _⟩ => ⟨S32768x512, .f32⟩
  | .hbm, ⟨109, _⟩ => ⟨S32768x512, .f32⟩
  | .hbm, ⟨110, _⟩ => ⟨S32768x512, .f32⟩
  | .hbm, ⟨111, _⟩ => ⟨S32768x512, .f32⟩
  | .hbm, ⟨112, _⟩ => ⟨S32768x512, .f32⟩
  | .hbm, ⟨113, _⟩ => ⟨S32768x128, .f32⟩
  | .hbm, ⟨114, _⟩ => ⟨S32768x128, .f32⟩
  | .hbm, ⟨115, _⟩ => ⟨S32768x512, .f32⟩
  | .hbm, ⟨116, _⟩ => ⟨S32768x512, .f32⟩
  | .hbm, ⟨117, _⟩ => ⟨S32768x64, .f32⟩
  | .hbm, ⟨118, _⟩ => ⟨S32768x8, .f32⟩
  | .hbm, ⟨119, _⟩ => ⟨S32768x512, .f32⟩
  | .hbm, ⟨120, _⟩ => ⟨S32768x512, .f32⟩
  | .hbm, ⟨121, _⟩ => ⟨S32768x512, .bf16⟩
  | .hbm, ⟨122, _⟩ => ⟨S32768x512, .bf16⟩
  | .hbm, ⟨123, _⟩ => ⟨S128x1x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1536, .bf16⟩
  | .local _ .vmem, ⟨4, _⟩ => ⟨S1024x2048, .bf16⟩
  | .local _ .vmem, ⟨5, _⟩ => ⟨S1024x1280, .bf16⟩
  | .local _ .vmem, ⟨6, _⟩ => ⟨S1024x640, .bf16⟩
  | .local _ .vmem, ⟨7, _⟩ => ⟨S1024x1024, .bf16⟩
  | .local _ .vmem, ⟨8, _⟩ => ⟨S3x256x128, .f32⟩
  | .local _ .vmem, ⟨9, _⟩ => ⟨S3x256x128, .f32⟩
  | .local _ .vmem, ⟨10, _⟩ => ⟨S3x256x128, .f32⟩
  | .local _ .vmem, ⟨11, _⟩ => ⟨S3x256x128, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x64, .f32⟩
  | .local _ .vmem, ⟨39, _⟩ => ⟨S256x64, .f32⟩
  | .local _ .vmem, ⟨40, _⟩ => ⟨S256x8, .f32⟩
  | .local _ .vmem, ⟨41, _⟩ => ⟨S256x8, .f32⟩
  | .local _ .vmem, ⟨42, _⟩ => ⟨S256x512, .f32⟩
  | .local _ .vmem, ⟨43, _⟩ => ⟨S256x512, .f32⟩
  | .local _ .vmem, ⟨44, _⟩ => ⟨S256x512, .f32⟩
  | .local _ .vmem, ⟨45, _⟩ => ⟨S256x512, .f32⟩
  | .local _ .vmem, ⟨46, _⟩ => ⟨S256x512, .bf16⟩
  | .local _ .vmem, ⟨47, _⟩ => ⟨S256x512, .bf16⟩
  | .local _ .vmem, ⟨48, _⟩ => ⟨S256x512, .bf16⟩
  | .local _ .vmem, ⟨49, _⟩ => ⟨S256x512, .bf16⟩
  | .local _ .vmem, ⟨50, _⟩ => ⟨S1x1x512, .f32⟩
  | .local _ .vmem, ⟨51, _⟩ => ⟨S1x1x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_5 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_8 : Ref sig .tc := ⟨.hbm, 81, rfl⟩
abbrev main_v67 : Ref sig .tc := ⟨.hbm, 82, rfl⟩
abbrev main_cst_9 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87_0 : Ref sig .tc := ⟨.hbm, 104, rfl⟩
abbrev main_v87_1 : Ref sig .tc := ⟨.hbm, 105, rfl⟩
abbrev main_v87_2 : Ref sig .tc := ⟨.hbm, 106, rfl⟩
abbrev main_v87_3 : Ref sig .tc := ⟨.hbm, 107, rfl⟩
abbrev main_v87_4 : Ref sig .tc := ⟨.hbm, 108, rfl⟩
abbrev main_v87_5 : Ref sig .tc := ⟨.hbm, 109, rfl⟩
abbrev main_v87_6 : Ref sig .tc := ⟨.hbm, 110, rfl⟩
abbrev main_v87_7 : Ref sig .tc := ⟨.hbm, 111, rfl⟩
abbrev main_v87_8 : Ref sig .tc := ⟨.hbm, 112, rfl⟩
abbrev main_v87_9 : Ref sig .tc := ⟨.hbm, 113, rfl⟩
abbrev main_v87_10 : Ref sig .tc := ⟨.hbm, 114, rfl⟩
abbrev main_v87_11 : Ref sig .tc := ⟨.hbm, 115, rfl⟩
abbrev main_v87_12 : Ref sig .tc := ⟨.hbm, 116, rfl⟩
abbrev main_v87_13 : Ref sig .tc := ⟨.hbm, 117, rfl⟩
abbrev main_v87_14 : Ref sig .tc := ⟨.hbm, 118, rfl⟩
abbrev main_v87_15 : Ref sig .tc := ⟨.hbm, 119, rfl⟩
abbrev main_v87_16 : Ref sig .tc := ⟨.hbm, 120, rfl⟩
abbrev main_v87_17 : Ref sig .tc := ⟨.hbm, 121, rfl⟩
abbrev main_v87_18 : Ref sig .tc := ⟨.hbm, 122, rfl⟩
abbrev main_v87_19 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_stg25_0 : Ref sig .tc := ⟨.vmem, 44, rfl⟩
abbrev cc0_stg25_1 : Ref sig .tc := ⟨.vmem, 45, rfl⟩
abbrev cc0_stg26_0 : Ref sig .tc := ⟨.vmem, 46, rfl⟩
abbrev cc0_stg26_1 : Ref sig .tc := ⟨.vmem, 47, rfl⟩
abbrev cc0_stg27_0 : Ref sig .tc := ⟨.vmem, 48, rfl⟩
abbrev cc0_stg27_1 : Ref sig .tc := ⟨.vmem, 49, rfl⟩
abbrev cc0_stg28_0 : Ref sig .tc := ⟨.vmem, 50, rfl⟩
abbrev cc0_stg28_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37
abbrev cc0_sem22_0 : DmaSem sig := 38
abbrev cc0_sem22_1 : DmaSem sig := 39
abbrev cc0_sem23_0 : DmaSem sig := 40
abbrev cc0_sem23_1 : DmaSem sig := 41
abbrev cc0_sem24_0 : DmaSem sig := 42
abbrev cc0_sem24_1 : DmaSem sig := 43
abbrev cc0_sem25_0 : DmaSem sig := 44
abbrev cc0_sem25_1 : DmaSem sig := 45
abbrev cc0_sem26_0 : DmaSem sig := 46
abbrev cc0_sem26_1 : DmaSem sig := 47
abbrev cc0_sem27_0 : DmaSem sig := 48
abbrev cc0_sem27_1 : DmaSem sig := 49
abbrev cc0_sem28_0 : DmaSem sig := 50
abbrev cc0_sem28_1 : DmaSem sig := 51

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_8 (i : grid0.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x64 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x8 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S256x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S256x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x512 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S256x512 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]
-- ==== Reference4Ideal.lean ====
abbrev S32768x1024 : Shape := ⟨2, ![32768, 1024]⟩
abbrev S1024 : Shape := ⟨1, ![1024]⟩
abbrev S1024x10568 : Shape := ⟨2, ![1024, 10568]⟩
abbrev S4096 : Shape := ⟨1, ![4096]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x10568 : Shape := ⟨3, ![8, 4096, 10568]⟩
abbrev S8x4096x256 : Shape := ⟨3, ![8, 4096, 256]⟩
abbrev S8x4096x512 : Shape := ⟨3, ![8, 4096, 512]⟩
abbrev S8x4096x128 : Shape := ⟨3, ![8, 4096, 128]⟩
abbrev S8x4096x64 : Shape := ⟨3, ![8, 4096, 64]⟩
abbrev S8x4096x8 : Shape := ⟨3, ![8, 4096, 8]⟩
abbrev S8x4096x4096 : Shape := ⟨3, ![8, 4096, 4096]⟩
abbrev S8x4096x4x64 : Shape := ⟨4, ![8, 4096, 4, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S8x4096x4x32 : Shape := ⟨4, ![8, 4096, 4, 32]⟩
abbrev S8x4096x4x0 : Shape := ⟨4, ![8, 4096, 4, 0]⟩
abbrev S32768x256 : Shape := ⟨2, ![32768, 256]⟩
abbrev S32768x512 : Shape := ⟨2, ![32768, 512]⟩
abbrev S8x4096x8x64 : Shape := ⟨4, ![8, 4096, 8, 64]⟩
abbrev S8 : Shape := ⟨1, ![8]⟩
abbrev S1x8 : Shape := ⟨2, ![1, 8]⟩
abbrev S4096x8 : Shape := ⟨2, ![4096, 8]⟩
abbrev S1x4096x1x8 : Shape := ⟨4, ![1, 4096, 1, 8]⟩
abbrev S8x4096x8x8 : Shape := ⟨4, ![8, 4096, 8, 8]⟩
abbrev S8x4096x8x16 : Shape := ⟨4, ![8, 4096, 8, 16]⟩
abbrev S8x4096x8x48 : Shape := ⟨4, ![8, 4096, 8, 48]⟩
abbrev S8x4096x2x64 : Shape := ⟨4, ![8, 4096, 2, 64]⟩
abbrev S8x4096x2x8 : Shape := ⟨4, ![8, 4096, 2, 8]⟩
abbrev S8x4096x2x16 : Shape := ⟨4, ![8, 4096, 2, 16]⟩
abbrev S8x4096x2x48 : Shape := ⟨4, ![8, 4096, 2, 48]⟩
abbrev S32768x128 : Shape := ⟨2, ![32768, 128]⟩
abbrev S8x4096x1x64 : Shape := ⟨4, ![8, 4096, 1, 64]⟩
abbrev S8x4096x1x8 : Shape := ⟨4, ![8, 4096, 1, 8]⟩
abbrev S8x4096x1x16 : Shape := ⟨4, ![8, 4096, 1, 16]⟩
abbrev S8x4096x1x48 : Shape := ⟨4, ![8, 4096, 1, 48]⟩
abbrev S32768x64 : Shape := ⟨2, ![32768, 64]⟩
abbrev S32768x8 : Shape := ⟨2, ![32768, 8]⟩

abbrev nBuf : Space → Nat
  | .hbm => 356
  | .vmem => 0
  | .smem => 0
  | _ => 0

abbrev hbmTy0_0 (i : Nat) : BufTy := match i % 128 with
  | 0 => ⟨S32768x1024, .f32⟩
  | 1 => ⟨S1024, .f32⟩
  | 2 => ⟨S1024x10568, .f32⟩
  | 3 => ⟨S4096, .i32⟩
  | 4 => ⟨S8x4096x1024, .f32⟩
  | 5 => ⟨S8x4096x1024, .f32⟩
  | 6 => ⟨S_, .f32⟩
  | 7 => ⟨S8x4096, .f32⟩
  | 8 => ⟨S8x4096x1, .f32⟩
  | 9 => ⟨S_, .f32⟩
  | 10 => ⟨S8x4096x1, .f32⟩
  | 11 => ⟨S8x4096x1, .f32⟩
  | 12 => ⟨S_, .f32⟩
  | 13 => ⟨S8x4096x1, .f32⟩
  | 14 => ⟨S8x4096x1, .f32⟩
  | 15 => ⟨S8x4096x1, .f32⟩
  | 16 => ⟨S8x4096x1024, .f32⟩
  | 17 => ⟨S8x4096x1024, .f32⟩
  | 18 => ⟨S1x1x1024, .f32⟩
  | 19 => ⟨S8x4096x1024, .f32⟩
  | 20 => ⟨S8x4096x1024, .f32⟩
  | 21 => ⟨S8x4096x10568, .f32⟩
  | 22 => ⟨S8x4096x256, .f32⟩
  | 23 => ⟨S8x4096x256, .f32⟩
  | 24 => ⟨S8x4096x512, .f32⟩
  | 25 => ⟨S8x4096x512, .f32⟩
  | 26 => ⟨S8x4096x512, .f32⟩
  | 27 => ⟨S8x4096x512, .f32⟩
  | 28 => ⟨S8x4096x512, .f32⟩
  | 29 => ⟨S8x4096x512, .f32⟩
  | 30 => ⟨S8x4096x512, .f32⟩
  | 31 => ⟨S8x4096x128, .f32⟩
  | 32 => ⟨S8x4096x128, .f32⟩
  | 33 => ⟨S8x4096x512, .f32⟩
  | 34 => ⟨S8x4096x512, .f32⟩
  | 35 => ⟨S8x4096x64, .f32⟩
  | 36 => ⟨S8x4096x8, .f32⟩
  | 37 => ⟨S8x4096x512, .f32⟩
  | 38 => ⟨S8x4096x512, .f32⟩
  | 39 => ⟨S8x4096x4096, .f32⟩
  | 40 => ⟨S8x4096x4x64, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S4096, .f32⟩
  | 53 => ⟨S4096x1, .f32⟩
  | 54 => ⟨S1x32, .f32⟩
  | 55 => ⟨S4096x32, .f32⟩
  | 56 => ⟨S4096x32, .f32⟩
  | 57 => ⟨S4096x32, .f32⟩
  | 58 => ⟨S4096x32, .f32⟩
  | 59 => ⟨S1x4096x1x32, .f32⟩
  | 60 => ⟨S4096x32, .f32⟩
  | 61 => ⟨S1x4096x1x32, .f32⟩
  | 62 => ⟨S8x4096x4x32, .f32⟩
  | 63 => ⟨S8x4096x4x32, .f32⟩
  | 64 => ⟨S8x4096x4x32, .f32⟩
  | 65 => ⟨S8x4096x4x32, .f32⟩
  | 66 => ⟨S8x4096x4x32, .f32⟩
  | 67 => ⟨S8x4096x4x32, .f32⟩
  | 68 => ⟨S8x4096x4x32, .f32⟩
  | 69 => ⟨S8x4096x4x32, .f32⟩
  | 70 => ⟨S8x4096x4x32, .f32⟩
  | 71 => ⟨S8x4096x4x32, .f32⟩
  | 72 => ⟨S8x4096x4x32, .f32⟩
  | 73 => ⟨S8x4096x4x32, .f32⟩
  | 74 => ⟨S8x4096x4x64, .f32⟩
  | 75 => ⟨S8x4096x4x0, .f32⟩
  | 76 => ⟨S8x4096x4x64, .f32⟩
  | 77 => ⟨S32768x256, .f32⟩
  | 78 => ⟨S8x4096x4x64, .f32⟩
  | 79 => ⟨S32, .f32⟩
  | 80 => ⟨S32, .f32⟩
  | 81 => ⟨S_, .f32⟩
  | 82 => ⟨S32, .f32⟩
  | 83 => ⟨S32, .f32⟩
  | 84 => ⟨S_, .f32⟩
  | 85 => ⟨S32, .f32⟩
  | 86 => ⟨S32, .f32⟩
  | 87 => ⟨S_, .f32⟩
  | 88 => ⟨S32, .f32⟩
  | 89 => ⟨S32, .f32⟩
  | 90 => ⟨S4096, .f32⟩
  | 91 => ⟨S4096x1, .f32⟩
  | 92 => ⟨S1x32, .f32⟩
  | 93 => ⟨S4096x32, .f32⟩
  | 94 => ⟨S4096x32, .f32⟩
  | 95 => ⟨S4096x32, .f32⟩
  | 96 => ⟨S4096x32, .f32⟩
  | 97 => ⟨S1x4096x1x32, .f32⟩
  | 98 => ⟨S4096x32, .f32⟩
  | 99 => ⟨S1x4096x1x32, .f32⟩
  | 100 => ⟨S8x4096x4x32, .f32⟩
  | 101 => ⟨S8x4096x4x32, .f32⟩
  | 102 => ⟨S8x4096x4x32, .f32⟩
  | 103 => ⟨S8x4096x4x32, .f32⟩
  | 104 => ⟨S8x4096x4x32, .f32⟩
  | 105 => ⟨S8x4096x4x32, .f32⟩
  | 106 => ⟨S8x4096x4x32, .f32⟩
  | 107 => ⟨S8x4096x4x32, .f32⟩
  | 108 => ⟨S8x4096x4x32, .f32⟩
  | 109 => ⟨S8x4096x4x32, .f32⟩
  | 110 => ⟨S8x4096x4x32, .f32⟩
  | 111 => ⟨S8x4096x4x32, .f32⟩
  | 112 => ⟨S8x4096x4x64, .f32⟩
  | 113 => ⟨S8x4096x4x0, .f32⟩
  | 114 => ⟨S8x4096x4x64, .f32⟩
  | 115 => ⟨S_, .f32⟩
  | 116 => ⟨S8x4096x4x64, .f32⟩
  | 117 => ⟨S8x4096x4x64, .f32⟩
  | 118 => ⟨S32768x256, .f32⟩
  | 119 => ⟨S32768x512, .f32⟩
  | 120 => ⟨S32768x512, .f32⟩
  | 121 => ⟨S8x4096x8x64, .f32⟩
  | 122 => ⟨S8, .f32⟩
  | 123 => ⟨S8, .f32⟩
  | 124 => ⟨S_, .f32⟩
  | 125 => ⟨S8, .f32⟩
  | 126 => ⟨S8, .f32⟩
  | 127 => ⟨S_, .f32⟩
  | _ => ⟨S32768x1024, .f32⟩

abbrev hbmTy0_1 (i : Nat) : BufTy := match i % 128 with
  | 0 => ⟨S8, .f32⟩
  | 1 => ⟨S8, .f32⟩
  | 2 => ⟨S_, .f32⟩
  | 3 => ⟨S8, .f32⟩
  | 4 => ⟨S8, .f32⟩
  | 5 => ⟨S4096, .f32⟩
  | 6 => ⟨S4096x1, .f32⟩
  | 7 => ⟨S1x8, .f32⟩
  | 8 => ⟨S4096x8, .f32⟩
  | 9 => ⟨S4096x8, .f32⟩
  | 10 => ⟨S4096x8, .f32⟩
  | 11 => ⟨S4096x8, .f32⟩
  | 12 => ⟨S1x4096x1x8, .f32⟩
  | 13 => ⟨S4096x8, .f32⟩
  | 14 => ⟨S1x4096x1x8, .f32⟩
  | 15 => ⟨S8x4096x8x8, .f32⟩
  | 16 => ⟨S8x4096x8x8, .f32⟩
  | 17 => ⟨S8x4096x8x8, .f32⟩
  | 18 => ⟨S8x4096x8x8, .f32⟩
  | 19 => ⟨S8x4096x8x8, .f32⟩
  | 20 => ⟨S8x4096x8x8, .f32⟩
  | 21 => ⟨S8x4096x8x8, .f32⟩
  | 22 => ⟨S8x4096x8x8, .f32⟩
  | 23 => ⟨S8x4096x8x8, .f32⟩
  | 24 => ⟨S8x4096x8x8, .f32⟩
  | 25 => ⟨S8x4096x8x8, .f32⟩
  | 26 => ⟨S8x4096x8x8, .f32⟩
  | 27 => ⟨S8x4096x8x16, .f32⟩
  | 28 => ⟨S8x4096x8x48, .f32⟩
  | 29 => ⟨S8x4096x8x64, .f32⟩
  | 30 => ⟨S32768x512, .f32⟩
  | 31 => ⟨S8x4096x8x64, .f32⟩
  | 32 => ⟨S8, .f32⟩
  | 33 => ⟨S8, .f32⟩
  | 34 => ⟨S_, .f32⟩
  | 35 => ⟨S8, .f32⟩
  | 36 => ⟨S8, .f32⟩
  | 37 => ⟨S_, .f32⟩
  | 38 => ⟨S8, .f32⟩
  | 39 => ⟨S8, .f32⟩
  | 40 => ⟨S_, .f32⟩
  | 41 => ⟨S8, .f32⟩
  | 42 => ⟨S8, .f32⟩
  | 43 => ⟨S4096, .f32⟩
  | 44 => ⟨S4096x1, .f32⟩
  | 45 => ⟨S1x8, .f32⟩
  | 46 => ⟨S4096x8, .f32⟩
  | 47 => ⟨S4096x8, .f32⟩
  | 48 => ⟨S4096x8, .f32⟩
  | 49 => ⟨S4096x8, .f32⟩
  | 50 => ⟨S1x4096x1x8, .f32⟩
  | 51 => ⟨S4096x8, .f32⟩
  | 52 => ⟨S1x4096x1x8, .f32⟩
  | 53 => ⟨S8x4096x8x8, .f32⟩
  | 54 => ⟨S8x4096x8x8, .f32⟩
  | 55 => ⟨S8x4096x8x8, .f32⟩
  | 56 => ⟨S8x4096x8x8, .f32⟩
  | 57 => ⟨S8x4096x8x8, .f32⟩
  | 58 => ⟨S8x4096x8x8, .f32⟩
  | 59 => ⟨S8x4096x8x8, .f32⟩
  | 60 => ⟨S8x4096x8x8, .f32⟩
  | 61 => ⟨S8x4096x8x8, .f32⟩
  | 62 => ⟨S8x4096x8x8, .f32⟩
  | 63 => ⟨S8x4096x8x8, .f32⟩
  | 64 => ⟨S8x4096x8x8, .f32⟩
  | 65 => ⟨S8x4096x8x16, .f32⟩
  | 66 => ⟨S8x4096x8x48, .f32⟩
  | 67 => ⟨S8x4096x8x64, .f32⟩
  | 68 => ⟨S32768x512, .f32⟩
  | 69 => ⟨S32768x512, .f32⟩
  | 70 => ⟨S32768x512, .f32⟩
  | 71 => ⟨S8x4096x8x64, .f32⟩
  | 72 => ⟨S8, .f32⟩
  | 73 => ⟨S8, .f32⟩
  | 74 => ⟨S_, .f32⟩
  | 75 => ⟨S8, .f32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S4096, .f32⟩
  | 84 => ⟨S4096x1, .f32⟩
  | 85 => ⟨S1x8, .f32⟩
  | 86 => ⟨S4096x8, .f32⟩
  | 87 => ⟨S4096x8, .f32⟩
  | 88 => ⟨S4096x8, .f32⟩
  | 89 => ⟨S4096x8, .f32⟩
  | 90 => ⟨S1x4096x1x8, .f32⟩
  | 91 => ⟨S4096x8, .f32⟩
  | 92 => ⟨S1x4096x1x8, .f32⟩
  | 93 => ⟨S8x4096x8x8, .f32⟩
  | 94 => ⟨S8x4096x8x8, .f32⟩
  | 95 => ⟨S8x4096x8x8, .f32⟩
  | 96 => ⟨S8x4096x8x8, .f32⟩
  | 97 => ⟨S8x4096x8x8, .f32⟩
  | 98 => ⟨S8x4096x8x8, .f32⟩
  | 99 => ⟨S8x4096x8x8, .f32⟩
  | 100 => ⟨S8x4096x8x8, .f32⟩
  | 101 => ⟨S8x4096x8x8, .f32⟩
  | 102 => ⟨S8x4096x8x8, .f32⟩
  | 103 => ⟨S8x4096x8x8, .f32⟩
  | 104 => ⟨S8x4096x8x8, .f32⟩
  | 105 => ⟨S8x4096x8x16, .f32⟩
  | 106 => ⟨S8x4096x8x48, .f32⟩
  | 107 => ⟨S8x4096x8x64, .f32⟩
  | 108 => ⟨S32768x512, .f32⟩
  | 109 => ⟨S8x4096x2x64, .f32⟩
  | 110 => ⟨S8, .f32⟩
  | 111 => ⟨S8, .f32⟩
  | 112 => ⟨S_, .f32⟩
  | 113 => ⟨S8, .f32⟩
  | 114 => ⟨S8, .f32⟩
  | 115 => ⟨S_, .f32⟩
  | 116 => ⟨S8, .f32⟩
  | 117 => ⟨S8, .f32⟩
  | 118 => ⟨S_, .f32⟩
  | 119 => ⟨S8, .f32⟩
  | 120 => ⟨S8, .f32⟩
  | 121 => ⟨S4096, .f32⟩
  | 122 => ⟨S4096x1, .f32⟩
  | 123 => ⟨S1x8, .f32⟩
  | 124 => ⟨S4096x8, .f32⟩
  | 125 => ⟨S4096x8, .f32⟩
  | 126 => ⟨S4096x8, .f32⟩
  | 127 => ⟨S4096x8, .f32⟩
  | _ => ⟨S32768x1024, .f32⟩

abbrev hbmTy0_2 (i : Nat) : BufTy := match i % 128 with
  | 0 => ⟨S1x4096x1x8, .f32⟩
  | 1 => ⟨S4096x8, .f32⟩
  | 2 => ⟨S1x4096x1x8, .f32⟩
  | 3 => ⟨S8x4096x2x8, .f32⟩
  | 4 => ⟨S8x4096x2x8, .f32⟩
  | 5 => ⟨S8x4096x2x8, .f32⟩
  | 6 => ⟨S8x4096x2x8, .f32⟩
  | 7 => ⟨S8x4096x2x8, .f32⟩
  | 8 => ⟨S8x4096x2x8, .f32⟩
  | 9 => ⟨S8x4096x2x8, .f32⟩
  | 10 => ⟨S8x4096x2x8, .f32⟩
  | 11 => ⟨S8x4096x2x8, .f32⟩
  | 12 => ⟨S8x4096x2x8, .f32⟩
  | 13 => ⟨S8x4096x2x8, .f32⟩
  | 14 => ⟨S8x4096x2x8, .f32⟩
  | 15 => ⟨S8x4096x2x16, .f32⟩
  | 16 => ⟨S8x4096x2x48, .f32⟩
  | 17 => ⟨S8x4096x2x64, .f32⟩
  | 18 => ⟨S32768x128, .f32⟩
  | 19 => ⟨S32768x128, .f32⟩
  | 20 => ⟨S32768x512, .f32⟩
  | 21 => ⟨S8x4096x8x64, .f32⟩
  | 22 => ⟨S8, .f32⟩
  | 23 => ⟨S8, .f32⟩
  | 24 => ⟨S_, .f32⟩
  | 25 => ⟨S8, .f32⟩
  | 26 => ⟨S8, .f32⟩
  | 27 => ⟨S_, .f32⟩
  | 28 => ⟨S8, .f32⟩
  | 29 => ⟨S8, .f32⟩
  | 30 => ⟨S_, .f32⟩
  | 31 => ⟨S8, .f32⟩
  | 32 => ⟨S8, .f32⟩
  | 33 => ⟨S4096, .f32⟩
  | 34 => ⟨S4096x1, .f32⟩
  | 35 => ⟨S1x8, .f32⟩
  | 36 => ⟨S4096x8, .f32⟩
  | 37 => ⟨S4096x8, .f32⟩
  | 38 => ⟨S4096x8, .f32⟩
  | 39 => ⟨S4096x8, .f32⟩
  | 40 => ⟨S1x4096x1x8, .f32⟩
  | 41 => ⟨S4096x8, .f32⟩
  | 42 => ⟨S1x4096x1x8, .f32⟩
  | 43 => ⟨S8x4096x8x8, .f32⟩
  | 44 => ⟨S8x4096x8x8, .f32⟩
  | 45 => ⟨S8x4096x8x8, .f32⟩
  | 46 => ⟨S8x4096x8x8, .f32⟩
  | 47 => ⟨S8x4096x8x8, .f32⟩
  | 48 => ⟨S8x4096x8x8, .f32⟩
  | 49 => ⟨S8x4096x8x8, .f32⟩
  | 50 => ⟨S8x4096x8x8, .f32⟩
  | 51 => ⟨S8x4096x8x8, .f32⟩
  | 52 => ⟨S8x4096x8x8, .f32⟩
  | 53 => ⟨S8x4096x8x8, .f32⟩
  | 54 => ⟨S8x4096x8x8, .f32⟩
  | 55 => ⟨S8x4096x8x16, .f32⟩
  | 56 => ⟨S8x4096x8x48, .f32⟩
  | 57 => ⟨S8x4096x8x64, .f32⟩
  | 58 => ⟨S32768x512, .f32⟩
  | 59 => ⟨S8x4096x1x64, .f32⟩
  | 60 => ⟨S8, .f32⟩
  | 61 => ⟨S8, .f32⟩
  | 62 => ⟨S_, .f32⟩
  | 63 => ⟨S8, .f32⟩
  | 64 => ⟨S8, .f32⟩
  | 65 => ⟨S_, .f32⟩
  | 66 => ⟨S8, .f32⟩
  | 67 => ⟨S8, .f32⟩
  | 68 => ⟨S_, .f32⟩
  | 69 => ⟨S8, .f32⟩
  | 70 => ⟨S8, .f32⟩
  | 71 => ⟨S4096, .f32⟩
  | 72 => ⟨S4096x1, .f32⟩
  | 73 => ⟨S1x8, .f32⟩
  | 74 => ⟨S4096x8, .f32⟩
  | 75 => ⟨S4096x8, .f32⟩
  | 76 => ⟨S4096x8, .f32⟩
  | 77 => ⟨S4096x8, .f32⟩
  | 78 => ⟨S1x4096x1x8, .f32⟩
  | 79 => ⟨S4096x8, .f32⟩
  | 80 => ⟨S1x4096x1x8, .f32⟩
  | 81 => ⟨S8x4096x1x8, .f32⟩
  | 82 => ⟨S8x4096x1x8, .f32⟩
  | 83 => ⟨S8x4096x1x8, .f32⟩
  | 84 => ⟨S8x4096x1x8, .f32⟩
  | 85 => ⟨S8x4096x1x8, .f32⟩
  | 86 => ⟨S8x4096x1x8, .f32⟩
  | 87 => ⟨S8x4096x1x8, .f32⟩
  | 88 => ⟨S8x4096x1x8, .f32⟩
  | 89 => ⟨S8x4096x1x8, .f32⟩
  | 90 => ⟨S8x4096x1x8, .f32⟩
  | 91 => ⟨S8x4096x1x8, .f32⟩
  | 92 => ⟨S8x4096x1x8, .f32⟩
  | 93 => ⟨S8x4096x1x16, .f32⟩
  | 94 => ⟨S8x4096x1x48, .f32⟩
  | 95 => ⟨S8x4096x1x64, .f32⟩
  | 96 => ⟨S32768x64, .f32⟩
  | 97 => ⟨S32768x8, .f32⟩
  | 98 => ⟨S32768x512, .f32⟩
  | 99 => ⟨S32768x512, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_cst_5 : Ref sig .tc := ⟨.hbm, 81, rfl⟩
abbrev main_v72 : Ref sig .tc := ⟨.hbm, 82, rfl⟩
abbrev main_v73 : Ref sig .tc := ⟨.hbm, 83, rfl⟩
abbrev main_cst_6 : Ref sig .tc := ⟨.hbm, 84, rfl⟩
abbrev main_v74 : Ref sig .tc := ⟨.hbm, 85, rfl⟩
abbrev main_v75 : Ref sig .tc := ⟨.hbm, 86, rfl⟩
abbrev main_cst_7 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_cst_8 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_cst_9 : Ref sig .tc := ⟨.hbm, 124, rfl⟩
abbrev main_v111 : Ref sig .tc := ⟨.hbm, 125, rfl⟩
abbrev main_v112 : Ref sig .tc := ⟨.hbm, 126, rfl⟩
abbrev main_cst_10 : Ref sig .tc := ⟨.hbm, 127, rfl⟩
abbrev main_v113 : Ref sig .tc := ⟨.hbm, 128, rfl⟩
abbrev main_v114 : Ref sig .tc := ⟨.hbm, 129, rfl⟩
abbrev main_cst_11 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_cst_12 : Ref sig .tc := ⟨.hbm, 162, rfl⟩
abbrev main_v146 : Ref sig .tc := ⟨.hbm, 163, rfl⟩
abbrev main_v147 : Ref sig .tc := ⟨.hbm, 164, rfl⟩
abbrev main_cst_13 : Ref sig .tc := ⟨.hbm, 165, rfl⟩
abbrev main_v148 : Ref sig .tc := ⟨.hbm, 166, rfl⟩
abbrev main_v149 : Ref sig .tc := ⟨.hbm, 167, rfl⟩
abbrev main_cst_14 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_cst_15 : Ref sig .tc := ⟨.hbm, 202, rfl⟩
abbrev main_v183 : Ref sig .tc := ⟨.hbm, 203, rfl⟩
abbrev main_v184 : Ref sig .tc := ⟨.hbm, 204, rfl⟩
abbrev main_cst_16 : Ref sig .tc := ⟨.hbm, 205, rfl⟩
abbrev main_v185 : Ref sig .tc := ⟨.hbm, 206, rfl⟩
abbrev main_v186 : Ref sig .tc := ⟨.hbm, 207, rfl⟩
abbrev main_cst_17 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_v203 : Ref sig .tc := ⟨.hbm, 225, rfl⟩
abbrev main_v204 : Ref sig .tc := ⟨.hbm, 226, rfl⟩
abbrev main_v205 : Ref sig .tc := ⟨.hbm, 227, rfl⟩
abbrev main_v206 : Ref sig .tc := ⟨.hbm, 228, rfl⟩
abbrev main_v207 : Ref sig .tc := ⟨.hbm, 229, rfl⟩
abbrev main_v208 : Ref sig .tc := ⟨.hbm, 230, rfl⟩
abbrev main_v209 : Ref sig .tc := ⟨.hbm, 231, rfl⟩
abbrev main_v210 : Ref sig .tc := ⟨.hbm, 232, rfl⟩
abbrev main_v211 : Ref sig .tc := ⟨.hbm, 233, rfl⟩
abbrev main_v212 : Ref sig .tc := ⟨.hbm, 234, rfl⟩
abbrev main_v213 : Ref sig .tc := ⟨.hbm, 235, rfl⟩
abbrev main_v214 : Ref sig .tc := ⟨.hbm, 236, rfl⟩
abbrev main_v215 : Ref sig .tc := ⟨.hbm, 237, rfl⟩
abbrev main_v216 : Ref sig .tc := ⟨.hbm, 238, rfl⟩
abbrev main_v217 : Ref sig .tc := ⟨.hbm, 239, rfl⟩
abbrev main_cst_18 : Ref sig .tc := ⟨.hbm, 240, rfl⟩
abbrev main_v218 : Ref sig .tc := ⟨.hbm, 241, rfl⟩
abbrev main_v219 : Ref sig .tc := ⟨.hbm, 242, rfl⟩
abbrev main_cst_19 : Ref sig .tc := ⟨.hbm, 243, rfl⟩
abbrev main_v220 : Ref sig .tc := ⟨.hbm, 244, rfl⟩
abbrev main_v221 : Ref sig .tc := ⟨.hbm, 245, rfl⟩
abbrev main_cst_20 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_cst_21 : Ref sig .tc := ⟨.hbm, 280, rfl⟩
abbrev main_v255 : Ref sig .tc := ⟨.hbm, 281, rfl⟩
abbrev main_v256 : Ref sig .tc := ⟨.hbm, 282, rfl⟩
abbrev main_cst_22 : Ref sig .tc := ⟨.hbm, 283, rfl⟩
abbrev main_v257 : Ref sig .tc := ⟨.hbm, 284, rfl⟩
abbrev main_v258 : Ref sig .tc := ⟨.hbm, 285, rfl⟩
abbrev main_cst_23 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩
abbrev main_v266 : Ref sig .tc := ⟨.hbm, 294, rfl⟩
abbrev main_v267 : Ref sig .tc := ⟨.hbm, 295, rfl⟩
abbrev main_v268 : Ref sig .tc := ⟨.hbm, 296, rfl⟩
abbrev main_v269 : Ref sig .tc := ⟨.hbm, 297, rfl⟩
abbrev main_v270 : Ref sig .tc := ⟨.hbm, 298, rfl⟩
abbrev main_v271 : Ref sig .tc := ⟨.hbm, 299, rfl⟩
abbrev main_v272 : Ref sig .tc := ⟨.hbm, 300, rfl⟩
abbrev main_v273 : Ref sig .tc := ⟨.hbm, 301, rfl⟩
abbrev main_v274 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_v289 : Ref sig .tc := ⟨.hbm, 317, rfl⟩
abbrev main_cst_24 : Ref sig .tc := ⟨.hbm, 318, rfl⟩
abbrev main_v290 : Ref sig .tc := ⟨.hbm, 319, rfl⟩
abbrev main_v291 : Ref sig .tc := ⟨.hbm, 320, rfl⟩
abbrev main_cst_25 : Ref sig .tc := ⟨.hbm, 321, rfl⟩
abbrev main_v292 : Ref sig .tc := ⟨.hbm, 322, rfl⟩
abbrev main_v293 : Ref sig .tc := ⟨.hbm, 323, rfl⟩
abbrev main_cst_26 : Ref sig .tc := ⟨.hbm, 324, rfl⟩
abbrev main_v294 : Ref sig .tc := ⟨.hbm, 325, rfl⟩
abbrev main_v295 : Ref sig .tc := ⟨.hbm, 326, rfl⟩
abbrev main_v296 : Ref sig .tc := ⟨.hbm, 327, rfl⟩
abbrev main_v297 : Ref sig .tc := ⟨.hbm, 328, rfl⟩
abbrev main_v298 : Ref sig .tc := ⟨.hbm, 329, rfl⟩
abbrev main_v299 : Ref sig .tc := ⟨.hbm, 330, rfl⟩
abbrev main_v300 : Ref sig .tc := ⟨.hbm, 331, rfl⟩
abbrev main_v301 : Ref sig .tc := ⟨.hbm, 332, rfl⟩
abbrev main_v302 : Ref sig .tc := ⟨.hbm, 333, rfl⟩
abbrev main_v303 : Ref sig .tc := ⟨.hbm, 334, rfl⟩
abbrev main_v304 : Ref sig .tc := ⟨.hbm, 335, rfl⟩
abbrev main_v305 : Ref sig .tc := ⟨.hbm, 336, rfl⟩
abbrev main_v306 : Ref sig .tc := ⟨.hbm, 337, rfl⟩
abbrev main_v307 : Ref sig .tc := ⟨.hbm, 338, rfl⟩
abbrev main_v308 : Ref sig .tc := ⟨.hbm, 339, rfl⟩
abbrev main_v309 : Ref sig .tc := ⟨.hbm, 340, rfl⟩
abbrev main_v310 : Ref sig .tc := ⟨.hbm, 341, rfl⟩
abbrev main_v311 : Ref sig .tc := ⟨.hbm, 342, rfl⟩
abbrev main_v312 : Ref sig .tc := ⟨.hbm, 343, rfl⟩
abbrev main_v313 : Ref sig .tc := ⟨.hbm, 344, rfl⟩
abbrev main_v314 : Ref sig .tc := ⟨.hbm, 345, rfl⟩
abbrev main_v315 : Ref sig .tc := ⟨.hbm, 346, rfl⟩
abbrev main_v316 : Ref sig .tc := ⟨.hbm, 347, rfl⟩
abbrev main_v317 : Ref sig .tc := ⟨.hbm, 348, rfl⟩
abbrev main_v318 : Ref sig .tc := ⟨.hbm, 349, rfl⟩
abbrev main_v319 : Ref sig .tc := ⟨.hbm, 350, rfl⟩
abbrev main_v320 : Ref sig .tc := ⟨.hbm, 351, rfl⟩
abbrev main_v321 : Ref sig .tc := ⟨.hbm, 352, rfl⟩
abbrev main_v322 : Ref sig .tc := ⟨.hbm, 353, rfl⟩
abbrev main_v323 : Ref sig .tc := ⟨.hbm, 354, rfl⟩
abbrev main_v324 : Ref sig .tc := ⟨.hbm, 355, rfl⟩

abbrev nD : Nat := 1
abbrev τ : Topo := Topo.v7x

variable {F : FTy → Type} [FloatOps F]
-- ==== Proof.RetModel.lean ====
module

public import Idealize.ShloMosaic.Lib.Pointwise

/-! The mathematics of retention at single entries, over the extended reals: one chunk's update of a state entry, one
head's output before normalisation, the per-head normalisation, and the gate. -/

@[expose] public section

noncomputable section

namespace Cert.Ret

open Idealize.ShloMosaic

/-- One chunk's update of one state entry `s`: the decayed entry, and the sum over the chunk's tokens of the decayed
    key component times the value component. -/
def stepAt (kb : Fin 128 → EReal) (kd : Fin 128 → EReal) (vb : Fin 128 → EReal) (cd s : EReal) : EReal :=
  cd * s + ∑ j : Fin 128, kb j * kd j * vb j

/-- One entry of one head's output before normalisation: the decayed scores within the chunk against the values, and
    the query against the state, decayed by the query's position. -/
def outAt (q : Fin 64 → EReal) (k : Fin 128 → Fin 64 → EReal) (dec : Fin 128 → EReal) (v : Fin 128 → EReal)
    (s : Fin 64 → EReal) (qd : EReal) : EReal :=
  ∑ j : Fin 128, (∑ d : Fin 64, q d * k j d) * dec j * v j + (∑ d : Fin 64, q d * s d) * qd

/-- The mean over the 128 components of one head. -/
def mean (o : Fin 128 → EReal) : EReal := Ideal.div (∑ e : Fin 128, o e) (Ideal.ofBits .f32 0x43000000#32)

/-- One component normalised over its head: the difference from the mean times the reciprocal root of the variance
    plus the constant 1e-6. -/
def normAt (o : Fin 128 → EReal) (e : Fin 128) : EReal :=
  (o e - mean o) * Ideal.rsqrt (Ideal.div (∑ x : Fin 128, (o x - mean o) * (o x - mean o)) (Ideal.ofBits .f32 0x43000000#32)
    + Ideal.ofBits .f32 0x358637BD#32)

/-- `x` times its logistic. -/
def silu (x : EReal) : EReal := x * Ideal.div 1 (1 + Ideal.exp (0 - x))

/-- Component `d` of head `g` among the 4 × 64 key columns. -/
def kcol (g : Fin 4) (d : Fin 64) : Fin 256 := ⟨g.val * 64 + d.val, by omega⟩

/-- Component `e` of head `g` among the 4 × 128 value columns. -/
def vcol (g : Fin 4) (e : Fin 128) : Fin 512 := ⟨g.val * 128 + e.val, by omega⟩

/-- The logarithm of head `g`'s decay: log(1 − 2^(−5−g)), the power of two written as an exponential. -/
def lg (g : Fin 4) : EReal :=
  Ideal.log1p (-Ideal.exp (Ideal.ofBits .f32 0x3F317218#32 * (Ideal.ofBits .f32 0xC0A00000#32 - FloatOps.sitofp (F := Ideal) .f32 (BitVec.ofNat 32 g.val))))

/-- Position `i` of a chunk as a number. -/
def pos (i : Fin 128) : EReal := FloatOps.sitofp (F := Ideal) .f32 (BitVec.ofNat 32 i.val)

/-- Decay from token `k` to token `i` of one chunk, zero for a later token. -/
def decay (g : Fin 4) (i k : Fin 128) : EReal := if 0 ≤ pos i - pos k then Ideal.exp (max (pos i - pos k) 0 * lg g) else 0

/-- Decay of the state at position `i`. -/
def qdec (g : Fin 4) (i : Fin 128) : EReal := Ideal.exp ((pos i + 1) * lg g)

/-- Decay of token `j` up to the end of its chunk. -/
def kdec (g : Fin 4) (j : Fin 128) : EReal := Ideal.exp ((Ideal.ofBits .f32 0x42FE0000#32 - pos j) * lg g)

/-- Decay of the state over a whole chunk. -/
def cdec (g : Fin 4) : EReal := Ideal.exp (Ideal.ofBits .f32 0x43000000#32 * lg g)

/-- Token `j` of chunk `n` of sequence `b` among all 8 × 4096 tokens. -/
def tok (b : Fin 8) (n : Fin 32) (j : Fin 128) : Fin 32768 := ⟨b.val * 4096 + n.val * 128 + j.val, by omega⟩

/-- Chunk `n`, for a count that may run past the last one. -/
def chunk (n : ℕ) : Fin 32 := ⟨n % 32, Nat.mod_lt _ (by decide)⟩

/-- The state before chunk `n`, of keys `K` and values `W`. -/
def state (K : Fin 32768 → Fin 256 → EReal) (W : Fin 32768 → Fin 512 → EReal) : ℕ → Fin 8 → Fin 4 → Fin 64 → Fin 128 → EReal
  | 0 => fun _ _ _ _ => 0
  | n + 1 => fun b g d e => stepAt (fun j => K (tok b (chunk n) j) (kcol g d)) (kdec g) (fun j => W (tok b (chunk n) j) (vcol g e))
      (cdec g) (state K W n b g d e)

/-- The retention output of token `i` of chunk `n`, head `g`, component `e`. -/
def retained (Q K : Fin 32768 → Fin 256 → EReal) (W : Fin 32768 → Fin 512 → EReal) (n : Fin 32) (b : Fin 8) (i : Fin 128)
    (g : Fin 4) (e : Fin 128) : EReal :=
  outAt (fun d => Q (tok b n i) (kcol g d)) (fun j d => K (tok b n j) (kcol g d)) (decay g i)
    (fun j => W (tok b n j) (vcol g e)) (fun d => state K W n.val b g d e) (qdec g i)

/-- The layer's retention result at token `i` of chunk `n`, component `e` of head `g`: the retention output normalised over
    its head, times the weight `G`, times the gate. -/
def result (Q K : Fin 32768 → Fin 256 → EReal) (W Z : Fin 32768 → Fin 512 → EReal) (G : Fin 512 → EReal) (n : Fin 32)
    (b : Fin 8) (i : Fin 128) (g : Fin 4) (e : Fin 128) : EReal :=
  normAt (retained Q K W n b i g) e * G (vcol g e) * silu (Z (tok b n i) (vcol g e))

end Cert.Ret

end
-- ==== Proof.RetFirst.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.RetModel

/-! The first chunk stores the initial state before it runs as every other chunk does. -/

@[expose] public section

set_option maxRecDepth 16384
set_option maxHeartbeats 16000000

noncomputable section

namespace Cert.Ret

open Cert.KernelIdeal Cert.KernelIdeal.Gen Idealize.ShloMosaic Idealize.ShloMosaic.TcCoe Idealize.SL.Sem
open Idealize.ShloMosaic.Pipeline (Dat)

/-- Stores that already cover an index hide the first store. -/
theorem canon_dropLast {S : Shape} {e : EltTy} (L : List (View.Piece (Elt Ideal) S e)) (y : S.Idx)
    (hc : ∃ p ∈ L.dropLast, y ∈ p.1.set) : View.canon L y = View.canon L.dropLast y := by
  induction L with
  | nil => rfl
  | cons p L ih =>
    cases L with
    | nil => obtain ⟨q, hq, _⟩ := hc; simp at hq
    | cons p' L =>
      rw [List.dropLast_cons₂] at hc ⊢
      by_cases hm : y ∈ p.1.set
      · obtain ⟨x, rfl⟩ := p.1.exists_idx_of_mem hm
        rw [show p.1.idx x = p.1.emb x from rfl, View.canon_cons_emb, View.canon_cons_emb]
      · rw [View.canon_cons_of_not_mem _ _ hm, View.canon_cons_of_not_mem _ _ hm]
        refine ih ?_
        obtain ⟨q, hq, hy⟩ := hc
        rcases List.mem_cons.mp hq with rfl | hq
        · exact absurd hy hm
        · exact ⟨q, hq, hy⟩

/-- The first chunk's outputs are those of any other chunk that finds the initial state. -/
theorem out_first (c : Dev nD) (i i' : grid0.Coords) (a0 : Memref sig .tc .vmem S8x128x256 .f32) (h0 : a0.IsWhole) (a1 : Memref sig .tc .vmem S8x128x256 .f32) (h1 : a1.IsWhole) (a2 : Memref sig .tc .vmem S8x128x512 .f32) (h2 : a2.IsWhole) (a3 : Memref sig .tc .vmem S8x128x512 .f32) (h3 : a3.IsWhole) (a4 : Memref sig .tc .vmem S8x4x64x128 .f32) (h4 : a4.IsWhole) (a5 : Memref sig .tc .vmem S4x128x128 .f32) (h5 : a5.IsWhole) (a6 : Memref sig .tc .vmem S4x128x1 .f32) (h6 : a6.IsWhole) (a7 : Memref sig .tc .vmem S4x128x1 .f32) (h7 : a7.IsWhole) (a8 : Memref sig .tc .vmem S4x1x1 .f32) (h8 : a8.IsWhole) (a9 : Memref sig .tc .vmem S1x512 .f32) (h9 : a9.IsWhole) (a10 : Memref sig .tc .vmem S8x128x512 .f32) (h10 : a10.IsWhole) (a11 : Memref sig .tc .vmem S8x4x64x128 .f32) (h11 : a11.IsWhole)
    (hc : cond0_0 i) (hc' : ¬cond0_0 i') (x0 : Vec Ideal S8x128x256 .f32) (x1 : Vec Ideal S8x128x256 .f32) (x2 : Vec Ideal S8x128x512 .f32) (x3 : Vec Ideal S8x128x512 .f32) (x4 : Vec Ideal S8x4x64x128 .f32) (x5 : Vec Ideal S4x128x128 .f32) (x6 : Vec Ideal S4x128x1 .f32) (x7 : Vec Ideal S4x128x1 .f32) (x8 : Vec Ideal S4x1x1 .f32) (x9 : Vec Ideal S1x512 .f32) :
    out0_A_10 c i a0 h0 a1 h1 a2 h2 a3 h3 a4 h4 a5 h5 a6 h6 a7 h7 a8 h8 a9 h9 a10 h10 a11 h11 hc x0 x1 x2 x3 x4 x5 x6 x7 x8 x9 = out0_B_10 c i' a0 h0 a1 h1 a2 h2 a3 h3 a4 h4 a5 h5 a6 h6 a7 h7 a8 h8 a9 h9 a10 h10 a11 h11 hc' x0 x1 x2 x3 x4 x5 x6 x7 x8 x9 x4 := by
  funext y
  frame_open
  simp (disch := decide) only [↓ View.readCov_skip, ↓ View.readCov_cons_toLoadRect, ↓ View.readCov_fill]
  frame_out
  simp only [k0_pay2, shapeCast_self]

/-- The first chunk leaves in the state block what any other chunk that finds the initial state leaves. -/
theorem state_first (c : Dev nD) (i i' : grid0.Coords) (a0 : Memref sig .tc .vmem S8x128x256 .f32) (h0 : a0.IsWhole) (a1 : Memref sig .tc .vmem S8x128x256 .f32) (h1 : a1.IsWhole) (a2 : Memref sig .tc .vmem S8x128x512 .f32) (h2 : a2.IsWhole) (a3 : Memref sig .tc .vmem S8x128x512 .f32) (h3 : a3.IsWhole) (a4 : Memref sig .tc .vmem S8x4x64x128 .f32) (h4 : a4.IsWhole) (a5 : Memref sig .tc .vmem S4x128x128 .f32) (h5 : a5.IsWhole) (a6 : Memref sig .tc .vmem S4x128x1 .f32) (h6 : a6.IsWhole) (a7 : Memref sig .tc .vmem S4x128x1 .f32) (h7 : a7.IsWhole) (a8 : Memref sig .tc .vmem S4x1x1 .f32) (h8 : a8.IsWhole) (a9 : Memref sig .tc .vmem S1x512 .f32) (h9 : a9.IsWhole) (a10 : Memref sig .tc .vmem S8x128x512 .f32) (h10 : a10.IsWhole) (a11 : Memref sig .tc .vmem S8x4x64x128 .f32) (h11 : a11.IsWhole)
    (hc : cond0_0 i) (hc' : ¬cond0_0 i') (x0 : Vec Ideal S8x128x256 .f32) (x1 : Vec Ideal S8x128x256 .f32) (x2 : Vec Ideal S8x128x512 .f32) (x3 : Vec Ideal S8x128x512 .f32) (x4 : Vec Ideal S8x4x64x128 .f32) (x5 : Vec Ideal S4x128x128 .f32) (x6 : Vec Ideal S4x128x1 .f32) (x7 : Vec Ideal S4x128x1 .f32) (x8 : Vec Ideal S4x1x1 .f32) (x9 : Vec Ideal S1x512 .f32) :
    out0_A_11 c i a0 h0 a1 h1 a2 h2 a3 h3 a4 h4 a5 h5 a6 h6 a7 h7 a8 h8 a9 h9 a10 h10 a11 h11 hc x0 x1 x2 x3 x4 x5 x6 x7 x8 x9 = out0_B_11 c i' a0 h0 a1 h1 a2 h2 a3 h3 a4 h4 a5 h5 a6 h6 a7 h7 a8 h8 a9 h9 a10 h10 a11 h11 hc' x0 x1 x2 x3 x4 x5 x6 x7 x8 x9 x4 := by
  funext y
  frame_open
  simp (disch := decide) only [↓ View.readCov_skip, ↓ View.readCov_cons_toLoadRect, ↓ View.readCov_fill]
  frame_out
  simp only [k0_pay2, shapeCast_self]
  refine (canon_dropLast (S := S8x4x64x128) _ y ?_).trans ?_
  · exact View.cover_of_tiledL (s := S8x4x64x128) _ S1x1x64x128.size (by sl_kernel_rfl) y
  · rfl

end Cert.Ret

end
-- ==== Proof.RetHost.lean ====
module

public import proofs.«01_k».proof.Proof.Gen.KernelIdeal.Value
public import Idealize.ShloMosaic.Lib.Pipeline.ValueKit
public import Idealize.ShloMosaic.Lib.Claim
public import Idealize.ShloMosaic.Lib.Pointwise
public import proofs.«01_k».proof.Proof.RetModel
public import proofs.«01_k».proof.Proof.RetFirst

@[expose] public section

set_option maxRecDepth 16384
set_option maxHeartbeats 16000000

noncomputable section

namespace Cert.Ret

open Cert.KernelIdeal Cert.KernelIdeal.Gen Idealize.ShloMosaic Idealize.ShloMosaic.TcCoe Idealize.SL.Sem
open Idealize.ShloMosaic.Pipeline (Dat)
variable (m : (ℓ : Loc nD τ sig) → Buf (Elt Idealize.ShloMosaic.Ideal) ℓ)

/-! What the call's windows hold at each grid point, of the kernel's arguments: the chunk of tokens of windows 0–3, the zero
state, the decay tables and the norm's weight. -/

/-- Window 0's array is argument 0 as 8 × 4096 × 256. -/
theorem V_0 (c : Dev nD) : V m c main_v50 = shapeCast S8x4096x256 (m ((c.tc : Thread nD τ).loc main_arg0)) shapeCasts_S32768x256_S8x4096x256 := by
  unfold V
  simp only [List.flatten_cons, List.flatten_nil, List.append_nil, hostOps0, hostOps0_1, hostOps0_2, List.cons_append, List.nil_append]
  entry_read
  rfl

/-- Window 0 moves with the chunk. -/
theorem idx_0 : ∀ t : Fin cfg0.N, win0_0.index t = ![0, t.val, 0] := (by decide +kernel : ∀ t : Fin grid0.N, win0_0.index t = ![0, t.val, 0])
/-- Window 0's block in its array. -/
theorem blk_0 (A : S8x4096x256.Idx → EReal) (t : Fin cfg0.N) (b : Fin 8) (j : Fin 128) (l : Fin 256) (h : t.val * 128 + j.val < 4096) :
    A ((win0_0.blk t).view.emb (ix3 b j l)) = A (ix3 b ⟨t.val * 128 + j.val, h⟩ l) := by
  blk_ext [idx_0]
/-- Window 1's array is argument 1 as 8 × 4096 × 256. -/
theorem V_1 (c : Dev nD) : V m c main_v51 = shapeCast S8x4096x256 (m ((c.tc : Thread nD τ).loc main_arg1)) shapeCasts_S32768x256_S8x4096x256 := by
  unfold V
  simp only [List.flatten_cons, List.flatten_nil, List.append_nil, hostOps0, hostOps0_1, hostOps0_2, List.cons_append, List.nil_append]
  entry_read
  rfl

/-- Window 1 moves with the chunk. -/
theorem idx_1 : ∀ t : Fin cfg0.N, win0_1.index t = ![0, t.val, 0] := (by decide +kernel : ∀ t : Fin grid0.N, win0_1.index t = ![0, t.val, 0])
/-- Window 1's block in its array. -/
theorem blk_1 (A : S8x4096x256.Idx → EReal) (t : Fin cfg0.N) (b : Fin 8) (j : Fin 128) (l : Fin 256) (h : t.val * 128 + j.val < 4096) :
    A ((win0_1.blk t).view.emb (ix3 b j l)) = A (ix3 b ⟨t.val * 128 + j.val, h⟩ l) := by
  blk_ext [idx_1]
/-- Window 2's array is argument 2 as 8 × 4096 × 512. -/
theorem V_2 (c : Dev nD) : V m c main_v52 = shapeCast S8x4096x512 (m ((c.tc : Thread nD τ).loc main_arg2)) shapeCasts_S32768x512_S8x4096x512 := by
  unfold V
  simp only [List.flatten_cons, List.flatten_nil, List.append_nil, hostOps0, hostOps0_1, hostOps0_2, List.cons_append, List.nil_append]
  entry_read
  rfl

/-- Window 2 moves with the chunk. -/
theorem idx_2 : ∀ t : Fin cfg0.N, win0_2.index t = ![0, t.val, 0] := (by decide +kernel : ∀ t : Fin grid0.N, win0_2.index t = ![0, t.val, 0])
/-- Window 2's block in its array. -/
theorem blk_2 (A : S8x4096x512.Idx → EReal) (t : Fin cfg0.N) (b : Fin 8) (j : Fin 128) (l : Fin 512) (h : t.val * 128 + j.val < 4096) :
    A ((win0_2.blk t).view.emb (ix3 b j l)) = A (ix3 b ⟨t.val * 128 + j.val, h⟩ l) := by
  blk_ext [idx_2]
/-- Window 3's array is argument 3 as 8 × 4096 × 512. -/
theorem V_3 (c : Dev nD) : V m c main_v53 = shapeCast S8x4096x512 (m ((c.tc : Thread nD τ).loc main_arg3)) shapeCasts_S32768x512_S8x4096x512 := by
  unfold V
  simp only [List.flatten_cons, List.flatten_nil, List.append_nil, hostOps0, hostOps0_1, hostOps0_2, List.cons_append, List.nil_append]
  entry_read
  rfl

/-- Window 3 moves with the chunk. -/
theorem idx_3 : ∀ t : Fin cfg0.N, win0_3.index t = ![0, t.val, 0] := (by decide +kernel : ∀ t : Fin grid0.N, win0_3.index t = ![0, t.val, 0])
/-- Window 3's block in its array. -/
theorem blk_3 (A : S8x4096x512.Idx → EReal) (t : Fin cfg0.N) (b : Fin 8) (j : Fin 128) (l : Fin 512) (h : t.val * 128 + j.val < 4096) :
    A ((win0_3.blk t).view.emb (ix3 b j l)) = A (ix3 b ⟨t.val * 128 + j.val, h⟩ l) := by
  blk_ext [idx_3]

/-- The 8 × 4096 × 256 array of an array of 32768 × 256. -/
theorem cast_256 (A : S32768x256.Idx → EReal) (b : Fin 8) (r : Fin 4096) (l : Fin 256) (h : b.val * 4096 + r.val < 32768) :
    shapeCast S8x4096x256 A shapeCasts_S32768x256_S8x4096x256 (ix3 b r l) = A (ix2 ⟨b.val * 4096 + r.val, h⟩ l) := by
  pointwise

/-- The 8 × 4096 × 512 array of an array of 32768 × 512. -/
theorem cast_512 (A : S32768x512.Idx → EReal) (b : Fin 8) (r : Fin 4096) (l : Fin 512) (h : b.val * 4096 + r.val < 32768) :
    shapeCast S8x4096x512 A shapeCasts_S32768x512_S8x4096x512 (ix3 b r l) = A (ix2 ⟨b.val * 4096 + r.val, h⟩ l) := by
  pointwise

/-- Window 0 at a point is its chunk of argument 0. -/
theorem read_0 (c : Dev nD) (t : Fin cfg0.N) (b : Fin 8) (j : Fin 128) (l : Fin 256) :
    @Eq EReal (iblk m c 0 t (ix3 b j l)) (m ((c.tc : Thread nD τ).loc main_arg0) (ix2 (tok b t j) l)) := by
  have ht : t.val < 32 := t.isLt
  blk_simp [iblk]
  rw [V_0]
  refine (blk_0 _ t b j l (by omega)).trans ((cast_256 _ b _ l (by show b.val * 4096 + (t.val * 128 + j.val) < 32768; omega)).trans ?_)
  congr 2
  apply Fin.ext
  show b.val * 4096 + (t.val * 128 + j.val) = b.val * 4096 + t.val * 128 + j.val
  omega

/-- Window 1 at a point is its chunk of argument 1. -/
theorem read_1 (c : Dev nD) (t : Fin cfg0.N) (b : Fin 8) (j : Fin 128) (l : Fin 256) :
    @Eq EReal (iblk m c 1 t (ix3 b j l)) (m ((c.tc : Thread nD τ).loc main_arg1) (ix2 (tok b t j) l)) := by
  have ht : t.val < 32 := t.isLt
  blk_simp [iblk]
  rw [V_1]
  refine (blk_1 _ t b j l (by omega)).trans ((cast_256 _ b _ l (by show b.val * 4096 + (t.val * 128 + j.val) < 32768; omega)).trans ?_)
  congr 2
  apply Fin.ext
  show b.val * 4096 + (t.val * 128 + j.val) = b.val * 4096 + t.val * 128 + j.val
  omega

/-- Window 2 at a point is its chunk of argument 2. -/
theorem read_2 (c : Dev nD) (t : Fin cfg0.N) (b : Fin 8) (j : Fin 128) (l : Fin 512) :
    @Eq EReal (iblk m c 2 t (ix3 b j l)) (m ((c.tc : Thread nD τ).loc main_arg2) (ix2 (tok b t j) l)) := by
  have ht : t.val < 32 := t.isLt
  blk_simp [iblk]
  rw [V_2]
  refine (blk_2 _ t b j l (by omega)).trans ((cast_512 _ b _ l (by show b.val * 4096 + (t.val * 128 + j.val) < 32768; omega)).trans ?_)
  congr 2
  apply Fin.ext
  show b.val * 4096 + (t.val * 128 + j.val) = b.val * 4096 + t.val * 128 + j.val
  omega

/-- Window 3 at a point is its chunk of argument 3. -/
theorem read_3 (c : Dev nD) (t : Fin cfg0.N) (b : Fin 8) (j : Fin 128) (l : Fin 512) :
    @Eq EReal (iblk m c 3 t (ix3 b j l)) (m ((c.tc : Thread nD τ).loc main_arg3) (ix2 (tok b t j) l)) := by
  have ht : t.val < 32 := t.isLt
  blk_simp [iblk]
  rw [V_3]
  refine (blk_3 _ t b j l (by omega)).trans ((cast_512 _ b _ l (by show b.val * 4096 + (t.val * 128 + j.val) < 32768; omega)).trans ?_)
  congr 2
  apply Fin.ext
  show b.val * 4096 + (t.val * 128 + j.val) = b.val * 4096 + t.val * 128 + j.val
  omega

/-- The state starts at zero. -/
theorem V_4 (c : Dev nD) : V m c main_v0 = (broadcastInDim S8x4x64x128 ![] bcast_S_S8x4x64x128 (constant S_ .f32 0x00000000#32) : FVec Idealize.ShloMosaic.Ideal S8x4x64x128 .f32) := by
  unfold V
  simp only [List.flatten_cons, List.flatten_nil, List.append_nil, hostOps0, hostOps0_1, hostOps0_2, List.cons_append, List.nil_append]
  entry_read
  rfl

/-- The norm's weight as one row. -/
theorem V_9 (c : Dev nD) : V m c main_v1 = shapeCast S1x512 (m ((c.tc : Thread nD τ).loc main_arg4)) shapeCasts_S512_S1x512 := by
  unfold V
  simp only [List.flatten_cons, List.flatten_nil, List.append_nil, hostOps0, hostOps0_1, hostOps0_2, List.cons_append, List.nil_append]
  entry_read
  rfl

/-- The logarithms of the four decays. -/
def lgV : FVec Idealize.ShloMosaic.Ideal S4 .f32 :=
  Host.log1p (Host.negf (Host.exp (mulf (broadcastInDim S4 ![] bcast_S_S4 (constant S_ .f32 0x3F317218#32))
    (subf (broadcastInDim S4 ![] bcast_S_S4 (constant S_ .f32 0xC0A00000#32)) (sitofp .f32 (iotaInDim S4 32 0))))))
/-- The positions in a chunk. -/
def posV : FVec Idealize.ShloMosaic.Ideal S128 .f32 := sitofp .f32 (iotaInDim S128 32 0)
/-- The differences of positions. -/
def diffV : FVec Idealize.ShloMosaic.Ideal S128x128 .f32 :=
  subf (broadcastInDim S128x128 ![0, 1] bcast_S128x1_S128x128_0_1 (broadcastInDim S128x1 ![0] bcast_S128_S128x1_0 posV))
    (broadcastInDim S128x128 ![0, 1] bcast_S1x128_S128x128_0_1 (broadcastInDim S1x128 ![1] bcast_S128_S1x128_1 posV))
/-- The decay within a chunk. -/
def decV : FVec Idealize.ShloMosaic.Ideal S4x128x128 .f32 :=
  select (broadcastInDim S4x128x128 ![0, 1, 2] bcast_S1x128x128_S4x128x128_0_1_2
      (cmpf CmpFPredicate.oge (broadcastInDim S1x128x128 ![1, 2] bcast_S128x128_S1x128x128_1_2 diffV)
        (broadcastInDim S1x128x128 ![] bcast_S_S1x128x128 (constant S_ .f32 0x00000000#32))))
    (Host.exp (mulf (broadcastInDim S4x128x128 ![0, 1, 2] bcast_S1x128x128_S4x128x128_0_1_2
        (broadcastInDim S1x128x128 ![1, 2] bcast_S128x128_S1x128x128_1_2
          (maximumf diffV (broadcastInDim S128x128 ![] bcast_S_S128x128 (constant S_ .f32 0x00000000#32)))))
      (broadcastInDim S4x128x128 ![0, 1, 2] bcast_S4x1x1_S4x128x128_0_1_2 (broadcastInDim S4x1x1 ![0] bcast_S4_S4x1x1_0 lgV))))
    (broadcastInDim S4x128x128 ![] bcast_S_S4x128x128 (constant S_ .f32 0x00000000#32))
/-- The decay of the state at each position. -/
def qdecV : FVec Idealize.ShloMosaic.Ideal S4x128x1 .f32 :=
  broadcastInDim S4x128x1 ![0, 1] bcast_S4x128_S4x128x1_0_1 (Host.exp (mulf
    (broadcastInDim S4x128 ![0, 1] bcast_S1x128_S4x128_0_1
      (addf (broadcastInDim S1x128 ![1] bcast_S128_S1x128_1 posV) (broadcastInDim S1x128 ![] bcast_S_S1x128 (constant S_ .f32 0x3F800000#32))))
    (broadcastInDim S4x128 ![0, 1] bcast_S4x1_S4x128_0_1 (broadcastInDim S4x1 ![0] bcast_S4_S4x1_0 lgV))))
/-- The decay of each position to the chunk's end. -/
def kdecV : FVec Idealize.ShloMosaic.Ideal S4x128x1 .f32 :=
  broadcastInDim S4x128x1 ![0, 1] bcast_S4x128_S4x128x1_0_1 (Host.exp (mulf
    (broadcastInDim S4x128 ![0, 1] bcast_S1x128_S4x128_0_1 (broadcastInDim S1x128 ![1] bcast_S128_S1x128_1
      (subf (broadcastInDim S128 ![] bcast_S_S128 (constant S_ .f32 0x42FE0000#32)) posV)))
    (broadcastInDim S4x128 ![0, 1] bcast_S4x1_S4x128_0_1 (broadcastInDim S4x1 ![0] bcast_S4_S4x1_0 lgV))))
/-- The decay over a chunk. -/
def cdecV : FVec Idealize.ShloMosaic.Ideal S4x1x1 .f32 :=
  broadcastInDim S4x1x1 ![0] bcast_S4_S4x1x1_0 (Host.exp (mulf (broadcastInDim S4 ![] bcast_S_S4 (constant S_ .f32 0x43000000#32)) lgV))

theorem lgV_apply (g : Fin 4) : lgV (ix1 g) = lg g := by
  pointwise [lgV, lg]
theorem decV_apply (g : Fin 4) (i k : Fin 128) : decV (ix3 g i k) = decay g i k := by
  pointwise [decV, diffV, posV, decay, lgV_apply, pos]
theorem qdecV_apply (g : Fin 4) (i : Fin 128) : qdecV (ix3 g i 0) = qdec g i := by
  pointwise [qdecV, posV, qdec, lgV_apply, pos]
theorem kdecV_apply (g : Fin 4) (i : Fin 128) : kdecV (ix3 g i 0) = kdec g i := by
  pointwise [kdecV, posV, kdec, lgV_apply, pos]
theorem cdecV_apply (g : Fin 4) : cdecV (ix3 g 0 0) = cdec g := by
  pointwise [cdecV, cdec, lgV_apply]

/-- Window 5's array. -/
theorem V_5 (c : Dev nD) : V m c main_v27 = decV := by
  unfold V
  simp only [List.flatten_cons, List.flatten_nil, List.append_nil, hostOps0, hostOps0_1, hostOps0_2, List.cons_append, List.nil_append]
  entry_read
  unfold decV diffV posV lgV
  rfl

/-- Window 6's array. -/
theorem V_6 (c : Dev nD) : V m c main_v36 = qdecV := by
  unfold V
  simp only [List.flatten_cons, List.flatten_nil, List.append_nil, hostOps0, hostOps0_1, hostOps0_2, List.cons_append, List.nil_append]
  entry_read
  unfold qdecV posV lgV
  rfl

/-- Window 7's array. -/
theorem V_7 (c : Dev nD) : V m c main_v45 = kdecV := by
  unfold V
  simp only [List.flatten_cons, List.flatten_nil, List.append_nil, hostOps0, hostOps0_1, hostOps0_2, List.cons_append, List.nil_append]
  entry_read
  unfold kdecV posV lgV
  rfl

/-- Window 8's array. -/
theorem V_8 (c : Dev nD) : V m c main_v49 = cdecV := by
  unfold V
  simp only [List.flatten_cons, List.flatten_nil, List.append_nil, hostOps0, hostOps0_1, hostOps0_2, List.cons_append, List.nil_append]
  entry_read
  unfold cdecV lgV
  rfl

/-- Window 4 holds its whole array. -/
theorem idx_4 : ∀ t : Fin cfg0.N, win0_4.index t = ![0, 0, 0, 0] := (by decide +kernel : ∀ t : Fin grid0.N, win0_4.index t = ![0, 0, 0, 0])
theorem blk_4 (A : S8x4x64x128.Idx → EReal) (t : Fin cfg0.N) (b : Fin 8) (g : Fin 4) (d : Fin 64) (e : Fin 128) : A ((win0_4.blk t).view.emb (ix4 b g d e)) = A (ix4 b g d e) := by
  blk_ext [idx_4]
/-- Window 4 at every point. -/
theorem read_4 (c : Dev nD) (t : Fin cfg0.N) (b : Fin 8) (g : Fin 4) (d : Fin 64) (e : Fin 128) : @Eq EReal (iblk m c 4 t (ix4 b g d e)) (0) := by
  blk_simp [iblk]
  rw [V_4]
  refine (blk_4 _ t b g d e).trans ?_
  pointwise
/-- Window 5 holds its whole array. -/
theorem idx_5 : ∀ t : Fin cfg0.N, win0_5.index t = ![0, 0, 0] := (by decide +kernel : ∀ t : Fin grid0.N, win0_5.index t = ![0, 0, 0])
theorem blk_5 (A : S4x128x128.Idx → EReal) (t : Fin cfg0.N) (g : Fin 4) (i k : Fin 128) : A ((win0_5.blk t).view.emb (ix3 g i k)) = A (ix3 g i k) := by
  blk_ext [idx_5]
/-- Window 5 at every point. -/
theorem read_5 (c : Dev nD) (t : Fin cfg0.N) (g : Fin 4) (i k : Fin 128) : @Eq EReal (iblk m c 5 t (ix3 g i k)) (decay g i k) := by
  blk_simp [iblk]
  rw [V_5]
  refine (blk_5 _ t g i k).trans ?_
  exact decV_apply g i k
/-- Window 6 holds its whole array. -/
theorem idx_6 : ∀ t : Fin cfg0.N, win0_6.index t = ![0, 0, 0] := (by decide +kernel : ∀ t : Fin grid0.N, win0_6.index t = ![0, 0, 0])
theorem blk_6 (A : S4x128x1.Idx → EReal) (t : Fin cfg0.N) (g : Fin 4) (i : Fin 128) : A ((win0_6.blk t).view.emb (ix3 g i 0)) = A (ix3 g i 0) := by
  blk_ext [idx_6]
/-- Window 6 at every point. -/
theorem read_6 (c : Dev nD) (t : Fin cfg0.N) (g : Fin 4) (i : Fin 128) : @Eq EReal (iblk m c 6 t (ix3 g i 0)) (qdec g i) := by
  blk_simp [iblk]
  rw [V_6]
  refine (blk_6 _ t g i).trans ?_
  exact qdecV_apply g i
/-- Window 7 holds its whole array. -/
theorem idx_7 : ∀ t : Fin cfg0.N, win0_7.index t = ![0, 0, 0] := (by decide +kernel : ∀ t : Fin grid0.N, win0_7.index t = ![0, 0, 0])
theorem blk_7 (A : S4x128x1.Idx → EReal) (t : Fin cfg0.N) (g : Fin 4) (i : Fin 128) : A ((win0_7.blk t).view.emb (ix3 g i 0)) = A (ix3 g i 0) := by
  blk_ext [idx_7]
/-- Window 7 at every point. -/
theorem read_7 (c : Dev nD) (t : Fin cfg0.N) (g : Fin 4) (i : Fin 128) : @Eq EReal (iblk m c 7 t (ix3 g i 0)) (kdec g i) := by
  blk_simp [iblk]
  rw [V_7]
  refine (blk_7 _ t g i).trans ?_
  exact kdecV_apply g i
/-- Window 8 holds its whole array. -/
theorem idx_8 : ∀ t : Fin cfg0.N, win0_8.index t = ![0, 0, 0] := (by decide +kernel : ∀ t : Fin grid0.N, win0_8.index t = ![0, 0, 0])
theorem blk_8 (A : S4x1x1.Idx → EReal) (t : Fin cfg0.N) (g : Fin 4) : A ((win0_8.blk t).view.emb (ix3 g 0 0)) = A (ix3 g 0 0) := by
  blk_ext [idx_8]
/-- Window 8 at every point. -/
theorem read_8 (c : Dev nD) (t : Fin cfg0.N) (g : Fin 4) : @Eq EReal (iblk m c 8 t (ix3 g 0 0)) (cdec g) := by
  blk_simp [iblk]
  rw [V_8]
  refine (blk_8 _ t g).trans ?_
  exact cdecV_apply g
/-- Window 9 holds its whole array. -/
theorem idx_9 : ∀ t : Fin cfg0.N, win0_9.index t = ![0, 0] := (by decide +kernel : ∀ t : Fin grid0.N, win0_9.index t = ![0, 0])
theorem blk_9 (A : S1x512.Idx → EReal) (t : Fin cfg0.N) (l : Fin 512) : A ((win0_9.blk t).view.emb (ix2 0 l)) = A (ix2 0 l) := by
  blk_ext [idx_9]
/-- Window 9 at every point. -/
theorem read_9 (c : Dev nD) (t : Fin cfg0.N) (l : Fin 512) : @Eq EReal (iblk m c 9 t (ix2 0 l)) ((m ((c.tc : Thread nD τ).loc main_arg4) (ix1 l))) := by
  blk_simp [iblk]
  rw [V_9]
  refine (blk_9 _ t l).trans ?_
  pointwise
end Cert.Ret
end
-- ==== Proof.RetRows.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.RetModel

/-! The output block after one chunk, at an entry, over the state that the chunk finds. Each sequence of the block is
the same tower of vector operations over its own rows. -/

@[expose] public section

set_option maxRecDepth 16384
set_option maxHeartbeats 16000000

noncomputable section

namespace Cert.Ret

open Cert.KernelIdeal Cert.KernelIdeal.Gen Idealize.ShloMosaic Idealize.ShloMosaic.TcCoe Idealize.SL.Sem
open Idealize.ShloMosaic.Pipeline (Dat)

theorem fin4 : ∀ g : Fin 4, g = 0 ∨ g = 1 ∨ g = 2 ∨ g = 3 := by decide

/-- One head's output before normalisation, as the tower of vector operations that the kernel runs. -/
def headVec (q k : FVec Ideal S128x64 .f32) (v : FVec Ideal S128x128 .f32) (s : Vec Ideal S1x1x64x128 .f32)
    (dec : Vec Ideal S1x128x128 .f32) (qd : Vec Ideal S1x128x1 .f32) : FVec Ideal S128x128 .f32 :=
  addf
    (matmul dot_S128x128_S128x128_S128x128_1_0_0_1_n_n none
      (truncf .bf16 (mulf
        (matmul dot_S128x64_S128x64_S128x128_1_1_0_0_n_n none (truncf .bf16 q bitsLt_bf16_f32) (truncf .bf16 k bitsLt_bf16_f32)
          (constant S128x128 .f32 0x00000000#32))
        (shapeCast S128x128 dec shapeCasts_S1x128x128_S128x128)) bitsLt_bf16_f32)
      (truncf .bf16 v bitsLt_bf16_f32) (constant S128x128 .f32 0x00000000#32))
    (mulf
      (matmul dot_S128x64_S64x128_S128x128_1_0_0_1_n_n none (truncf .bf16 q bitsLt_bf16_f32)
        (truncf .bf16 (shapeCast S64x128 s shapeCasts_S1x1x64x128_S64x128) bitsLt_bf16_f32)
        (constant S128x128 .f32 0x00000000#32))
      (broadcastTo S128x128 (shapeCast S128x1 qd shapeCasts_S1x128x1_S128x1) broadcasts_S128x1_S128x128))

/-- The head at an entry. -/
theorem headVec_apply (q k : FVec Ideal S128x64 .f32) (v : FVec Ideal S128x128 .f32) (s : Vec Ideal S1x1x64x128 .f32)
    (dec : Vec Ideal S1x128x128 .f32) (qd : Vec Ideal S1x128x1 .f32) (r e : Fin 128) :
    headVec q k v s dec qd (ix2 r e) = outAt (fun d => q (ix2 r d)) (fun j d => k (ix2 j d)) (fun j => dec (ix3 0 r j))
      (fun j => v (ix2 j e)) (fun d => s (ix4 0 0 d e)) (qd (ix3 0 r 0)) := by
  pointwise [headVec, outAt]

/-- One head's difference from its mean. -/
def centreVec (o : FVec Ideal S128x128 .f32) : FVec Ideal S128x128 .f32 :=
  subf o (broadcastTo S128x128 (divf (shapeCast S128x1 (multiReduction .add [1] S128 o 0x00000000#32 reduces_S128x128_S128 (.inl rfl) rfl)
    shapeCasts_S128_S128x1) (broadcast S128x1 (Scalar.ofBits .f32 0x43000000#32))) broadcasts_S128x1_S128x128)

/-- The difference at an entry. -/
theorem centreVec_apply (o : FVec Ideal S128x128 .f32) (r e : Fin 128) :
    centreVec o (ix2 r e) = o (ix2 r e) - mean (fun x => o (ix2 r x)) := by
  pointwise [centreVec, mean]

/-- One head normalised, as the tower of vector operations that the kernel runs. -/
def normVec (o : FVec Ideal S128x128 .f32) : FVec Ideal S128x128 .f32 :=
  mulf (centreVec o) (broadcastTo S128x128 (rsqrt (addf (divf (shapeCast S128x1
    (multiReduction .add [1] S128 (mulf (centreVec o) (centreVec o)) 0x00000000#32 reduces_S128x128_S128 (.inl rfl) rfl)
    shapeCasts_S128_S128x1) (broadcast S128x1 (Scalar.ofBits .f32 0x43000000#32)))
    (broadcast S128x1 (Scalar.ofBits .f32 0x358637BD#32)))) broadcasts_S128x1_S128x128)

/-- The normalised head at an entry. -/
theorem normVec_apply (o : FVec Ideal S128x128 .f32) (r e : Fin 128) :
    normVec o (ix2 r e) = normAt (fun x => o (ix2 r x)) e := by
  pointwise [normVec, centreVec_apply, normAt]

/-- One sequence's rows of the output block, as the tower of vector operations that the kernel runs. -/
def rowsVec (q k : Vec Ideal S1x128x256 .f32) (v gate : Vec Ideal S1x128x512 .f32) (s0 s1 s2 s3 : Vec Ideal S1x1x64x128 .f32)
    (dec0 dec1 dec2 dec3 : Vec Ideal S1x128x128 .f32) (qd0 qd1 qd2 qd3 : Vec Ideal S1x128x1 .f32) (gr : Vec Ideal S1x512 .f32) :
    FVec Ideal S1x128x512 .f32 :=
  shapeCast S1x128x512 (mulf (mulf (concatenate S128x512 1 [⟨S128x128, normVec (headVec
      (extractStridedSlice S128x64 ![0, 0] (shapeCast S128x256 q shapeCasts_S1x128x256_S128x256) slices_S128x256_o0_0_S128x64)
      (extractStridedSlice S128x64 ![0, 0] (shapeCast S128x256 k shapeCasts_S1x128x256_S128x256) slices_S128x256_o0_0_S128x64)
      (extractStridedSlice S128x128 ![0, 0] (shapeCast S128x512 v shapeCasts_S1x128x512_S128x512) slices_S128x512_o0_0_S128x128)
      s0 dec0 qd0)⟩, ⟨S128x128, normVec (headVec
      (extractStridedSlice S128x64 ![0, 64] (shapeCast S128x256 q shapeCasts_S1x128x256_S128x256) slices_S128x256_o0_64_S128x64)
      (extractStridedSlice S128x64 ![0, 64] (shapeCast S128x256 k shapeCasts_S1x128x256_S128x256) slices_S128x256_o0_64_S128x64)
      (extractStridedSlice S128x128 ![0, 128] (shapeCast S128x512 v shapeCasts_S1x128x512_S128x512) slices_S128x512_o0_128_S128x128)
      s1 dec1 qd1)⟩, ⟨S128x128, normVec (headVec
      (extractStridedSlice S128x64 ![0, 128] (shapeCast S128x256 q shapeCasts_S1x128x256_S128x256) slices_S128x256_o0_128_S128x64)
      (extractStridedSlice S128x64 ![0, 128] (shapeCast S128x256 k shapeCasts_S1x128x256_S128x256) slices_S128x256_o0_128_S128x64)
      (extractStridedSlice S128x128 ![0, 256] (shapeCast S128x512 v shapeCasts_S1x128x512_S128x512) slices_S128x512_o0_256_S128x128)
      s2 dec2 qd2)⟩, ⟨S128x128, normVec (headVec
      (extractStridedSlice S128x64 ![0, 192] (shapeCast S128x256 q shapeCasts_S1x128x256_S128x256) slices_S128x256_o0_192_S128x64)
      (extractStridedSlice S128x64 ![0, 192] (shapeCast S128x256 k shapeCasts_S1x128x256_S128x256) slices_S128x256_o0_192_S128x64)
      (extractStridedSlice S128x128 ![0, 384] (shapeCast S128x512 v shapeCasts_S1x128x512_S128x512) slices_S128x512_o0_384_S128x128)
      s3 dec3 qd3)⟩] concatenates_S128x128_S128x128_S128x128_S128x128_S128x512_d1)
      (broadcastTo S128x512 (shapeCast S1x512 gr shapeCasts_S1x512_S1x512) broadcasts_S1x512_S128x512))
    (mulf (shapeCast S128x512 gate shapeCasts_S1x128x512_S128x512)
      (divf (broadcast S128x512 (Scalar.ofBits .f32 0x3F800000#32))
        (addf (broadcast S128x512 (Scalar.ofBits .f32 0x3F800000#32))
          (exp (subf (broadcast S128x512 (Scalar.ofBits .f32 0x00000000#32)) (shapeCast S128x512 gate shapeCasts_S1x128x512_S128x512)))))))
    shapeCasts_S128x512_S1x128x512

/-- The rows at an entry. -/
theorem rowsVec_apply (q k : Vec Ideal S1x128x256 .f32) (v gate : Vec Ideal S1x128x512 .f32) (s0 s1 s2 s3 : Vec Ideal S1x1x64x128 .f32)
    (dec0 dec1 dec2 dec3 : Vec Ideal S1x128x128 .f32) (qd0 qd1 qd2 qd3 : Vec Ideal S1x128x1 .f32) (gr : Vec Ideal S1x512 .f32)
    (r : Fin 128) (l : Fin 512) (g : Fin 4) (e : Fin 128) (hl : l.val = g.val * 128 + e.val) :
    rowsVec q k v gate s0 s1 s2 s3 dec0 dec1 dec2 dec3 qd0 qd1 qd2 qd3 gr (ix3 0 r l) =
      normAt (fun e' => outAt (fun d => q (ix3 0 r (kcol g d))) (fun j d => k (ix3 0 j (kcol g d)))
        (fun j => (![dec0, dec1, dec2, dec3] g) (ix3 0 r j)) (fun j => v (ix3 0 j (vcol g e')))
        (fun d => (![s0, s1, s2, s3] g) (ix4 0 0 d e')) ((![qd0, qd1, qd2, qd3] g) (ix3 0 r 0))) e
      * gr (ix2 0 l) * silu (gate (ix3 0 r l)) := by
  obtain rfl | rfl | rfl | rfl := fin4 g
  · obtain ⟨e, he⟩ := e
    obtain rfl : e = l.val := by simpa using hl.symm
    pointwise [rowsVec, normVec_apply, headVec_apply, silu, kcol, vcol]
    simp only [he, ↓reduceDIte]
  · obtain ⟨e, he⟩ := e
    obtain rfl : e = l.val - 128 := by simp at hl; omega
    pointwise [rowsVec, normVec_apply, headVec_apply, silu, kcol, vcol]
    simp only [show ¬ l.val < 128 by simp at hl; omega, he, ↓reduceDIte]
  · obtain ⟨e, he⟩ := e
    obtain rfl : e = l.val - 128 - 128 := by simp at hl; omega
    pointwise [rowsVec, normVec_apply, headVec_apply, silu, kcol, vcol]
    simp only [show ¬ l.val < 128 by simp at hl; omega, show ¬ l.val - 128 < 128 by simp at hl; omega, he, ↓reduceDIte]
  · obtain ⟨e, he⟩ := e
    obtain rfl : e = l.val - 128 - 128 - 128 := by simp at hl; omega
    pointwise [rowsVec, normVec_apply, headVec_apply, silu, kcol, vcol]
    simp only [show ¬ l.val < 128 by simp at hl; omega, show ¬ l.val - 128 < 128 by simp at hl; omega, show ¬ l.val - 128 - 128 < 128 by simp at hl; omega, ↓reduceDIte]

end Cert.Ret

end
-- ==== Proof.RetOut.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.RetRows

/-! The output block after one chunk, at an entry, over the state that the chunk finds. -/

@[expose] public section

set_option maxRecDepth 16384
set_option maxHeartbeats 16000000

noncomputable section

namespace Cert.Ret

open Cert.KernelIdeal Cert.KernelIdeal.Gen Idealize.ShloMosaic Idealize.ShloMosaic.TcCoe Idealize.SL.Sem
open Idealize.ShloMosaic.Pipeline (Dat)

/-- One chunk leaves in the output block, over the state `P` that it finds, the normalised and gated heads. -/
theorem out_body (c : Dev nD) (i : grid0.Coords) (a0 : Memref sig .tc .vmem S8x128x256 .f32) (h0 : a0.IsWhole) (a1 : Memref sig .tc .vmem S8x128x256 .f32) (h1 : a1.IsWhole) (a2 : Memref sig .tc .vmem S8x128x512 .f32) (h2 : a2.IsWhole) (a3 : Memref sig .tc .vmem S8x128x512 .f32) (h3 : a3.IsWhole) (a4 : Memref sig .tc .vmem S8x4x64x128 .f32) (h4 : a4.IsWhole) (a5 : Memref sig .tc .vmem S4x128x128 .f32) (h5 : a5.IsWhole) (a6 : Memref sig .tc .vmem S4x128x1 .f32) (h6 : a6.IsWhole) (a7 : Memref sig .tc .vmem S4x128x1 .f32) (h7 : a7.IsWhole) (a8 : Memref sig .tc .vmem S4x1x1 .f32) (h8 : a8.IsWhole) (a9 : Memref sig .tc .vmem S1x512 .f32) (h9 : a9.IsWhole) (a10 : Memref sig .tc .vmem S8x128x512 .f32) (h10 : a10.IsWhole) (a11 : Memref sig .tc .vmem S8x4x64x128 .f32) (h11 : a11.IsWhole)
    (hc : ¬cond0_0 i) (x0 : Vec Ideal S8x128x256 .f32) (x1 : Vec Ideal S8x128x256 .f32) (x2 : Vec Ideal S8x128x512 .f32) (x3 : Vec Ideal S8x128x512 .f32) (x4 : Vec Ideal S8x4x64x128 .f32) (x5 : Vec Ideal S4x128x128 .f32) (x6 : Vec Ideal S4x128x1 .f32) (x7 : Vec Ideal S4x128x1 .f32) (x8 : Vec Ideal S4x1x1 .f32) (x9 : Vec Ideal S1x512 .f32) (P : Vec Ideal S8x4x64x128 .f32)
    (b : Fin 8) (r : Fin 128) (l : Fin 512) (g : Fin 4) (e : Fin 128) (hl : l.val = g.val * 128 + e.val) :
    out0_B_10 c i a0 h0 a1 h1 a2 h2 a3 h3 a4 h4 a5 h5 a6 h6 a7 h7 a8 h8 a9 h9 a10 h10 a11 h11 hc x0 x1 x2 x3 x4 x5 x6 x7 x8 x9 P (ix3 b r l) =
      normAt (fun e' => outAt (fun d => x0 (ix3 b r (kcol g d))) (fun j d => x1 (ix3 b j (kcol g d))) (fun j => x5 (ix3 g r j))
        (fun j => x2 (ix3 b j (vcol g e'))) (fun d => P (ix4 b g d e')) (x6 (ix3 g r 0))) e
      * x9 (ix2 0 l) * silu (x3 (ix3 b r l)) := by
  frame_out
  canon_tiles z hz
  all_goals
    idx_vars z
    simp only [Fin.val_eq_zero, Nat.add_zero] at hz0 hz1 hz2
    obtain rfl := Subsingleton.elim z0 0
    obtain rfl := Fin.ext hz1
    obtain rfl := Fin.ext hz2
    obtain ⟨b, hb⟩ := b
    simp only [] at hz0
    subst hz0
    unfold_payloads
    refine (show _ = rowsVec _ _ _ _ _ _ _ _ _ _ _ _ _ _ _ _ _ _ from rfl).trans ((rowsVec_apply _ _ _ _ _ _ _ _ _ _ _ _ _ _ _ _ _ r l g e hl).trans ?_)
    obtain rfl | rfl | rfl | rfl := fin4 g <;> pointwise [kcol, vcol]

end Cert.Ret

end
-- ==== Proof.RetState.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise
public import proofs.«01_k».proof.Proof.RetModel

/-! The state block after one chunk, at an entry, over the contents that the chunk finds. -/

@[expose] public section

set_option maxRecDepth 16384
set_option maxHeartbeats 16000000

noncomputable section

namespace Cert.Ret

open Cert.KernelIdeal Cert.KernelIdeal.Gen Idealize.ShloMosaic Idealize.ShloMosaic.TcCoe Idealize.SL.Sem
open Idealize.ShloMosaic.Pipeline (Dat)

/-- One chunk leaves in the state block, over the contents `P` that it finds there, the step of the recurrence. -/
theorem state_body (c : Dev nD) (i : grid0.Coords) (a0 : Memref sig .tc .vmem S8x128x256 .f32) (h0 : a0.IsWhole) (a1 : Memref sig .tc .vmem S8x128x256 .f32) (h1 : a1.IsWhole) (a2 : Memref sig .tc .vmem S8x128x512 .f32) (h2 : a2.IsWhole) (a3 : Memref sig .tc .vmem S8x128x512 .f32) (h3 : a3.IsWhole) (a4 : Memref sig .tc .vmem S8x4x64x128 .f32) (h4 : a4.IsWhole) (a5 : Memref sig .tc .vmem S4x128x128 .f32) (h5 : a5.IsWhole) (a6 : Memref sig .tc .vmem S4x128x1 .f32) (h6 : a6.IsWhole) (a7 : Memref sig .tc .vmem S4x128x1 .f32) (h7 : a7.IsWhole) (a8 : Memref sig .tc .vmem S4x1x1 .f32) (h8 : a8.IsWhole) (a9 : Memref sig .tc .vmem S1x512 .f32) (h9 : a9.IsWhole) (a10 : Memref sig .tc .vmem S8x128x512 .f32) (h10 : a10.IsWhole) (a11 : Memref sig .tc .vmem S8x4x64x128 .f32) (h11 : a11.IsWhole)
    (hc : ¬cond0_0 i) (x0 : Vec Ideal S8x128x256 .f32) (x1 : Vec Ideal S8x128x256 .f32) (x2 : Vec Ideal S8x128x512 .f32) (x3 : Vec Ideal S8x128x512 .f32) (x4 : Vec Ideal S8x4x64x128 .f32) (x5 : Vec Ideal S4x128x128 .f32) (x6 : Vec Ideal S4x128x1 .f32) (x7 : Vec Ideal S4x128x1 .f32) (x8 : Vec Ideal S4x1x1 .f32) (x9 : Vec Ideal S1x512 .f32) (P : Vec Ideal S8x4x64x128 .f32) (b : Fin 8) (g : Fin 4) (d : Fin 64) (e : Fin 128) :
    out0_B_11 c i a0 h0 a1 h1 a2 h2 a3 h3 a4 h4 a5 h5 a6 h6 a7 h7 a8 h8 a9 h9 a10 h10 a11 h11 hc x0 x1 x2 x3 x4 x5 x6 x7 x8 x9 P (ix4 b g d e) =
      stepAt (fun j => x1 (ix3 b j (kcol g d))) (fun j => x7 (ix3 g j 0)) (fun j => x2 (ix3 b j (vcol g e)))
      (x8 (ix3 g 0 0)) (P (ix4 b g d e)) := by
  frame_out
  canon_tiles x hx
  all_goals
    unfold_payloads
    idx_vars x
    pointwise [stepAt, kcol, vcol]
    obtain rfl := Subsingleton.elim x0 0
    obtain rfl := Subsingleton.elim x1 0
    obtain ⟨b, hb⟩ := b
    obtain ⟨g, hg⟩ := g
    obtain ⟨d, hd⟩ := d
    obtain ⟨e, he⟩ := e
    simp only [Fin.val_eq_zero, Nat.add_zero] at hx0 hx1 hx2 hx3
    subst hx0 hx1 hx2 hx3
    simp only [Nat.zero_mul, Nat.zero_add]
    rfl

end Cert.Ret

end
-- ==== Proof.RetPoint.lean ====
module

public import proofs.«01_k».proof.Proof.RetHost
public import proofs.«01_k».proof.Proof.RetOut
public import proofs.«01_k».proof.Proof.RetState
public import Idealize.ShloMosaic.Lib.Pipeline.ValueKit
public import Idealize.ShloMosaic.Lib.Claim
public import Idealize.ShloMosaic.Lib.Pointwise
public import proofs.«01_k».proof.Proof.RetModel

@[expose] public section

set_option maxRecDepth 16384
set_option maxHeartbeats 16000000

noncomputable section

/-! One point of the kernel in the model's terms: what the body leaves, of blocks that read as the model's functions. -/

namespace Cert.Ret

open Cert.KernelIdeal Cert.KernelIdeal.Gen Idealize.ShloMosaic Idealize.ShloMosaic.TcCoe Idealize.SL.Sem
open Idealize.ShloMosaic.Pipeline (Dat)
variable {Q K : Fin 32768 → Fin 256 → EReal} {W Z : Fin 32768 → Fin 512 → EReal} {G : Fin 512 → EReal} {n : Fin 32}

/-- The ten input blocks read as chunk `n` of the model's functions and as the decay tables. -/
structure Reads (Q K : Fin 32768 → Fin 256 → EReal) (W Z : Fin 32768 → Fin 512 → EReal) (G : Fin 512 → EReal) (n : Fin 32)
    (x0 : Vec Idealize.ShloMosaic.Ideal S8x128x256 .f32) (x1 : Vec Idealize.ShloMosaic.Ideal S8x128x256 .f32) (x2 : Vec Idealize.ShloMosaic.Ideal S8x128x512 .f32) (x3 : Vec Idealize.ShloMosaic.Ideal S8x128x512 .f32) (x4 : Vec Idealize.ShloMosaic.Ideal S8x4x64x128 .f32) (x5 : Vec Idealize.ShloMosaic.Ideal S4x128x128 .f32) (x6 : Vec Idealize.ShloMosaic.Ideal S4x128x1 .f32) (x7 : Vec Idealize.ShloMosaic.Ideal S4x128x1 .f32) (x8 : Vec Idealize.ShloMosaic.Ideal S4x1x1 .f32) (x9 : Vec Idealize.ShloMosaic.Ideal S1x512 .f32) : Prop where
  q : ∀ b j l, @Eq EReal (x0 (ix3 b j l)) (Q (tok b n j) l)
  k : ∀ b j l, @Eq EReal (x1 (ix3 b j l)) (K (tok b n j) l)
  w : ∀ b j l, @Eq EReal (x2 (ix3 b j l)) (W (tok b n j) l)
  z : ∀ b j l, @Eq EReal (x3 (ix3 b j l)) (Z (tok b n j) l)
  dec : ∀ g i k, @Eq EReal (x5 (ix3 g i k)) (decay g i k)
  qd : ∀ g i, @Eq EReal (x6 (ix3 g i 0)) (qdec g i)
  kd : ∀ g i, @Eq EReal (x7 (ix3 g i 0)) (kdec g i)
  cd : ∀ g, @Eq EReal (x8 (ix3 g 0 0)) (cdec g)
  gn : ∀ l, @Eq EReal (x9 (ix2 0 l)) (G l)

/-- Over the state before chunk `n` the body leaves the state after it. -/
theorem state_of (cc : Dev nD) (i : grid0.Coords) (a0 : Memref sig .tc .vmem S8x128x256 .f32) (h0 : a0.IsWhole) (a1 : Memref sig .tc .vmem S8x128x256 .f32) (h1 : a1.IsWhole) (a2 : Memref sig .tc .vmem S8x128x512 .f32) (h2 : a2.IsWhole) (a3 : Memref sig .tc .vmem S8x128x512 .f32) (h3 : a3.IsWhole) (a4 : Memref sig .tc .vmem S8x4x64x128 .f32) (h4 : a4.IsWhole) (a5 : Memref sig .tc .vmem S4x128x128 .f32) (h5 : a5.IsWhole) (a6 : Memref sig .tc .vmem S4x128x1 .f32) (h6 : a6.IsWhole) (a7 : Memref sig .tc .vmem S4x128x1 .f32) (h7 : a7.IsWhole) (a8 : Memref sig .tc .vmem S4x1x1 .f32) (h8 : a8.IsWhole) (a9 : Memref sig .tc .vmem S1x512 .f32) (h9 : a9.IsWhole) (a10 : Memref sig .tc .vmem S8x128x512 .f32) (h10 : a10.IsWhole) (a11 : Memref sig .tc .vmem S8x4x64x128 .f32) (h11 : a11.IsWhole) (hc : ¬cond0_0 i) (x0 : Vec Idealize.ShloMosaic.Ideal S8x128x256 .f32) (x1 : Vec Idealize.ShloMosaic.Ideal S8x128x256 .f32) (x2 : Vec Idealize.ShloMosaic.Ideal S8x128x512 .f32) (x3 : Vec Idealize.ShloMosaic.Ideal S8x128x512 .f32) (x4 : Vec Idealize.ShloMosaic.Ideal S8x4x64x128 .f32) (x5 : Vec Idealize.ShloMosaic.Ideal S4x128x128 .f32) (x6 : Vec Idealize.ShloMosaic.Ideal S4x128x1 .f32) (x7 : Vec Idealize.ShloMosaic.Ideal S4x128x1 .f32) (x8 : Vec Idealize.ShloMosaic.Ideal S4x1x1 .f32) (x9 : Vec Idealize.ShloMosaic.Ideal S1x512 .f32) (hr : Reads Q K W Z G n x0 x1 x2 x3 x4 x5 x6 x7 x8 x9) (P : Vec Idealize.ShloMosaic.Ideal S8x4x64x128 .f32)
    (hP : ∀ b g d e, @Eq EReal (P (ix4 b g d e)) (state K W n.val b g d e)) (b : Fin 8) (g : Fin 4) (d : Fin 64) (e : Fin 128) :
    @Eq EReal (out0_B_11 cc i a0 h0 a1 h1 a2 h2 a3 h3 a4 h4 a5 h5 a6 h6 a7 h7 a8 h8 a9 h9 a10 h10 a11 h11 hc x0 x1 x2 x3 x4 x5 x6 x7 x8 x9 P (ix4 b g d e)) (state K W (n.val + 1) b g d e) := by
  refine (state_body cc i a0 h0 a1 h1 a2 h2 a3 h3 a4 h4 a5 h5 a6 h6 a7 h7 a8 h8 a9 h9 a10 h10 a11 h11 hc x0 x1 x2 x3 x4 x5 x6 x7 x8 x9 P b g d e).trans ?_
  have hn : chunk n.val = n := Fin.ext (Nat.mod_eq_of_lt n.isLt)
  have h : state K W (n.val + 1) b g d e = stepAt (fun j => K (tok b n j) (kcol g d)) (kdec g) (fun j => W (tok b n j) (vcol g e))
      (cdec g) (state K W n.val b g d e) := by
    conv_lhs => rw [state]
    rw [hn]
  rw [h, hP, hr.cd, funext fun j => hr.k b j (kcol g d), funext fun j => hr.kd g j, funext fun j => hr.w b j (vcol g e)]

/-- Over the state before chunk `n` the body leaves chunk `n`'s rows. -/
theorem out_of (cc : Dev nD) (i : grid0.Coords) (a0 : Memref sig .tc .vmem S8x128x256 .f32) (h0 : a0.IsWhole) (a1 : Memref sig .tc .vmem S8x128x256 .f32) (h1 : a1.IsWhole) (a2 : Memref sig .tc .vmem S8x128x512 .f32) (h2 : a2.IsWhole) (a3 : Memref sig .tc .vmem S8x128x512 .f32) (h3 : a3.IsWhole) (a4 : Memref sig .tc .vmem S8x4x64x128 .f32) (h4 : a4.IsWhole) (a5 : Memref sig .tc .vmem S4x128x128 .f32) (h5 : a5.IsWhole) (a6 : Memref sig .tc .vmem S4x128x1 .f32) (h6 : a6.IsWhole) (a7 : Memref sig .tc .vmem S4x128x1 .f32) (h7 : a7.IsWhole) (a8 : Memref sig .tc .vmem S4x1x1 .f32) (h8 : a8.IsWhole) (a9 : Memref sig .tc .vmem S1x512 .f32) (h9 : a9.IsWhole) (a10 : Memref sig .tc .vmem S8x128x512 .f32) (h10 : a10.IsWhole) (a11 : Memref sig .tc .vmem S8x4x64x128 .f32) (h11 : a11.IsWhole) (hc : ¬cond0_0 i) (x0 : Vec Idealize.ShloMosaic.Ideal S8x128x256 .f32) (x1 : Vec Idealize.ShloMosaic.Ideal S8x128x256 .f32) (x2 : Vec Idealize.ShloMosaic.Ideal S8x128x512 .f32) (x3 : Vec Idealize.ShloMosaic.Ideal S8x128x512 .f32) (x4 : Vec Idealize.ShloMosaic.Ideal S8x4x64x128 .f32) (x5 : Vec Idealize.ShloMosaic.Ideal S4x128x128 .f32) (x6 : Vec Idealize.ShloMosaic.Ideal S4x128x1 .f32) (x7 : Vec Idealize.ShloMosaic.Ideal S4x128x1 .f32) (x8 : Vec Idealize.ShloMosaic.Ideal S4x1x1 .f32) (x9 : Vec Idealize.ShloMosaic.Ideal S1x512 .f32) (hr : Reads Q K W Z G n x0 x1 x2 x3 x4 x5 x6 x7 x8 x9) (P : Vec Idealize.ShloMosaic.Ideal S8x4x64x128 .f32)
    (hP : ∀ b g d e, @Eq EReal (P (ix4 b g d e)) (state K W n.val b g d e)) (b : Fin 8) (r : Fin 128) (l : Fin 512) (g : Fin 4)
    (e : Fin 128) (hl : l.val = g.val * 128 + e.val) :
    @Eq EReal (out0_B_10 cc i a0 h0 a1 h1 a2 h2 a3 h3 a4 h4 a5 h5 a6 h6 a7 h7 a8 h8 a9 h9 a10 h10 a11 h11 hc x0 x1 x2 x3 x4 x5 x6 x7 x8 x9 P (ix3 b r l)) (result Q K W Z G n b r g e) := by
  refine (out_body cc i a0 h0 a1 h1 a2 h2 a3 h3 a4 h4 a5 h5 a6 h6 a7 h7 a8 h8 a9 h9 a10 h10 a11 h11 hc x0 x1 x2 x3 x4 x5 x6 x7 x8 x9 P b r l g e hl).trans ?_
  have hv : l = vcol g e := Fin.ext hl
  have ho : (fun e' => outAt (fun d => x0 (ix3 b r (kcol g d))) (fun j d => x1 (ix3 b j (kcol g d))) (fun j => x5 (ix3 g r j))
      (fun j => x2 (ix3 b j (vcol g e'))) (fun d => P (ix4 b g d e')) (x6 (ix3 g r 0))) = retained Q K W n b r g := by
    funext e'
    unfold retained
    rw [funext fun d => hr.q b r (kcol g d), funext fun j => funext fun d => hr.k b j (kcol g d), funext fun j => hr.dec g r j,
      funext fun j => hr.w b j (vcol g e'), funext fun d => hP b g d e', hr.qd]
  rw [ho, hr.gn, hr.z, hv]
  rfl

end Cert.Ret
end
-- ==== Proof.RetPoints.lean ====
module

public import proofs.«01_k».proof.Proof.RetPoint
public import Idealize.ShloMosaic.Lib.Pipeline.ValueKit
public import Idealize.ShloMosaic.Lib.Claim
public import Idealize.ShloMosaic.Lib.Pointwise
public import proofs.«01_k».proof.Proof.RetModel

@[expose] public section

set_option maxRecDepth 16384
set_option maxHeartbeats 16000000

noncomputable section

/-! The kernel's two result arrays: after the point of chunk `n` the state block holds the model's state `n + 1`, and the
output block chunk `n`'s rows. -/

namespace Cert.Ret

open Cert.KernelIdeal Cert.KernelIdeal.Gen Idealize.ShloMosaic Idealize.ShloMosaic.TcCoe Idealize.SL.Sem
open Idealize.ShloMosaic.Pipeline (Dat)
variable (m : (ℓ : Loc nD τ sig) → Buf (Elt Idealize.ShloMosaic.Ideal) ℓ) (c : Dev nD)

/-- The queries, by row and component. -/
def qOf (r : Fin 32768) (l : Fin 256) : EReal := m ((c.tc : Thread nD τ).loc main_arg0) (ix2 r l)
/-- The keys, by row and component. -/
def kOf (r : Fin 32768) (l : Fin 256) : EReal := m ((c.tc : Thread nD τ).loc main_arg1) (ix2 r l)
/-- The values, by row and component. -/
def wOf (r : Fin 32768) (l : Fin 512) : EReal := m ((c.tc : Thread nD τ).loc main_arg2) (ix2 r l)
/-- The gate rows, by row and component. -/
def zOf (r : Fin 32768) (l : Fin 512) : EReal := m ((c.tc : Thread nD τ).loc main_arg3) (ix2 r l)
/-- The norm's weights. -/
def gOf (l : Fin 512) : EReal := m ((c.tc : Thread nD τ).loc main_arg4) (ix1 l)

/-- The blocks the pipeline hands the body at point `t`. -/
theorem reads_at (t : Fin cfg0.N) : Reads (qOf m c) (kOf m c) (wOf m c) (zOf m c) (gOf m c) t (iblk m c 0 t) (iblk m c 1 t) (iblk m c 2 t) (iblk m c 3 t) (iblk m c 4 t) (iblk m c 5 t) (iblk m c 6 t) (iblk m c 7 t) (iblk m c 8 t) (iblk m c 9 t) where
  q := read_0 m c t
  k := read_1 m c t
  w := read_2 m c t
  z := read_3 m c t
  dec := read_5 m c t
  qd := read_6 m c t
  kd := read_7 m c t
  cd := read_8 m c t
  gn := read_9 m c t

/-- Point 1. -/
def point1 : Fin cfg0.N := ⟨1, by decide⟩

/-- A point at which the state is not initialised. -/
theorem not_first : ¬cond0_0 (grid0.coords point1) := fun h => absurd ((hcond0_0 point1).mp h) (by decide)

/-- What the state block holds after point `n`. -/
theorem state_after : ∀ (n : ℕ) (hn : n < cfg0.N) (b : Fin 8) (g : Fin 4) (d : Fin 64) (e : Fin 128),
    @Eq EReal ((outsAt0 m c n hn).2 (ix4 b g d e)) (state (kOf m c) (wOf m c) (n + 1) b g d e)
  | 0, hn, b, g, d, e => by
    have h := congrArg Prod.snd (outsAt0_A m c ⟨0, hn⟩ rfl)
    dsimp only at h
    rw [h, state_first c _ (grid0.coords point1) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) _ not_first]
    exact state_of c (grid0.coords point1) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) not_first (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (reads_at m c ⟨0, hn⟩) _ (read_4 m c ⟨0, hn⟩) b g d e
  | n + 1, hn, b, g, d, e => by
    have hn' : n + 1 < 32 := hn
    have h := congrArg Prod.snd (outsAt0_B m c ⟨n + 1, hn⟩ (by show ¬ (n + 1) % 32 = 0; omega))
    dsimp only at h
    rw [h]
    exact state_of c _ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) _ (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (reads_at m c ⟨n + 1, hn⟩) _ (state_after n (by omega)) b g d e

/-- What the output block holds after point `t`. -/
theorem out_after (t : Fin cfg0.N) (b : Fin 8) (r : Fin 128) (l : Fin 512) (g : Fin 4) (e : Fin 128) (hl : l.val = g.val * 128 + e.val) :
    @Eq EReal ((outsAt0 m c t.val t.isLt).1 (ix3 b r l)) (result (qOf m c) (kOf m c) (wOf m c) (zOf m c) (gOf m c) t b r g e) := by
  by_cases h0 : t.val % 32 = 0
  · have h := congrArg Prod.fst (outsAt0_A m c t h0)
    dsimp only at h
    have ht : t = ⟨0, by decide⟩ := Fin.ext (by have : t.val < 32 := t.isLt; show t.val = 0; omega)
    rw [h, out_first c _ (grid0.coords point1) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) _ not_first]
    refine out_of c (grid0.coords point1) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) not_first (iblk m c 0 t) (iblk m c 1 t) (iblk m c 2 t) (iblk m c 3 t) (iblk m c 4 t) (iblk m c 5 t) (iblk m c 6 t) (iblk m c 7 t) (iblk m c 8 t) (iblk m c 9 t) (reads_at m c t) _ (fun b g d e => ?_) b r l g e hl
    refine (read_4 m c t b g d e).trans ?_
    rw [ht]
    rfl
  · have h := congrArg Prod.fst (outsAt0_B m c t h0)
    dsimp only at h
    rw [h]
    refine out_of c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) _ (iblk m c 0 t) (iblk m c 1 t) (iblk m c 2 t) (iblk m c 3 t) (iblk m c 4 t) (iblk m c 5 t) (iblk m c 6 t) (iblk m c 7 t) (iblk m c 8 t) (iblk m c 9 t) (reads_at m c t) _ (fun b g d e => ?_) b r l g e hl
    refine (state_after m c (t.val - 1) _ b g d e).trans ?_
    rw [show t.val - 1 + 1 = t.val by omega]

end Cert.Ret
end
-- ==== Proof.RetKernel.lean ====
module

public import proofs.«01_k».proof.Proof.RetPoints
public import Idealize.ShloMosaic.Lib.Pipeline.ValueKit
public import Idealize.ShloMosaic.Lib.Claim
public import Idealize.ShloMosaic.Lib.Pointwise
public import proofs.«01_k».proof.Proof.RetModel

@[expose] public section

set_option maxRecDepth 16384
set_option maxHeartbeats 16000000

noncomputable section

/-! The kernel's two result arrays. -/

namespace Cert.Ret

open Cert.KernelIdeal Cert.KernelIdeal.Gen Idealize.ShloMosaic Idealize.ShloMosaic.TcCoe Idealize.SL.Sem
open Idealize.ShloMosaic.Pipeline (Dat)
variable (m : (ℓ : Loc nD τ sig) → Buf (Elt Idealize.ShloMosaic.Ideal) ℓ) (c : Dev nD)

/-- The result at sequence `b`, token `t` and column `l`. -/
def resultAt (Q K : Fin 32768 → Fin 256 → EReal) (W Z : Fin 32768 → Fin 512 → EReal) (G : Fin 512 → EReal)
    (b : Fin 8) (t : Fin 4096) (l : Fin 512) : EReal :=
  result Q K W Z G ⟨t.val / 128, by omega⟩ b ⟨t.val % 128, by omega⟩ ⟨l.val / 128, by omega⟩ ⟨l.val % 128, by omega⟩

/-- The result at a token given by chunk and row. -/
theorem resultAt_chunk (Q K : Fin 32768 → Fin 256 → EReal) (W Z : Fin 32768 → Fin 512 → EReal) (G : Fin 512 → EReal)
    (b : Fin 8) (n : Fin 32) (r : Fin 128) (l : Fin 512) (h : n.val * 128 + r.val < 4096) :
    resultAt Q K W Z G b ⟨n.val * 128 + r.val, h⟩ l = result Q K W Z G n b r ⟨l.val / 128, by omega⟩ ⟨l.val % 128, by omega⟩ := by
  have hn : (⟨(n.val * 128 + r.val) / 128, by omega⟩ : Fin 32) = n := Fin.ext (by show (n.val * 128 + r.val) / 128 = n.val; omega)
  have hr : (⟨(n.val * 128 + r.val) % 128, by omega⟩ : Fin 128) = r := Fin.ext (by show (n.val * 128 + r.val) % 128 = r.val; omega)
  unfold resultAt
  dsimp only
  rw [hn, hr]

/-- Window 10's block index. -/
theorem idx_10 : ∀ t : Fin cfg0.N, win0_10.index t = ![0, t.val, 0] := (by decide +kernel : ∀ t : Fin grid0.N, win0_10.index t = ![0, t.val, 0])

/-- Window 10 puts block element `(b, r, l)` of point `t` at row `128 t + r`. -/
theorem blk_10 (A : S8x4096x512.Idx → EReal) (t : Fin cfg0.N) (b : Fin 8) (j : Fin 128) (l : Fin 512) (h : t.val * 128 + j.val < 4096) :
    A ((win0_10.blk t).view.emb (ix3 b j l)) = A (ix3 b ⟨t.val * 128 + j.val, h⟩ l) := by
  blk_ext [idx_10]

/-- The kernel's first result array. -/
theorem arr_10 : (dats m 0 c).arrAt 10 cfg0.N
    = fun y : S8x4096x512.Idx => resultAt (qOf m c) (kOf m c) (wOf m c) (zOf m c) (gOf m c) (y 0) (y 1) (y 2) := by
  refine (dats m 0 c).arrAt_eq_of_covers 10 _ (by decide +kernel) fun t hf y => ?_
  have ht : t.val < 32 := t.isLt
  obtain ⟨b, r, l, rfl⟩ : ∃ (b : Fin 8) (r : Fin 128) (l : Fin 512), y = ix3 b r l :=
    ⟨y (0 : Fin 3), y (1 : Fin 3), y (2 : Fin 3), by funext a; match a with | ⟨0, _⟩ => rfl | ⟨1, _⟩ => rfl | ⟨2, _⟩ => rfl⟩
  refine Eq.trans ?_ (blk_10 (fun y : S8x4096x512.Idx => resultAt (qOf m c) (kOf m c) (wOf m c) (zOf m c) (gOf m c) (y 0) (y 1) (y 2)) t b r l (by omega)).symm
  refine Eq.trans ?_ ((out_after m c t b r l ⟨l.val / 128, by omega⟩ ⟨l.val % 128, by omega⟩ (by show l.val = l.val / 128 * 128 + l.val % 128; omega)).trans
    (resultAt_chunk _ _ _ _ _ b t r l (by omega)).symm)
  exact congrFun (after0_10 m c t) (ix3 b r l)

/-- The last point. -/
def last : Fin cfg0.N := ⟨31, by decide⟩

/-- The kernel's second result array. -/
theorem arr_11 : (dats m 0 c).arrAt 11 cfg0.N
    = fun y : S8x4x64x128.Idx => state (kOf m c) (wOf m c) 32 (y 0) (y 1) (y 2) (y 3) := by
  refine (dats m 0 c).arrAt_eq_of_after_last 11 last (by decide +kernel) _ fun y => ?_
  obtain ⟨b, g, d, e, rfl⟩ : ∃ (b : Fin 8) (g : Fin 4) (d : Fin 64) (e : Fin 128), y = ix4 b g d e :=
    ⟨y (0 : Fin 4), y (1 : Fin 4), y (2 : Fin 4), y (3 : Fin 4), by funext a; match a with | ⟨0, _⟩ => rfl | ⟨1, _⟩ => rfl | ⟨2, _⟩ => rfl | ⟨3, _⟩ => rfl⟩
  refine Eq.trans ?_ (state_after m c 31 (by decide) b g d e)
  exact congrFun (after0_11 m c last) (ix4 b g d e)

end Cert.Ret
end
-- ==== Proof.RetReference.lean ====
module

public import proofs.«01_k».proof.Proof.Gen.ReferenceIdeal.Run
public import proofs.«01_k».proof.Proof.Gen.ReferenceIdeal.Step
public import Idealize.ShloMosaic.Lib.Claim
public import Idealize.ShloMosaic.Lib.Pointwise

@[expose] public section

set_option maxRecDepth 65536
set_option maxHeartbeats 4000000

noncomputable section

/-! The reference's counted loop, restated over the generated step: what the loop carries before its `n`-th trip is the
`n`-th state of the sequence that starts at the arguments and goes on by one chunk of retention. -/

namespace Cert.RetRef

open Cert.ReferenceIdeal Cert.ReferenceIdeal.Gen Cert.ReferenceIdeal.Value Cert.ReferenceIdeal.Step
open Idealize.ShloMosaic Idealize.ShloMosaic.TcCoe Idealize.ShloMosaic.StableHlo Idealize.SL.Sem

/-- The contents `V` are those of state `s` before trip `j`. -/
structure Carries (V : Valuation τ sig (Elt Idealize.ShloMosaic.Ideal)) (s : State Idealize.ShloMosaic.Ideal) (j : ℕ) : Prop where
  state : V (Proc.devRef .tc main_v11_4) = s.main_v11_4
  outs : V (Proc.devRef .tc main_v11_5) = s.main_v11_5
  q : V (Proc.devRef .tc main_v11_0) = s.main_v11_0
  k : V (Proc.devRef .tc main_v11_1) = s.main_v11_1
  v : V (Proc.devRef .tc main_v11_2) = s.main_v11_2
  ctr : V (Proc.devRef .tc main_v11_3) = constantI S_ 32 (BitVec.ofNat 32 j)

variable {V : Valuation τ sig (Elt Idealize.ShloMosaic.Ideal)} {s : State Idealize.ShloMosaic.Ideal} {j : ℕ}

/-- The chunk of queries a trip reads. -/
theorem q_chunk (h : Carries V s j) : res_main_while0b_v39 V = b5 j s := by
  unfold res_main_while0b_v39
  rw [h.q, h.ctr]
  rfl

/-- The chunk of keys a trip reads. -/
theorem k_chunk (h : Carries V s j) : res_main_while0b_v40 V = b11 j s := by
  unfold res_main_while0b_v40
  rw [h.k, h.ctr]
  rfl

/-- The chunk of values a trip reads. -/
theorem v_chunk (h : Carries V s j) : res_main_while0b_v41 V = b17 j s := by
  unfold res_main_while0b_v41
  rw [h.v, h.ctr]
  rfl

/-- A trip's new state. -/
theorem state_step (h : Carries V s j) : Value.step_main_v11_4 V = b93 j s := by
  unfold Value.step_main_v11_4
  rw [h.state, k_chunk h, v_chunk h]
  rfl

/-- A trip's new outputs. -/
theorem outs_step (h : Carries V s j) : Value.step_main_v11_5 V = b99 j s := by
  unfold Value.step_main_v11_5
  rw [h.state, h.outs, q_chunk h, k_chunk h, v_chunk h, h.ctr]
  rfl

/-- A trip's new counter. -/
theorem ctr_step (h : Carries V s j) : Value.step_main_v11_3 V = (constantI S_ 32 (BitVec.ofNat 32 (j + 1)) : (⟨S_, .i32⟩ : BufTy).Contents (Elt Idealize.ShloMosaic.Ideal)) := by
  unfold Value.step_main_v11_3
  rw [h.ctr]
  funext i
  show BitVec.ofNat 32 j + 1#32 = BitVec.ofNat 32 (j + 1)
  simp only [BitVec.ofNat_add]

/-- One trip takes state `s` to the next. -/
theorem carries_step (h : Carries V s j) : Carries (STEP V) (step j s) (j + 1) where
  state := (STEP_main_v11_4 V).trans (state_step h)
  outs := (STEP_main_v11_5 V).trans (outs_step h)
  q := (STEP_main_v11_0 V).trans h.q
  k := (STEP_main_v11_1 V).trans h.k
  v := (STEP_main_v11_2 V).trans h.v
  ctr := (STEP_main_v11_3 V).trans (ctr_step h)

variable (m : (ℓ : Loc nD τ sig) → Buf (Elt Idealize.ShloMosaic.Ideal) ℓ) (c : Dev nD)

/-- The sequence of states: the arguments' chunks, the zero state and zero outputs, then one chunk after the other. -/
def states : ℕ → State Idealize.ShloMosaic.Ideal
  | 0 => init (m ((c.tc : Thread nD τ).loc main_arg0)) (m ((c.tc : Thread nD τ).loc main_arg1)) (m ((c.tc : Thread nD τ).loc main_arg2))
  | n + 1 => step n (states n)

/-- The loop starts at state 0. -/
theorem carries_entry : Carries (entryContents preI m c) (states m c 0) 0 := by
  constructor <;> (simp only [entryContents, afterL_cons, afterL_nil]; after_reads_simp) <;> rfl

/-- The loop's contents before trip `n` are state `n`'s. -/
theorem carries_iter : ∀ n, Carries (STEP^[n] (entryContents preI m c)) (states m c n) n
  | 0 => carries_entry m c
  | n + 1 => by
    rw [Function.iterate_succ_apply']
    exact carries_step (carries_iter n)

/-- The reference's first result, of the last state and the last two arguments. -/
theorem result_out : out_main_v38 (STEP^[32] (entryContents preI m c)) =
    R_main_v38 (states m c 32) (m ((c.tc : Thread nD τ).loc main_arg3)) (m ((c.tc : Thread nD τ).loc main_arg4)) := by
  unfold out_main_v38
  rw [(carries_iter m c 32).outs, iter_main_arg3 m c 32, iter_main_arg4 m c 32]
  rfl

/-- The reference's second result, the last state. -/
theorem result_state : STEP^[32] (entryContents preI m c) (Proc.devRef .tc main_v11_4) = (states m c 32).main_v11_4 :=
  (carries_iter m c 32).state

end Cert.RetRef

end
-- ==== Proof.RetRefStep.lean ====
module

public import proofs.«01_k».proof.Proof.RetReference
public import proofs.«01_k».proof.Proof.RetModel

@[expose] public section

set_option maxRecDepth 65536
set_option maxHeartbeats 2000000

noncomputable section

/-! One trip of the reference's loop in the model's terms. -/

namespace Cert.RetRef

open Cert.ReferenceIdeal Cert.ReferenceIdeal.Gen Cert.ReferenceIdeal.Value Cert.ReferenceIdeal.Step
open Idealize.ShloMosaic Idealize.ShloMosaic.TcCoe Idealize.ShloMosaic.StableHlo Idealize.SL.Sem

/-- The start of trip `j`'s chunk, as the loop computes it. -/
theorem start_eq : ∀ j : Fin 32, (min (max (BitVec.ofNat 32 j.val).toInt 0) ((32 - 1 : Nat) : Int)).toNat = j.val := by decide

/-- Trip `n`'s chunk of an array of chunks of keys starts at chunk `n` and at 0 otherwise. -/
theorem start64 (n : Fin 32) (h) (st : Fin 5 → ℤ) (h0 : st 0 = (BitVec.ofNat 32 n.val).toInt) (h1 : st 1 = 0) (h2 : st 2 = 0) (h3 : st 3 = 0)
    (h4 : st 4 = 0) (a : Fin 5) : Host.clampedStart S32x8x128x4x64 S1x8x128x4x64 h st a = (![n.val, 0, 0, 0, 0] : Fin 5 → ℕ) a := by
  match a with
  | ⟨0, _⟩ =>
    refine Eq.trans ?_ (start_eq n)
    show (min (max (st 0) 0) ((32 - 1 : Nat) : Int)).toNat = _
    rw [h0]
  | ⟨1, _⟩ =>
    show (min (max (st 1) 0) ((8 - 8 : Nat) : Int)).toNat = 0
    rw [h1]; rfl
  | ⟨2, _⟩ =>
    show (min (max (st 2) 0) ((128 - 128 : Nat) : Int)).toNat = 0
    rw [h2]; rfl
  | ⟨3, _⟩ =>
    show (min (max (st 3) 0) ((4 - 4 : Nat) : Int)).toNat = 0
    rw [h3]; rfl
  | ⟨4, _⟩ =>
    show (min (max (st 4) 0) ((64 - 64 : Nat) : Int)).toNat = 0
    rw [h4]; rfl

/-- Trip `n`'s chunk of an array of chunks of values starts at chunk `n` and at 0 otherwise. -/
theorem start128 (n : Fin 32) (h) (st : Fin 5 → ℤ) (h0 : st 0 = (BitVec.ofNat 32 n.val).toInt) (h1 : st 1 = 0) (h2 : st 2 = 0) (h3 : st 3 = 0)
    (h4 : st 4 = 0) (a : Fin 5) : Host.clampedStart S32x8x128x4x128 S1x8x128x4x128 h st a = (![n.val, 0, 0, 0, 0] : Fin 5 → ℕ) a := by
  match a with
  | ⟨0, _⟩ =>
    refine Eq.trans ?_ (start_eq n)
    show (min (max (st 0) 0) ((32 - 1 : Nat) : Int)).toNat = _
    rw [h0]
  | ⟨1, _⟩ =>
    show (min (max (st 1) 0) ((8 - 8 : Nat) : Int)).toNat = 0
    rw [h1]; rfl
  | ⟨2, _⟩ =>
    show (min (max (st 2) 0) ((128 - 128 : Nat) : Int)).toNat = 0
    rw [h2]; rfl
  | ⟨3, _⟩ =>
    show (min (max (st 3) 0) ((4 - 4 : Nat) : Int)).toNat = 0
    rw [h3]; rfl
  | ⟨4, _⟩ =>
    show (min (max (st 4) 0) ((128 - 128 : Nat) : Int)).toNat = 0
    rw [h4]; rfl

/-- Trip `n`'s slice of an array of chunks, of 64 components per head, is chunk `n`. -/
theorem slice64 (A : S32x8x128x4x64.Idx → EReal) (n : Fin 32) (st : Fin 5 → ℤ) (h0 : st 0 = (BitVec.ofNat 32 n.val).toInt) (h1 : st 1 = 0)
    (h2 : st 2 = 0) (h3 : st 3 = 0) (h4 : st 4 = 0) (h) (b : Fin 8) (i : Fin 128) (g : Fin 4) (d : Fin 64) :
    Host.dynamicSlice S1x8x128x4x64 A st h (ix5 0 b i g d) = A (ix5 n b i g d) := by
  have hs := start64 n h.1 st h0 h1 h2 h3 h4
  rw [Host.dynamicSlice_apply]
  refine congrArg A (funext fun a => Fin.ext ?_)
  match a with
  | ⟨0, _⟩ => exact (congrArg (· + 0) (hs 0)).trans (Nat.add_zero _)
  | ⟨1, _⟩ => exact (congrArg (· + b.val) (hs 1)).trans (Nat.zero_add _)
  | ⟨2, _⟩ => exact (congrArg (· + i.val) (hs 2)).trans (Nat.zero_add _)
  | ⟨3, _⟩ => exact (congrArg (· + g.val) (hs 3)).trans (Nat.zero_add _)
  | ⟨4, _⟩ => exact (congrArg (· + d.val) (hs 4)).trans (Nat.zero_add _)

/-- Trip `n`'s slice of an array of chunks, of 128 components per head, is chunk `n`. -/
theorem slice128 (A : S32x8x128x4x128.Idx → EReal) (n : Fin 32) (st : Fin 5 → ℤ) (h0 : st 0 = (BitVec.ofNat 32 n.val).toInt) (h1 : st 1 = 0)
    (h2 : st 2 = 0) (h3 : st 3 = 0) (h4 : st 4 = 0) (h) (b : Fin 8) (i : Fin 128) (g : Fin 4) (d : Fin 128) :
    Host.dynamicSlice S1x8x128x4x128 A st h (ix5 0 b i g d) = A (ix5 n b i g d) := by
  have hs := start128 n h.1 st h0 h1 h2 h3 h4
  rw [Host.dynamicSlice_apply]
  refine congrArg A (funext fun a => Fin.ext ?_)
  match a with
  | ⟨0, _⟩ => exact (congrArg (· + 0) (hs 0)).trans (Nat.add_zero _)
  | ⟨1, _⟩ => exact (congrArg (· + b.val) (hs 1)).trans (Nat.zero_add _)
  | ⟨2, _⟩ => exact (congrArg (· + i.val) (hs 2)).trans (Nat.zero_add _)
  | ⟨3, _⟩ => exact (congrArg (· + g.val) (hs 3)).trans (Nat.zero_add _)
  | ⟨4, _⟩ => exact (congrArg (· + d.val) (hs 4)).trans (Nat.zero_add _)

/-- Trip `k`'s update of an array of chunks replaces chunk `k`. -/
theorem update128 (A : S32x8x128x4x128.Idx → EReal) (U : S1x8x128x4x128.Idx → EReal) (k : Fin 32) (st : Fin 5 → ℤ)
    (h0 : st 0 = (BitVec.ofNat 32 k.val).toInt) (h1 : st 1 = 0) (h2 : st 2 = 0) (h3 : st 3 = 0) (h4 : st 4 = 0) (h)
    (n : Fin 32) (b : Fin 8) (i : Fin 128) (g : Fin 4) (e : Fin 128) :
    Host.dynamicUpdateSlice A U st h (ix5 n b i g e) = if n = k then U (ix5 0 b i g e) else A (ix5 n b i g e) := by
  have hs := start128 k h.1 st h0 h1 h2 h3 h4
  rw [Host.dynamicUpdateSlice_apply]
  by_cases hn : n = k
  · subst hn
    rw [if_pos rfl, dif_pos (fun a => ?_)]
    · refine congrArg U (funext fun a => Fin.ext ?_)
      match a with
      | ⟨0, _⟩ => exact (congrArg (n.val - ·) (hs 0)).trans (Nat.sub_self _)
      | ⟨1, _⟩ => exact (congrArg (b.val - ·) (hs 1)).trans (Nat.sub_zero _)
      | ⟨2, _⟩ => exact (congrArg (i.val - ·) (hs 2)).trans (Nat.sub_zero _)
      | ⟨3, _⟩ => exact (congrArg (g.val - ·) (hs 3)).trans (Nat.sub_zero _)
      | ⟨4, _⟩ => exact (congrArg (e.val - ·) (hs 4)).trans (Nat.sub_zero _)
    · rw [hs a]
      match a with
      | ⟨0, _⟩ => exact ⟨le_refl n.val, (Nat.lt_succ_self n.val : n.val < n.val + 1)⟩
      | ⟨1, _⟩ => exact ⟨Nat.zero_le _, (by have := b.isLt; omega : b.val < 0 + 8)⟩
      | ⟨2, _⟩ => exact ⟨Nat.zero_le _, (by have := i.isLt; omega : i.val < 0 + 128)⟩
      | ⟨3, _⟩ => exact ⟨Nat.zero_le _, (by have := g.isLt; omega : g.val < 0 + 4)⟩
      | ⟨4, _⟩ => exact ⟨Nat.zero_le _, (by have := e.isLt; omega : e.val < 0 + 128)⟩
  · rw [if_neg hn, dif_neg]
    intro hin
    have hz := hin (0 : Fin 5)
    rw [hs 0] at hz
    have hz' : k.val ≤ n.val ∧ n.val < k.val + 1 := hz
    exact hn (Fin.ext (by omega))

variable (s : State Idealize.ShloMosaic.Ideal)

/-- Trip `n`'s queries are chunk `n`'s. -/
theorem b5_at (n : Fin 32) (b : Fin 8) (i : Fin 128) (g : Fin 4) (d : Fin 64) :
    @Eq EReal (b5 n.val s (ix4 b i g d)) (s.main_v11_0 (ix5 n b i g d)) := by
  unfold b5
  pointwise
  exact slice64 _ n _ rfl rfl rfl rfl rfl _ b i g d

/-- Trip `n`'s keys are chunk `n`'s. -/
theorem b11_at (n : Fin 32) (b : Fin 8) (i : Fin 128) (g : Fin 4) (d : Fin 64) :
    @Eq EReal (b11 n.val s (ix4 b i g d)) (s.main_v11_1 (ix5 n b i g d)) := by
  unfold b11
  pointwise
  exact slice64 _ n _ rfl rfl rfl rfl rfl _ b i g d

/-- Trip `n`'s values are chunk `n`'s. -/
theorem b17_at (n : Fin 32) (b : Fin 8) (i : Fin 128) (g : Fin 4) (d : Fin 128) :
    @Eq EReal (b17 n.val s (ix4 b i g d)) (s.main_v11_2 (ix5 n b i g d)) := by
  unfold b17
  pointwise
  exact slice128 _ n _ rfl rfl rfl rfl rfl _ b i g d

/-- Trip `n` replaces chunk `n` of the outputs. -/
theorem b99_at (k n : Fin 32) (b : Fin 8) (i : Fin 128) (g : Fin 4) (e : Fin 128) :
    @Eq EReal (b99 k.val s (ix5 n b i g e)) (if n = k then b72 k.val s (ix4 b i g e) else s.main_v11_5 (ix5 n b i g e)) := by
  refine (update128 _ _ k _ rfl rfl rfl rfl rfl _ n b i g e).trans ?_
  unfold b94
  pointwise

variable (j : ℕ)

/-- The logarithms of the decays. -/
theorem b27_at (g : Fin 4)  : @Eq EReal (b27 j s (ix1 g)) (Ret.lg g) := by
  unfold b27 b26 b25 b24 b23 b22 b21 b20 b19 b18
  pointwise
  rfl

/-- The state's decay at a position. -/
theorem b68_at (g : Fin 4) (i : Fin 128)  : @Eq EReal (b68 j s (ix2 i g)) (Ret.qdec g i) := by
  unfold b68 b67 b66 b65 b64 b63 b62 b61 b60 b28
  pointwise
  rw [b27_at]
  rfl

/-- A token's decay to the end of its chunk. -/
theorem b81_at (g : Fin 4) (i : Fin 128)  : @Eq EReal (b81 j s (ix2 i g)) (Ret.kdec g i) := by
  unfold b81 b80 b79 b78 b77 b76 b75 b74 b73 b28
  pointwise
  rw [b27_at]
  rfl

/-- The state's decay over a chunk. -/
theorem b85_at (g : Fin 4) : @Eq EReal (b85 j s (ix1 g)) (Ret.cdec g) := by
  unfold b85 b84 b83 b82
  pointwise
  rw [b27_at]
  rfl

/-- The decay between two tokens of a chunk. -/
theorem b51_at (g : Fin 4) (i k : Fin 128) : @Eq EReal (b51 j s (ix3 g i k)) (Ret.decay g i k) := by
  unfold b51 b50 b49 b48 b47 b46 b45 b44 b43 b42 b41 b40 b39 b38 b37 b36 b35 b34 b33 b32 b31 b30 b29 b28
  pointwise
  rw [b27_at]
  rfl

/-- A trip's new state. -/
theorem b93_at (n : Fin 32) (b : Fin 8) (g : Fin 4) (d : Fin 64) (e : Fin 128) : @Eq EReal (b93 n.val s (ix4 b g d e))
    (Ret.stepAt (fun i => s.main_v11_1 (ix5 n b i g d)) (Ret.kdec g) (fun i => s.main_v11_2 (ix5 n b i g e)) (Ret.cdec g)
      (s.main_v11_4 (ix4 b g d e))) := by
  unfold b93 b92 b91 b90 b89 b88 b87 b86
  pointwise
  simp only [b85_at, b11_at, b81_at, b17_at]
  rfl

/-- A trip's outputs. -/
theorem b72_at (n : Fin 32) (b : Fin 8) (i : Fin 128) (g : Fin 4) (e : Fin 128) : @Eq EReal (b72 n.val s (ix4 b i g e))
    (Ret.outAt (fun d => s.main_v11_0 (ix5 n b i g d)) (fun x d => s.main_v11_1 (ix5 n b x g d)) (Ret.decay g i)
      (fun x => s.main_v11_2 (ix5 n b x g e)) (fun d => s.main_v11_4 (ix4 b g d e)) (Ret.qdec g i)) := by
  unfold b72 b71 b70 b69 b59 b58 b57 b56 b55 b54 b53 b52
  pointwise
  simp only [b68_at, b5_at, b11_at, b51_at, b17_at]
  unfold Ret.outAt
  congr 1
  · exact Finset.sum_congr rfl fun x _ => mul_comm _ _
  · exact congrArg (· * _) (Finset.sum_congr rfl fun x _ => mul_comm _ _)

end Cert.RetRef
end
-- ==== Proof.RetRefValue.lean ====
module

public import proofs.«01_k».proof.Proof.RetRefStep

@[expose] public section

set_option maxRecDepth 65536
set_option maxHeartbeats 4000000

noncomputable section

/-! What the reference returns, in the model's terms. -/

namespace Cert.RetRef

open Cert.ReferenceIdeal Cert.ReferenceIdeal.Gen Cert.ReferenceIdeal.Value Cert.ReferenceIdeal.Step
open Idealize.ShloMosaic Idealize.ShloMosaic.TcCoe Idealize.ShloMosaic.StableHlo Idealize.SL.Sem

variable (m : (ℓ : Loc nD τ sig) → Buf (Elt Idealize.ShloMosaic.Ideal) ℓ) (c : Dev nD)

/-- The queries, by row and component. -/
def qOf (r : Fin 32768) (l : Fin 256) : EReal := m ((c.tc : Thread nD τ).loc main_arg0) (ix2 r l)
/-- The keys, by row and component. -/
def kOf (r : Fin 32768) (l : Fin 256) : EReal := m ((c.tc : Thread nD τ).loc main_arg1) (ix2 r l)
/-- The values, by row and component. -/
def wOf (r : Fin 32768) (l : Fin 512) : EReal := m ((c.tc : Thread nD τ).loc main_arg2) (ix2 r l)
/-- The gate rows, by row and component. -/
def zOf (r : Fin 32768) (l : Fin 512) : EReal := m ((c.tc : Thread nD τ).loc main_arg3) (ix2 r l)
/-- The norm's weights. -/
def gOf (l : Fin 512) : EReal := m ((c.tc : Thread nD τ).loc main_arg4) (ix1 l)

/-- The chunks of queries no trip changes. -/
theorem q_keeps : ∀ n, (states m c n).main_v11_0 = (states m c 0).main_v11_0
  | 0 => rfl
  | n + 1 => q_keeps n

/-- The chunks of keys no trip changes. -/
theorem k_keeps : ∀ n, (states m c n).main_v11_1 = (states m c 0).main_v11_1
  | 0 => rfl
  | n + 1 => k_keeps n

/-- The chunks of values no trip changes. -/
theorem w_keeps : ∀ n, (states m c n).main_v11_2 = (states m c 0).main_v11_2
  | 0 => rfl
  | n + 1 => w_keeps n

/-- A chunk's query. -/
theorem q_at (j : ℕ) (n : Fin 32) (b : Fin 8) (i : Fin 128) (g : Fin 4) (d : Fin 64) :
    @Eq EReal ((states m c j).main_v11_0 (ix5 n b i g d)) (qOf m c (Ret.tok b n i) (Ret.kcol g d)) := by
  rw [q_keeps]
  show @Eq EReal (A_main_v5 (m ((c.tc : Thread nD τ).loc main_arg0)) (m ((c.tc : Thread nD τ).loc main_arg1)) (m ((c.tc : Thread nD τ).loc main_arg2)) (ix5 n b i g d)) _
  pointwise [A_main_v5, A_main_v4, A_main_v0]
  rfl

/-- A chunk's key. -/
theorem k_at (j : ℕ) (n : Fin 32) (b : Fin 8) (i : Fin 128) (g : Fin 4) (d : Fin 64) :
    @Eq EReal ((states m c j).main_v11_1 (ix5 n b i g d)) (kOf m c (Ret.tok b n i) (Ret.kcol g d)) := by
  rw [k_keeps]
  show @Eq EReal (A_main_v7 (m ((c.tc : Thread nD τ).loc main_arg0)) (m ((c.tc : Thread nD τ).loc main_arg1)) (m ((c.tc : Thread nD τ).loc main_arg2)) (ix5 n b i g d)) _
  pointwise [A_main_v7, A_main_v6, A_main_v1]
  rfl

/-- A chunk's value. -/
theorem w_at (j : ℕ) (n : Fin 32) (b : Fin 8) (i : Fin 128) (g : Fin 4) (e : Fin 128) :
    @Eq EReal ((states m c j).main_v11_2 (ix5 n b i g e)) (wOf m c (Ret.tok b n i) (Ret.vcol g e)) := by
  rw [w_keeps]
  show @Eq EReal (A_main_v9 (m ((c.tc : Thread nD τ).loc main_arg0)) (m ((c.tc : Thread nD τ).loc main_arg1)) (m ((c.tc : Thread nD τ).loc main_arg2)) (ix5 n b i g e)) _
  pointwise [A_main_v9, A_main_v8, A_main_v2]
  rfl

/-- The state after `n` trips. -/
theorem state_at : ∀ (n : ℕ), n ≤ 32 → ∀ (b : Fin 8) (g : Fin 4) (d : Fin 64) (e : Fin 128),
    @Eq EReal ((states m c n).main_v11_4 (ix4 b g d e)) (Ret.state (kOf m c) (wOf m c) n b g d e)
  | 0, _, b, g, d, e => by
    show @Eq EReal (K_main_v3 (F := Idealize.ShloMosaic.Ideal) (ix4 b g d e)) _
    unfold K_main_v3 K_main_cst
    pointwise
    rfl
  | n + 1, hn, b, g, d, e => by
    refine (b93_at (states m c n) ⟨n, hn⟩ b g d e).trans ?_
    have hc : Ret.chunk n = ⟨n, hn⟩ := Fin.ext (Nat.mod_eq_of_lt hn)
    have h : Ret.state (kOf m c) (wOf m c) (n + 1) b g d e = Ret.stepAt (fun j => kOf m c (Ret.tok b ⟨n, hn⟩ j) (Ret.kcol g d)) (Ret.kdec g)
        (fun j => wOf m c (Ret.tok b ⟨n, hn⟩ j) (Ret.vcol g e)) (Ret.cdec g) (Ret.state (kOf m c) (wOf m c) n b g d e) := by
      conv_lhs => rw [Ret.state]
      rw [hc]
    rw [h, state_at n (by omega) b g d e, funext fun j => k_at m c n ⟨n, hn⟩ b j g d, funext fun j => w_at m c n ⟨n, hn⟩ b j g e]

/-- The outputs of a trip. -/
theorem row_at (n : Fin 32) (b : Fin 8) (i : Fin 128) (g : Fin 4) (e : Fin 128) :
    @Eq EReal (b72 n.val (states m c n.val) (ix4 b i g e)) (Ret.retained (qOf m c) (kOf m c) (wOf m c) n b i g e) := by
  refine (b72_at (states m c n.val) n b i g e).trans ?_
  unfold Ret.retained
  rw [funext fun d => q_at m c n.val n b i g d, funext fun j => funext fun d => k_at m c n.val n b j g d,
    funext fun j => w_at m c n.val n b j g e, funext fun d => state_at m c n.val (by omega) b g d e]

/-- The outputs after `n` trips, for an earlier chunk `k`. -/
theorem outs_at : ∀ (n : ℕ), n ≤ 32 → ∀ (k : Fin 32), k.val < n → ∀ (b : Fin 8) (i : Fin 128) (g : Fin 4) (e : Fin 128),
    @Eq EReal ((states m c n).main_v11_5 (ix5 k b i g e)) (Ret.retained (qOf m c) (kOf m c) (wOf m c) k b i g e)
  | 0, _, k, hk, _, _, _, _ => absurd hk (Nat.not_lt_zero _)
  | n + 1, hn, k, hk, b, i, g, e => by
    refine (b99_at (states m c n) ⟨n, hn⟩ k b i g e).trans ?_
    by_cases h : k = ⟨n, hn⟩
    · subst h
      rw [if_pos rfl]
      exact row_at m c ⟨n, hn⟩ b i g e
    · rw [if_neg h]
      refine outs_at n (by omega) k ?_ b i g e
      have : k.val ≠ n := fun h' => h (Fin.ext h')
      omega

/-- The gate, with the negation as the reference writes it. -/
theorem silu_neg (x : EReal) : Ret.silu x = x * Ideal.div 1 (1 + Ideal.exp (-x)) := by
  unfold Ret.silu
  rw [sub_eq_add_neg, zero_add]

/-- The normalised and gated result over the outputs of all trips. -/
theorem result_form (s : State Idealize.ShloMosaic.Ideal) (a0 : FVec Idealize.ShloMosaic.Ideal S32768x512 .f32) (a1 : FVec Idealize.ShloMosaic.Ideal S512 .f32)
    (b : Fin 8) (r : Fin 4096) (l : Fin 512) : @Eq EReal (R_main_v38 s a0 a1 (ix3 b r l))
    (Ret.normAt (fun e => s.main_v11_5 (ix5 ⟨r.val / 128, by omega⟩ b ⟨r.val % 128, by omega⟩ ⟨l.val / 128, by omega⟩ e)) ⟨l.val % 128, by omega⟩
      * a1 (ix1 l) * Ret.silu (a0 (ix2 ⟨b.val * 4096 + r.val, by omega⟩ l))) := by
  rw [silu_neg]
  unfold R_main_v38
  pointwise
  rfl

/-- The reference's first result. -/
theorem out_value (b : Fin 8) (r : Fin 4096) (l : Fin 512) :
    @Eq EReal (R_main_v38 (states m c 32) (m ((c.tc : Thread nD τ).loc main_arg3)) (m ((c.tc : Thread nD τ).loc main_arg4)) (ix3 b r l))
      (Ret.result (qOf m c) (kOf m c) (wOf m c) (zOf m c) (gOf m c) ⟨r.val / 128, by omega⟩ b ⟨r.val % 128, by omega⟩
        ⟨l.val / 128, by omega⟩ ⟨l.val % 128, by omega⟩) := by
  refine (result_form _ _ _ b r l).trans ?_
  have hl : Ret.vcol ⟨l.val / 128, by omega⟩ ⟨l.val % 128, by omega⟩ = l := Fin.ext (by show l.val / 128 * 128 + l.val % 128 = l.val; omega)
  have hr : Ret.tok b ⟨r.val / 128, by omega⟩ ⟨r.val % 128, by omega⟩ = ⟨b.val * 4096 + r.val, by omega⟩ :=
    Fin.ext (by show b.val * 4096 + r.val / 128 * 128 + r.val % 128 = b.val * 4096 + r.val; omega)
  unfold Ret.result
  rw [hl, hr, funext fun e => outs_at m c 32 (le_refl _) ⟨r.val / 128, by omega⟩ (by show r.val / 128 < 32; omega) b ⟨r.val % 128, by omega⟩ ⟨l.val / 128, by omega⟩ e]
  rfl

end Cert.RetRef
end
-- ==== Proof.RetClaim.lean ====
module

public import proofs.«01_k».proof.Defs
public import proofs.«01_k».proof.Proof.RetKernel
public import proofs.«01_k».proof.Proof.RetRefValue
public import Idealize.ShloMosaic.Lib.Quiescent

@[expose] public section

set_option maxRecDepth 65536
set_option maxHeartbeats 4000000

noncomputable section

/-! The retention call's claims: the kernel's two arrays are the reference's. -/

namespace Cert.Ret

open Idealize.ShloMosaic Idealize.ShloMosaic.TcCoe Idealize.SL.Sem

/-- The reference ends quiescent with its arguments unchanged. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The two programs, from equal arguments, end with equal results. -/
theorem algebraic : Cert.algebraic_KernelIdeal_ReferenceIdeal := by
  intro m ρ m' ρ' _ hagree
  refine ⟨fun c => (Cert.KernelIdeal.Gen.dats m 0 c).arrAt 10 Cert.KernelIdeal.cfg0.N,
    fun c => (Cert.KernelIdeal.Gen.dats m 0 c).arrAt 11 Cert.KernelIdeal.cfg0.N, Cert.KernelIdeal.Value.run_blocks m ρ, ?_⟩
  refine (θ_run _ _ _).mono (fun _ h c => ?_) (Cert.ReferenceIdeal.Value.run (F := Ideal) m' ρ')
  obtain ⟨h0, h1, hk⟩ := h c
  obtain ⟨g0, g1, g2, g3, g4⟩ := hagree c
  have eq : RetRef.qOf m' c = qOf m c := by funext r l; exact congrFun g0 _
  have ek : RetRef.kOf m' c = kOf m c := by funext r l; exact congrFun g1 _
  have ew : RetRef.wOf m' c = wOf m c := by funext r l; exact congrFun g2 _
  have ez : RetRef.zOf m' c = zOf m c := by funext r l; exact congrFun g3 _
  have eg : RetRef.gOf m' c = gOf m c := by funext l; exact congrFun g4 _
  refine ⟨h0.trans ?_, h1.trans ?_, hk⟩
  · refine (RetRef.result_out m' c).trans (Eq.trans ?_ (arr_10 m c).symm)
    funext y
    obtain ⟨b, r, l, rfl⟩ : ∃ (b : Fin 8) (r : Fin 4096) (l : Fin 512), y = ix3 b r l :=
      ⟨y (0 : Fin 3), y (1 : Fin 3), y (2 : Fin 3), by funext a; match a with | ⟨0, _⟩ => rfl | ⟨1, _⟩ => rfl | ⟨2, _⟩ => rfl⟩
    refine (RetRef.out_value m' c b r l).trans ?_
    rw [eq, ek, ew, ez, eg]
    rfl
  · refine (RetRef.result_state m' c).trans (Eq.trans ?_ (arr_11 m c).symm)
    funext y
    obtain ⟨b, g, d, e, rfl⟩ : ∃ (b : Fin 8) (g : Fin 4) (d : Fin 64) (e : Fin 128), y = ix4 b g d e :=
      ⟨y (0 : Fin 4), y (1 : Fin 4), y (2 : Fin 4), y (3 : Fin 4), by funext a; match a with | ⟨0, _⟩ => rfl | ⟨1, _⟩ => rfl | ⟨2, _⟩ => rfl | ⟨3, _⟩ => rfl⟩
    refine (RetRef.state_at m' c 32 (le_refl _) b g d e).trans ?_
    rw [ek, ew]
    rfl

end Cert.Ret
end
-- ==== Proof.LayerModel.lean ====
module

public import Idealize.ShloMosaic.Lib.Pointwise

/-! The mathematics of a layer's norm, gates and merge at single entries, over the extended reals. -/

@[expose] public section

noncomputable section

namespace Cert.Layer

open Idealize.ShloMosaic

/-- Entry `k` of the row `x` normalised by the root of its mean square plus 1e-6, times the weight `g`. -/
def rms (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- The logistic function. -/
def logisticAt (z : EReal) : EReal := Ideal.div 1 (1 + Ideal.exp (0 - z))

/-- One branch at one channel: the logistic of the gate's product with the normalised row `h`, times the branch's projection. -/
def gated (h w : Fin 1024 → EReal) (o wb : Fin 512 → EReal) : EReal :=
  logisticAt (∑ k : Fin 1024, h k * w k) * ∑ c : Fin 512, o c * wb c

/-- The merged branches at channel `d`. -/
def merged (h : Fin 1024 → EReal) (w : Fin 4 → Fin 1024 → Fin 1024 → EReal) (o : Fin 4 → Fin 512 → EReal)
    (wb : Fin 4 → Fin 512 → Fin 1024 → EReal) (d : Fin 1024) : EReal :=
  ∑ n : Fin 4, gated h (fun k => w n k d) (o n) (fun c => wb n c d)

/-- The layer's output row: the row `x` plus the output projection of its merged branches. -/
def layerOut (x g : Fin 1024 → EReal) (w : Fin 4 → Fin 1024 → Fin 1024 → EReal) (o : Fin 4 → Fin 512 → EReal)
    (wb : Fin 4 → Fin 512 → Fin 1024 → EReal) (wo : Fin 1024 → Fin 1024 → EReal) (e : Fin 1024) : EReal :=
  x e + ∑ d : Fin 1024, merged (rms x g) w o wb d * wo d e

/-- Four values by number. -/
def four {α : Type} (a b c d : α) : Fin 4 → α := ![a, b, c, d]

theorem four_0 {α : Type} (a b c d : α) : four a b c d 0 = a := rfl
theorem four_1 {α : Type} (a b c d : α) : four a b c d 1 = b := rfl
theorem four_2 {α : Type} (a b c d : α) : four a b c d 2 = c := rfl
theorem four_3 {α : Type} (a b c d : α) : four a b c d 3 = d := rfl

/-- Row `r` of the `t`-th block of 256 rows. -/
def rowOf (t : Fin 128) (r : Fin 256) : Fin 32768 := ⟨t.val * 256 + r.val, by omega⟩

/-- Column `l` of block `n` among four blocks of 1024 columns. -/
def gcol (n : Fin 4) (l : Fin 1024) : Fin 4096 := ⟨n.val * 1024 + l.val, by omega⟩

/-- Column `l` of the merge gate of branch `n` among all input projections. -/
def gateCol (n : Fin 4) (l : Fin 1024) : Fin 10568 := ⟨6472 + (n.val * 1024 + l.val), by omega⟩

/-- The last layer's output at a row and a column: the layer's row, normalised, from the layer's input rows, its norm, its input projection, the four
mixers' rows, their projections, the output projection and the last norm. -/
def valueAt (X : Fin 32768 → Fin 1024 → EReal) (G : Fin 1024 → EReal) (W : Fin 1024 → Fin 10568 → EReal) (O : Fin 4 → Fin 32768 → Fin 512 → EReal)
    (Wb : Fin 4 → Fin 512 → Fin 1024 → EReal) (Wo : Fin 1024 → Fin 1024 → EReal) (Gf : Fin 1024 → EReal) (r : Fin 32768) (e : Fin 1024) : EReal :=
  rms (layerOut (X r) G (fun n k l => W k (gateCol n l)) (fun n c => O n r c) Wb Wo) Gf e

end Cert.Layer

end
-- ==== Proof.MergePay.lean ====
module

public import proofs.«01_k».proof.Proof.Gen.Kernel2Ideal.Value
public import Idealize.ShloMosaic.Lib.Pipeline.ValueKit
public import Idealize.ShloMosaic.Lib.Claim
public import Idealize.ShloMosaic.Lib.Pointwise
public import proofs.«01_k».proof.Proof.LayerModel

@[expose] public section

set_option maxRecDepth 16384
set_option maxHeartbeats 4000000

noncomputable section

/-! The merge kernel's vectors at an entry, each over the vectors it is computed from. -/

namespace Cert.Merge

open Cert.Kernel2Ideal Cert.Kernel2Ideal.Gen Idealize.ShloMosaic Idealize.ShloMosaic.TcCoe Idealize.SL.Sem Cert.Layer
open Idealize.ShloMosaic.Pipeline (Dat)

/-- The normalised rows. -/
theorem pay2_apply (v0 : Vec Ideal S256x1024 .f32) (v1 : Vec Ideal S1x1024 .f32) (r : Fin 256) (k : Fin 1024) :
    @Eq EReal (k0_pay2 (F := Ideal) v0 v1 (ix2 r k)) (rms (fun j => v0 (ix2 r j)) (fun j => v1 (ix2 0 j)) k) := by
  unfold k0_pay2
  pointwise [rms]

/-- The first branch. -/
theorem pay3_apply (v0 : Vec Ideal S256x1024 .f32) (v1 : Vec Ideal S1x1024 .f32) (v17 : Vec Ideal S1024x1024 .bf16) (v27 : Vec Ideal S256x512 .f32)
    (v29 : Vec Ideal S1x512x1024 .bf16) (r : Fin 256) (d : Fin 1024) :
    @Eq EReal (k0_pay3 (F := Ideal) v0 v1 v17 v27 v29 (ix2 r d)) (gated (fun k => k0_pay2 (F := Ideal) v0 v1 (ix2 r k)) (fun k => v17 (ix2 k d))
      (fun c => v27 (ix2 r c)) (fun c => v29 (ix3 0 c d))) := by
  unfold k0_pay3
  pointwise [gated, logisticAt]

/-- The second and third branches, added to what they find. -/
theorem pay5_apply (v15 : FVec Ideal S256x1024 .bf16) (v33 : FVec Ideal S256x1024 .f32) (v34 : Vec Ideal S1024x1024 .bf16) (v44 : Vec Ideal S256x512 .f32)
    (v46 : Vec Ideal S1x512x1024 .bf16) (v51 : Vec Ideal S1024x1024 .bf16) (v61 : Vec Ideal S256x512 .f32) (v63 : Vec Ideal S1x512x1024 .bf16)
    (r : Fin 256) (d : Fin 1024) :
    @Eq EReal (k0_pay5 (F := Ideal) v15 v33 (k0_pay4 v34) (constant S256x1024 .f32 0x00000000#32) v44 v46 v51 v61 v63 (ix2 r d))
      (v33 (ix2 r d) + gated (fun k => v15 (ix2 r k)) (fun k => v34 (ix2 k d)) (fun c => v44 (ix2 r c)) (fun c => v46 (ix3 0 c d))
        + gated (fun k => v15 (ix2 r k)) (fun k => v51 (ix2 k d)) (fun c => v61 (ix2 r c)) (fun c => v63 (ix3 0 c d))) := by
  unfold k0_pay5 k0_pay4
  pointwise [gated, logisticAt]

/-- The fourth branch's gate before the logistic. -/
theorem pay6_apply (v15 : FVec Ideal S256x1024 .bf16) (v68 : Vec Ideal S1024x1024 .bf16) (r : Fin 256) (d : Fin 1024) :
    @Eq EReal (k0_pay6 (F := Ideal) v15 v68 (ix2 r d)) (∑ k : Fin 1024, v15 (ix2 r k) * v68 (ix2 k d)) := by
  unfold k0_pay6
  pointwise

/-- The row after the output projection, normalised. -/
theorem pay1_apply (v0 : Vec Ideal S256x1024 .f32) (v67 v70 : FVec Ideal S256x1024 .f32) (v78 : Vec Ideal S256x512 .f32)
    (v80 : Vec Ideal S1x512x1024 .bf16) (v86 : Vec Ideal S1024x1024 .bf16) (v90 : Vec Ideal S1x1024 .f32) (r : Fin 256) (e : Fin 1024) :
    @Eq EReal (k0_pay1 (F := Ideal) v0 v67 v70 (Scalar.ofBits .f32 0x00000000#32) v78 v80 v86 v90 (ix2 r e))
      (rms (fun e => v0 (ix2 r e) + ∑ d : Fin 1024, (v67 (ix2 r d) + logisticAt (v70 (ix2 r d)) * ∑ c : Fin 512, v78 (ix2 r c) * v80 (ix3 0 c d)) * v86 (ix2 d e))
        (fun j => v90 (ix2 0 j)) e) := by
  unfold k0_pay1
  pointwise [rms, logisticAt]

end Cert.Merge
end
-- ==== Proof.MergeBody.lean ====
module

public import proofs.«01_k».proof.Proof.MergePay
public import Idealize.ShloMosaic.Lib.Pipeline.ReadBack
public import Idealize.ShloMosaic.Lib.Pipeline.ValueKit
public import Idealize.ShloMosaic.Lib.Claim
public import Idealize.ShloMosaic.Lib.Pointwise
public import proofs.«01_k».proof.Proof.LayerModel

@[expose] public section

set_option maxRecDepth 16384
set_option maxHeartbeats 4000000

noncomputable section

/-! One block of the merge kernel's result, at an entry, over the blocks that it reads. -/

namespace Cert.Merge

open Cert.Kernel2Ideal Cert.Kernel2Ideal.Gen Idealize.ShloMosaic Idealize.ShloMosaic.TcCoe Idealize.SL.Sem Cert.Layer
open Idealize.ShloMosaic.Pipeline (Dat)

/-- The block the kernel leaves, at an entry. -/
theorem out_body (x0 : Vec Ideal S256x1024 .f32) (x1 : Vec Ideal S1x1024 .f32) (x2 : Vec Ideal S1024x4096 .bf16) (x3 x4 x5 x6 : Vec Ideal S256x512 .f32) (x7 : Vec Ideal S4x512x1024 .bf16) (x8 : Vec Ideal S1024x1024 .bf16) (x9 : Vec Ideal S1x1024 .f32) (r : Fin 256) (e : Fin 1024) :
    @Eq EReal (out0_10 (F := Ideal) x0 x1 x2 x3 x4 x5 x6 x7 x8 x9 (ix2 r e))
      (rms (layerOut (fun k => x0 (ix2 r k)) (fun k => x1 (ix2 0 k)) (fun n k l => x2 (ix2 k (gcol n l)))
        (four (fun c => x3 (ix2 r c)) (fun c => x4 (ix2 r c)) (fun c => x5 (ix2 r c)) (fun c => x6 (ix2 r c)))
        (fun n c d => x7 (ix3 n c d)) (fun d e => x8 (ix2 d e))) (fun k => x9 (ix2 0 k)) e) := by
  frame_out
  refine (pay1_apply _ _ _ _ _ _ _ _ _).trans ?_
  simp only [pay5_apply, pay6_apply, pay3_apply, k0_pay7, pay2_apply]
  unfold layerOut merged
  simp only [Fin.sum_univ_four, four_0, four_1, four_2, four_3]
  pointwise [gcol, gated]

end Cert.Merge
end
-- ==== Proof.MergeHost.lean ====
module

public import proofs.«01_k».proof.Proof.MergeBody
public import Idealize.ShloMosaic.Lib.Pipeline.ValueKit
public import Idealize.ShloMosaic.Lib.Claim
public import Idealize.ShloMosaic.Lib.Pointwise
public import proofs.«01_k».proof.Proof.LayerModel

@[expose] public section

set_option maxRecDepth 16384
set_option maxHeartbeats 4000000

noncomputable section

/-! What the merge kernel's windows hold at each grid point, of the call's arguments. -/

namespace Cert.Merge

open Cert.Kernel2Ideal Cert.Kernel2Ideal.Gen Idealize.ShloMosaic Idealize.ShloMosaic.TcCoe Idealize.SL.Sem Cert.Layer
open Idealize.ShloMosaic.Pipeline (Dat)

variable (m : (ℓ : Loc nD τ sig) → Buf (Elt Idealize.ShloMosaic.Ideal) ℓ) (c : Dev nD)

/-- The gate weights: the last 4096 columns of the input projection. -/
theorem V_1 : V m c main_v1 = (truncf .bf16 (extractStridedSlice S1024x4096 ![0, 6472] (m ((c.tc : Thread nD τ).loc main_arg2)) slices_S1024x10568_S1024x4096_0_6472 : FVec Idealize.ShloMosaic.Ideal S1024x4096 .f32) bitsLt_bf16_f32 : FVec Idealize.ShloMosaic.Ideal S1024x4096 .bf16) := by
  unfold V
  simp only [List.flatten_cons, List.flatten_nil, List.append_nil, hostOps0, List.cons_append, List.nil_append]
  entry_read
  rfl

/-- The norm's weight as one row. -/
theorem V_2 : V m c main_v2 = (shapeCast S1x1024 (m ((c.tc : Thread nD τ).loc main_arg1)) shapeCasts_S1024_S1x1024) := by
  unfold V
  simp only [List.flatten_cons, List.flatten_nil, List.append_nil, hostOps0, List.cons_append, List.nil_append]
  entry_read
  rfl

/-- The branch projections. -/
theorem V_3 : V m c main_v3 = (truncf .bf16 ((m ((c.tc : Thread nD τ).loc main_arg7)) : FVec Idealize.ShloMosaic.Ideal S4x512x1024 .f32) bitsLt_bf16_f32 : FVec Idealize.ShloMosaic.Ideal S4x512x1024 .bf16) := by
  unfold V
  simp only [List.flatten_cons, List.flatten_nil, List.append_nil, hostOps0, List.cons_append, List.nil_append]
  entry_read
  rfl

/-- The output projection. -/
theorem V_4 : V m c main_v4 = (truncf .bf16 ((m ((c.tc : Thread nD τ).loc main_arg8)) : FVec Idealize.ShloMosaic.Ideal S1024x1024 .f32) bitsLt_bf16_f32 : FVec Idealize.ShloMosaic.Ideal S1024x1024 .bf16) := by
  unfold V
  simp only [List.flatten_cons, List.flatten_nil, List.append_nil, hostOps0, List.cons_append, List.nil_append]
  entry_read
  rfl

/-- The last norm's weight as one row. -/
theorem V_5 : V m c main_v5 = (shapeCast S1x1024 (m ((c.tc : Thread nD τ).loc main_arg9)) shapeCasts_S1024_S1x1024) := by
  unfold V
  simp only [List.flatten_cons, List.flatten_nil, List.append_nil, hostOps0, List.cons_append, List.nil_append]
  entry_read
  rfl

/-- One row of an array of one axis. -/
theorem cast_row (A : S1024.Idx → EReal) (l : Fin 1024) : shapeCast S1x1024 A shapeCasts_S1024_S1x1024 (ix2 0 l) = A (ix1 l) := by
  pointwise

/-- The last 4096 columns. -/
theorem slice_gate (A : S1024x10568.Idx → EReal) (k : Fin 1024) (j : Fin 4096) :
    @Eq EReal ((truncf .bf16 (extractStridedSlice S1024x4096 ![0, 6472] A slices_S1024x10568_S1024x4096_0_6472 : FVec Idealize.ShloMosaic.Ideal S1024x4096 .f32) bitsLt_bf16_f32
      : FVec Idealize.ShloMosaic.Ideal S1024x4096 .bf16) (ix2 k j)) (A (ix2 k ⟨6472 + j.val, by omega⟩)) := by
  pointwise

theorem idx_0 : ∀ t : Fin cfg0.N, win0_0.index t = ![t.val, 0] := (by decide +kernel : ∀ t : Fin grid0.N, win0_0.index t = ![t.val, 0])
/-- Window 0's block in its array. -/
theorem blk_0 (A : S32768x1024.Idx → EReal) (t : Fin cfg0.N) (r : Fin 256) (l : Fin 1024) : A ((win0_0.blk t).view.emb (ix2 r l)) = A (ix2 (rowOf t r) l) := by
  have ht : t.val < 128 := t.isLt
  blk_ext [idx_0, rowOf]
/-- Window 0 at a point is its 256 rows of argument 0. -/
theorem read_0 (t : Fin cfg0.N) (r : Fin 256) (l : Fin 1024) : @Eq EReal (iblk m c 0 t (ix2 r l)) (m ((c.tc : Thread nD τ).loc main_arg0) (ix2 (rowOf t r) l)) := by
  blk_simp [iblk]
  rw [V_main_arg0]
  exact blk_0 _ t r l

theorem idx_3 : ∀ t : Fin cfg0.N, win0_3.index t = ![t.val, 0] := (by decide +kernel : ∀ t : Fin grid0.N, win0_3.index t = ![t.val, 0])
/-- Window 3's block in its array. -/
theorem blk_3 (A : S32768x512.Idx → EReal) (t : Fin cfg0.N) (r : Fin 256) (l : Fin 512) : A ((win0_3.blk t).view.emb (ix2 r l)) = A (ix2 (rowOf t r) l) := by
  have ht : t.val < 128 := t.isLt
  blk_ext [idx_3, rowOf]
/-- Window 3 at a point is its 256 rows of argument 3. -/
theorem read_3 (t : Fin cfg0.N) (r : Fin 256) (l : Fin 512) : @Eq EReal (iblk m c 3 t (ix2 r l)) (m ((c.tc : Thread nD τ).loc main_arg3) (ix2 (rowOf t r) l)) := by
  blk_simp [iblk]
  rw [V_main_arg3]
  exact blk_3 _ t r l

theorem idx_4 : ∀ t : Fin cfg0.N, win0_4.index t = ![t.val, 0] := (by decide +kernel : ∀ t : Fin grid0.N, win0_4.index t = ![t.val, 0])
/-- Window 4's block in its array. -/
theorem blk_4 (A : S32768x512.Idx → EReal) (t : Fin cfg0.N) (r : Fin 256) (l : Fin 512) : A ((win0_4.blk t).view.emb (ix2 r l)) = A (ix2 (rowOf t r) l) := by
  have ht : t.val < 128 := t.isLt
  blk_ext [idx_4, rowOf]
/-- Window 4 at a point is its 256 rows of argument 4. -/
theorem read_4 (t : Fin cfg0.N) (r : Fin 256) (l : Fin 512) : @Eq EReal (iblk m c 4 t (ix2 r l)) (m ((c.tc : Thread nD τ).loc main_arg4) (ix2 (rowOf t r) l)) := by
  blk_simp [iblk]
  rw [V_main_arg4]
  exact blk_4 _ t r l

theorem idx_5 : ∀ t : Fin cfg0.N, win0_5.index t = ![t.val, 0] := (by decide +kernel : ∀ t : Fin grid0.N, win0_5.index t = ![t.val, 0])
/-- Window 5's block in its array. -/
theorem blk_5 (A : S32768x512.Idx → EReal) (t : Fin cfg0.N) (r : Fin 256) (l : Fin 512) : A ((win0_5.blk t).view.emb (ix2 r l)) = A (ix2 (rowOf t r) l) := by
  have ht : t.val < 128 := t.isLt
  blk_ext [idx_5, rowOf]
/-- Window 5 at a point is its 256 rows of argument 5. -/
theorem read_5 (t : Fin cfg0.N) (r : Fin 256) (l : Fin 512) : @Eq EReal (iblk m c 5 t (ix2 r l)) (m ((c.tc : Thread nD τ).loc main_arg5) (ix2 (rowOf t r) l)) := by
  blk_simp [iblk]
  rw [V_main_arg5]
  exact blk_5 _ t r l

theorem idx_6 : ∀ t : Fin cfg0.N, win0_6.index t = ![t.val, 0] := (by decide +kernel : ∀ t : Fin grid0.N, win0_6.index t = ![t.val, 0])
/-- Window 6's block in its array. -/
theorem blk_6 (A : S32768x512.Idx → EReal) (t : Fin cfg0.N) (r : Fin 256) (l : Fin 512) : A ((win0_6.blk t).view.emb (ix2 r l)) = A (ix2 (rowOf t r) l) := by
  have ht : t.val < 128 := t.isLt
  blk_ext [idx_6, rowOf]
/-- Window 6 at a point is its 256 rows of argument 6. -/
theorem read_6 (t : Fin cfg0.N) (r : Fin 256) (l : Fin 512) : @Eq EReal (iblk m c 6 t (ix2 r l)) (m ((c.tc : Thread nD τ).loc main_arg6) (ix2 (rowOf t r) l)) := by
  blk_simp [iblk]
  rw [V_main_arg6]
  exact blk_6 _ t r l

theorem idx_1 : ∀ t : Fin cfg0.N, win0_1.index t = ![0, 0] := (by decide +kernel : ∀ t : Fin grid0.N, win0_1.index t = ![0, 0])
/-- Window 1's block in its array. -/
theorem blk_1 (A : S1x1024.Idx → EReal) (t : Fin cfg0.N) (r : Fin 1) (l : Fin 1024) : A ((win0_1.blk t).view.emb (ix2 r l)) = A (ix2 r l) := by
  skip
  blk_ext [idx_1]
/-- Window 1 is argument 1. -/
theorem read_1 (t : Fin cfg0.N) (l : Fin 1024) : @Eq EReal (iblk m c 1 t (ix2 0 l)) (m ((c.tc : Thread nD τ).loc main_arg1) (ix1 l)) := by
  blk_simp [iblk]
  rw [V_2]
  exact (blk_1 _ t 0 l).trans (cast_row _ l)

theorem idx_9 : ∀ t : Fin cfg0.N, win0_9.index t = ![0, 0] := (by decide +kernel : ∀ t : Fin grid0.N, win0_9.index t = ![0, 0])
/-- Window 9's block in its array. -/
theorem blk_9 (A : S1x1024.Idx → EReal) (t : Fin cfg0.N) (r : Fin 1) (l : Fin 1024) : A ((win0_9.blk t).view.emb (ix2 r l)) = A (ix2 r l) := by
  skip
  blk_ext [idx_9]
/-- Window 9 is argument 9. -/
theorem read_9 (t : Fin cfg0.N) (l : Fin 1024) : @Eq EReal (iblk m c 9 t (ix2 0 l)) (m ((c.tc : Thread nD τ).loc main_arg9) (ix1 l)) := by
  blk_simp [iblk]
  rw [V_5]
  exact (blk_9 _ t 0 l).trans (cast_row _ l)

theorem idx_2 : ∀ t : Fin cfg0.N, win0_2.index t = ![0, 0] := (by decide +kernel : ∀ t : Fin grid0.N, win0_2.index t = ![0, 0])
/-- Window 2's block in its array. -/
theorem blk_2 (A : S1024x4096.Idx → EReal) (t : Fin cfg0.N) (r : Fin 1024) (l : Fin 4096) : A ((win0_2.blk t).view.emb (ix2 r l)) = A (ix2 r l) := by
  skip
  blk_ext [idx_2]
/-- Window 2 is the last 4096 columns of argument 2. -/
theorem read_2 (t : Fin cfg0.N) (r : Fin 1024) (l : Fin 4096) : @Eq EReal (iblk m c 2 t (ix2 r l)) (m ((c.tc : Thread nD τ).loc main_arg2) (ix2 r ⟨6472 + l.val, by omega⟩)) := by
  blk_simp [iblk]
  rw [V_1]
  exact (blk_2 _ t r l).trans (slice_gate _ r l)

theorem idx_7 : ∀ t : Fin cfg0.N, win0_7.index t = ![0, 0, 0] := (by decide +kernel : ∀ t : Fin grid0.N, win0_7.index t = ![0, 0, 0])
/-- Window 7's block in its array. -/
theorem blk_7 (A : S4x512x1024.Idx → EReal) (t : Fin cfg0.N) (n : Fin 4) (r : Fin 512) (l : Fin 1024) : A ((win0_7.blk t).view.emb (ix3 n r l)) = A (ix3 n r l) := by
  skip
  blk_ext [idx_7]
/-- Window 7 is argument 7. -/
theorem read_7 (t : Fin cfg0.N) (n : Fin 4) (r : Fin 512) (l : Fin 1024) : @Eq EReal (iblk m c 7 t (ix3 n r l)) (m ((c.tc : Thread nD τ).loc main_arg7) (ix3 n r l)) := by
  blk_simp [iblk]
  rw [V_3]
  exact (blk_7 _ t n r l).trans rfl

theorem idx_8 : ∀ t : Fin cfg0.N, win0_8.index t = ![0, 0] := (by decide +kernel : ∀ t : Fin grid0.N, win0_8.index t = ![0, 0])
/-- Window 8's block in its array. -/
theorem blk_8 (A : S1024x1024.Idx → EReal) (t : Fin cfg0.N) (r : Fin 1024) (l : Fin 1024) : A ((win0_8.blk t).view.emb (ix2 r l)) = A (ix2 r l) := by
  skip
  blk_ext [idx_8]
/-- Window 8 is argument 8. -/
theorem read_8 (t : Fin cfg0.N) (r : Fin 1024) (l : Fin 1024) : @Eq EReal (iblk m c 8 t (ix2 r l)) (m ((c.tc : Thread nD τ).loc main_arg8) (ix2 r l)) := by
  blk_simp [iblk]
  rw [V_4]
  exact (blk_8 _ t r l).trans rfl

end Cert.Merge
end
-- ==== Proof.MergeKernel.lean ====
module

public import proofs.«01_k».proof.Proof.MergeHost
public import Idealize.ShloMosaic.Lib.Pipeline.ValueKit
public import Idealize.ShloMosaic.Lib.Claim
public import Idealize.ShloMosaic.Lib.Pointwise
public import proofs.«01_k».proof.Proof.LayerModel

@[expose] public section

set_option maxRecDepth 16384
set_option maxHeartbeats 4000000

noncomputable section

/-! The merge kernel's result array. -/

namespace Cert.Merge

open Cert.Kernel2Ideal Cert.Kernel2Ideal.Gen Idealize.ShloMosaic Idealize.ShloMosaic.TcCoe Idealize.SL.Sem Cert.Layer
open Idealize.ShloMosaic.Pipeline (Dat)

/-- The block at an entry, where the windows hold the rows of a point. -/
theorem out_reads (x0 : Vec Ideal S256x1024 .f32) (x1 : Vec Ideal S1x1024 .f32) (x2 : Vec Ideal S1024x4096 .bf16) (x3 x4 x5 x6 : Vec Ideal S256x512 .f32) (x7 : Vec Ideal S4x512x1024 .bf16) (x8 : Vec Ideal S1024x1024 .bf16) (x9 : Vec Ideal S1x1024 .f32) (t : Fin 128) (X : Fin 32768 → Fin 1024 → EReal) (G : Fin 1024 → EReal) (W : Fin 1024 → Fin 10568 → EReal)
    (O0 O1 O2 O3 : Fin 32768 → Fin 512 → EReal) (Wb : Fin 4 → Fin 512 → Fin 1024 → EReal) (Wo : Fin 1024 → Fin 1024 → EReal) (Gf : Fin 1024 → EReal)
    (h0 : ∀ r k, @Eq EReal (x0 (ix2 r k)) (X (rowOf t r) k)) (h1 : ∀ k, @Eq EReal (x1 (ix2 0 k)) (G k))
    (h2 : ∀ (k : Fin 1024) (j : Fin 4096), @Eq EReal (x2 (ix2 k j)) (W k ⟨6472 + j.val, by omega⟩))
    (h3 : ∀ r k, @Eq EReal (x3 (ix2 r k)) (O0 (rowOf t r) k)) (h4 : ∀ r k, @Eq EReal (x4 (ix2 r k)) (O1 (rowOf t r) k))
    (h5 : ∀ r k, @Eq EReal (x5 (ix2 r k)) (O2 (rowOf t r) k)) (h6 : ∀ r k, @Eq EReal (x6 (ix2 r k)) (O3 (rowOf t r) k))
    (h7 : ∀ n k d, @Eq EReal (x7 (ix3 n k d)) (Wb n k d)) (h8 : ∀ k e, @Eq EReal (x8 (ix2 k e)) (Wo k e)) (h9 : ∀ k, @Eq EReal (x9 (ix2 0 k)) (Gf k))
    (r : Fin 256) (e : Fin 1024) :
    @Eq EReal (out0_10 (F := Ideal) x0 x1 x2 x3 x4 x5 x6 x7 x8 x9 (ix2 r e)) (valueAt X G W (four O0 O1 O2 O3) Wb Wo Gf (rowOf t r) e) := by
  refine (out_body x0 x1 x2 x3 x4 x5 x6 x7 x8 x9 r e).trans ?_
  unfold valueAt
  have hO : (fun (n : Fin 4) (c : Fin 512) => four O0 O1 O2 O3 n (rowOf t r) c)
      = four (fun c => O0 (rowOf t r) c) (fun c => O1 (rowOf t r) c) (fun c => O2 (rowOf t r) c) (fun c => O3 (rowOf t r) c) := by
    funext n c
    match n with
    | ⟨0, _⟩ => rfl
    | ⟨1, _⟩ => rfl
    | ⟨2, _⟩ => rfl
    | ⟨3, _⟩ => rfl
  rw [hO, funext fun k => h0 r k, funext h1, funext fun k => h3 r k, funext fun k => h4 r k, funext fun k => h5 r k, funext fun k => h6 r k,
    funext fun n => funext fun k => funext fun d => h7 n k d, funext fun k => funext fun e => h8 k e, funext h9,
    funext fun n => funext fun k => funext fun l => h2 k (gcol n l)]
  rfl

variable (m : (ℓ : Loc nD τ sig) → Buf (Elt Idealize.ShloMosaic.Ideal) ℓ) (c : Dev nD)

/-- The layer's input rows. -/
def xOf (r : Fin 32768) (k : Fin 1024) : EReal := m ((c.tc : Thread nD τ).loc main_arg0) (ix2 r k)
/-- The layer norm's weights. -/
def gOf (k : Fin 1024) : EReal := m ((c.tc : Thread nD τ).loc main_arg1) (ix1 k)
/-- The input projection. -/
def wOf (k : Fin 1024) (j : Fin 10568) : EReal := m ((c.tc : Thread nD τ).loc main_arg2) (ix2 k j)
/-- The four mixers' rows. -/
def oOf : Fin 4 → Fin 32768 → Fin 512 → EReal :=
  four (fun r l => m ((c.tc : Thread nD τ).loc main_arg3) (ix2 r l)) (fun r l => m ((c.tc : Thread nD τ).loc main_arg4) (ix2 r l))
    (fun r l => m ((c.tc : Thread nD τ).loc main_arg5) (ix2 r l)) (fun r l => m ((c.tc : Thread nD τ).loc main_arg6) (ix2 r l))
/-- The branch projections. -/
def bOf (n : Fin 4) (k : Fin 512) (d : Fin 1024) : EReal := m ((c.tc : Thread nD τ).loc main_arg7) (ix3 n k d)
/-- The output projection. -/
def pOf (k e : Fin 1024) : EReal := m ((c.tc : Thread nD τ).loc main_arg8) (ix2 k e)
/-- The last norm's weights. -/
def fOf (k : Fin 1024) : EReal := m ((c.tc : Thread nD τ).loc main_arg9) (ix1 k)

/-- What a point leaves in the result's block. -/
theorem out_after (t : Fin cfg0.N) (r : Fin 256) (e : Fin 1024) :
    @Eq EReal (out0_10 (F := Ideal) (iblk m c 0 t) (iblk m c 1 t) (iblk m c 2 t) (iblk m c 3 t) (iblk m c 4 t) (iblk m c 5 t) (iblk m c 6 t)
      (iblk m c 7 t) (iblk m c 8 t) (iblk m c 9 t) (ix2 r e)) (valueAt (xOf m c) (gOf m c) (wOf m c) (oOf m c) (bOf m c) (pOf m c) (fOf m c) (rowOf t r) e) :=
  out_reads _ _ _ _ _ _ _ _ _ _ t _ _ _ _ _ _ _ _ _ _ (read_0 m c t) (read_1 m c t) (read_2 m c t) (read_3 m c t) (read_4 m c t) (read_5 m c t)
    (read_6 m c t) (read_7 m c t) (read_8 m c t) (read_9 m c t) r e

theorem idx_10 : ∀ t : Fin cfg0.N, win0_10.index t = ![t.val, 0] := (by decide +kernel : ∀ t : Fin grid0.N, win0_10.index t = ![t.val, 0])

/-- The result's window puts a block's row at the point's rows. -/
theorem blk_10 (A : S32768x1024.Idx → EReal) (t : Fin cfg0.N) (r : Fin 256) (l : Fin 1024) :
    A ((win0_10.blk t).view.emb (ix2 r l)) = A (ix2 (rowOf t r) l) := by
  have ht : t.val < 128 := t.isLt
  blk_ext [idx_10, rowOf]

/-- The kernel's result array. -/
theorem arr_10 : (dats m 0 c).arrAt 10 cfg0.N
    = fun y : S32768x1024.Idx => valueAt (xOf m c) (gOf m c) (wOf m c) (oOf m c) (bOf m c) (pOf m c) (fOf m c) (y 0) (y 1) := by
  refine (dats m 0 c).arrAt_eq_of_covers 10 _ (by decide +kernel) fun t hf y => ?_
  obtain ⟨r, l, rfl⟩ : ∃ (r : Fin 256) (l : Fin 1024), y = ix2 r l :=
    ⟨y (0 : Fin 2), y (1 : Fin 2), by funext a; match a with | ⟨0, _⟩ => rfl | ⟨1, _⟩ => rfl⟩
  refine Eq.trans ?_ (blk_10 (fun y : S32768x1024.Idx => valueAt (xOf m c) (gOf m c) (wOf m c) (oOf m c) (bOf m c) (pOf m c) (fOf m c) (y 0) (y 1)) t r l).symm
  refine Eq.trans ?_ (out_after m c t r l)
  exact congrFun (after0_10 m c t) (ix2 r l)

end Cert.Merge
end
-- ==== Proof.MergeReference.lean ====
module

public import proofs.«01_k».proof.Proof.Gen.Reference2Ideal.Read
public import Idealize.ShloMosaic.Lib.Pipeline.ValueKit
public import Idealize.ShloMosaic.Lib.Pointwise
public import proofs.«01_k».proof.Proof.LayerModel

@[expose] public section

set_option maxRecDepth 65536
set_option maxHeartbeats 4000000

noncomputable section

/-! The merge reference's arrays at an entry, down to its result. -/

namespace Cert.MergeRef

open Cert.Reference2Ideal Cert.Reference2Ideal.Gen Cert.Reference2Ideal.Value Cert.Reference2Ideal.Read
open Idealize.ShloMosaic Idealize.ShloMosaic.TcCoe Idealize.ShloMosaic.StableHlo Idealize.SL.Sem Cert.Layer

/-- The normalised rows. -/
theorem v12_at (x0 : (⟨S32768x1024, .f32⟩ : BufTy).Contents (Elt Ideal)) (x1 : (⟨S1024, .f32⟩ : BufTy).Contents (Elt Ideal)) (r : Fin 32768) (k : Fin 1024) :
    @Eq EReal (val_main_v12 (F := Ideal) x0 x1 (ix2 r k)) (rms (fun j => x0 (ix2 r j)) (fun j => x1 (ix1 j)) k) := by
  pointwise [val_main_v12, val_main_v11, val_main_v10, val_main_v9, val_main_v8, val_main_v7, val_main_v6, val_main_v5, val_main_cst_1, val_main_v4,
    val_main_v3, val_main_cst_0, val_main_v2, val_main_v1, val_main_cst, val_main_v0, rms]

/-- The gates before the logistic. -/
theorem v23_at (x0 : (⟨S32768x1024, .f32⟩ : BufTy).Contents (Elt Ideal)) (x1 : (⟨S1024, .f32⟩ : BufTy).Contents (Elt Ideal)) (x2 : (⟨S1024x10568, .f32⟩ : BufTy).Contents (Elt Ideal)) (r : Fin 32768) (n : Fin 4) (d : Fin 1024) :
    @Eq EReal (val_main_v23 (F := Ideal) x0 x1 x2 (ix3 r n d)) (∑ k : Fin 1024, val_main_v12 (F := Ideal) x0 x1 (ix2 r k) * x2 (ix2 k (gateCol n d))) := by
  unfold val_main_v23 val_main_v15 val_main_v13
  pointwise [gateCol]

/-- The gates. -/
theorem v29_at (x0 : (⟨S32768x1024, .f32⟩ : BufTy).Contents (Elt Ideal)) (x1 : (⟨S1024, .f32⟩ : BufTy).Contents (Elt Ideal)) (x2 : (⟨S1024x10568, .f32⟩ : BufTy).Contents (Elt Ideal)) (r : Fin 32768) (n : Fin 4) (d : Fin 1024) :
    @Eq EReal (val_main_v29 (F := Ideal) x0 x1 x2 (ix3 r n d)) (logisticAt (val_main_v23 (F := Ideal) x0 x1 x2 (ix3 r n d))) := by
  unfold val_main_v29 val_main_v28 val_main_cst_3 val_main_v27 val_main_v26 val_main_cst_2 val_main_v25 val_main_v24
  pointwise [logisticAt]
  rw [zero_sub]

/-- The mixers' rows, side by side. -/
theorem v20_at (x3 x4 x5 x6 : (⟨S32768x512, .f32⟩ : BufTy).Contents (Elt Ideal)) (r : Fin 32768) (n : Fin 4) (k : Fin 512) :
    @Eq EReal (val_main_v20 (F := Ideal) x3 x4 x5 x6 (ix3 r n k)) (four (fun k : Fin 512 => x3 (ix2 r k)) (fun k => x4 (ix2 r k)) (fun k => x5 (ix2 r k)) (fun k => x6 (ix2 r k)) n k) := by
  unfold val_main_v20 val_main_v16 val_main_v17 val_main_v18 val_main_v19
  match n with
  | ⟨0, _⟩ => pointwise [four]
  | ⟨1, _⟩ => pointwise [four]
  | ⟨2, _⟩ => pointwise [four]
  | ⟨3, _⟩ => pointwise [four]

/-- The branches' projections. -/
theorem v22_at (x3 x4 x5 x6 : (⟨S32768x512, .f32⟩ : BufTy).Contents (Elt Ideal)) (x7 : (⟨S4x512x1024, .f32⟩ : BufTy).Contents (Elt Ideal)) (r : Fin 32768) (n : Fin 4) (d : Fin 1024) :
    @Eq EReal (val_main_v22 (F := Ideal) x3 x4 x5 x6 x7 (ix3 r n d)) (∑ k : Fin 512, val_main_v20 (F := Ideal) x3 x4 x5 x6 (ix3 r n k) * x7 (ix3 n k d)) := by
  refine Eq.trans (b := ∑ k : Fin 512, @HMul.hMul EReal EReal EReal _ (x7 (ix3 n k d)) (val_main_v20 (F := Ideal) x3 x4 x5 x6 (ix3 r n k))) ?_
    (Finset.sum_congr rfl fun k _ => mul_comm _ _)
  unfold val_main_v22 val_main_v21
  pointwise

/-- The merged rows. -/
theorem v31_at (x0 : (⟨S32768x1024, .f32⟩ : BufTy).Contents (Elt Ideal)) (x1 : (⟨S1024, .f32⟩ : BufTy).Contents (Elt Ideal)) (x2 : (⟨S1024x10568, .f32⟩ : BufTy).Contents (Elt Ideal)) (x3 x4 x5 x6 : (⟨S32768x512, .f32⟩ : BufTy).Contents (Elt Ideal)) (x7 : (⟨S4x512x1024, .f32⟩ : BufTy).Contents (Elt Ideal)) (r : Fin 32768) (d : Fin 1024) :
    @Eq EReal (val_main_v31 (F := Ideal) x0 x1 x2 x3 x4 x5 x6 x7 (ix2 r d))
      (∑ n : Fin 4, val_main_v29 (F := Ideal) x0 x1 x2 (ix3 r n d) * val_main_v22 (F := Ideal) x3 x4 x5 x6 x7 (ix3 r n d)) := by
  unfold val_main_v31 val_main_cst_4 val_main_v30
  pointwise

/-- The layer's rows. -/
theorem v33_at (x0 : (⟨S32768x1024, .f32⟩ : BufTy).Contents (Elt Ideal)) (x1 : (⟨S1024, .f32⟩ : BufTy).Contents (Elt Ideal)) (x2 : (⟨S1024x10568, .f32⟩ : BufTy).Contents (Elt Ideal)) (x3 x4 x5 x6 : (⟨S32768x512, .f32⟩ : BufTy).Contents (Elt Ideal)) (x7 : (⟨S4x512x1024, .f32⟩ : BufTy).Contents (Elt Ideal)) (x8 : (⟨S1024x1024, .f32⟩ : BufTy).Contents (Elt Ideal)) (r : Fin 32768) (e : Fin 1024) :
    @Eq EReal (val_main_v33 (F := Ideal) x0 x1 x2 x3 x4 x5 x6 x7 x8 (ix2 r e))
      (x0 (ix2 r e) + ∑ d : Fin 1024, val_main_v31 (F := Ideal) x0 x1 x2 x3 x4 x5 x6 x7 (ix2 r d) * x8 (ix2 d e)) := by
  unfold val_main_v33 val_main_v32
  pointwise

/-- The result's rows, over the layer's. -/
theorem v46_at (x0 : (⟨S32768x1024, .f32⟩ : BufTy).Contents (Elt Ideal)) (x1 : (⟨S1024, .f32⟩ : BufTy).Contents (Elt Ideal)) (x2 : (⟨S1024x10568, .f32⟩ : BufTy).Contents (Elt Ideal)) (x3 x4 x5 x6 : (⟨S32768x512, .f32⟩ : BufTy).Contents (Elt Ideal)) (x7 : (⟨S4x512x1024, .f32⟩ : BufTy).Contents (Elt Ideal)) (x8 : (⟨S1024x1024, .f32⟩ : BufTy).Contents (Elt Ideal)) (x9 : (⟨S1024, .f32⟩ : BufTy).Contents (Elt Ideal)) (r : Fin 32768) (e : Fin 1024) :
    @Eq EReal (val_main_v46 (F := Ideal) x0 x1 x2 x3 x4 x5 x6 x7 x8 x9 (ix2 r e))
      (rms (fun j => val_main_v33 (F := Ideal) x0 x1 x2 x3 x4 x5 x6 x7 x8 (ix2 r j)) (fun j => x9 (ix1 j)) e) := by
  unfold val_main_v46 val_main_v45 val_main_v44 val_main_v43 val_main_v42 val_main_v41 val_main_v40 val_main_v39 val_main_cst_7 val_main_v38
    val_main_v37 val_main_cst_6 val_main_v36 val_main_v35 val_main_cst_5 val_main_v34
  pointwise [rms]

/-- The layer's rows in the model's terms. -/
theorem layer_at (x0 : (⟨S32768x1024, .f32⟩ : BufTy).Contents (Elt Ideal)) (x1 : (⟨S1024, .f32⟩ : BufTy).Contents (Elt Ideal)) (x2 : (⟨S1024x10568, .f32⟩ : BufTy).Contents (Elt Ideal)) (x3 x4 x5 x6 : (⟨S32768x512, .f32⟩ : BufTy).Contents (Elt Ideal)) (x7 : (⟨S4x512x1024, .f32⟩ : BufTy).Contents (Elt Ideal)) (x8 : (⟨S1024x1024, .f32⟩ : BufTy).Contents (Elt Ideal)) (r : Fin 32768) (e : Fin 1024) :
    @Eq EReal (val_main_v33 (F := Ideal) x0 x1 x2 x3 x4 x5 x6 x7 x8 (ix2 r e))
      (layerOut (fun k => x0 (ix2 r k)) (fun k => x1 (ix1 k)) (fun n k l => x2 (ix2 k (gateCol n l)))
        (fun n k => four (fun k : Fin 512 => x3 (ix2 r k)) (fun k => x4 (ix2 r k)) (fun k => x5 (ix2 r k)) (fun k => x6 (ix2 r k)) n k)
        (fun n k d => x7 (ix3 n k d)) (fun d e => x8 (ix2 d e)) e) := by
  refine (v33_at x0 x1 x2 x3 x4 x5 x6 x7 x8 r e).trans ?_
  unfold layerOut
  refine congrArg (fun z : EReal => (x0 (ix2 r e) : EReal) + z) (Finset.sum_congr rfl fun d _ => congrArg (fun z : EReal => z * (x8 (ix2 d e) : EReal)) ?_)
  refine (v31_at x0 x1 x2 x3 x4 x5 x6 x7 r d).trans ?_
  unfold merged
  refine Finset.sum_congr rfl fun n _ => ?_
  unfold gated
  refine congrArg₂ (fun a b : EReal => a * b) ?_ ?_
  · refine (v29_at x0 x1 x2 r n d).trans (congrArg logisticAt ((v23_at x0 x1 x2 r n d).trans ?_))
    exact Finset.sum_congr rfl fun k _ => congrArg (fun z : EReal => z * (x2 (ix2 k (gateCol n d)) : EReal)) (v12_at x0 x1 r k)
  · refine (v22_at x3 x4 x5 x6 x7 r n d).trans ?_
    exact Finset.sum_congr rfl fun k _ => congrArg (fun z : EReal => z * (x7 (ix3 n k d) : EReal)) (v20_at x3 x4 x5 x6 r n k)

variable (m : (ℓ : Loc nD τ sig) → Buf (Elt Idealize.ShloMosaic.Ideal) ℓ) (c : Dev nD)

/-- The layer's input rows. -/
def xOf (r : Fin 32768) (k : Fin 1024) : EReal := m ((c.tc : Thread nD τ).loc main_arg0) (ix2 r k)
/-- The layer norm's weights. -/
def gOf (k : Fin 1024) : EReal := m ((c.tc : Thread nD τ).loc main_arg1) (ix1 k)
/-- The input projection. -/
def wOf (k : Fin 1024) (j : Fin 10568) : EReal := m ((c.tc : Thread nD τ).loc main_arg2) (ix2 k j)
/-- The four mixers' rows. -/
def oOf : Fin 4 → Fin 32768 → Fin 512 → EReal :=
  four (fun r l => m ((c.tc : Thread nD τ).loc main_arg3) (ix2 r l)) (fun r l => m ((c.tc : Thread nD τ).loc main_arg4) (ix2 r l))
    (fun r l => m ((c.tc : Thread nD τ).loc main_arg5) (ix2 r l)) (fun r l => m ((c.tc : Thread nD τ).loc main_arg6) (ix2 r l))
/-- The branch projections. -/
def bOf (n : Fin 4) (k : Fin 512) (d : Fin 1024) : EReal := m ((c.tc : Thread nD τ).loc main_arg7) (ix3 n k d)
/-- The output projection. -/
def pOf (k e : Fin 1024) : EReal := m ((c.tc : Thread nD τ).loc main_arg8) (ix2 k e)
/-- The last norm's weights. -/
def fOf (k : Fin 1024) : EReal := m ((c.tc : Thread nD τ).loc main_arg9) (ix1 k)

/-- The reference's result in the model's terms. -/
theorem value_at (r : Fin 32768) (e : Fin 1024) :
    @Eq EReal (res_main_v46 m c (ix2 r e)) (valueAt (xOf m c) (gOf m c) (wOf m c) (oOf m c) (bOf m c) (pOf m c) (fOf m c) r e) := by
  rw [val_main_v46_eq]
  refine (v46_at _ _ _ _ _ _ _ _ _ _ r e).trans ?_
  unfold valueAt
  refine congrArg (fun z => rms z (fOf m c) e) (funext fun j => ?_)
  refine (layer_at _ _ _ _ _ _ _ _ _ r j).trans ?_
  refine congrArg (fun z => layerOut (xOf m c r) (gOf m c) (fun n k l => wOf m c k (gateCol n l)) z (bOf m c) (pOf m c) j) (funext fun n => ?_)
  match n with
  | ⟨0, _⟩ => rfl
  | ⟨1, _⟩ => rfl
  | ⟨2, _⟩ => rfl
  | ⟨3, _⟩ => rfl

end Cert.MergeRef
end
-- ==== Proof.MergeClaim.lean ====
module

public import proofs.«01_k».proof.Defs
public import proofs.«01_k».proof.Proof.MergeKernel
public import proofs.«01_k».proof.Proof.MergeReference
public import Idealize.ShloMosaic.Lib.Quiescent

@[expose] public section

set_option maxRecDepth 65536
set_option maxHeartbeats 4000000

noncomputable section

/-! The merge call's claims: the kernel's array is the reference's. -/

namespace Cert.Merge

open Idealize.ShloMosaic Idealize.ShloMosaic.TcCoe Idealize.SL.Sem

/-- The reference ends quiescent with its arguments unchanged. -/
theorem frame_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The two programs, from equal arguments, end with equal results. -/
theorem algebraic : Cert.algebraic_Kernel2Ideal_Reference2Ideal := by
  intro m ρ m' ρ' _ hagree
  refine ⟨fun c => (Cert.Kernel2Ideal.Gen.dats m 0 c).arrAt 10 Cert.Kernel2Ideal.cfg0.N, Cert.Kernel2Ideal.Value.run_blocks m ρ, ?_⟩
  refine (θ_run _ _ _).mono (fun _ h c => ?_) (Cert.Reference2Ideal.Value.run (F := Ideal) m' ρ')
  obtain ⟨h0, hk⟩ := h c
  obtain ⟨g0, g1, g2, g3, g4, g5, g6, g7, g8, g9⟩ := hagree c
  have e0 : MergeRef.xOf m' c = xOf m c := by funext r l; exact congrFun g0 _
  have e1 : MergeRef.gOf m' c = gOf m c := by funext l; exact congrFun g1 _
  have e2 : MergeRef.wOf m' c = wOf m c := by funext r l; exact congrFun g2 _
  have e3 : MergeRef.oOf m' c = oOf m c := by
    funext n r l
    match n with
    | ⟨0, _⟩ => exact congrFun g3 _
    | ⟨1, _⟩ => exact congrFun g4 _
    | ⟨2, _⟩ => exact congrFun g5 _
    | ⟨3, _⟩ => exact congrFun g6 _
  have e7 : MergeRef.bOf m' c = bOf m c := by funext n r l; exact congrFun g7 _
  have e8 : MergeRef.pOf m' c = pOf m c := by funext r l; exact congrFun g8 _
  have e9 : MergeRef.fOf m' c = fOf m c := by funext l; exact congrFun g9 _
  refine ⟨h0.trans (Eq.trans ?_ (arr_10 m c).symm), hk⟩
  funext y
  obtain ⟨r, l, rfl⟩ : ∃ (r : Fin 32768) (l : Fin 1024), y = ix2 r l :=
    ⟨y (0 : Fin 2), y (1 : Fin 2), by funext a; match a with | ⟨0, _⟩ => rfl | ⟨1, _⟩ => rfl⟩
  refine (MergeRef.value_at m' c r l).trans ?_
  rw [e0, e1, e2, e3, e7, e8, e9]
  rfl

end Cert.Merge
end
-- ==== Proof.MemKernel.lean ====
module

public import proofs.«01_k».proof.Proof.Gen.Kernel3Ideal.Value
public import Idealize.ShloMosaic.Lib.Pipeline.ReadBack
public import Idealize.ShloMosaic.Lib.Pipeline.ValueKit
public import Idealize.ShloMosaic.Lib.Claim
public import Idealize.ShloMosaic.Lib.Pointwise
public import proofs.«01_k».proof.Proof.LayerModel

@[expose] public section

set_option maxRecDepth 16384
set_option maxHeartbeats 4000000

noncomputable section

/-! The memory kernel: its blocks at an entry, what its windows hold, and its two result arrays. -/

namespace Cert.Mem

open Cert.Kernel3Ideal Cert.Kernel3Ideal.Gen Idealize.ShloMosaic Idealize.ShloMosaic.TcCoe Idealize.SL.Sem Cert.Layer
open Idealize.ShloMosaic.Pipeline (Dat)

/-- A row's projection: the normalised row against a column of the weight. -/
def projected (x g : Fin 1024 → EReal) (w : Fin 1024 → EReal) : EReal := ∑ k, rms x g k * w k

/-- The projected rows. -/
theorem pay1_apply (v0 : Vec Ideal S256x1024 .f32) (v2 : Vec Ideal S1x1024 .f32) (v17 : Vec Ideal S1024x1024 .bf16) (r : Fin 256) (l : Fin 1024) :
    @Eq EReal (k0_pay1 (F := Ideal) v0 v2 v17 (ix2 r l)) (projected (fun k => v0 (ix2 r k)) (fun k => v2 (ix2 0 k)) (fun k => v17 (ix2 k l))) := by
  unfold k0_pay1
  pointwise [projected, rms]

/-- The first half of the columns. -/
theorem out3_body (x0 : Vec Ideal S256x1024 .f32) (x1 : Vec Ideal S1x1024 .f32) (x2 : Vec Ideal S1024x1024 .bf16) (r : Fin 256) (l : Fin 512) :
    @Eq EReal (out0_3 (F := Ideal) x0 x1 x2 (ix2 r l))
      (projected (fun k => x0 (ix2 r k)) (fun k => x1 (ix2 0 k)) (fun k => x2 (ix2 k ⟨l.val, by omega⟩))) := by
  frame_out
  refine Eq.trans (b := k0_pay1 (F := Ideal) x0 x1 x2 (ix2 r ⟨l.val, by omega⟩)) ?_ (pay1_apply x0 x1 x2 r _)
  unfold k0_pay2
  generalize k0_pay1 (F := Ideal) x0 x1 x2 = z
  pointwise

/-- The second half of the columns. -/
theorem out4_body (x0 : Vec Ideal S256x1024 .f32) (x1 : Vec Ideal S1x1024 .f32) (x2 : Vec Ideal S1024x1024 .bf16) (r : Fin 256) (l : Fin 512) :
    @Eq EReal (out0_4 (F := Ideal) x0 x1 x2 (ix2 r l))
      (projected (fun k => x0 (ix2 r k)) (fun k => x1 (ix2 0 k)) (fun k => x2 (ix2 k ⟨512 + l.val, by omega⟩))) := by
  frame_out
  refine Eq.trans (b := k0_pay1 (F := Ideal) x0 x1 x2 (ix2 r ⟨512 + l.val, by omega⟩)) ?_ (pay1_apply x0 x1 x2 r _)
  unfold k0_pay3
  generalize k0_pay1 (F := Ideal) x0 x1 x2 = z
  pointwise

/-- Memory row `r` of sequence `t`, among all the memory rows. -/
def rowAt (t : Fin 8) (r : Fin 256) : Fin 2048 := ⟨t.val * 256 + r.val, by omega⟩

variable (m : (ℓ : Loc nD τ sig) → Buf (Elt Idealize.ShloMosaic.Ideal) ℓ) (c : Dev nD)

/-- The memory rows, by sequence and row. -/
def xOf (b : Fin 8) (r : Fin 256) (k : Fin 1024) : EReal := m ((c.tc : Thread nD τ).loc main_arg0) (ix3 b r k)
/-- The norm's weights. -/
def gOf (k : Fin 1024) : EReal := m ((c.tc : Thread nD τ).loc main_arg1) (ix1 k)
/-- The keys' and values' projection. -/
def wOf (k j : Fin 1024) : EReal := m ((c.tc : Thread nD τ).loc main_arg2) (ix2 k j)

/-- The memory rows as one list. -/
theorem V_0 : V m c main_v0 = (shapeCast S2048x1024 (m ((c.tc : Thread nD τ).loc main_arg0)) shapeCasts_S8x256x1024_S2048x1024) := by
  unfold V
  simp only [List.flatten_cons, List.flatten_nil, List.append_nil, hostOps0, List.cons_append, List.nil_append]
  entry_read
  rfl

/-- The norm's weight as one row. -/
theorem V_1 : V m c main_v1 = (shapeCast S1x1024 (m ((c.tc : Thread nD τ).loc main_arg1)) shapeCasts_S1024_S1x1024) := by
  unfold V
  simp only [List.flatten_cons, List.flatten_nil, List.append_nil, hostOps0, List.cons_append, List.nil_append]
  entry_read
  rfl

/-- The projection. -/
theorem V_2 : V m c main_v2 = (truncf .bf16 ((m ((c.tc : Thread nD τ).loc main_arg2)) : FVec Idealize.ShloMosaic.Ideal S1024x1024 .f32) bitsLt_bf16_f32 : FVec Idealize.ShloMosaic.Ideal S1024x1024 .bf16) := by
  unfold V
  simp only [List.flatten_cons, List.flatten_nil, List.append_nil, hostOps0, List.cons_append, List.nil_append]
  entry_read
  rfl

/-- One row of an array of one axis. -/
theorem cast_row (A : S1024.Idx → EReal) (l : Fin 1024) : shapeCast S1x1024 A shapeCasts_S1024_S1x1024 (ix2 0 l) = A (ix1 l) := by
  pointwise

/-- The list of all memory rows. -/
theorem cast_rows (A : S8x256x1024.Idx → EReal) (t : Fin 8) (r : Fin 256) (k : Fin 1024) :
    shapeCast S2048x1024 A shapeCasts_S8x256x1024_S2048x1024 (ix2 (rowAt t r) k) = A (ix3 t r k) := by
  pointwise [rowAt]

theorem idx_0 : ∀ t : Fin cfg0.N, win0_0.index t = ![t.val, 0] := (by decide +kernel : ∀ t : Fin grid0.N, win0_0.index t = ![t.val, 0])
/-- Window 0's block in its array. -/
theorem blk_0 (A : S2048x1024.Idx → EReal) (t : Fin cfg0.N) (r : Fin 256) (l : Fin 1024) : A ((win0_0.blk t).view.emb (ix2 r l)) = A (ix2 (rowAt t r) l) := by
  have ht : t.val < 8 := t.isLt
  blk_ext [idx_0, rowAt]

theorem idx_1 : ∀ t : Fin cfg0.N, win0_1.index t = ![0, 0] := (by decide +kernel : ∀ t : Fin grid0.N, win0_1.index t = ![0, 0])
/-- Window 1's block in its array. -/
theorem blk_1 (A : S1x1024.Idx → EReal) (t : Fin cfg0.N) (r : Fin 1) (l : Fin 1024) : A ((win0_1.blk t).view.emb (ix2 r l)) = A (ix2 r l) := by
  have ht : t.val < 8 := t.isLt
  blk_ext [idx_1, rowAt]

theorem idx_2 : ∀ t : Fin cfg0.N, win0_2.index t = ![0, 0] := (by decide +kernel : ∀ t : Fin grid0.N, win0_2.index t = ![0, 0])
/-- Window 2's block in its array. -/
theorem blk_2 (A : S1024x1024.Idx → EReal) (t : Fin cfg0.N) (r : Fin 1024) (l : Fin 1024) : A ((win0_2.blk t).view.emb (ix2 r l)) = A (ix2 r l) := by
  have ht : t.val < 8 := t.isLt
  blk_ext [idx_2, rowAt]

theorem idx_3 : ∀ t : Fin cfg0.N, win0_3.index t = ![t.val, 0] := (by decide +kernel : ∀ t : Fin grid0.N, win0_3.index t = ![t.val, 0])
/-- Window 3's block in its array. -/
theorem blk_3 (A : S2048x512.Idx → EReal) (t : Fin cfg0.N) (r : Fin 256) (l : Fin 512) : A ((win0_3.blk t).view.emb (ix2 r l)) = A (ix2 (rowAt t r) l) := by
  have ht : t.val < 8 := t.isLt
  blk_ext [idx_3, rowAt]

theorem idx_4 : ∀ t : Fin cfg0.N, win0_4.index t = ![t.val, 0] := (by decide +kernel : ∀ t : Fin grid0.N, win0_4.index t = ![t.val, 0])
/-- Window 4's block in its array. -/
theorem blk_4 (A : S2048x512.Idx → EReal) (t : Fin cfg0.N) (r : Fin 256) (l : Fin 512) : A ((win0_4.blk t).view.emb (ix2 r l)) = A (ix2 (rowAt t r) l) := by
  have ht : t.val < 8 := t.isLt
  blk_ext [idx_4, rowAt]

/-- Window 0 at a point is the sequence's rows. -/
theorem read_0 (t : Fin cfg0.N) (r : Fin 256) (k : Fin 1024) : @Eq EReal (iblk m c 0 t (ix2 r k)) (xOf m c t r k) := by
  blk_simp [iblk]
  rw [V_0]
  exact (blk_0 _ t r k).trans (cast_rows _ t r k)

/-- Window 1 is the norm's weights. -/
theorem read_1 (t : Fin cfg0.N) (k : Fin 1024) : @Eq EReal (iblk m c 1 t (ix2 0 k)) (gOf m c k) := by
  blk_simp [iblk]
  rw [V_1]
  exact (blk_1 _ t 0 k).trans (cast_row _ k)

/-- Window 2 is the projection. -/
theorem read_2 (t : Fin cfg0.N) (k l : Fin 1024) : @Eq EReal (iblk m c 2 t (ix2 k l)) (wOf m c k l) := by
  blk_simp [iblk]
  rw [V_2]
  exact (blk_2 _ t k l).trans rfl

/-- A block of the keys, where the windows hold a sequence's rows. -/
theorem out3_reads (x0 : Vec Ideal S256x1024 .f32) (x1 : Vec Ideal S1x1024 .f32) (x2 : Vec Ideal S1024x1024 .bf16) (X : Fin 256 → Fin 1024 → EReal)
    (G : Fin 1024 → EReal) (W : Fin 1024 → Fin 1024 → EReal) (h0 : ∀ r k, @Eq EReal (x0 (ix2 r k)) (X r k)) (h1 : ∀ k, @Eq EReal (x1 (ix2 0 k)) (G k))
    (h2 : ∀ k l, @Eq EReal (x2 (ix2 k l)) (W k l)) (r : Fin 256) (l : Fin 512) :
    @Eq EReal (out0_3 (F := Ideal) x0 x1 x2 (ix2 r l)) (projected (X r) G (fun k => W k ⟨l.val, by omega⟩)) := by
  refine (out3_body x0 x1 x2 r l).trans ?_
  rw [funext fun k => h0 r k, funext h1, funext fun k => h2 k ⟨l.val, by omega⟩]

/-- What a point leaves in the keys' block. -/
theorem out3_after (t : Fin cfg0.N) (r : Fin 256) (l : Fin 512) :
    @Eq EReal (out0_3 (F := Ideal) (iblk m c 0 t) (iblk m c 1 t) (iblk m c 2 t) (ix2 r l))
      (projected (xOf m c t r) (gOf m c) (fun k => wOf m c k ⟨l.val, by omega⟩)) :=
  out3_reads _ _ _ _ _ _ (read_0 m c t) (read_1 m c t) (read_2 m c t) r l

/-- The keys' value at a row of the list and a column. -/
def value3 (X : Fin 8 → Fin 256 → Fin 1024 → EReal) (G : Fin 1024 → EReal) (W : Fin 1024 → Fin 1024 → EReal) (y : Fin 2048) (l : Fin 512) : EReal :=
  projected (X ⟨y.val / 256, by omega⟩ ⟨y.val % 256, by omega⟩) G (fun k => W k ⟨l.val, by omega⟩)

/-- At a sequence's row. -/
theorem value3_row (X : Fin 8 → Fin 256 → Fin 1024 → EReal) (G : Fin 1024 → EReal) (W : Fin 1024 → Fin 1024 → EReal) (t : Fin 8) (r : Fin 256) (l : Fin 512) :
    value3 X G W (rowAt t r) l = projected (X t r) G (fun k => W k ⟨l.val, by omega⟩) := by
  have h1 : (⟨(rowAt t r).val / 256, by omega⟩ : Fin 8) = t := Fin.ext (by show (t.val * 256 + r.val) / 256 = t.val; omega)
  have h2 : (⟨(rowAt t r).val % 256, by omega⟩ : Fin 256) = r := Fin.ext (by show (t.val * 256 + r.val) % 256 = r.val; omega)
  unfold value3
  rw [h1, h2]

/-- The keys' array. -/
theorem arr_3 : (dats m 0 c).arrAt 3 cfg0.N = fun y : S2048x512.Idx => value3 (xOf m c) (gOf m c) (wOf m c) (y 0) (y 1) := by
  refine (dats m 0 c).arrAt_eq_of_covers 3 _ (by decide +kernel) fun t hf y => ?_
  obtain ⟨r, l, rfl⟩ : ∃ (r : Fin 256) (l : Fin 512), y = ix2 r l :=
    ⟨y (0 : Fin 2), y (1 : Fin 2), by funext a; match a with | ⟨0, _⟩ => rfl | ⟨1, _⟩ => rfl⟩
  refine Eq.trans ?_ (blk_3 (fun y : S2048x512.Idx => value3 (xOf m c) (gOf m c) (wOf m c) (y 0) (y 1)) t r l).symm
  refine Eq.trans ?_ ((out3_after m c t r l).trans (value3_row _ _ _ t r l).symm)
  exact congrFun (after0_3 m c t) (ix2 r l)

/-- A block of the values, where the windows hold a sequence's rows. -/
theorem out4_reads (x0 : Vec Ideal S256x1024 .f32) (x1 : Vec Ideal S1x1024 .f32) (x2 : Vec Ideal S1024x1024 .bf16) (X : Fin 256 → Fin 1024 → EReal)
    (G : Fin 1024 → EReal) (W : Fin 1024 → Fin 1024 → EReal) (h0 : ∀ r k, @Eq EReal (x0 (ix2 r k)) (X r k)) (h1 : ∀ k, @Eq EReal (x1 (ix2 0 k)) (G k))
    (h2 : ∀ k l, @Eq EReal (x2 (ix2 k l)) (W k l)) (r : Fin 256) (l : Fin 512) :
    @Eq EReal (out0_4 (F := Ideal) x0 x1 x2 (ix2 r l)) (projected (X r) G (fun k => W k ⟨512 + l.val, by omega⟩)) := by
  refine (out4_body x0 x1 x2 r l).trans ?_
  rw [funext fun k => h0 r k, funext h1, funext fun k => h2 k ⟨512 + l.val, by omega⟩]

/-- What a point leaves in the values' block. -/
theorem out4_after (t : Fin cfg0.N) (r : Fin 256) (l : Fin 512) :
    @Eq EReal (out0_4 (F := Ideal) (iblk m c 0 t) (iblk m c 1 t) (iblk m c 2 t) (ix2 r l))
      (projected (xOf m c t r) (gOf m c) (fun k => wOf m c k ⟨512 + l.val, by omega⟩)) :=
  out4_reads _ _ _ _ _ _ (read_0 m c t) (read_1 m c t) (read_2 m c t) r l

/-- The values' value at a row of the list and a column. -/
def value4 (X : Fin 8 → Fin 256 → Fin 1024 → EReal) (G : Fin 1024 → EReal) (W : Fin 1024 → Fin 1024 → EReal) (y : Fin 2048) (l : Fin 512) : EReal :=
  projected (X ⟨y.val / 256, by omega⟩ ⟨y.val % 256, by omega⟩) G (fun k => W k ⟨512 + l.val, by omega⟩)

/-- At a sequence's row. -/
theorem value4_row (X : Fin 8 → Fin 256 → Fin 1024 → EReal) (G : Fin 1024 → EReal) (W : Fin 1024 → Fin 1024 → EReal) (t : Fin 8) (r : Fin 256) (l : Fin 512) :
    value4 X G W (rowAt t r) l = projected (X t r) G (fun k => W k ⟨512 + l.val, by omega⟩) := by
  have h1 : (⟨(rowAt t r).val / 256, by omega⟩ : Fin 8) = t := Fin.ext (by show (t.val * 256 + r.val) / 256 = t.val; omega)
  have h2 : (⟨(rowAt t r).val % 256, by omega⟩ : Fin 256) = r := Fin.ext (by show (t.val * 256 + r.val) % 256 = r.val; omega)
  unfold value4
  rw [h1, h2]

/-- The values' array. -/
theorem arr_4 : (dats m 0 c).arrAt 4 cfg0.N = fun y : S2048x512.Idx => value4 (xOf m c) (gOf m c) (wOf m c) (y 0) (y 1) := by
  refine (dats m 0 c).arrAt_eq_of_covers 4 _ (by decide +kernel) fun t hf y => ?_
  obtain ⟨r, l, rfl⟩ : ∃ (r : Fin 256) (l : Fin 512), y = ix2 r l :=
    ⟨y (0 : Fin 2), y (1 : Fin 2), by funext a; match a with | ⟨0, _⟩ => rfl | ⟨1, _⟩ => rfl⟩
  refine Eq.trans ?_ (blk_4 (fun y : S2048x512.Idx => value4 (xOf m c) (gOf m c) (wOf m c) (y 0) (y 1)) t r l).symm
  refine Eq.trans ?_ ((out4_after m c t r l).trans (value4_row _ _ _ t r l).symm)
  exact congrFun (after0_4 m c t) (ix2 r l)

end Cert.Mem
end
-- ==== Proof.MemReference.lean ====
module

public import proofs.«01_k».proof.Proof.Gen.Reference3Ideal.Read
public import Idealize.ShloMosaic.Lib.Pipeline.ValueKit
public import Idealize.ShloMosaic.Lib.Pointwise
public import proofs.«01_k».proof.Proof.LayerModel
public import proofs.«01_k».proof.Proof.MemKernel

@[expose] public section

set_option maxRecDepth 65536
set_option maxHeartbeats 4000000

noncomputable section

/-! The memory reference's arrays at an entry, down to its results. -/

namespace Cert.MemRef

open Cert.Reference3Ideal Cert.Reference3Ideal.Gen Cert.Reference3Ideal.Value Cert.Reference3Ideal.Read
open Idealize.ShloMosaic Idealize.ShloMosaic.TcCoe Idealize.ShloMosaic.StableHlo Idealize.SL.Sem Cert.Layer
open Cert.Mem (projected value3 value4)

/-- The normalised rows. -/
theorem v12_at (x0 : (⟨S8x256x1024, .f32⟩ : BufTy).Contents (Elt Ideal)) (x1 : (⟨S1024, .f32⟩ : BufTy).Contents (Elt Ideal)) (b : Fin 8) (r : Fin 256) (k : Fin 1024) :
    @Eq EReal (val_main_v12 (F := Ideal) x0 x1 (ix3 b r k)) (rms (fun j => x0 (ix3 b r j)) (fun j => x1 (ix1 j)) k) := by
  pointwise [val_main_v12, val_main_v11, val_main_v10, val_main_v9, val_main_v8, val_main_v7, val_main_v6, val_main_v5, val_main_cst_1, val_main_v4,
    val_main_v3, val_main_cst_0, val_main_v2, val_main_v1, val_main_cst, val_main_v0, rms]

/-- The projected rows. -/
theorem v13_at (x0 : (⟨S8x256x1024, .f32⟩ : BufTy).Contents (Elt Ideal)) (x1 : (⟨S1024, .f32⟩ : BufTy).Contents (Elt Ideal)) (x2 : (⟨S1024x1024, .f32⟩ : BufTy).Contents (Elt Ideal)) (b : Fin 8) (r : Fin 256) (l : Fin 1024) :
    @Eq EReal (val_main_v13 (F := Ideal) x0 x1 x2 (ix3 b r l)) (projected (fun k => x0 (ix3 b r k)) (fun k => x1 (ix1 k)) (fun k => x2 (ix2 k l))) := by
  refine Eq.trans (b := ∑ k : Fin 1024, @HMul.hMul EReal EReal EReal _ (val_main_v12 (F := Ideal) x0 x1 (ix3 b r k)) (x2 (ix2 k l))) ?_
    (Finset.sum_congr rfl fun k _ => congrArg (fun z : EReal => z * (x2 (ix2 k l) : EReal)) (v12_at x0 x1 b r k))
  unfold val_main_v13
  pointwise

/-- The keys. -/
theorem v16_at (x0 : (⟨S8x256x1024, .f32⟩ : BufTy).Contents (Elt Ideal)) (x1 : (⟨S1024, .f32⟩ : BufTy).Contents (Elt Ideal)) (x2 : (⟨S1024x1024, .f32⟩ : BufTy).Contents (Elt Ideal)) (y : Fin 2048) (l : Fin 512) :
    @Eq EReal (val_main_v16 (F := Ideal) x0 x1 x2 (ix2 y l))
      (projected (fun k => x0 (ix3 ⟨y.val / 256, by omega⟩ ⟨y.val % 256, by omega⟩ k)) (fun k => x1 (ix1 k)) (fun k => x2 (ix2 k ⟨l.val, by omega⟩))) := by
  refine Eq.trans ?_ (v13_at x0 x1 x2 _ _ _)
  unfold val_main_v16 val_main_v14
  generalize val_main_v13 (F := Ideal) x0 x1 x2 = z
  pointwise

/-- The values. -/
theorem v17_at (x0 : (⟨S8x256x1024, .f32⟩ : BufTy).Contents (Elt Ideal)) (x1 : (⟨S1024, .f32⟩ : BufTy).Contents (Elt Ideal)) (x2 : (⟨S1024x1024, .f32⟩ : BufTy).Contents (Elt Ideal)) (y : Fin 2048) (l : Fin 512) :
    @Eq EReal (val_main_v17 (F := Ideal) x0 x1 x2 (ix2 y l))
      (projected (fun k => x0 (ix3 ⟨y.val / 256, by omega⟩ ⟨y.val % 256, by omega⟩ k)) (fun k => x1 (ix1 k)) (fun k => x2 (ix2 k ⟨512 + l.val, by omega⟩))) := by
  refine Eq.trans ?_ (v13_at x0 x1 x2 _ _ _)
  unfold val_main_v17 val_main_v15
  generalize val_main_v13 (F := Ideal) x0 x1 x2 = z
  pointwise

variable (m : (ℓ : Loc nD τ sig) → Buf (Elt Idealize.ShloMosaic.Ideal) ℓ) (c : Dev nD)

/-- The memory rows, by sequence and row. -/
def xOf (b : Fin 8) (r : Fin 256) (k : Fin 1024) : EReal := m ((c.tc : Thread nD τ).loc main_arg0) (ix3 b r k)
/-- The norm's weights. -/
def gOf (k : Fin 1024) : EReal := m ((c.tc : Thread nD τ).loc main_arg1) (ix1 k)
/-- The keys' and values' projection. -/
def wOf (k j : Fin 1024) : EReal := m ((c.tc : Thread nD τ).loc main_arg2) (ix2 k j)

/-- The reference's keys in the model's terms. -/
theorem value3_at (y : Fin 2048) (l : Fin 512) : @Eq EReal (val_main_v16 (F := Ideal) (m ((c.tc : Thread nD τ).loc main_arg0)) (m ((c.tc : Thread nD τ).loc main_arg1)) (m ((c.tc : Thread nD τ).loc main_arg2)) (ix2 y l)) (value3 (xOf m c) (gOf m c) (wOf m c) y l) := by
  exact v16_at _ _ _ y l

/-- The reference's values in the model's terms. -/
theorem value4_at (y : Fin 2048) (l : Fin 512) : @Eq EReal (val_main_v17 (F := Ideal) (m ((c.tc : Thread nD τ).loc main_arg0)) (m ((c.tc : Thread nD τ).loc main_arg1)) (m ((c.tc : Thread nD τ).loc main_arg2)) (ix2 y l)) (value4 (xOf m c) (gOf m c) (wOf m c) y l) := by
  exact v17_at _ _ _ y l

end Cert.MemRef
end
-- ==== Proof.MemClaim.lean ====
module

public import proofs.«01_k».proof.Defs
public import proofs.«01_k».proof.Proof.MemKernel
public import proofs.«01_k».proof.Proof.MemReference
public import Idealize.ShloMosaic.Lib.Quiescent

@[expose] public section

set_option maxRecDepth 65536
set_option maxHeartbeats 4000000

noncomputable section

/-! The memory call's claims: the kernel's two arrays are the reference's. -/

namespace Cert.Mem

open Idealize.ShloMosaic Idealize.ShloMosaic.TcCoe Idealize.SL.Sem

/-- The reference ends quiescent with its arguments unchanged. -/
theorem frame_reference : Cert.quiescent_Reference3Ideal := fun m ρ _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- The two programs, from equal arguments, end with equal results. -/
theorem algebraic : Cert.algebraic_Kernel3Ideal_Reference3Ideal := by
  intro m ρ m' ρ' _ hagree
  refine ⟨fun c => (Cert.Kernel3Ideal.Gen.dats m 0 c).arrAt 3 Cert.Kernel3Ideal.cfg0.N,
    fun c => (Cert.Kernel3Ideal.Gen.dats m 0 c).arrAt 4 Cert.Kernel3Ideal.cfg0.N, Cert.Kernel3Ideal.Value.run_blocks m ρ, ?_⟩
  refine (θ_run _ _ _).mono (fun _ h c => ?_) (Cert.Reference3Ideal.Value.run (F := Ideal) m' ρ')
  obtain ⟨h0, h1, hk⟩ := h c
  obtain ⟨g0, g1, g2⟩ := hagree c
  have e0 : MemRef.xOf m' c = xOf m c := by funext b r l; exact congrFun g0 _
  have e1 : MemRef.gOf m' c = gOf m c := by funext l; exact congrFun g1 _
  have e2 : MemRef.wOf m' c = wOf m c := by funext r l; exact congrFun g2 _
  refine ⟨h0.trans ((Cert.Reference3Ideal.Read.val_main_v16_eq _ _ _).trans (Eq.trans ?_ (arr_3 m c).symm)), h1.trans ((Cert.Reference3Ideal.Read.val_main_v17_eq _ _ _).trans (Eq.trans ?_ (arr_4 m c).symm)), hk⟩
  · funext y
    obtain ⟨r, l, rfl⟩ : ∃ (r : Fin 2048) (l : Fin 512), y = ix2 r l :=
      ⟨y (0 : Fin 2), y (1 : Fin 2), by funext a; match a with | ⟨0, _⟩ => rfl | ⟨1, _⟩ => rfl⟩
    refine (MemRef.value3_at m' c r l).trans ?_
    rw [e0, e1, e2]
    rfl
  · funext y
    obtain ⟨r, l, rfl⟩ : ∃ (r : Fin 2048) (l : Fin 512), y = ix2 r l :=
      ⟨y (0 : Fin 2), y (1 : Fin 2), by funext a; match a with | ⟨0, _⟩ => rfl | ⟨1, _⟩ => rfl⟩
    refine (MemRef.value4_at m' c r l).trans ?_
    rw [e0, e1, e2]
    rfl

end Cert.Mem
end
-- ==== Proof.ProjFrameIdeal.lean ====
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxHeartbeats 2000000
-- membership in a rectangle of production extents (`View.cover_of_tiled`): the elaborator's structural look
-- recurses once per coordinate of the long axes
set_option maxRecDepth 16384

noncomputable section

/-! The projection program over the extended reals: each window's block at a point, what the body leaves in every output
buffer, the body's triple, the run and the frame. -/

namespace Cert.Kernel4Ideal.Frame

open Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel4Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S1024x1536 := Rect.unit (s := S1024x1536) ![0, 0] S1024x1536.size inb_S1024x1536_S1024x1536_0_0
abbrev r0_3 : Rect S3x256x128 := Rect.unit (s := S3x256x128) ![0, 0, 0] S1x256x128.size inb_S3x256x128_S1x256x128_0_0_0
abbrev r0_4 : Rect S3x256x128 := Rect.unit (s := S3x256x128) ![1, 0, 0] S1x256x128.size inb_S3x256x128_S1x256x128_1_0_0
abbrev r0_5 : Rect S3x256x128 := Rect.unit (s := S3x256x128) ![2, 0, 0] S1x256x128.size inb_S3x256x128_S1x256x128_2_0_0
abbrev r0_6 : Rect S256x256 := Rect.unit (s := S256x256) ![0, 0] S256x256.size inb_S256x256_S256x256_0_0
abbrev r0_7 : Rect S256x512 := Rect.unit (s := S256x512) ![0, 0] S256x512.size inb_S256x512_S256x512_0_0
abbrev r0_8 : Rect S1024x2048 := Rect.unit (s := S1024x2048) ![0, 0] S1024x2048.size inb_S1024x2048_S1024x2048_0_0
abbrev r0_9 : Rect S1x1x512 := Rect.unit (s := S1x1x512) ![0, 0, 0] S1x1x512.size inb_S1x1x512_S1x1x512_0_0_0
abbrev r0_10 : Rect S1024x1280 := Rect.unit (s := S1024x1280) ![0, 0] S1024x1280.size inb_S1024x1280_S1024x1280_0_0
abbrev r0_11 : Rect S256x128 := Rect.unit (s := S256x128) ![0, 0] S256x128.size inb_S256x128_S256x128_0_0
abbrev r0_12 : Rect S1024x640 := Rect.unit (s := S1024x640) ![0, 0] S1024x640.size inb_S1024x640_S1024x640_0_0
abbrev r0_13 : Rect S256x64 := Rect.unit (s := S256x64) ![0, 0] S256x64.size inb_S256x64_S256x64_0_0
abbrev r0_14 : Rect S256x8 := Rect.unit (s := S256x8) ![0, 0] S256x8.size inb_S256x8_S256x8_0_0
abbrev r0_15 : Rect S1024x1024 := Rect.unit (s := S1024x1024) ![0, 0] S1024x1024.size inb_S1024x1024_S1024x1024_0_0

/-! ## What the body leaves in each output window's buffer -/

/-! ### Values of the body that the stores' payloads, spelt out, would write more than once

    Each is a vector the body binds (often a part call's result), stated over the input windows' blocks and
    numbered on from the skeleton's payload functions (`k0_pay68` …, after `k0_pay67`), so that
    `out0_W` and the values after it name it instead of spelling it out (`unfold_out out0_W` opens a canon
    with them, `unfold_payloads` opens them with the payloads); the comment after each is the printed function's
    name for the value (a count appended where that name is bound again). -/

def k0_pay68 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : FVec F S256x1024 .bf16 :=
  k0_pay6 (View.ld x0 r0_0) (View.ld x1 r0_1) -- `v15`
def k0_pay69 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : FVec F S256x1536 .f32 :=
  k0_pay7 (View.ld x0 r0_0) (View.ld x1 r0_1) (View.ld x2 r0_2) -- `v18`
def k0_pay70 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : FVec F S256x2048 .f32 :=
  k0_pay20 (k0_pay68 x0 x1 x2 x3 x4 x5 x6 x7 x8) (View.ld x3 r0_8) -- `v77`
def k0_pay71 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : FVec F S256x128 .f32 :=
  k0_pay33 (View.ld x8 r0_4) -- `v123`
def k0_pay72 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : FVec F S256x128 .f32 :=
  k0_pay34 (View.ld x8 r0_5) -- `v125`
def k0_pay73 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : FVec F S256x128 .f32 :=
  k0_pay35 (k0_pay70 x0 x1 x2 x3 x4 x5 x6 x7 x8) (View.ld x8 r0_3) (View.ld x8 r0_4) (View.ld x8 r0_5) -- `v133`
def k0_pay74 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : FVec F S256x128 .f32 :=
  k0_pay36 (k0_pay70 x0 x1 x2 x3 x4 x5 x6 x7 x8) (View.ld x8 r0_3) (View.ld x8 r0_4) (View.ld x8 r0_5) -- `v141`
def k0_pay75 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : FVec F S256x128 .f32 :=
  k0_pay37 (k0_pay70 x0 x1 x2 x3 x4 x5 x6 x7 x8) (View.ld x8 r0_3) (View.ld x8 r0_4) (View.ld x8 r0_5) -- `v149`
def k0_pay76 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : FVec F S256x128 .f32 :=
  k0_pay38 (k0_pay70 x0 x1 x2 x3 x4 x5 x6 x7 x8) -- `v150`
def k0_pay77 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : FVec F S256x128 .f32 :=
  k0_pay39 (k0_pay70 x0 x1 x2 x3 x4 x5 x6 x7 x8) (View.ld x8 r0_3) -- `v151`
def k0_pay78 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : FVec F S256x1280 .f32 :=
  k0_pay46 (k0_pay68 x0 x1 x2 x3 x4 x5 x6 x7 x8) (View.ld x4 r0_10) -- `v178`
def k0_pay79 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : FVec F S256x640 .f32 :=
  k0_pay55 (k0_pay68 x0 x1 x2 x3 x4 x5 x6 x7 x8) (View.ld x5 r0_12) -- `v241`
def k0_pay80 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : FVec F S256x128 .f32 :=
  k0_pay64 (k0_pay79 x0 x1 x2 x3 x4 x5 x6 x7 x8) -- `v283`

/-- Window 9's staging buffer after the body, from the input windows' blocks: its 1 store as pieces, LAST
    FIRST (Lib/Pipeline/FrameBody.lean `View.canon`; the payloads are the skeleton's and the values stated above). -/
def out0_9 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x256 .f32 :=
  View.canon [⟨r0_6, k0_pay16 (k0_pay10 (View.ld x7 r0_4)) (k0_pay11 (View.ld x7 r0_5)) (k0_pay12 (View.ld x0 r0_0) (View.ld x1 r0_1) (View.ld x2 r0_2) (View.ld x7 r0_3) (View.ld x7 r0_4) (View.ld x7 r0_5)) (k0_pay13 (View.ld x0 r0_0) (View.ld x1 r0_1) (View.ld x2 r0_2)) (k0_pay14 (View.ld x0 r0_0) (View.ld x1 r0_1) (View.ld x2 r0_2) (View.ld x7 r0_3)) (k0_pay15 (View.ld x0 r0_0) (View.ld x1 r0_1) (View.ld x2 r0_2))⟩]

/-- Its stores tile the buffer (checked by evaluation), so they cover it. -/
theorem cover0_9 (p0 : Vec F S256x256 .f32) (y : S256x256.Idx) :
    ∃ pc ∈ ([⟨r0_6, p0⟩] : List (View.Piece (Elt F) S256x256 .f32)), y ∈ pc.1.set :=
  View.cover_of_tiled [⟨r0_6, p0⟩] S256x256.size (by rfl) y

/-- Window 10's staging buffer after the body, from the input windows' blocks: its 1 store as pieces, LAST
    FIRST (Lib/Pipeline/FrameBody.lean `View.canon`; the payloads are the skeleton's and the values stated above). -/
def out0_10 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x256 .f32 :=
  View.canon [⟨r0_6, k0_pay17 (k0_pay69 x0 x1 x2 x3 x4 x5 x6 x7 x8) (View.ld x7 r0_3) (View.ld x7 r0_4) (View.ld x7 r0_5)⟩]

/-- Its stores tile the buffer (checked by evaluation), so they cover it. -/
theorem cover0_10 (p0 : Vec F S256x256 .f32) (y : S256x256.Idx) :
    ∃ pc ∈ ([⟨r0_6, p0⟩] : List (View.Piece (Elt F) S256x256 .f32)), y ∈ pc.1.set :=
  View.cover_of_tiled [⟨r0_6, p0⟩] S256x256.size (by rfl) y

/-- Window 11's staging buffer after the body, from the input windows' blocks: its 1 store as pieces, LAST
    FIRST (Lib/Pipeline/FrameBody.lean `View.canon`; the payloads are the skeleton's and the values stated above). -/
def out0_11 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x512 .f32 :=
  View.canon [⟨r0_7, k0_pay18 (k0_pay69 x0 x1 x2 x3 x4 x5 x6 x7 x8)⟩]

/-- Its stores tile the buffer (checked by evaluation), so they cover it. -/
theorem cover0_11 (p0 : Vec F S256x512 .f32) (y : S256x512.Idx) :
    ∃ pc ∈ ([⟨r0_7, p0⟩] : List (View.Piece (Elt F) S256x512 .f32)), y ∈ pc.1.set :=
  View.cover_of_tiled [⟨r0_7, p0⟩] S256x512.size (by rfl) y

/-- Window 12's staging buffer after the body, from the input windows' blocks: its 1 store as pieces, LAST
    FIRST (Lib/Pipeline/FrameBody.lean `View.canon`; the payloads are the skeleton's and the values stated above). -/
def out0_12 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x512 .f32 :=
  View.canon [⟨r0_7, k0_pay19 (k0_pay69 x0 x1 x2 x3 x4 x5 x6 x7 x8)⟩]

/-- Its stores tile the buffer (checked by evaluation), so they cover it. -/
theorem cover0_12 (p0 : Vec F S256x512 .f32) (y : S256x512.Idx) :
    ∃ pc ∈ ([⟨r0_7, p0⟩] : List (View.Piece (Elt F) S256x512 .f32)), y ∈ pc.1.set :=
  View.cover_of_tiled [⟨r0_7, p0⟩] S256x512.size (by rfl) y

/-- Window 13's staging buffer after the body, from the input windows' blocks: its 1 store as pieces, LAST
    FIRST (Lib/Pipeline/FrameBody.lean `View.canon`; the payloads are the skeleton's and the values stated above). -/
def out0_13 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x512 .f32 :=
  View.canon [⟨r0_7, k0_pay30 (k0_pay23 (View.ld x8 r0_4)) (k0_pay24 (View.ld x8 r0_5)) (k0_pay25 (k0_pay68 x0 x1 x2 x3 x4 x5 x6 x7 x8) (View.ld x3 r0_8) (View.ld x8 r0_3) (View.ld x8 r0_4) (View.ld x8 r0_5)) (k0_pay26 (k0_pay68 x0 x1 x2 x3 x4 x5 x6 x7 x8) (View.ld x3 r0_8) (View.ld x8 r0_3) (View.ld x8 r0_4) (View.ld x8 r0_5)) (k0_pay27 (k0_pay68 x0 x1 x2 x3 x4 x5 x6 x7 x8) (View.ld x3 r0_8) (View.ld x8 r0_3) (View.ld x8 r0_4) (View.ld x8 r0_5)) (k0_pay28 (k0_pay68 x0 x1 x2 x3 x4 x5 x6 x7 x8) (View.ld x3 r0_8)) (k0_pay29 (k0_pay68 x0 x1 x2 x3 x4 x5 x6 x7 x8) (View.ld x3 r0_8) (View.ld x8 r0_3)) 120#32⟩]

/-- Its stores tile the buffer (checked by evaluation), so they cover it. -/
theorem cover0_13 (p0 : Vec F S256x512 .f32) (y : S256x512.Idx) :
    ∃ pc ∈ ([⟨r0_7, p0⟩] : List (View.Piece (Elt F) S256x512 .f32)), y ∈ pc.1.set :=
  View.cover_of_tiled [⟨r0_7, p0⟩] S256x512.size (by rfl) y

/-- Window 14's staging buffer after the body, from the input windows' blocks: its 1 store as pieces, LAST
    FIRST (Lib/Pipeline/FrameBody.lean `View.canon`; the payloads are the skeleton's and the values stated above). -/
def out0_14 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x512 .f32 :=
  View.canon [⟨r0_7, k0_pay40 (k0_pay71 x0 x1 x2 x3 x4 x5 x6 x7 x8) (k0_pay72 x0 x1 x2 x3 x4 x5 x6 x7 x8) (k0_pay73 x0 x1 x2 x3 x4 x5 x6 x7 x8) (k0_pay74 x0 x1 x2 x3 x4 x5 x6 x7 x8) (k0_pay75 x0 x1 x2 x3 x4 x5 x6 x7 x8) (k0_pay76 x0 x1 x2 x3 x4 x5 x6 x7 x8) (k0_pay77 x0 x1 x2 x3 x4 x5 x6 x7 x8)⟩]

/-- Its stores tile the buffer (checked by evaluation), so they cover it. -/
theorem cover0_14 (p0 : Vec F S256x512 .f32) (y : S256x512.Idx) :
    ∃ pc ∈ ([⟨r0_7, p0⟩] : List (View.Piece (Elt F) S256x512 .f32)), y ∈ pc.1.set :=
  View.cover_of_tiled [⟨r0_7, p0⟩] S256x512.size (by rfl) y

/-- Window 15's staging buffer after the body, from the input windows' blocks: its 1 store as pieces, LAST
    FIRST (Lib/Pipeline/FrameBody.lean `View.canon`; the payloads are the skeleton's and the values stated above). -/
def out0_15 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x512 .f32 :=
  View.canon [⟨r0_7, k0_pay41 (k0_pay70 x0 x1 x2 x3 x4 x5 x6 x7 x8)⟩]

/-- Its stores tile the buffer (checked by evaluation), so they cover it. -/
theorem cover0_15 (p0 : Vec F S256x512 .f32) (y : S256x512.Idx) :
    ∃ pc ∈ ([⟨r0_7, p0⟩] : List (View.Piece (Elt F) S256x512 .f32)), y ∈ pc.1.set :=
  View.cover_of_tiled [⟨r0_7, p0⟩] S256x512.size (by rfl) y

/-- Window 16's staging buffer after the body, from the input windows' blocks: its 1 store as pieces, LAST
    FIRST (Lib/Pipeline/FrameBody.lean `View.canon`; the payloads are the skeleton's and the values stated above). -/
def out0_16 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x512 .f32 :=
  View.canon [⟨r0_7, k0_pay42 (k0_pay70 x0 x1 x2 x3 x4 x5 x6 x7 x8)⟩]

/-- Its stores tile the buffer (checked by evaluation), so they cover it. -/
theorem cover0_16 (p0 : Vec F S256x512 .f32) (y : S256x512.Idx) :
    ∃ pc ∈ ([⟨r0_7, p0⟩] : List (View.Piece (Elt F) S256x512 .f32)), y ∈ pc.1.set :=
  View.cover_of_tiled [⟨r0_7, p0⟩] S256x512.size (by rfl) y

/-- Window 17's staging buffer after the body, from the input windows' blocks: its 1 store as pieces, LAST
    FIRST (Lib/Pipeline/FrameBody.lean `View.canon`; the payloads are the skeleton's and the values stated above). -/
def out0_17 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x512 .f32 :=
  View.canon [⟨r0_7, k0_pay49 (k0_pay47 (k0_pay68 x0 x1 x2 x3 x4 x5 x6 x7 x8) (View.ld x4 r0_10)) (k0_pay48 (View.ld x8 r0_3)) (View.ld x8 r0_4) (View.ld x8 r0_5)⟩]

/-- Its stores tile the buffer (checked by evaluation), so they cover it. -/
theorem cover0_17 (p0 : Vec F S256x512 .f32) (y : S256x512.Idx) :
    ∃ pc ∈ ([⟨r0_7, p0⟩] : List (View.Piece (Elt F) S256x512 .f32)), y ∈ pc.1.set :=
  View.cover_of_tiled [⟨r0_7, p0⟩] S256x512.size (by rfl) y

/-- Window 18's staging buffer after the body, from the input windows' blocks: its 1 store as pieces, LAST
    FIRST (Lib/Pipeline/FrameBody.lean `View.canon`; the payloads are the skeleton's and the values stated above). -/
def out0_18 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x128 .f32 :=
  View.canon [⟨r0_11, k0_pay52 (k0_pay50 (k0_pay78 x0 x1 x2 x3 x4 x5 x6 x7 x8)) (k0_pay51 (View.ld x8 r0_3)) (View.ld x8 r0_4) (View.ld x8 r0_5)⟩]

/-- Its stores tile the buffer (checked by evaluation), so they cover it. -/
theorem cover0_18 (p0 : Vec F S256x128 .f32) (y : S256x128.Idx) :
    ∃ pc ∈ ([⟨r0_11, p0⟩] : List (View.Piece (Elt F) S256x128 .f32)), y ∈ pc.1.set :=
  View.cover_of_tiled [⟨r0_11, p0⟩] S256x128.size (by rfl) y

/-- Window 19's staging buffer after the body, from the input windows' blocks: its 1 store as pieces, LAST
    FIRST (Lib/Pipeline/FrameBody.lean `View.canon`; the payloads are the skeleton's and the values stated above). -/
def out0_19 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x128 .f32 :=
  View.canon [⟨r0_11, k0_pay53 (k0_pay78 x0 x1 x2 x3 x4 x5 x6 x7 x8)⟩]

/-- Its stores tile the buffer (checked by evaluation), so they cover it. -/
theorem cover0_19 (p0 : Vec F S256x128 .f32) (y : S256x128.Idx) :
    ∃ pc ∈ ([⟨r0_11, p0⟩] : List (View.Piece (Elt F) S256x128 .f32)), y ∈ pc.1.set :=
  View.cover_of_tiled [⟨r0_11, p0⟩] S256x128.size (by rfl) y

/-- Window 20's staging buffer after the body, from the input windows' blocks: its 1 store as pieces, LAST
    FIRST (Lib/Pipeline/FrameBody.lean `View.canon`; the payloads are the skeleton's and the values stated above). -/
def out0_20 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x512 .f32 :=
  View.canon [⟨r0_7, k0_pay54 (k0_pay78 x0 x1 x2 x3 x4 x5 x6 x7 x8)⟩]

/-- Its stores tile the buffer (checked by evaluation), so they cover it. -/
theorem cover0_20 (p0 : Vec F S256x512 .f32) (y : S256x512.Idx) :
    ∃ pc ∈ ([⟨r0_7, p0⟩] : List (View.Piece (Elt F) S256x512 .f32)), y ∈ pc.1.set :=
  View.cover_of_tiled [⟨r0_7, p0⟩] S256x512.size (by rfl) y

/-- Window 21's staging buffer after the body, from the input windows' blocks: its 1 store as pieces, LAST
    FIRST (Lib/Pipeline/FrameBody.lean `View.canon`; the payloads are the skeleton's and the values stated above). -/
def out0_21 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x512 .f32 :=
  View.canon [⟨r0_7, k0_pay63 (k0_pay56 (k0_pay68 x0 x1 x2 x3 x4 x5 x6 x7 x8) (View.ld x5 r0_12)) (k0_pay57 (View.ld x8 r0_3)) (k0_pay58 (View.ld x8 r0_4)) (k0_pay59 (View.ld x8 r0_5)) (k0_pay60 (k0_pay68 x0 x1 x2 x3 x4 x5 x6 x7 x8) (View.ld x5 r0_12)) (k0_pay61 (k0_pay68 x0 x1 x2 x3 x4 x5 x6 x7 x8) (View.ld x5 r0_12) (View.ld x8 r0_3)) (k0_pay62 (k0_pay68 x0 x1 x2 x3 x4 x5 x6 x7 x8) (View.ld x5 r0_12) (View.ld x8 r0_4))⟩]

/-- Its stores tile the buffer (checked by evaluation), so they cover it. -/
theorem cover0_21 (p0 : Vec F S256x512 .f32) (y : S256x512.Idx) :
    ∃ pc ∈ ([⟨r0_7, p0⟩] : List (View.Piece (Elt F) S256x512 .f32)), y ∈ pc.1.set :=
  View.cover_of_tiled [⟨r0_7, p0⟩] S256x512.size (by rfl) y

/-- Window 22's staging buffer after the body, from the input windows' blocks: its 1 store as pieces, LAST
    FIRST (Lib/Pipeline/FrameBody.lean `View.canon`; the payloads are the skeleton's and the values stated above). -/
def out0_22 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x64 .f32 :=
  View.canon [⟨r0_13, k0_pay1 (k0_pay80 x0 x1 x2 x3 x4 x5 x6 x7 x8) (k0_pay65 (View.ld x8 r0_5)) (k0_pay66 (k0_pay79 x0 x1 x2 x3 x4 x5 x6 x7 x8) (View.ld x8 r0_3)) (k0_pay67 (k0_pay79 x0 x1 x2 x3 x4 x5 x6 x7 x8) (View.ld x8 r0_4))⟩]

/-- Its stores tile the buffer (checked by evaluation), so they cover it. -/
theorem cover0_22 (p0 : Vec F S256x64 .f32) (y : S256x64.Idx) :
    ∃ pc ∈ ([⟨r0_13, p0⟩] : List (View.Piece (Elt F) S256x64 .f32)), y ∈ pc.1.set :=
  View.cover_of_tiled [⟨r0_13, p0⟩] S256x64.size (by rfl) y

/-- Window 23's staging buffer after the body, from the input windows' blocks: its 1 store as pieces, LAST
    FIRST (Lib/Pipeline/FrameBody.lean `View.canon`; the payloads are the skeleton's and the values stated above). -/
def out0_23 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x8 .f32 :=
  View.canon [⟨r0_14, k0_pay2 (k0_pay80 x0 x1 x2 x3 x4 x5 x6 x7 x8)⟩]

/-- Its stores tile the buffer (checked by evaluation), so they cover it. -/
theorem cover0_23 (p0 : Vec F S256x8 .f32) (y : S256x8.Idx) :
    ∃ pc ∈ ([⟨r0_14, p0⟩] : List (View.Piece (Elt F) S256x8 .f32)), y ∈ pc.1.set :=
  View.cover_of_tiled [⟨r0_14, p0⟩] S256x8.size (by rfl) y

/-- Window 24's staging buffer after the body, from the input windows' blocks: its 1 store as pieces, LAST
    FIRST (Lib/Pipeline/FrameBody.lean `View.canon`; the payloads are the skeleton's and the values stated above). -/
def out0_24 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x512 .f32 :=
  View.canon [⟨r0_7, k0_pay4 (k0_pay68 x0 x1 x2 x3 x4 x5 x6 x7 x8) (View.ld x6 r0_15)⟩]

/-- Its stores tile the buffer (checked by evaluation), so they cover it. -/
theorem cover0_24 (p0 : Vec F S256x512 .f32) (y : S256x512.Idx) :
    ∃ pc ∈ ([⟨r0_7, p0⟩] : List (View.Piece (Elt F) S256x512 .f32)), y ∈ pc.1.set :=
  View.cover_of_tiled [⟨r0_7, p0⟩] S256x512.size (by rfl) y

/-- Window 25's staging buffer after the body, from the input windows' blocks: its 1 store as pieces, LAST
    FIRST (Lib/Pipeline/FrameBody.lean `View.canon`; the payloads are the skeleton's and the values stated above). -/
def out0_25 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x512 .f32 :=
  View.canon [⟨r0_7, k0_pay5 (k0_pay68 x0 x1 x2 x3 x4 x5 x6 x7 x8) (View.ld x6 r0_15)⟩]

/-- Its stores tile the buffer (checked by evaluation), so they cover it. -/
theorem cover0_25 (p0 : Vec F S256x512 .f32) (y : S256x512.Idx) :
    ∃ pc ∈ ([⟨r0_7, p0⟩] : List (View.Piece (Elt F) S256x512 .f32)), y ∈ pc.1.set :=
  View.cover_of_tiled [⟨r0_7, p0⟩] S256x512.size (by rfl) y

/-- Window 26's staging buffer after the body, from the input windows' blocks: its 1 store as pieces, LAST
    FIRST (Lib/Pipeline/FrameBody.lean `View.canon`; the payloads are the skeleton's and the values stated above). -/
def out0_26 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x512 .bf16 :=
  View.canon [⟨r0_7, k0_pay43 (k0_pay71 x0 x1 x2 x3 x4 x5 x6 x7 x8) (k0_pay72 x0 x1 x2 x3 x4 x5 x6 x7 x8) (k0_pay73 x0 x1 x2 x3 x4 x5 x6 x7 x8) (k0_pay74 x0 x1 x2 x3 x4 x5 x6 x7 x8) (k0_pay75 x0 x1 x2 x3 x4 x5 x6 x7 x8) (k0_pay76 x0 x1 x2 x3 x4 x5 x6 x7 x8) (k0_pay77 x0 x1 x2 x3 x4 x5 x6 x7 x8)⟩]

/-- Its stores tile the buffer (checked by evaluation), so they cover it. -/
theorem cover0_26 (p0 : Vec F S256x512 .bf16) (y : S256x512.Idx) :
    ∃ pc ∈ ([⟨r0_7, p0⟩] : List (View.Piece (Elt F) S256x512 .bf16)), y ∈ pc.1.set :=
  View.cover_of_tiled [⟨r0_7, p0⟩] S256x512.size (by rfl) y

/-- Window 27's staging buffer after the body, from the input windows' blocks: its 1 store as pieces, LAST
    FIRST (Lib/Pipeline/FrameBody.lean `View.canon`; the payloads are the skeleton's and the values stated above). -/
def out0_27 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S256x512 .bf16 :=
  View.canon [⟨r0_7, k0_pay44 (k0_pay70 x0 x1 x2 x3 x4 x5 x6 x7 x8)⟩]

/-- Its stores tile the buffer (checked by evaluation), so they cover it. -/
theorem cover0_27 (p0 : Vec F S256x512 .bf16) (y : S256x512.Idx) :
    ∃ pc ∈ ([⟨r0_7, p0⟩] : List (View.Piece (Elt F) S256x512 .bf16)), y ∈ pc.1.set :=
  View.cover_of_tiled [⟨r0_7, p0⟩] S256x512.size (by rfl) y

/-- Window 28's staging buffer after the body, from the input windows' blocks: its 1 store as pieces, LAST
    FIRST (Lib/Pipeline/FrameBody.lean `View.canon`; the payloads are the skeleton's and the values stated above). -/
def out0_28 (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) : Vec F S1x1x512 .f32 :=
  View.canon [⟨r0_9, k0_pay45 (k0_pay71 x0 x1 x2 x3 x4 x5 x6 x7 x8) (k0_pay72 x0 x1 x2 x3 x4 x5 x6 x7 x8) (k0_pay73 x0 x1 x2 x3 x4 x5 x6 x7 x8) (k0_pay74 x0 x1 x2 x3 x4 x5 x6 x7 x8) (k0_pay75 x0 x1 x2 x3 x4 x5 x6 x7 x8) (k0_pay76 x0 x1 x2 x3 x4 x5 x6 x7 x8) (k0_pay77 x0 x1 x2 x3 x4 x5 x6 x7 x8)⟩]

/-- Its stores tile the buffer (checked by evaluation), so they cover it. -/
theorem cover0_28 (p0 : Vec F S1x1x512 .f32) (y : S1x1x512.Idx) :
    ∃ pc ∈ ([⟨r0_9, p0⟩] : List (View.Piece (Elt F) S1x1x512 .f32)), y ∈ pc.1.set :=
  View.cover_of_tiled [⟨r0_9, p0⟩] S1x1x512.size (by rfl) y

/-! ## The body's triple -/

/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x1536 .bf16) (harg3 : arg3.IsWhole) (arg4 : Memref sig .tc .vmem S1024x2048 .bf16) (harg4 : arg4.IsWhole) (arg5 : Memref sig .tc .vmem S1024x1280 .bf16) (harg5 : arg5.IsWhole) (arg6 : Memref sig .tc .vmem S1024x640 .bf16) (harg6 : arg6.IsWhole) (arg7 : Memref sig .tc .vmem S1024x1024 .bf16) (harg7 : arg7.IsWhole) (arg8 : Memref sig .tc .vmem S3x256x128 .f32) (harg8 : arg8.IsWhole) (arg9 : Memref sig .tc .vmem S3x256x128 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x512 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .f32) (harg17 : arg17.IsWhole) (arg18 : Memref sig .tc .vmem S256x512 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x512 .f32) (harg21 : arg21.IsWhole) (arg22 : Memref sig .tc .vmem S256x512 .f32) (harg22 : arg22.IsWhole) (arg23 : Memref sig .tc .vmem S256x64 .f32) (harg23 : arg23.IsWhole) (arg24 : Memref sig .tc .vmem S256x8 .f32) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .bf16) (harg27 : arg27.IsWhole) (arg28 : Memref sig .tc .vmem S256x512 .bf16) (harg28 : arg28.IsWhole) (arg29 : Memref sig .tc .vmem S1x1x512 .f32) (harg29 : arg29.IsWhole)
    (x0 : Vec F S256x1024 .f32) (x1 : Vec F S1x1024 .f32) (x2 : Vec F S1024x1536 .bf16) (x3 : Vec F S1024x2048 .bf16) (x4 : Vec F S1024x1280 .bf16) (x5 : Vec F S1024x640 .bf16) (x6 : Vec F S1024x1024 .bf16) (x7 : Vec F S3x256x128 .f32) (x8 : Vec F S3x256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8) ∗ owns (c : Thread nD τ) arg13 fullShare (out0_12 x0 x1 x2 x3 x4 x5 x6 x7 x8) ∗ owns (c : Thread nD τ) arg14 fullShare (out0_13 x0 x1 x2 x3 x4 x5 x6 x7 x8) ∗ owns (c : Thread nD τ) arg15 fullShare (out0_14 x0 x1 x2 x3 x4 x5 x6 x7 x8) ∗ owns (c : Thread nD τ) arg16 fullShare (out0_15 x0 x1 x2 x3 x4 x5 x6 x7 x8) ∗ owns (c : Thread nD τ) arg17 fullShare (out0_16 x0 x1 x2 x3 x4 x5 x6 x7 x8) ∗ owns (c : Thread nD τ) arg18 fullShare (out0_17 x0 x1 x2 x3 x4 x5 x6 x7 x8) ∗ owns (c : Thread nD τ) arg19 fullShare (out0_18 x0 x1 x2 x3 x4 x5 x6 x7 x8) ∗ owns (c : Thread nD τ) arg20 fullShare (out0_19 x0 x1 x2 x3 x4 x5 x6 x7 x8) ∗ owns (c : Thread nD τ) arg21 fullShare (out0_20 x0 x1 x2 x3 x4 x5 x6 x7 x8) ∗ owns (c : Thread nD τ) arg22 fullShare (out0_21 x0 x1 x2 x3 x4 x5 x6 x7 x8) ∗ owns (c : Thread nD τ) arg23 fullShare (out0_22 x0 x1 x2 x3 x4 x5 x6 x7 x8) ∗ owns (c : Thread nD τ) arg24 fullShare (out0_23 x0 x1 x2 x3 x4 x5 x6 x7 x8) ∗ owns (c : Thread nD τ) arg25 fullShare (out0_24 x0 x1 x2 x3 x4 x5 x6 x7 x8) ∗ owns (c : Thread nD τ) arg26 fullShare (out0_25 x0 x1 x2 x3 x4 x5 x6 x7 x8) ∗ owns (c : Thread nD τ) arg27 fullShare (out0_26 x0 x1 x2 x3 x4 x5 x6 x7 x8) ∗ owns (c : Thread nD τ) arg28 fullShare (out0_27 x0 x1 x2 x3 x4 x5 x6 x7 x8) ∗ owns (c : Thread nD τ) arg29 fullShare (out0_28 x0 x1 x2 x3 x4 x5 x6 x7 x8)) -∗ K ⟨⟩))
      ⊢ wp frame (wpE (defs₀ (F := F)) Variants.none c none) E (cc0_project i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
  simp only [cc0_project_eq_skeleton]; unfold cc0_project_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  isplitl [H12]
  · iexists _; isplitr
    swap; · iexact H12
    ipureintro
    refine (View.read_writes_eq_canon _ _ _ (cover0_12 _)).trans ?_
    rfl
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  iexists _; isplitr
  swap; · iexact H28
  ipureintro
  refine (View.read_writes_eq_canon _ _ _ (cover0_28 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
    | ⟨10, _⟩ => out0_10 (iblk m c 0 t) (iblk m c 1 t) (iblk m c 2 t) (iblk m c 3 t) (iblk m c 4 t) (iblk m c 5 t) (iblk m c 6 t) (iblk m c 7 t) (iblk m c 8 t)
    | ⟨11, _⟩ => out0_11 (iblk m c 0 t) (iblk m c 1 t) (iblk m c 2 t) (iblk m c 3 t) (iblk m c 4 t) (iblk m c 5 t) (iblk m c 6 t) (iblk m c 7 t) (iblk m c 8 t)
    | ⟨12, _⟩ => out0_12 (iblk m c 0 t) (iblk m c 1 t) (iblk m c 2 t) (iblk m c 3 t) (iblk m c 4 t) (iblk m c 5 t) (iblk m c 6 t) (iblk m c 7 t) (iblk m c 8 t)
    | ⟨13, _⟩ => out0_13 (iblk m c 0 t) (iblk m c 1 t) (iblk m c 2 t) (iblk m c 3 t) (iblk m c 4 t) (iblk m c 5 t) (iblk m c 6 t) (iblk m c 7 t) (iblk m c 8 t)
    | ⟨14, _⟩ => out0_14 (iblk m c 0 t) (iblk m c 1 t) (iblk m c 2 t) (iblk m c 3 t) (iblk m c 4 t) (iblk m c 5 t) (iblk m c 6 t) (iblk m c 7 t) (iblk m c 8 t)
    | ⟨15, _⟩ => out0_15 (iblk m c 0 t) (iblk m c 1 t) (iblk m c 2 t) (iblk m c 3 t) (iblk m c 4 t) (iblk m c 5 t) (iblk m c 6 t) (iblk m c 7 t) (iblk m c 8 t)
    | ⟨16, _⟩ => out0_16 (iblk m c 0 t) (iblk m c 1 t) (iblk m c 2 t) (iblk m c 3 t) (iblk m c 4 t) (iblk m c 5 t) (iblk m c 6 t) (iblk m c 7 t) (iblk m c 8 t)
    | ⟨17, _⟩ => out0_17 (iblk m c 0 t) (iblk m c 1 t) (iblk m c 2 t) (iblk m c 3 t) (iblk m c 4 t) (iblk m c 5 t) (iblk m c 6 t) (iblk m c 7 t) (iblk m c 8 t)
    | ⟨18, _⟩ => out0_18 (iblk m c 0 t) (iblk m c 1 t) (iblk m c 2 t) (iblk m c 3 t) (iblk m c 4 t) (iblk m c 5 t) (iblk m c 6 t) (iblk m c 7 t) (iblk m c 8 t)
    | ⟨19, _⟩ => out0_19 (iblk m c 0 t) (iblk m c 1 t) (iblk m c 2 t) (iblk m c 3 t) (iblk m c 4 t) (iblk m c 5 t) (iblk m c 6 t) (iblk m c 7 t) (iblk m c 8 t)
    | ⟨20, _⟩ => out0_20 (iblk m c 0 t) (iblk m c 1 t) (iblk m c 2 t) (iblk m c 3 t) (iblk m c 4 t) (iblk m c 5 t) (iblk m c 6 t) (iblk m c 7 t) (iblk m c 8 t)
    | ⟨21, _⟩ => out0_21 (iblk m c 0 t) (iblk m c 1 t) (iblk m c 2 t) (iblk m c 3 t) (iblk m c 4 t) (iblk m c 5 t) (iblk m c 6 t) (iblk m c 7 t) (iblk m c 8 t)
    | ⟨22, _⟩ => out0_22 (iblk m c 0 t) (iblk m c 1 t) (iblk m c 2 t) (iblk m c 3 t) (iblk m c 4 t) (iblk m c 5 t) (iblk m c 6 t) (iblk m c 7 t) (iblk m c 8 t)
    | ⟨23, _⟩ => out0_23 (iblk m c 0 t) (iblk m c 1 t) (iblk m c 2 t) (iblk m c 3 t) (iblk m c 4 t) (iblk m c 5 t) (iblk m c 6 t) (iblk m c 7 t) (iblk m c 8 t)
    | ⟨24, _⟩ => out0_24 (iblk m c 0 t) (iblk m c 1 t) (iblk m c 2 t) (iblk m c 3 t) (iblk m c 4 t) (iblk m c 5 t) (iblk m c 6 t) (iblk m c 7 t) (iblk m c 8 t)
    | ⟨25, _⟩ => out0_25 (iblk m c 0 t) (iblk m c 1 t) (iblk m c 2 t) (iblk m c 3 t) (iblk m c 4 t) (iblk m c 5 t) (iblk m c 6 t) (iblk m c 7 t) (iblk m c 8 t)
    | ⟨26, _⟩ => out0_26 (iblk m c 0 t) (iblk m c 1 t) (iblk m c 2 t) (iblk m c 3 t) (iblk m c 4 t) (iblk m c 5 t) (iblk m c 6 t) (iblk m c 7 t) (iblk m c 8 t)
    | ⟨27, _⟩ => out0_27 (iblk m c 0 t) (iblk m c 1 t) (iblk m c 2 t) (iblk m c 3 t) (iblk m c 4 t) (iblk m c 5 t) (iblk m c 6 t) (iblk m c 7 t) (iblk m c 8 t)
    | ⟨28, _⟩ => out0_28 (iblk m c 0 t) (iblk m c 1 t) (iblk m c 2 t) (iblk m c 3 t) (iblk m c 4 t) (iblk m c 5 t) (iblk m c 6 t) (iblk m c 7 t) (iblk m c 8 t)
    | ⟨_ + 29, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  iintro ⟨H0, H1, H2, H3, H4, H5, H6, H7, H8, H9, H10, H11, H12, H13, H14, H15, H16, H17, H18, H19, H20, H21, H22, H23, H24, H25, H26, H27, H28⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iexact H28

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel4Ideal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel4Ideal.Frame

end
-- ==== Proof.ProjModel.lean ====
module

public import proofs.«01_k».proof.Proof.LayerModel

/-! The mathematics of the input projections at single entries, over the extended reals: a column of the projection, and the
rotary embedding of a head of 64 lanes by its halves. -/

@[expose] public section

noncomputable section

namespace Cert.Proj

open Idealize.ShloMosaic Cert.Layer

/-- One column of the projection: the normalised row against a column of the weight. -/
def projAt (x g : Fin 1024 → EReal) (w : Fin 1024 → EReal) : EReal := ∑ k : Fin 1024, rms x g k * w k

/-- The rotary embedding of a head `z` at lane `h`: the first `half` lanes and the next `half` turn as pairs by the angle of their number, the rest stay. -/
def roped (half : Nat) (hh : half ≤ 32) (ang : Nat → EReal) (z : Fin 64 → EReal) (h : Fin 64) : EReal :=
  if _h1 : h.val < half then z h * Ideal.cos (ang h.val) - z ⟨h.val + half, by omega⟩ * Ideal.sin (ang h.val)
  else if _h2 : h.val < 2 * half then z h * Ideal.cos (ang (h.val - half)) + z ⟨h.val - half, by omega⟩ * Ideal.sin (ang (h.val - half))
  else z h

/-- A slab of 128 lanes, turned by whole-slab rolls: every lane times `c`, plus the lane `128 - p` further times `sa`, plus the lane `128 - q` further
times `sb`. -/
def turned (p q : Nat) (z c sa sb : Fin 128 → EReal) (a : Fin 128) : EReal :=
  z a * c a + z ⟨(a.val + 128 - p) % 128, Nat.mod_lt _ (by omega)⟩ * sa a + z ⟨(a.val + 128 - q) % 128, Nat.mod_lt _ (by omega)⟩ * sb a

/-- What multiplies the lane itself. -/
def cosAt (half : Nat) (ang : Nat → EReal) (a : Nat) : EReal :=
  if a % 64 < half then Ideal.cos (ang (a % 64)) else if a % 64 < 2 * half then Ideal.cos (ang (a % 64 - half)) else 1
/-- What multiplies the lane `half` further. -/
def downAt (half : Nat) (ang : Nat → EReal) (a : Nat) : EReal := if a % 64 < half then -Ideal.sin (ang (a % 64)) else 0
/-- What multiplies the lane `half` before. -/
def upAt (half : Nat) (ang : Nat → EReal) (a : Nat) : EReal :=
  if a % 64 < half then 0 else if a % 64 < 2 * half then Ideal.sin (ang (a % 64 - half)) else 0

/-- A slab turned with these tables is its heads' rotary embedding. -/
theorem turned_eq_roped (half p q : Nat) (hh : half ≤ 32) (hp : p = 128 - half) (hq : q = half) (ang : Nat → EReal) (z c sa sb : Fin 128 → EReal)
    (hc : ∀ a, c a = cosAt half ang a.val) (ha : ∀ a, sa a = downAt half ang a.val) (hb : ∀ a, sb a = upAt half ang a.val) (a : Fin 128) :
    turned p q z c sa sb a = roped half hh ang (fun h => z ⟨a.val / 64 * 64 + h.val, by omega⟩) ⟨a.val % 64, Nat.mod_lt _ (by omega)⟩ := by
  subst hp hq
  unfold turned roped
  rw [hc, ha, hb]
  unfold cosAt downAt upAt
  have e0 : (⟨a.val / 64 * 64 + a.val % 64, by omega⟩ : Fin 128) = a := Fin.ext (by show a.val / 64 * 64 + a.val % 64 = a.val; omega)
  by_cases h1 : a.val % 64 < q
  · simp only [h1, if_true, dif_pos]
    rw [e0, mul_zero, add_zero, mul_neg, ← sub_eq_add_neg]
    congr 3
    exact Fin.ext (by show (a.val + 128 - (128 - q)) % 128 = a.val / 64 * 64 + (a.val % 64 + q); omega)
  · by_cases h2 : a.val % 64 < 2 * q
    · simp only [h1, h2, if_true, if_false, dif_pos, dif_neg, not_false_eq_true]
      rw [e0, mul_zero, add_zero]
      congr 3
      exact Fin.ext (by show (a.val + 128 - q) % 128 = a.val / 64 * 64 + (a.val % 64 - q); omega)
    · simp only [h1, h2, if_false, dif_neg, not_false_eq_true]
      rw [e0, mul_zero, add_zero, mul_zero, add_zero, mul_one]

/-- The angle of token `p` at pair `i`: the position times the base to the power `-2i / lanes`. -/
def angle (base lanes : BitVec 32) (p i : Nat) : EReal :=
  FloatOps.sitofp (F := Ideal) (φ := .f32) (BitVec.ofNat 32 p) *
    Ideal.pow (Ideal.ofBits .f32 base) (Ideal.div (-(FloatOps.sitofp (F := Ideal) (φ := .f32) (BitVec.ofNat 32 i)) * Ideal.ofBits .f32 0x40000000#32) (Ideal.ofBits .f32 lanes))

/-- Equal heads at one lane embed alike. -/
theorem roped_congr (half : Nat) (hh : half ≤ 32) (ang : Nat → EReal) {z z' : Fin 64 → EReal} {h h' : Fin 64} (hz : ∀ i, z i = z' i) (e : h = h') :
    roped half hh ang z h = roped half hh ang z' h' := by
  subst e
  rw [funext hz]

/-- Column `l` of the segment that starts at column `off` of the projection, at row `R`. -/
def colAt (X : Fin 32768 → Fin 1024 → EReal) (G : Fin 1024 → EReal) (W : Fin 1024 → Fin 10568 → EReal) (off n : Nat) (hn : off + n ≤ 10568)
    (R : Fin 32768) (l : Fin n) : EReal :=
  projAt (X R) G (fun k => W k ⟨off + l.val, by omega⟩)

/-- Column `l` of the segment that starts at column `off`, its heads of 64 lanes embedded at the row's token. -/
def ropeAt (half : Nat) (hh : half ≤ 32) (base lanes : BitVec 32) (X : Fin 32768 → Fin 1024 → EReal) (G : Fin 1024 → EReal)
    (W : Fin 1024 → Fin 10568 → EReal) (off n : Nat) (hn : off + n ≤ 10568) (hm : n % 64 = 0) (R : Fin 32768) (l : Fin n) : EReal :=
  roped half hh (angle base lanes (R.val % 4096)) (fun h => projAt (X R) G (fun k => W k ⟨off + (l.val / 64 * 64 + h.val), by omega⟩))
    ⟨l.val % 64, Nat.mod_lt _ (by omega)⟩

end Cert.Proj
end
-- ==== Proof.ProjTables.lean ====
module

public import proofs.«01_k».proof.Proof.ProjFrameIdeal
public import proofs.«01_k».proof.Proof.ProjModel
public import Idealize.ShloMosaic.Lib.Pipeline.ReadBack
public import Idealize.ShloMosaic.Lib.Pipeline.ValueKit
public import Idealize.ShloMosaic.Lib.Claim
public import Idealize.ShloMosaic.Lib.Pointwise
public import proofs.«01_k».proof.Proof.LayerModel

@[expose] public section

set_option maxRecDepth 131072
set_option maxHeartbeats 4000000

noncomputable section

/-! The two tables of cosines and sines the host lays out for the rotary embeddings, read at a lane of a token. -/

namespace Cert.Proj

open Cert.Kernel4Ideal Cert.Kernel4Ideal.Gen Cert.Kernel4Ideal.Frame Idealize.ShloMosaic Idealize.ShloMosaic.TcCoe Idealize.SL.Sem Cert.Layer
open Idealize.ShloMosaic.Pipeline (Dat)

/-- `k` of the host's last operations, from number `a`, run from the contents `σ`. -/
def seg (a k : Nat) (σ : Valuation τ sig (Elt Idealize.ShloMosaic.Ideal)) : Valuation τ sig (Elt Idealize.ShloMosaic.Ideal) :=
  StableHlo.after ((hostOps0_2.drop a).take k) σ

/-- A line of operations runs as its two parts in turn. -/
theorem after_app (l₁ l₂ : List (HloOp τ sig (Elt Idealize.ShloMosaic.Ideal))) (σ : Valuation τ sig (Elt Idealize.ShloMosaic.Ideal)) :
    StableHlo.after (l₁ ++ l₂) σ = StableHlo.after l₂ (StableHlo.after l₁ σ) := by
  induction l₁ generalizing σ with
  | nil => rfl
  | cons op l ih => exact ih _

/-- The last operations from number `a` on are `k` of them, then those from number `b = a + k` on. -/
theorem cut (a k b : Nat) (hb : a + k = b) (σ : Valuation τ sig (Elt Idealize.ShloMosaic.Ideal)) :
    StableHlo.after (hostOps0_2.drop a) σ = StableHlo.after (hostOps0_2.drop b) (seg a k σ) := by
  subst hb
  unfold seg
  rw [← after_app, ← List.drop_drop, List.take_append_drop]

/-- A table of 64 lanes laid twice side by side. -/
theorem twice (A : S4096x64.Idx → EReal) (p : Fin 4096) (a : Fin 128) :
    shapeCast S4096x128 (broadcastInDim S1x4096x2x64 ![0, 1, 2, 3] bcast_S1x4096x1x64_S1x4096x2x64_0_1_2_3
      (shapeCast S1x4096x1x64 A shapeCasts_S4096x64_S1x4096x1x64)) shapeCasts_S1x4096x2x64_S4096x128 (ix2 p a)
      = A (ix2 p ⟨a.val % 64, Nat.mod_lt _ (by omega)⟩) := by
  pointwise

/-- The same, as one of three tables. -/
theorem twice_slab (A : S4096x64.Idx → EReal) (p : Fin 4096) (a : Fin 128) :
    broadcastInDim S1x4096x128 ![1, 2] bcast_S4096x128_S1x4096x128_1_2 (shapeCast S4096x128 (broadcastInDim S1x4096x2x64 ![0, 1, 2, 3] bcast_S1x4096x1x64_S1x4096x2x64_0_1_2_3
      (shapeCast S1x4096x1x64 A shapeCasts_S4096x64_S1x4096x1x64)) shapeCasts_S1x4096x2x64_S4096x128) (ix3 0 p a)
      = A (ix2 p ⟨a.val % 64, Nat.mod_lt _ (by omega)⟩) := by
  refine Eq.trans ?_ (twice A p a)
  generalize shapeCast S4096x128 _ _ = B
  pointwise

/-- Table 0 of the three. -/
theorem three_0 (A B C : S1x4096x128.Idx → EReal) (p : Fin 4096) (a : Fin 128) :
    concatenate S3x4096x128 0 [⟨S1x4096x128, A⟩, ⟨S1x4096x128, B⟩, ⟨S1x4096x128, C⟩] concatenates_S1x4096x128_S1x4096x128_S1x4096x128_S3x4096x128_d0 (ix3 0 p a) = A (ix3 0 p a) := by
  pointwise

/-- Table 1 of the three. -/
theorem three_1 (A B C : S1x4096x128.Idx → EReal) (p : Fin 4096) (a : Fin 128) :
    concatenate S3x4096x128 0 [⟨S1x4096x128, A⟩, ⟨S1x4096x128, B⟩, ⟨S1x4096x128, C⟩] concatenates_S1x4096x128_S1x4096x128_S1x4096x128_S3x4096x128_d0 (ix3 1 p a) = B (ix3 0 p a) := by
  pointwise

/-- Table 2 of the three. -/
theorem three_2 (A B C : S1x4096x128.Idx → EReal) (p : Fin 4096) (a : Fin 128) :
    concatenate S3x4096x128 0 [⟨S1x4096x128, A⟩, ⟨S1x4096x128, B⟩, ⟨S1x4096x128, C⟩] concatenates_S1x4096x128_S1x4096x128_S1x4096x128_S3x4096x128_d0 (ix3 2 p a) = C (ix3 0 p a) := by
  pointwise

variable (σ : Valuation τ sig (Elt Idealize.ShloMosaic.Ideal))
/-- The cosine of a pair's angle, at a token. -/
theorem cos_r (h : σ main_v0 = iotaInDim S4096 32 0) (p : Fin 4096) (i : Fin 32) : @Eq EReal (seg 0 31 σ main_v29 (ix2 p i)) (Ideal.cos (angle 0x461C4000#32 0x42800000#32 p.val i.val)) := by
  unfold seg
  simp only [hostOps0_2, List.drop_succ_cons, List.take_succ_cons, List.take_zero, List.drop_zero]
  entry_read
  rw [h]
  pointwise [angle]

/-- The sine of a pair's angle, at a token. -/
theorem sin_r (h : σ main_v0 = iotaInDim S4096 32 0) (p : Fin 4096) (i : Fin 32) : @Eq EReal (seg 0 31 σ main_v30 (ix2 p i)) (Ideal.sin (angle 0x461C4000#32 0x42800000#32 p.val i.val)) := by
  unfold seg
  simp only [hostOps0_2, List.drop_succ_cons, List.take_succ_cons, List.take_zero, List.drop_zero]
  entry_read
  rw [h]
  pointwise [angle]

/-- The zeros of a pair's width. -/
theorem zero_r (p : Fin 4096) (i : Fin 32) : @Eq EReal (seg 0 31 σ main_v31 (ix2 p i)) 0 := by
  unfold seg
  simp only [hostOps0_2, List.drop_succ_cons, List.take_succ_cons, List.take_zero, List.drop_zero]
  entry_read
  pointwise [Ideal.ofBits_zero_f32]

/-- Three tables side by side, at a lane. -/
theorem beside_r (A B : S4096x32.Idx → EReal) (C : S4096x0.Idx → EReal) (p : Fin 4096) (a : Fin 64) :
    concatenate S4096x64 1 [⟨S4096x32, A⟩, ⟨S4096x32, B⟩, ⟨S4096x0, C⟩] concatenates_S4096x32_S4096x32_S4096x0_S4096x64_d1 (ix2 p a) = (if h1 : a.val < 32 then A (ix2 p ⟨a.val, h1⟩) else B (ix2 p ⟨a.val - 32, by omega⟩)) := by
  by_cases h1 : a.val < 32
  · rw [dif_pos h1]
    pointwise
    all_goals rw [dif_pos h1]
  · rw [dif_neg h1]
    pointwise
    all_goals rw [dif_neg h1, dif_pos (show a.val - 32 < 32 by omega)]

theorem join_c_r : seg 31 1 σ main_v34 = concatenate S4096x64 1 [⟨S4096x32, σ main_v29⟩, ⟨S4096x32, σ main_v29⟩, ⟨S4096x0, σ main_v33⟩] concatenates_S4096x32_S4096x32_S4096x0_S4096x64_d1 := by
  unfold seg
  simp only [hostOps0_2, List.drop_succ_cons, List.take_succ_cons, List.take_zero, List.drop_zero]
  rw [StableHlo.after_cons, StableHlo.after_nil, StableHlo.nary_result]
  rfl

theorem join_d_r : seg 33 1 σ main_v36 = concatenate S4096x64 1 [⟨S4096x32, σ main_v35⟩, ⟨S4096x32, σ main_v31⟩, ⟨S4096x0, σ main_v32⟩] concatenates_S4096x32_S4096x32_S4096x0_S4096x64_d1 := by
  unfold seg
  simp only [hostOps0_2, List.drop_succ_cons, List.take_succ_cons, List.take_zero, List.drop_zero]
  rw [StableHlo.after_cons, StableHlo.after_nil, StableHlo.nary_result]
  rfl

theorem join_u_r : seg 34 1 σ main_v37 = concatenate S4096x64 1 [⟨S4096x32, σ main_v31⟩, ⟨S4096x32, σ main_v30⟩, ⟨S4096x0, σ main_v32⟩] concatenates_S4096x32_S4096x32_S4096x0_S4096x64_d1 := by
  unfold seg
  simp only [hostOps0_2, List.drop_succ_cons, List.take_succ_cons, List.take_zero, List.drop_zero]
  rw [StableHlo.after_cons, StableHlo.after_nil, StableHlo.nary_result]
  rfl

theorem join_r : seg 47 1 σ main_v50 = concatenate S3x4096x128 0 [⟨S1x4096x128, σ main_v47⟩, ⟨S1x4096x128, σ main_v48⟩, ⟨S1x4096x128, σ main_v49⟩] concatenates_S1x4096x128_S1x4096x128_S1x4096x128_S3x4096x128_d0 := by
  unfold seg
  simp only [hostOps0_2, List.drop_succ_cons, List.take_succ_cons, List.take_zero, List.drop_zero]
  rw [StableHlo.after_cons, StableHlo.after_nil, StableHlo.nary_result]
  rfl

theorem neg_r : seg 32 1 σ main_v35 = (Host.negf (σ main_v30 : FVec Idealize.ShloMosaic.Ideal S4096x32 .f32) : FVec Idealize.ShloMosaic.Ideal S4096x32 .f32) := by
  unfold seg
  simp only [hostOps0_2, List.drop_succ_cons, List.take_succ_cons, List.take_zero, List.drop_zero]
  entry_read
  rfl

theorem slab_c_r (p : Fin 4096) (a : Fin 128) : @Eq EReal (seg 35 12 σ main_v47 (ix3 0 p a)) (σ main_v34 (ix2 p ⟨a.val % 64, Nat.mod_lt _ (by omega)⟩)) := by
  unfold seg
  simp only [hostOps0_2, List.drop_succ_cons, List.take_succ_cons, List.take_zero, List.drop_zero]
  entry_read
  exact twice_slab _ p a

theorem slab_d_r (p : Fin 4096) (a : Fin 128) : @Eq EReal (seg 35 12 σ main_v48 (ix3 0 p a)) (σ main_v36 (ix2 p ⟨a.val % 64, Nat.mod_lt _ (by omega)⟩)) := by
  unfold seg
  simp only [hostOps0_2, List.drop_succ_cons, List.take_succ_cons, List.take_zero, List.drop_zero]
  entry_read
  exact twice_slab _ p a

theorem slab_u_r (p : Fin 4096) (a : Fin 128) : @Eq EReal (seg 35 12 σ main_v49 (ix3 0 p a)) (σ main_v37 (ix2 p ⟨a.val % 64, Nat.mod_lt _ (by omega)⟩)) := by
  unfold seg
  simp only [hostOps0_2, List.drop_succ_cons, List.take_succ_cons, List.take_zero, List.drop_zero]
  entry_read
  exact twice_slab _ p a

theorem keep6_sin_r : seg 31 1 σ main_v30 = σ main_v30 := by
  unfold seg
  simp only [hostOps0_2, List.drop_succ_cons, List.take_succ_cons, List.take_zero, List.drop_zero]
  entry_read
  rfl

theorem keep6_z_r : seg 31 1 σ main_v31 = σ main_v31 := by
  unfold seg
  simp only [hostOps0_2, List.drop_succ_cons, List.take_succ_cons, List.take_zero, List.drop_zero]
  entry_read
  rfl

theorem keep6_zr_r : seg 31 1 σ main_v32 = σ main_v32 := by
  unfold seg
  simp only [hostOps0_2, List.drop_succ_cons, List.take_succ_cons, List.take_zero, List.drop_zero]
  entry_read
  rfl

theorem keep6_on_r : seg 31 1 σ main_v33 = σ main_v33 := by
  unfold seg
  simp only [hostOps0_2, List.drop_succ_cons, List.take_succ_cons, List.take_zero, List.drop_zero]
  entry_read
  rfl

theorem keep6_cos_r : seg 31 1 σ main_v29 = σ main_v29 := by
  unfold seg
  simp only [hostOps0_2, List.drop_succ_cons, List.take_succ_cons, List.take_zero, List.drop_zero]
  entry_read
  rfl

theorem keep7_sin_r : seg 32 1 σ main_v30 = σ main_v30 := by
  unfold seg
  simp only [hostOps0_2, List.drop_succ_cons, List.take_succ_cons, List.take_zero, List.drop_zero]
  entry_read
  rfl

theorem keep7_z_r : seg 32 1 σ main_v31 = σ main_v31 := by
  unfold seg
  simp only [hostOps0_2, List.drop_succ_cons, List.take_succ_cons, List.take_zero, List.drop_zero]
  entry_read
  rfl

theorem keep7_zr_r : seg 32 1 σ main_v32 = σ main_v32 := by
  unfold seg
  simp only [hostOps0_2, List.drop_succ_cons, List.take_succ_cons, List.take_zero, List.drop_zero]
  entry_read
  rfl

theorem keep7_c_r : seg 32 1 σ main_v34 = σ main_v34 := by
  unfold seg
  simp only [hostOps0_2, List.drop_succ_cons, List.take_succ_cons, List.take_zero, List.drop_zero]
  entry_read
  rfl

theorem keep8_sin_r : seg 33 1 σ main_v30 = σ main_v30 := by
  unfold seg
  simp only [hostOps0_2, List.drop_succ_cons, List.take_succ_cons, List.take_zero, List.drop_zero]
  entry_read
  rfl

theorem keep8_z_r : seg 33 1 σ main_v31 = σ main_v31 := by
  unfold seg
  simp only [hostOps0_2, List.drop_succ_cons, List.take_succ_cons, List.take_zero, List.drop_zero]
  entry_read
  rfl

theorem keep8_zr_r : seg 33 1 σ main_v32 = σ main_v32 := by
  unfold seg
  simp only [hostOps0_2, List.drop_succ_cons, List.take_succ_cons, List.take_zero, List.drop_zero]
  entry_read
  rfl

theorem keep8_c_r : seg 33 1 σ main_v34 = σ main_v34 := by
  unfold seg
  simp only [hostOps0_2, List.drop_succ_cons, List.take_succ_cons, List.take_zero, List.drop_zero]
  entry_read
  rfl

theorem keep9_c_r : seg 34 1 σ main_v34 = σ main_v34 := by
  unfold seg
  simp only [hostOps0_2, List.drop_succ_cons, List.take_succ_cons, List.take_zero, List.drop_zero]
  entry_read
  rfl

theorem keep9_d_r : seg 34 1 σ main_v36 = σ main_v36 := by
  unfold seg
  simp only [hostOps0_2, List.drop_succ_cons, List.take_succ_cons, List.take_zero, List.drop_zero]
  entry_read
  rfl

/-- The host's operations that lay out this table. -/
def lay_r : Valuation τ sig (Elt Idealize.ShloMosaic.Ideal) :=
  seg 47 1 (seg 35 12 (seg 34 1 (seg 33 1 (seg 32 1 (seg 31 1 (seg 0 31 σ))))))

/-- What multiplies a lane itself. -/
theorem lay_r_0 (h : σ main_v0 = iotaInDim S4096 32 0) (p : Fin 4096) (a : Fin 128) : @Eq EReal (lay_r σ main_v50 (ix3 0 p a)) (cosAt 32 (angle 0x461C4000#32 0x42800000#32 p.val) a.val) := by
  unfold lay_r
  rw [join_r]
  refine (three_0 _ _ _ p a).trans ((slab_c_r _ p a).trans ?_)
  rw [keep9_c_r, keep8_c_r, keep7_c_r, join_c_r]
  refine (beside_r _ _ _ p _).trans ?_
  unfold cosAt
  by_cases h1 : a.val % 64 < 32
  · rw [dif_pos h1, if_pos h1]
    exact cos_r σ h p _
  · rw [dif_neg h1, if_neg h1, if_pos (show a.val % 64 < 2 * 32 by omega)]
    exact cos_r σ h p _

/-- What multiplies the lane further on. -/
theorem lay_r_1 (h : σ main_v0 = iotaInDim S4096 32 0) (p : Fin 4096) (a : Fin 128) : @Eq EReal (lay_r σ main_v50 (ix3 1 p a)) (downAt 32 (angle 0x461C4000#32 0x42800000#32 p.val) a.val) := by
  unfold lay_r
  rw [join_r]
  refine (three_1 _ _ _ p a).trans ((slab_d_r _ p a).trans ?_)
  rw [keep9_d_r, join_d_r]
  refine (beside_r _ _ _ p _).trans ?_
  rw [neg_r, keep7_z_r, keep6_sin_r, keep6_z_r]
  unfold downAt
  by_cases h1 : a.val % 64 < 32
  · rw [dif_pos h1, if_pos h1]
    exact congrArg Neg.neg (sin_r σ h p _)
  · rw [dif_neg h1, if_neg h1]
    exact zero_r σ p _

/-- What multiplies the lane before. -/
theorem lay_r_2 (h : σ main_v0 = iotaInDim S4096 32 0) (p : Fin 4096) (a : Fin 128) : @Eq EReal (lay_r σ main_v50 (ix3 2 p a)) (upAt 32 (angle 0x461C4000#32 0x42800000#32 p.val) a.val) := by
  unfold lay_r
  rw [join_r]
  refine (three_2 _ _ _ p a).trans ((slab_u_r _ p a).trans ?_)
  rw [join_u_r]
  refine (beside_r _ _ _ p _).trans ?_
  rw [keep8_z_r, keep8_sin_r, keep7_z_r, keep7_sin_r, keep6_sin_r, keep6_z_r]
  unfold upAt
  by_cases h1 : a.val % 64 < 32
  · rw [dif_pos h1, if_pos h1]
    exact zero_r σ p _
  · rw [dif_neg h1, if_neg h1, if_pos (show a.val % 64 < 2 * 32 by omega)]
    exact sin_r σ h p _

/-- The cosine of a pair's angle, at a token. -/
theorem cos_w (h : σ main_v0 = iotaInDim S4096 32 0) (p : Fin 4096) (i : Fin 8) : @Eq EReal (seg 48 25 σ main_v65 (ix2 p i)) (Ideal.cos (angle 0x48F42400#32 0x41800000#32 p.val i.val)) := by
  unfold seg
  simp only [hostOps0_2, List.drop_succ_cons, List.take_succ_cons, List.take_zero, List.drop_zero]
  entry_read
  rw [h]
  pointwise [angle]

/-- The sine of a pair's angle, at a token. -/
theorem sin_w (h : σ main_v0 = iotaInDim S4096 32 0) (p : Fin 4096) (i : Fin 8) : @Eq EReal (seg 48 25 σ main_v66 (ix2 p i)) (Ideal.sin (angle 0x48F42400#32 0x41800000#32 p.val i.val)) := by
  unfold seg
  simp only [hostOps0_2, List.drop_succ_cons, List.take_succ_cons, List.take_zero, List.drop_zero]
  entry_read
  rw [h]
  pointwise [angle]

/-- The zeros of a pair's width. -/
theorem zero_w (p : Fin 4096) (i : Fin 8) : @Eq EReal (seg 48 25 σ main_v67 (ix2 p i)) 0 := by
  unfold seg
  simp only [hostOps0_2, List.drop_succ_cons, List.take_succ_cons, List.take_zero, List.drop_zero]
  entry_read
  pointwise [Ideal.ofBits_zero_f32]

/-- The zeros of the lanes that stay. -/
theorem zr_w (p : Fin 4096) (i : Fin 48) : @Eq EReal (seg 48 25 σ main_v68 (ix2 p i)) 0 := by
  unfold seg
  simp only [hostOps0_2, List.drop_succ_cons, List.take_succ_cons, List.take_zero, List.drop_zero]
  entry_read
  pointwise [Ideal.ofBits_zero_f32, Ideal.ofBits_one_f32]

/-- The ones of the lanes that stay. -/
theorem on_w (p : Fin 4096) (i : Fin 48) : @Eq EReal (seg 48 25 σ main_v69 (ix2 p i)) 1 := by
  unfold seg
  simp only [hostOps0_2, List.drop_succ_cons, List.take_succ_cons, List.take_zero, List.drop_zero]
  entry_read
  pointwise [Ideal.ofBits_zero_f32, Ideal.ofBits_one_f32]

/-- Three tables side by side, at a lane. -/
theorem beside_w (A B : S4096x8.Idx → EReal) (C : S4096x48.Idx → EReal) (p : Fin 4096) (a : Fin 64) :
    concatenate S4096x64 1 [⟨S4096x8, A⟩, ⟨S4096x8, B⟩, ⟨S4096x48, C⟩] concatenates_S4096x8_S4096x8_S4096x48_S4096x64_d1 (ix2 p a) = (if h1 : a.val < 8 then A (ix2 p ⟨a.val, h1⟩) else if h2 : a.val - 8 < 8 then B (ix2 p ⟨a.val - 8, h2⟩) else C (ix2 p ⟨a.val - 8 - 8, by omega⟩)) := by
  pointwise

theorem join_c_w : seg 73 1 σ main_v70 = concatenate S4096x64 1 [⟨S4096x8, σ main_v65⟩, ⟨S4096x8, σ main_v65⟩, ⟨S4096x48, σ main_v69⟩] concatenates_S4096x8_S4096x8_S4096x48_S4096x64_d1 := by
  unfold seg
  simp only [hostOps0_2, List.drop_succ_cons, List.take_succ_cons, List.take_zero, List.drop_zero]
  rw [StableHlo.after_cons, StableHlo.after_nil, StableHlo.nary_result]
  rfl

theorem join_d_w : seg 75 1 σ main_v72 = concatenate S4096x64 1 [⟨S4096x8, σ main_v71⟩, ⟨S4096x8, σ main_v67⟩, ⟨S4096x48, σ main_v68⟩] concatenates_S4096x8_S4096x8_S4096x48_S4096x64_d1 := by
  unfold seg
  simp only [hostOps0_2, List.drop_succ_cons, List.take_succ_cons, List.take_zero, List.drop_zero]
  rw [StableHlo.after_cons, StableHlo.after_nil, StableHlo.nary_result]
  rfl

theorem join_u_w : seg 76 1 σ main_v73 = concatenate S4096x64 1 [⟨S4096x8, σ main_v67⟩, ⟨S4096x8, σ main_v66⟩, ⟨S4096x48, σ main_v68⟩] concatenates_S4096x8_S4096x8_S4096x48_S4096x64_d1 := by
  unfold seg
  simp only [hostOps0_2, List.drop_succ_cons, List.take_succ_cons, List.take_zero, List.drop_zero]
  rw [StableHlo.after_cons, StableHlo.after_nil, StableHlo.nary_result]
  rfl

theorem join_w : seg 89 1 σ main_v86 = concatenate S3x4096x128 0 [⟨S1x4096x128, σ main_v83⟩, ⟨S1x4096x128, σ main_v84⟩, ⟨S1x4096x128, σ main_v85⟩] concatenates_S1x4096x128_S1x4096x128_S1x4096x128_S3x4096x128_d0 := by
  unfold seg
  simp only [hostOps0_2, List.drop_succ_cons, List.take_succ_cons, List.take_zero, List.drop_zero]
  rw [StableHlo.after_cons, StableHlo.after_nil, StableHlo.nary_result]
  rfl

theorem neg_w : seg 74 1 σ main_v71 = (Host.negf (σ main_v66 : FVec Idealize.ShloMosaic.Ideal S4096x8 .f32) : FVec Idealize.ShloMosaic.Ideal S4096x8 .f32) := by
  unfold seg
  simp only [hostOps0_2, List.drop_succ_cons, List.take_succ_cons, List.take_zero, List.drop_zero]
  entry_read
  rfl

theorem slab_c_w (p : Fin 4096) (a : Fin 128) : @Eq EReal (seg 77 12 σ main_v83 (ix3 0 p a)) (σ main_v70 (ix2 p ⟨a.val % 64, Nat.mod_lt _ (by omega)⟩)) := by
  unfold seg
  simp only [hostOps0_2, List.drop_succ_cons, List.take_succ_cons, List.take_zero, List.drop_zero]
  entry_read
  exact twice_slab _ p a

theorem slab_d_w (p : Fin 4096) (a : Fin 128) : @Eq EReal (seg 77 12 σ main_v84 (ix3 0 p a)) (σ main_v72 (ix2 p ⟨a.val % 64, Nat.mod_lt _ (by omega)⟩)) := by
  unfold seg
  simp only [hostOps0_2, List.drop_succ_cons, List.take_succ_cons, List.take_zero, List.drop_zero]
  entry_read
  exact twice_slab _ p a

theorem slab_u_w (p : Fin 4096) (a : Fin 128) : @Eq EReal (seg 77 12 σ main_v85 (ix3 0 p a)) (σ main_v73 (ix2 p ⟨a.val % 64, Nat.mod_lt _ (by omega)⟩)) := by
  unfold seg
  simp only [hostOps0_2, List.drop_succ_cons, List.take_succ_cons, List.take_zero, List.drop_zero]
  entry_read
  exact twice_slab _ p a

theorem keep6_sin_w : seg 73 1 σ main_v66 = σ main_v66 := by
  unfold seg
  simp only [hostOps0_2, List.drop_succ_cons, List.take_succ_cons, List.take_zero, List.drop_zero]
  entry_read
  rfl

theorem keep6_z_w : seg 73 1 σ main_v67 = σ main_v67 := by
  unfold seg
  simp only [hostOps0_2, List.drop_succ_cons, List.take_succ_cons, List.take_zero, List.drop_zero]
  entry_read
  rfl

theorem keep6_zr_w : seg 73 1 σ main_v68 = σ main_v68 := by
  unfold seg
  simp only [hostOps0_2, List.drop_succ_cons, List.take_succ_cons, List.take_zero, List.drop_zero]
  entry_read
  rfl

theorem keep6_on_w : seg 73 1 σ main_v69 = σ main_v69 := by
  unfold seg
  simp only [hostOps0_2, List.drop_succ_cons, List.take_succ_cons, List.take_zero, List.drop_zero]
  entry_read
  rfl

theorem keep6_cos_w : seg 73 1 σ main_v65 = σ main_v65 := by
  unfold seg
  simp only [hostOps0_2, List.drop_succ_cons, List.take_succ_cons, List.take_zero, List.drop_zero]
  entry_read
  rfl

theorem keep7_sin_w : seg 74 1 σ main_v66 = σ main_v66 := by
  unfold seg
  simp only [hostOps0_2, List.drop_succ_cons, List.take_succ_cons, List.take_zero, List.drop_zero]
  entry_read
  rfl

theorem keep7_z_w : seg 74 1 σ main_v67 = σ main_v67 := by
  unfold seg
  simp only [hostOps0_2, List.drop_succ_cons, List.take_succ_cons, List.take_zero, List.drop_zero]
  entry_read
  rfl

theorem keep7_zr_w : seg 74 1 σ main_v68 = σ main_v68 := by
  unfold seg
  simp only [hostOps0_2, List.drop_succ_cons, List.take_succ_cons, List.take_zero, List.drop_zero]
  entry_read
  rfl

theorem keep7_c_w : seg 74 1 σ main_v70 = σ main_v70 := by
  unfold seg
  simp only [hostOps0_2, List.drop_succ_cons, List.take_succ_cons, List.take_zero, List.drop_zero]
  entry_read
  rfl

theorem keep8_sin_w : seg 75 1 σ main_v66 = σ main_v66 := by
  unfold seg
  simp only [hostOps0_2, List.drop_succ_cons, List.take_succ_cons, List.take_zero, List.drop_zero]
  entry_read
  rfl

theorem keep8_z_w : seg 75 1 σ main_v67 = σ main_v67 := by
  unfold seg
  simp only [hostOps0_2, List.drop_succ_cons, List.take_succ_cons, List.take_zero, List.drop_zero]
  entry_read
  rfl

theorem keep8_zr_w : seg 75 1 σ main_v68 = σ main_v68 := by
  unfold seg
  simp only [hostOps0_2, List.drop_succ_cons, List.take_succ_cons, List.take_zero, List.drop_zero]
  entry_read
  rfl

theorem keep8_c_w : seg 75 1 σ main_v70 = σ main_v70 := by
  unfold seg
  simp only [hostOps0_2, List.drop_succ_cons, List.take_succ_cons, List.take_zero, List.drop_zero]
  entry_read
  rfl

theorem keep9_c_w : seg 76 1 σ main_v70 = σ main_v70 := by
  unfold seg
  simp only [hostOps0_2, List.drop_succ_cons, List.take_succ_cons, List.take_zero, List.drop_zero]
  entry_read
  rfl

theorem keep9_d_w : seg 76 1 σ main_v72 = σ main_v72 := by
  unfold seg
  simp only [hostOps0_2, List.drop_succ_cons, List.take_succ_cons, List.take_zero, List.drop_zero]
  entry_read
  rfl

/-- The host's operations that lay out this table. -/
def lay_w : Valuation τ sig (Elt Idealize.ShloMosaic.Ideal) :=
  seg 89 1 (seg 77 12 (seg 76 1 (seg 75 1 (seg 74 1 (seg 73 1 (seg 48 25 σ))))))

/-- What multiplies a lane itself. -/
theorem lay_w_0 (h : σ main_v0 = iotaInDim S4096 32 0) (p : Fin 4096) (a : Fin 128) : @Eq EReal (lay_w σ main_v86 (ix3 0 p a)) (cosAt 8 (angle 0x48F42400#32 0x41800000#32 p.val) a.val) := by
  unfold lay_w
  rw [join_w]
  refine (three_0 _ _ _ p a).trans ((slab_c_w _ p a).trans ?_)
  rw [keep9_c_w, keep8_c_w, keep7_c_w, join_c_w]
  refine (beside_w _ _ _ p _).trans ?_
  unfold cosAt
  by_cases h1 : a.val % 64 < 8
  · rw [dif_pos h1, if_pos h1]
    exact cos_w σ h p _
  · by_cases h2 : a.val % 64 < 16
    · rw [dif_neg h1, dif_pos (show a.val % 64 - 8 < 8 by omega), if_neg h1, if_pos (show a.val % 64 < 2 * 8 by omega)]
      exact cos_w σ h p _
    · rw [dif_neg h1, dif_neg (show ¬ a.val % 64 - 8 < 8 by omega), if_neg h1, if_neg (show ¬ a.val % 64 < 2 * 8 by omega)]
      exact on_w σ p _

/-- What multiplies the lane further on. -/
theorem lay_w_1 (h : σ main_v0 = iotaInDim S4096 32 0) (p : Fin 4096) (a : Fin 128) : @Eq EReal (lay_w σ main_v86 (ix3 1 p a)) (downAt 8 (angle 0x48F42400#32 0x41800000#32 p.val) a.val) := by
  unfold lay_w
  rw [join_w]
  refine (three_1 _ _ _ p a).trans ((slab_d_w _ p a).trans ?_)
  rw [keep9_d_w, join_d_w]
  refine (beside_w _ _ _ p _).trans ?_
  rw [neg_w, keep7_z_w, keep7_zr_w, keep6_sin_w, keep6_z_w, keep6_zr_w]
  unfold downAt
  by_cases h1 : a.val % 64 < 8
  · rw [dif_pos h1, if_pos h1]
    exact congrArg Neg.neg (sin_w σ h p _)
  · by_cases h2 : a.val % 64 < 16
    · rw [dif_neg h1, dif_pos (show a.val % 64 - 8 < 8 by omega), if_neg h1]
      exact zero_w σ p _
    · rw [dif_neg h1, dif_neg (show ¬ a.val % 64 - 8 < 8 by omega), if_neg h1]
      exact zr_w σ p _

/-- What multiplies the lane before. -/
theorem lay_w_2 (h : σ main_v0 = iotaInDim S4096 32 0) (p : Fin 4096) (a : Fin 128) : @Eq EReal (lay_w σ main_v86 (ix3 2 p a)) (upAt 8 (angle 0x48F42400#32 0x41800000#32 p.val) a.val) := by
  unfold lay_w
  rw [join_w]
  refine (three_2 _ _ _ p a).trans ((slab_u_w _ p a).trans ?_)
  rw [join_u_w]
  refine (beside_w _ _ _ p _).trans ?_
  rw [keep8_z_w, keep8_sin_w, keep8_zr_w, keep7_z_w, keep7_sin_w, keep7_zr_w, keep6_sin_w, keep6_z_w, keep6_zr_w]
  unfold upAt
  by_cases h1 : a.val % 64 < 8
  · rw [dif_pos h1, if_pos h1]
    exact zero_w σ p _
  · by_cases h2 : a.val % 64 < 16
    · rw [dif_neg h1, dif_pos (show a.val % 64 - 8 < 8 by omega), if_neg h1, if_pos (show a.val % 64 < 2 * 8 by omega)]
      exact sin_w σ h p _
    · rw [dif_neg h1, dif_neg (show ¬ a.val % 64 - 8 < 8 by omega), if_neg h1, if_neg (show ¬ a.val % 64 < 2 * 8 by omega)]
      exact zr_w σ p _

/-- The positions stay. -/
theorem keep_v0 : seg 47 1 (seg 35 12 (seg 34 1 (seg 33 1 (seg 32 1 (seg 31 1 (seg 0 31 σ)))))) main_v0 = σ main_v0 := by
  rw [show ∀ σ, seg 47 1 σ main_v0 = σ main_v0 from fun σ => by
    unfold seg
    simp only [hostOps0_2, List.drop_succ_cons, List.take_succ_cons, List.take_zero, List.drop_zero]
    entry_read
    rfl]
  rw [show ∀ σ, seg 35 12 σ main_v0 = σ main_v0 from fun σ => by
    unfold seg
    simp only [hostOps0_2, List.drop_succ_cons, List.take_succ_cons, List.take_zero, List.drop_zero]
    entry_read
    rfl]
  rw [show ∀ σ, seg 34 1 σ main_v0 = σ main_v0 from fun σ => by
    unfold seg
    simp only [hostOps0_2, List.drop_succ_cons, List.take_succ_cons, List.take_zero, List.drop_zero]
    entry_read
    rfl]
  rw [show ∀ σ, seg 33 1 σ main_v0 = σ main_v0 from fun σ => by
    unfold seg
    simp only [hostOps0_2, List.drop_succ_cons, List.take_succ_cons, List.take_zero, List.drop_zero]
    entry_read
    rfl]
  rw [show ∀ σ, seg 32 1 σ main_v0 = σ main_v0 from fun σ => by
    unfold seg
    simp only [hostOps0_2, List.drop_succ_cons, List.take_succ_cons, List.take_zero, List.drop_zero]
    entry_read
    rfl]
  rw [show ∀ σ, seg 31 1 σ main_v0 = σ main_v0 from fun σ => by
    unfold seg
    simp only [hostOps0_2, List.drop_succ_cons, List.take_succ_cons, List.take_zero, List.drop_zero]
    entry_read
    rfl]
  rw [show ∀ σ, seg 0 31 σ main_v0 = σ main_v0 from fun σ => by
    unfold seg
    simp only [hostOps0_2, List.drop_succ_cons, List.take_succ_cons, List.take_zero, List.drop_zero]
    entry_read
    rfl]

/-- The first table stays while the second is laid out. -/
theorem keep_50 : lay_w σ main_v50 = σ main_v50 := by
  unfold lay_w
  rw [show ∀ σ, seg 89 1 σ main_v50 = σ main_v50 from fun σ => by
    unfold seg
    simp only [hostOps0_2, List.drop_succ_cons, List.take_succ_cons, List.take_zero, List.drop_zero]
    entry_read
    rfl]
  rw [show ∀ σ, seg 77 12 σ main_v50 = σ main_v50 from fun σ => by
    unfold seg
    simp only [hostOps0_2, List.drop_succ_cons, List.take_succ_cons, List.take_zero, List.drop_zero]
    entry_read
    rfl]
  rw [show ∀ σ, seg 76 1 σ main_v50 = σ main_v50 from fun σ => by
    unfold seg
    simp only [hostOps0_2, List.drop_succ_cons, List.take_succ_cons, List.take_zero, List.drop_zero]
    entry_read
    rfl]
  rw [show ∀ σ, seg 75 1 σ main_v50 = σ main_v50 from fun σ => by
    unfold seg
    simp only [hostOps0_2, List.drop_succ_cons, List.take_succ_cons, List.take_zero, List.drop_zero]
    entry_read
    rfl]
  rw [show ∀ σ, seg 74 1 σ main_v50 = σ main_v50 from fun σ => by
    unfold seg
    simp only [hostOps0_2, List.drop_succ_cons, List.take_succ_cons, List.take_zero, List.drop_zero]
    entry_read
    rfl]
  rw [show ∀ σ, seg 73 1 σ main_v50 = σ main_v50 from fun σ => by
    unfold seg
    simp only [hostOps0_2, List.drop_succ_cons, List.take_succ_cons, List.take_zero, List.drop_zero]
    entry_read
    rfl]
  rw [show ∀ σ, seg 48 25 σ main_v50 = σ main_v50 from fun σ => by
    unfold seg
    simp only [hostOps0_2, List.drop_succ_cons, List.take_succ_cons, List.take_zero, List.drop_zero]
    entry_read
    rfl]

/-- The host's last operations lay out the one table, then the other. -/
theorem lay_all : StableHlo.after hostOps0_2 σ = lay_w (lay_r σ) := by
  unfold lay_w lay_r
  refine (cut 0 31 31 rfl σ).trans ?_
  refine (cut 31 1 32 rfl _).trans ?_
  refine (cut 32 1 33 rfl _).trans ?_
  refine (cut 33 1 34 rfl _).trans ?_
  refine (cut 34 1 35 rfl _).trans ?_
  refine (cut 35 12 47 rfl _).trans ?_
  refine (cut 47 1 48 rfl _).trans ?_
  refine (cut 48 25 73 rfl _).trans ?_
  refine (cut 73 1 74 rfl _).trans ?_
  refine (cut 74 1 75 rfl _).trans ?_
  refine (cut 75 1 76 rfl _).trans ?_
  refine (cut 76 1 77 rfl _).trans ?_
  refine (cut 77 12 89 rfl _).trans ?_
  refine (cut 89 1 90 rfl _).trans ?_
  rfl

variable (m : (ℓ : Loc nD τ sig) → Buf (Elt Idealize.ShloMosaic.Ideal) ℓ) (c : Dev nD)

/-- What the buffers hold before the tables are laid out. -/
def before : Valuation τ sig (Elt Idealize.ShloMosaic.Ideal) := StableHlo.after (hostOps0 ++ hostOps0_1) (fun b => m (c, b))

/-- The positions. -/
theorem before_v0 : before m c main_v0 = iotaInDim S4096 32 0 := by
  unfold before
  simp only [hostOps0, hostOps0_1, List.cons_append, List.nil_append]
  entry_read
  rfl

/-- What the buffers hold when the kernel starts, by the tables laid out. -/
theorem V_lay (b : Ref sig .tc) : V m c b = lay_w (lay_r (before m c)) b := by
  refine (congrArg (fun l => StableHlo.after l (fun b => m (c, b)) (Proc.devRef .tc b)) (show List.flatten [hostOps0, hostOps0_1, hostOps0_2] = (hostOps0 ++ hostOps0_1) ++ hostOps0_2 from by simp only [List.flatten_cons, List.flatten_nil, List.append_nil, List.append_assoc])).trans ?_
  exact congrFun ((after_app _ _ _).trans (lay_all _)) _

/-- Table 0 of the first three. -/
theorem V_50_0 (p : Fin 4096) (a : Fin 128) : @Eq EReal (V m c main_v50 (ix3 0 p a)) (cosAt 32 (angle 0x461C4000#32 0x42800000#32 p.val) a.val) :=
  (congrFun ((V_lay m c main_v50).trans (keep_50 _)) (ix3 0 p a)).trans (lay_r_0 _ (before_v0 m c) p a)

/-- Table 1 of the first three. -/
theorem V_50_1 (p : Fin 4096) (a : Fin 128) : @Eq EReal (V m c main_v50 (ix3 1 p a)) (downAt 32 (angle 0x461C4000#32 0x42800000#32 p.val) a.val) :=
  (congrFun ((V_lay m c main_v50).trans (keep_50 _)) (ix3 1 p a)).trans (lay_r_1 _ (before_v0 m c) p a)

/-- Table 2 of the first three. -/
theorem V_50_2 (p : Fin 4096) (a : Fin 128) : @Eq EReal (V m c main_v50 (ix3 2 p a)) (upAt 32 (angle 0x461C4000#32 0x42800000#32 p.val) a.val) :=
  (congrFun ((V_lay m c main_v50).trans (keep_50 _)) (ix3 2 p a)).trans (lay_r_2 _ (before_v0 m c) p a)

/-- Table 0 of the second three. -/
theorem V_86_0 (p : Fin 4096) (a : Fin 128) : @Eq EReal (V m c main_v86 (ix3 0 p a)) (cosAt 8 (angle 0x48F42400#32 0x41800000#32 p.val) a.val) :=
  (congrFun (V_lay m c main_v86) (ix3 0 p a)).trans (lay_w_0 _ ((keep_v0 _).trans (before_v0 m c)) p a)

/-- Table 1 of the second three. -/
theorem V_86_1 (p : Fin 4096) (a : Fin 128) : @Eq EReal (V m c main_v86 (ix3 1 p a)) (downAt 8 (angle 0x48F42400#32 0x41800000#32 p.val) a.val) :=
  (congrFun (V_lay m c main_v86) (ix3 1 p a)).trans (lay_w_1 _ ((keep_v0 _).trans (before_v0 m c)) p a)

/-- Table 2 of the second three. -/
theorem V_86_2 (p : Fin 4096) (a : Fin 128) : @Eq EReal (V m c main_v86 (ix3 2 p a)) (upAt 8 (angle 0x48F42400#32 0x41800000#32 p.val) a.val) :=
  (congrFun (V_lay m c main_v86) (ix3 2 p a)).trans (lay_w_2 _ ((keep_v0 _).trans (before_v0 m c)) p a)

end Cert.Proj
end
-- ==== Proof.ProjHost.lean ====
module

public import proofs.«01_k».proof.Proof.ProjFrameIdeal
public import proofs.«01_k».proof.Proof.ProjTables
public import Idealize.ShloMosaic.Lib.Pipeline.ReadBack
public import Idealize.ShloMosaic.Lib.Pipeline.ValueKit
public import Idealize.ShloMosaic.Lib.Claim
public import Idealize.ShloMosaic.Lib.Pointwise
public import proofs.«01_k».proof.Proof.LayerModel

@[expose] public section

set_option maxRecDepth 131072
set_option maxHeartbeats 4000000

noncomputable section

/-! What the projection kernel's input windows hold at a grid point. -/

namespace Cert.Proj

open Cert.Kernel4Ideal Cert.Kernel4Ideal.Gen Cert.Kernel4Ideal.Frame Idealize.ShloMosaic Idealize.ShloMosaic.TcCoe Idealize.SL.Sem Cert.Layer
open Idealize.ShloMosaic.Pipeline (Dat)

variable (m : (ℓ : Loc nD τ sig) → Buf (Elt Idealize.ShloMosaic.Ideal) ℓ) (c : Dev nD)

/-- The rows of all sequences. -/
def xOf (R : Fin 32768) (k : Fin 1024) : EReal := m ((c.tc : Thread nD τ).loc main_arg0) (ix2 R k)
/-- The norm's weights. -/
def gOf (k : Fin 1024) : EReal := m ((c.tc : Thread nD τ).loc main_arg1) (ix1 k)
/-- The projection's weights. -/
def wOf (k : Fin 1024) (j : Fin 10568) : EReal := m ((c.tc : Thread nD τ).loc main_arg2) (ix2 k j)

/-- The norm's weight as one row. -/
theorem V_1 : V m c main_v1 = (shapeCast S1x1024 (m ((c.tc : Thread nD τ).loc main_arg1)) shapeCasts_S1024_S1x1024) := by
  unfold V
  simp only [List.flatten_cons, List.flatten_nil, List.append_nil, hostOps0, hostOps0_1, hostOps0_2, List.cons_append, List.nil_append]
  entry_read
  rfl

/-- One row of an array of one axis. -/
theorem cast_row (A : S1024.Idx → EReal) (l : Fin 1024) : shapeCast S1x1024 A shapeCasts_S1024_S1x1024 (ix2 0 l) = A (ix1 l) := by
  pointwise

/-- Window 2's columns of the projection. -/
theorem V_9 : V m c main_v9 = (truncf .bf16 ((extractStridedSlice S1024x1536 ![0, 0] (m ((c.tc : Thread nD τ).loc main_arg2) : FVec Idealize.ShloMosaic.Ideal S1024x10568 .f32) slices_S1024x10568_S1024x1536_0_0) : FVec Idealize.ShloMosaic.Ideal S1024x1536 .f32) bitsLt_bf16_f32 : FVec Idealize.ShloMosaic.Ideal S1024x1536 .bf16) := by
  unfold V
  simp only [List.flatten_cons, List.flatten_nil, List.append_nil, hostOps0, hostOps0_1, hostOps0_2, List.cons_append, List.nil_append]
  entry_read
  rfl

/-- They are the columns from 0 on. -/
theorem cols_2 (A : FVec Idealize.ShloMosaic.Ideal S1024x10568 .f32) (k : Fin 1024) (l : Fin 1536) : @Eq EReal ((truncf .bf16 ((extractStridedSlice S1024x1536 ![0, 0] A slices_S1024x10568_S1024x1536_0_0) : FVec Idealize.ShloMosaic.Ideal S1024x1536 .f32) bitsLt_bf16_f32 : FVec Idealize.ShloMosaic.Ideal S1024x1536 .bf16) (ix2 k ⟨l.val, by omega⟩)) (A (ix2 k ⟨0 + l.val, by omega⟩)) := by
  pointwise

/-- Window 3's columns of the projection. -/
theorem V_10 : V m c main_v10 = (truncf .bf16 ((extractStridedSlice S1024x2048 ![0, 1536] (m ((c.tc : Thread nD τ).loc main_arg2) : FVec Idealize.ShloMosaic.Ideal S1024x10568 .f32) slices_S1024x10568_S1024x2048_0_1536) : FVec Idealize.ShloMosaic.Ideal S1024x2048 .f32) bitsLt_bf16_f32 : FVec Idealize.ShloMosaic.Ideal S1024x2048 .bf16) := by
  unfold V
  simp only [List.flatten_cons, List.flatten_nil, List.append_nil, hostOps0, hostOps0_1, hostOps0_2, List.cons_append, List.nil_append]
  entry_read
  rfl

/-- They are the columns from 1536 on. -/
theorem cols_3 (A : FVec Idealize.ShloMosaic.Ideal S1024x10568 .f32) (k : Fin 1024) (l : Fin 2048) : @Eq EReal ((truncf .bf16 ((extractStridedSlice S1024x2048 ![0, 1536] A slices_S1024x10568_S1024x2048_0_1536) : FVec Idealize.ShloMosaic.Ideal S1024x2048 .f32) bitsLt_bf16_f32 : FVec Idealize.ShloMosaic.Ideal S1024x2048 .bf16) (ix2 k ⟨l.val, by omega⟩)) (A (ix2 k ⟨1536 + l.val, by omega⟩)) := by
  pointwise

/-- Window 4's columns of the projection. -/
theorem V_11 : V m c main_v11 = (truncf .bf16 ((extractStridedSlice S1024x1280 ![0, 3584] (m ((c.tc : Thread nD τ).loc main_arg2) : FVec Idealize.ShloMosaic.Ideal S1024x10568 .f32) slices_S1024x10568_S1024x1280_0_3584) : FVec Idealize.ShloMosaic.Ideal S1024x1280 .f32) bitsLt_bf16_f32 : FVec Idealize.ShloMosaic.Ideal S1024x1280 .bf16) := by
  unfold V
  simp only [List.flatten_cons, List.flatten_nil, List.append_nil, hostOps0, hostOps0_1, hostOps0_2, List.cons_append, List.nil_append]
  entry_read
  rfl

/-- They are the columns from 3584 on. -/
theorem cols_4 (A : FVec Idealize.ShloMosaic.Ideal S1024x10568 .f32) (k : Fin 1024) (l : Fin 1280) : @Eq EReal ((truncf .bf16 ((extractStridedSlice S1024x1280 ![0, 3584] A slices_S1024x10568_S1024x1280_0_3584) : FVec Idealize.ShloMosaic.Ideal S1024x1280 .f32) bitsLt_bf16_f32 : FVec Idealize.ShloMosaic.Ideal S1024x1280 .bf16) (ix2 k ⟨l.val, by omega⟩)) (A (ix2 k ⟨3584 + l.val, by omega⟩)) := by
  pointwise

/-- Window 5's columns of the projection, padded. -/
theorem V_12 : V m c main_v12 = (truncf .bf16 (pad S1024x640 ![0, 0] ![0, 56] ![0, 0] ((extractStridedSlice S1024x584 ![0, 4864] (m ((c.tc : Thread nD τ).loc main_arg2) : FVec Idealize.ShloMosaic.Ideal S1024x10568 .f32) slices_S1024x10568_S1024x584_0_4864) : FVec Idealize.ShloMosaic.Ideal S1024x584 .f32) (sitofp .f32 (constantI S_ 32 0#32) : FVec Idealize.ShloMosaic.Ideal S_ .f32) pads_S1024x584_S1024x640_000_0560 h_S_ : FVec Idealize.ShloMosaic.Ideal S1024x640 .f32) bitsLt_bf16_f32 : FVec Idealize.ShloMosaic.Ideal S1024x640 .bf16) := by
  unfold V
  simp only [List.flatten_cons, List.flatten_nil, List.append_nil, hostOps0, hostOps0_1, hostOps0_2, List.cons_append, List.nil_append]
  entry_read
  rfl

/-- They are the columns from 4864 on. -/
theorem cols_5 (A : FVec Idealize.ShloMosaic.Ideal S1024x10568 .f32) (k : Fin 1024) (l : Fin 584) : @Eq EReal ((truncf .bf16 (pad S1024x640 ![0, 0] ![0, 56] ![0, 0] ((extractStridedSlice S1024x584 ![0, 4864] A slices_S1024x10568_S1024x584_0_4864) : FVec Idealize.ShloMosaic.Ideal S1024x584 .f32) (sitofp .f32 (constantI S_ 32 0#32) : FVec Idealize.ShloMosaic.Ideal S_ .f32) pads_S1024x584_S1024x640_000_0560 h_S_ : FVec Idealize.ShloMosaic.Ideal S1024x640 .f32) bitsLt_bf16_f32 : FVec Idealize.ShloMosaic.Ideal S1024x640 .bf16) (ix2 k ⟨l.val, by omega⟩)) (A (ix2 k ⟨4864 + l.val, by omega⟩)) := by
  pointwise
  all_goals rw [dif_pos (show l.val < 584 by omega)]

/-- Window 6's columns of the projection. -/
theorem V_13 : V m c main_v13 = (truncf .bf16 ((extractStridedSlice S1024x1024 ![0, 5448] (m ((c.tc : Thread nD τ).loc main_arg2) : FVec Idealize.ShloMosaic.Ideal S1024x10568 .f32) slices_S1024x10568_S1024x1024_0_5448) : FVec Idealize.ShloMosaic.Ideal S1024x1024 .f32) bitsLt_bf16_f32 : FVec Idealize.ShloMosaic.Ideal S1024x1024 .bf16) := by
  unfold V
  simp only [List.flatten_cons, List.flatten_nil, List.append_nil, hostOps0, hostOps0_1, hostOps0_2, List.cons_append, List.nil_append]
  entry_read
  rfl

/-- They are the columns from 5448 on. -/
theorem cols_6 (A : FVec Idealize.ShloMosaic.Ideal S1024x10568 .f32) (k : Fin 1024) (l : Fin 1024) : @Eq EReal ((truncf .bf16 ((extractStridedSlice S1024x1024 ![0, 5448] A slices_S1024x10568_S1024x1024_0_5448) : FVec Idealize.ShloMosaic.Ideal S1024x1024 .f32) bitsLt_bf16_f32 : FVec Idealize.ShloMosaic.Ideal S1024x1024 .bf16) (ix2 k ⟨l.val, by omega⟩)) (A (ix2 k ⟨5448 + l.val, by omega⟩)) := by
  pointwise

theorem idx_0 : ∀ t : Fin cfg0.N, win0_0.index t = ![t.val, 0] := (by decide +kernel : ∀ t : Fin grid0.N, win0_0.index t = ![t.val, 0])
/-- Window 0's block in its array. -/
theorem blk_0 (A : S32768x1024.Idx → EReal) (t : Fin cfg0.N) (r : Fin 256) (l : Fin 1024) : A ((win0_0.blk t).view.emb (ix2 r l)) = A (ix2 (rowOf t r) l) := by
  have ht : t.val < 128 := t.isLt
  blk_ext [idx_0, rowOf]

theorem idx_1 : ∀ t : Fin cfg0.N, win0_1.index t = ![0, 0] := (by decide +kernel : ∀ t : Fin grid0.N, win0_1.index t = ![0, 0])
/-- Window 1's block in its array. -/
theorem blk_1 (A : S1x1024.Idx → EReal) (t : Fin cfg0.N) (r : Fin 1) (l : Fin 1024) : A ((win0_1.blk t).view.emb (ix2 r l)) = A (ix2 r l) := by
  have ht : t.val < 128 := t.isLt
  blk_ext [idx_1, rowOf]

theorem idx_2 : ∀ t : Fin cfg0.N, win0_2.index t = ![0, 0] := (by decide +kernel : ∀ t : Fin grid0.N, win0_2.index t = ![0, 0])
/-- Window 2's block in its array. -/
theorem blk_2 (A : S1024x1536.Idx → EReal) (t : Fin cfg0.N) (r : Fin 1024) (l : Fin 1536) : A ((win0_2.blk t).view.emb (ix2 r l)) = A (ix2 r l) := by
  have ht : t.val < 128 := t.isLt
  blk_ext [idx_2, rowOf]

theorem idx_3 : ∀ t : Fin cfg0.N, win0_3.index t = ![0, 0] := (by decide +kernel : ∀ t : Fin grid0.N, win0_3.index t = ![0, 0])
/-- Window 3's block in its array. -/
theorem blk_3 (A : S1024x2048.Idx → EReal) (t : Fin cfg0.N) (r : Fin 1024) (l : Fin 2048) : A ((win0_3.blk t).view.emb (ix2 r l)) = A (ix2 r l) := by
  have ht : t.val < 128 := t.isLt
  blk_ext [idx_3, rowOf]

theorem idx_4 : ∀ t : Fin cfg0.N, win0_4.index t = ![0, 0] := (by decide +kernel : ∀ t : Fin grid0.N, win0_4.index t = ![0, 0])
/-- Window 4's block in its array. -/
theorem blk_4 (A : S1024x1280.Idx → EReal) (t : Fin cfg0.N) (r : Fin 1024) (l : Fin 1280) : A ((win0_4.blk t).view.emb (ix2 r l)) = A (ix2 r l) := by
  have ht : t.val < 128 := t.isLt
  blk_ext [idx_4, rowOf]

theorem idx_5 : ∀ t : Fin cfg0.N, win0_5.index t = ![0, 0] := (by decide +kernel : ∀ t : Fin grid0.N, win0_5.index t = ![0, 0])
/-- Window 5's block in its array. -/
theorem blk_5 (A : S1024x640.Idx → EReal) (t : Fin cfg0.N) (r : Fin 1024) (l : Fin 640) : A ((win0_5.blk t).view.emb (ix2 r l)) = A (ix2 r l) := by
  have ht : t.val < 128 := t.isLt
  blk_ext [idx_5, rowOf]

theorem idx_6 : ∀ t : Fin cfg0.N, win0_6.index t = ![0, 0] := (by decide +kernel : ∀ t : Fin grid0.N, win0_6.index t = ![0, 0])
/-- Window 6's block in its array. -/
theorem blk_6 (A : S1024x1024.Idx → EReal) (t : Fin cfg0.N) (r : Fin 1024) (l : Fin 1024) : A ((win0_6.blk t).view.emb (ix2 r l)) = A (ix2 r l) := by
  have ht : t.val < 128 := t.isLt
  blk_ext [idx_6, rowOf]

theorem idx_9 : ∀ t : Fin cfg0.N, win0_9.index t = ![t.val, 0] := (by decide +kernel : ∀ t : Fin grid0.N, win0_9.index t = ![t.val, 0])
/-- Window 9's block in its array. -/
theorem blk_9 (A : S32768x256.Idx → EReal) (t : Fin cfg0.N) (r : Fin 256) (l : Fin 256) : A ((win0_9.blk t).view.emb (ix2 r l)) = A (ix2 (rowOf t r) l) := by
  have ht : t.val < 128 := t.isLt
  blk_ext [idx_9, rowOf]

theorem idx_10 : ∀ t : Fin cfg0.N, win0_10.index t = ![t.val, 0] := (by decide +kernel : ∀ t : Fin grid0.N, win0_10.index t = ![t.val, 0])
/-- Window 10's block in its array. -/
theorem blk_10 (A : S32768x256.Idx → EReal) (t : Fin cfg0.N) (r : Fin 256) (l : Fin 256) : A ((win0_10.blk t).view.emb (ix2 r l)) = A (ix2 (rowOf t r) l) := by
  have ht : t.val < 128 := t.isLt
  blk_ext [idx_10, rowOf]

theorem idx_11 : ∀ t : Fin cfg0.N, win0_11.index t = ![t.val, 0] := (by decide +kernel : ∀ t : Fin grid0.N, win0_11.index t = ![t.val, 0])
/-- Window 11's block in its array. -/
theorem blk_11 (A : S32768x512.Idx → EReal) (t : Fin cfg0.N) (r : Fin 256) (l : Fin 512) : A ((win0_11.blk t).view.emb (ix2 r l)) = A (ix2 (rowOf t r) l) := by
  have ht : t.val < 128 := t.isLt
  blk_ext [idx_11, rowOf]

theorem idx_12 : ∀ t : Fin cfg0.N, win0_12.index t = ![t.val, 0] := (by decide +kernel : ∀ t : Fin grid0.N, win0_12.index t = ![t.val, 0])
/-- Window 12's block in its array. -/
theorem blk_12 (A : S32768x512.Idx → EReal) (t : Fin cfg0.N) (r : Fin 256) (l : Fin 512) : A ((win0_12.blk t).view.emb (ix2 r l)) = A (ix2 (rowOf t r) l) := by
  have ht : t.val < 128 := t.isLt
  blk_ext [idx_12, rowOf]

theorem idx_13 : ∀ t : Fin cfg0.N, win0_13.index t = ![t.val, 0] := (by decide +kernel : ∀ t : Fin grid0.N, win0_13.index t = ![t.val, 0])
/-- Window 13's block in its array. -/
theorem blk_13 (A : S32768x512.Idx → EReal) (t : Fin cfg0.N) (r : Fin 256) (l : Fin 512) : A ((win0_13.blk t).view.emb (ix2 r l)) = A (ix2 (rowOf t r) l) := by
  have ht : t.val < 128 := t.isLt
  blk_ext [idx_13, rowOf]

theorem idx_14 : ∀ t : Fin cfg0.N, win0_14.index t = ![t.val, 0] := (by decide +kernel : ∀ t : Fin grid0.N, win0_14.index t = ![t.val, 0])
/-- Window 14's block in its array. -/
theorem blk_14 (A : S32768x512.Idx → EReal) (t : Fin cfg0.N) (r : Fin 256) (l : Fin 512) : A ((win0_14.blk t).view.emb (ix2 r l)) = A (ix2 (rowOf t r) l) := by
  have ht : t.val < 128 := t.isLt
  blk_ext [idx_14, rowOf]

theorem idx_15 : ∀ t : Fin cfg0.N, win0_15.index t = ![t.val, 0] := (by decide +kernel : ∀ t : Fin grid0.N, win0_15.index t = ![t.val, 0])
/-- Window 15's block in its array. -/
theorem blk_15 (A : S32768x512.Idx → EReal) (t : Fin cfg0.N) (r : Fin 256) (l : Fin 512) : A ((win0_15.blk t).view.emb (ix2 r l)) = A (ix2 (rowOf t r) l) := by
  have ht : t.val < 128 := t.isLt
  blk_ext [idx_15, rowOf]

theorem idx_16 : ∀ t : Fin cfg0.N, win0_16.index t = ![t.val, 0] := (by decide +kernel : ∀ t : Fin grid0.N, win0_16.index t = ![t.val, 0])
/-- Window 16's block in its array. -/
theorem blk_16 (A : S32768x512.Idx → EReal) (t : Fin cfg0.N) (r : Fin 256) (l : Fin 512) : A ((win0_16.blk t).view.emb (ix2 r l)) = A (ix2 (rowOf t r) l) := by
  have ht : t.val < 128 := t.isLt
  blk_ext [idx_16, rowOf]

theorem idx_17 : ∀ t : Fin cfg0.N, win0_17.index t = ![t.val, 0] := (by decide +kernel : ∀ t : Fin grid0.N, win0_17.index t = ![t.val, 0])
/-- Window 17's block in its array. -/
theorem blk_17 (A : S32768x512.Idx → EReal) (t : Fin cfg0.N) (r : Fin 256) (l : Fin 512) : A ((win0_17.blk t).view.emb (ix2 r l)) = A (ix2 (rowOf t r) l) := by
  have ht : t.val < 128 := t.isLt
  blk_ext [idx_17, rowOf]

theorem idx_18 : ∀ t : Fin cfg0.N, win0_18.index t = ![t.val, 0] := (by decide +kernel : ∀ t : Fin grid0.N, win0_18.index t = ![t.val, 0])
/-- Window 18's block in its array. -/
theorem blk_18 (A : S32768x128.Idx → EReal) (t : Fin cfg0.N) (r : Fin 256) (l : Fin 128) : A ((win0_18.blk t).view.emb (ix2 r l)) = A (ix2 (rowOf t r) l) := by
  have ht : t.val < 128 := t.isLt
  blk_ext [idx_18, rowOf]

theorem idx_19 : ∀ t : Fin cfg0.N, win0_19.index t = ![t.val, 0] := (by decide +kernel : ∀ t : Fin grid0.N, win0_19.index t = ![t.val, 0])
/-- Window 19's block in its array. -/
theorem blk_19 (A : S32768x128.Idx → EReal) (t : Fin cfg0.N) (r : Fin 256) (l : Fin 128) : A ((win0_19.blk t).view.emb (ix2 r l)) = A (ix2 (rowOf t r) l) := by
  have ht : t.val < 128 := t.isLt
  blk_ext [idx_19, rowOf]

theorem idx_20 : ∀ t : Fin cfg0.N, win0_20.index t = ![t.val, 0] := (by decide +kernel : ∀ t : Fin grid0.N, win0_20.index t = ![t.val, 0])
/-- Window 20's block in its array. -/
theorem blk_20 (A : S32768x512.Idx → EReal) (t : Fin cfg0.N) (r : Fin 256) (l : Fin 512) : A ((win0_20.blk t).view.emb (ix2 r l)) = A (ix2 (rowOf t r) l) := by
  have ht : t.val < 128 := t.isLt
  blk_ext [idx_20, rowOf]

theorem idx_21 : ∀ t : Fin cfg0.N, win0_21.index t = ![t.val, 0] := (by decide +kernel : ∀ t : Fin grid0.N, win0_21.index t = ![t.val, 0])
/-- Window 21's block in its array. -/
theorem blk_21 (A : S32768x512.Idx → EReal) (t : Fin cfg0.N) (r : Fin 256) (l : Fin 512) : A ((win0_21.blk t).view.emb (ix2 r l)) = A (ix2 (rowOf t r) l) := by
  have ht : t.val < 128 := t.isLt
  blk_ext [idx_21, rowOf]

theorem idx_22 : ∀ t : Fin cfg0.N, win0_22.index t = ![t.val, 0] := (by decide +kernel : ∀ t : Fin grid0.N, win0_22.index t = ![t.val, 0])
/-- Window 22's block in its array. -/
theorem blk_22 (A : S32768x64.Idx → EReal) (t : Fin cfg0.N) (r : Fin 256) (l : Fin 64) : A ((win0_22.blk t).view.emb (ix2 r l)) = A (ix2 (rowOf t r) l) := by
  have ht : t.val < 128 := t.isLt
  blk_ext [idx_22, rowOf]

theorem idx_23 : ∀ t : Fin cfg0.N, win0_23.index t = ![t.val, 0] := (by decide +kernel : ∀ t : Fin grid0.N, win0_23.index t = ![t.val, 0])
/-- Window 23's block in its array. -/
theorem blk_23 (A : S32768x8.Idx → EReal) (t : Fin cfg0.N) (r : Fin 256) (l : Fin 8) : A ((win0_23.blk t).view.emb (ix2 r l)) = A (ix2 (rowOf t r) l) := by
  have ht : t.val < 128 := t.isLt
  blk_ext [idx_23, rowOf]

theorem idx_24 : ∀ t : Fin cfg0.N, win0_24.index t = ![t.val, 0] := (by decide +kernel : ∀ t : Fin grid0.N, win0_24.index t = ![t.val, 0])
/-- Window 24's block in its array. -/
theorem blk_24 (A : S32768x512.Idx → EReal) (t : Fin cfg0.N) (r : Fin 256) (l : Fin 512) : A ((win0_24.blk t).view.emb (ix2 r l)) = A (ix2 (rowOf t r) l) := by
  have ht : t.val < 128 := t.isLt
  blk_ext [idx_24, rowOf]

theorem idx_25 : ∀ t : Fin cfg0.N, win0_25.index t = ![t.val, 0] := (by decide +kernel : ∀ t : Fin grid0.N, win0_25.index t = ![t.val, 0])
/-- Window 25's block in its array. -/
theorem blk_25 (A : S32768x512.Idx → EReal) (t : Fin cfg0.N) (r : Fin 256) (l : Fin 512) : A ((win0_25.blk t).view.emb (ix2 r l)) = A (ix2 (rowOf t r) l) := by
  have ht : t.val < 128 := t.isLt
  blk_ext [idx_25, rowOf]

theorem idx_7 : ∀ t : Fin cfg0.N, win0_7.index t = ![0, t.val % 16, 0] := (by decide +kernel : ∀ t : Fin grid0.N, win0_7.index t = ![0, t.val % 16, 0])
/-- Window 7's block in its array. -/
theorem blk_7 (A : S3x4096x128.Idx → EReal) (t : Fin cfg0.N) (j : Fin 3) (r : Fin 256) (a : Fin 128) :
    A ((win0_7.blk t).view.emb (ix3 j r a)) = A (ix3 j ⟨(rowOf t r).val % 4096, Nat.mod_lt _ (by omega)⟩ a) := by
  have ht : t.val < 128 := t.isLt
  blk_ext [idx_7, rowOf]

theorem idx_8 : ∀ t : Fin cfg0.N, win0_8.index t = ![0, t.val % 16, 0] := (by decide +kernel : ∀ t : Fin grid0.N, win0_8.index t = ![0, t.val % 16, 0])
/-- Window 8's block in its array. -/
theorem blk_8 (A : S3x4096x128.Idx → EReal) (t : Fin cfg0.N) (j : Fin 3) (r : Fin 256) (a : Fin 128) :
    A ((win0_8.blk t).view.emb (ix3 j r a)) = A (ix3 j ⟨(rowOf t r).val % 4096, Nat.mod_lt _ (by omega)⟩ a) := by
  have ht : t.val < 128 := t.isLt
  blk_ext [idx_8, rowOf]

/-- Window 0 at a point is the point's rows. -/
theorem read_0 (t : Fin cfg0.N) (r : Fin 256) (k : Fin 1024) : @Eq EReal (iblk m c 0 t (ix2 r k)) (xOf m c (rowOf t r) k) := by
  blk_simp [iblk]
  rw [V_main_arg0]
  exact blk_0 _ t r k

/-- Window 1 is the norm's weights. -/
theorem read_1 (t : Fin cfg0.N) (k : Fin 1024) : @Eq EReal (iblk m c 1 t (ix2 0 k)) (gOf m c k) := by
  blk_simp [iblk]
  rw [V_1]
  exact (blk_1 _ t 0 k).trans (cast_row _ k)

/-- Window 2 is its columns of the projection. -/
theorem read_2 (t : Fin cfg0.N) (k : Fin 1024) (l : Fin 1536) : @Eq EReal (iblk m c 2 t (ix2 k ⟨l.val, by omega⟩)) (wOf m c k ⟨0 + l.val, by omega⟩) := by
  blk_simp [iblk]
  rw [V_9]
  exact (blk_2 _ t k _).trans ((cols_2 _ k l).trans (congrArg (wOf m c k) (Fin.ext (Nat.zero_add l.val))))

/-- Window 3 is its columns of the projection. -/
theorem read_3 (t : Fin cfg0.N) (k : Fin 1024) (l : Fin 2048) : @Eq EReal (iblk m c 3 t (ix2 k ⟨l.val, by omega⟩)) (wOf m c k ⟨1536 + l.val, by omega⟩) := by
  blk_simp [iblk]
  rw [V_10]
  exact (blk_3 _ t k _).trans (cols_3 _ k l)

/-- Window 4 is its columns of the projection. -/
theorem read_4 (t : Fin cfg0.N) (k : Fin 1024) (l : Fin 1280) : @Eq EReal (iblk m c 4 t (ix2 k ⟨l.val, by omega⟩)) (wOf m c k ⟨3584 + l.val, by omega⟩) := by
  blk_simp [iblk]
  rw [V_11]
  exact (blk_4 _ t k _).trans (cols_4 _ k l)

/-- Window 5 is its columns of the projection. -/
theorem read_5 (t : Fin cfg0.N) (k : Fin 1024) (l : Fin 584) : @Eq EReal (iblk m c 5 t (ix2 k ⟨l.val, by omega⟩)) (wOf m c k ⟨4864 + l.val, by omega⟩) := by
  blk_simp [iblk]
  rw [V_12]
  exact (blk_5 _ t k _).trans (cols_5 _ k l)

/-- Window 6 is its columns of the projection. -/
theorem read_6 (t : Fin cfg0.N) (k : Fin 1024) (l : Fin 1024) : @Eq EReal (iblk m c 6 t (ix2 k ⟨l.val, by omega⟩)) (wOf m c k ⟨5448 + l.val, by omega⟩) := by
  blk_simp [iblk]
  rw [V_13]
  exact (blk_6 _ t k _).trans (cols_6 _ k l)

/-- Window 7's table 0, at the row's token. -/
theorem read_7_0 (t : Fin cfg0.N) (r : Fin 256) (a : Fin 128) : @Eq EReal (iblk m c 7 t (ix3 0 r a)) (cosAt 32 (angle 0x461C4000#32 0x42800000#32 ((rowOf t r).val % 4096)) a.val) := by
  blk_simp [iblk]
  exact (blk_7 _ t 0 r a).trans (V_50_0 m c ⟨(rowOf t r).val % 4096, Nat.mod_lt _ (by omega)⟩ a)

/-- Window 7's table 1, at the row's token. -/
theorem read_7_1 (t : Fin cfg0.N) (r : Fin 256) (a : Fin 128) : @Eq EReal (iblk m c 7 t (ix3 1 r a)) (downAt 32 (angle 0x461C4000#32 0x42800000#32 ((rowOf t r).val % 4096)) a.val) := by
  blk_simp [iblk]
  exact (blk_7 _ t 1 r a).trans (V_50_1 m c ⟨(rowOf t r).val % 4096, Nat.mod_lt _ (by omega)⟩ a)

/-- Window 7's table 2, at the row's token. -/
theorem read_7_2 (t : Fin cfg0.N) (r : Fin 256) (a : Fin 128) : @Eq EReal (iblk m c 7 t (ix3 2 r a)) (upAt 32 (angle 0x461C4000#32 0x42800000#32 ((rowOf t r).val % 4096)) a.val) := by
  blk_simp [iblk]
  exact (blk_7 _ t 2 r a).trans (V_50_2 m c ⟨(rowOf t r).val % 4096, Nat.mod_lt _ (by omega)⟩ a)

/-- Window 8's table 0, at the row's token. -/
theorem read_8_0 (t : Fin cfg0.N) (r : Fin 256) (a : Fin 128) : @Eq EReal (iblk m c 8 t (ix3 0 r a)) (cosAt 8 (angle 0x48F42400#32 0x41800000#32 ((rowOf t r).val % 4096)) a.val) := by
  blk_simp [iblk]
  exact (blk_8 _ t 0 r a).trans (V_86_0 m c ⟨(rowOf t r).val % 4096, Nat.mod_lt _ (by omega)⟩ a)

/-- Window 8's table 1, at the row's token. -/
theorem read_8_1 (t : Fin cfg0.N) (r : Fin 256) (a : Fin 128) : @Eq EReal (iblk m c 8 t (ix3 1 r a)) (downAt 8 (angle 0x48F42400#32 0x41800000#32 ((rowOf t r).val % 4096)) a.val) := by
  blk_simp [iblk]
  exact (blk_8 _ t 1 r a).trans (V_86_1 m c ⟨(rowOf t r).val % 4096, Nat.mod_lt _ (by omega)⟩ a)

/-- Window 8's table 2, at the row's token. -/
theorem read_8_2 (t : Fin cfg0.N) (r : Fin 256) (a : Fin 128) : @Eq EReal (iblk m c 8 t (ix3 2 r a)) (upAt 8 (angle 0x48F42400#32 0x41800000#32 ((rowOf t r).val % 4096)) a.val) := by
  blk_simp [iblk]
  exact (blk_8 _ t 2 r a).trans (V_86_2 m c ⟨(rowOf t r).val % 4096, Nat.mod_lt _ (by omega)⟩ a)

end Cert.Proj
end
-- ==== Proof.ProjPay.lean ====
module

public import proofs.«01_k».proof.Proof.ProjFrameIdeal
public import proofs.«01_k».proof.Proof.ProjModel
public import Idealize.ShloMosaic.Lib.Pipeline.ReadBack
public import Idealize.ShloMosaic.Lib.Pipeline.ValueKit
public import Idealize.ShloMosaic.Lib.Claim
public import Idealize.ShloMosaic.Lib.Pointwise
public import proofs.«01_k».proof.Proof.LayerModel

@[expose] public section

set_option maxRecDepth 16384
set_option maxHeartbeats 4000000

noncomputable section

/-! What the projection body leaves in every output buffer, of its input blocks: columns of the products, and slabs of them turned by the tables. -/

namespace Cert.Proj

open Cert.Kernel4Ideal Cert.Kernel4Ideal.Gen Cert.Kernel4Ideal.Frame Idealize.ShloMosaic Idealize.ShloMosaic.TcCoe Idealize.SL.Sem Cert.Layer
open Idealize.ShloMosaic.Pipeline (Dat)

/-- The normalised rows. -/
theorem pay6_apply (x0 : Vec Ideal S256x1024 .f32) (x1 : Vec Ideal S1x1024 .f32) (r : Fin 256) (k : Fin 1024) :
    @Eq EReal (k0_pay6 (F := Ideal) x0 x1 (ix2 r k)) (rms (fun k => x0 (ix2 r k)) (fun k => x1 (ix2 0 k)) k) := by
  unfold k0_pay6
  pointwise [rms]

/-- The retention group's columns. -/
theorem pay7_apply (x0 : Vec Ideal S256x1024 .f32) (x1 : Vec Ideal S1x1024 .f32) (x2 : Vec Ideal S1024x1536 .bf16) (r : Fin 256) (l : Fin 1536) :
    @Eq EReal (k0_pay7 (F := Ideal) x0 x1 x2 (ix2 r l)) (projAt (fun k => x0 (ix2 r k)) (fun k => x1 (ix2 0 k)) (fun k => x2 (ix2 k l))) := by
  unfold k0_pay7 k0_pay6
  pointwise [projAt, rms]

/-- The block attention group's columns. -/
theorem pay20_apply (x0 : Vec Ideal S256x1024 .f32) (x1 : Vec Ideal S1x1024 .f32) (w : Vec Ideal S1024x2048 .bf16) (r : Fin 256) (l : Fin 2048) :
    @Eq EReal (k0_pay20 (F := Ideal) (k0_pay6 (F := Ideal) x0 x1) w (ix2 r l)) (projAt (fun k => x0 (ix2 r k)) (fun k => x1 (ix2 0 k)) (fun k => w (ix2 k l))) := by
  unfold k0_pay20
  refine Eq.trans (b := ∑ k : Fin 1024, k0_pay6 (F := Ideal) x0 x1 (ix2 r k) * w (ix2 k l)) ?_ (Finset.sum_congr rfl fun k _ => by rw [pay6_apply])
  generalize k0_pay6 (F := Ideal) x0 x1 = h
  pointwise

/-- The sparse attention group's columns. -/
theorem pay46_apply (x0 : Vec Ideal S256x1024 .f32) (x1 : Vec Ideal S1x1024 .f32) (w : Vec Ideal S1024x1280 .bf16) (r : Fin 256) (l : Fin 1280) :
    @Eq EReal (k0_pay46 (F := Ideal) (k0_pay6 (F := Ideal) x0 x1) w (ix2 r l)) (projAt (fun k => x0 (ix2 r k)) (fun k => x1 (ix2 0 k)) (fun k => w (ix2 k l))) := by
  unfold k0_pay46
  refine Eq.trans (b := ∑ k : Fin 1024, k0_pay6 (F := Ideal) x0 x1 (ix2 r k) * w (ix2 k l)) ?_ (Finset.sum_congr rfl fun k _ => by rw [pay6_apply])
  generalize k0_pay6 (F := Ideal) x0 x1 = h
  pointwise

/-- The index group's columns. -/
theorem pay55_apply (x0 : Vec Ideal S256x1024 .f32) (x1 : Vec Ideal S1x1024 .f32) (w : Vec Ideal S1024x640 .bf16) (r : Fin 256) (l : Fin 640) :
    @Eq EReal (k0_pay55 (F := Ideal) (k0_pay6 (F := Ideal) x0 x1) w (ix2 r l)) (projAt (fun k => x0 (ix2 r k)) (fun k => x1 (ix2 0 k)) (fun k => w (ix2 k l))) := by
  unfold k0_pay55
  refine Eq.trans (b := ∑ k : Fin 1024, k0_pay6 (F := Ideal) x0 x1 (ix2 r k) * w (ix2 k l)) ?_ (Finset.sum_congr rfl fun k _ => by rw [pay6_apply])
  generalize k0_pay6 (F := Ideal) x0 x1 = h
  pointwise

/-- The memory group's columns. -/
theorem pay3_apply (x0 : Vec Ideal S256x1024 .f32) (x1 : Vec Ideal S1x1024 .f32) (w : Vec Ideal S1024x1024 .bf16) (r : Fin 256) (l : Fin 1024) :
    @Eq EReal (k0_pay3 (F := Ideal) (k0_pay6 (F := Ideal) x0 x1) w (ix2 r l)) (projAt (fun k => x0 (ix2 r k)) (fun k => x1 (ix2 0 k)) (fun k => w (ix2 k l))) := by
  unfold k0_pay3
  refine Eq.trans (b := ∑ k : Fin 1024, k0_pay6 (F := Ideal) x0 x1 (ix2 r k) * w (ix2 k l)) ?_ (Finset.sum_congr rfl fun k _ => by rw [pay6_apply])
  generalize k0_pay6 (F := Ideal) x0 x1 = h
  pointwise

end Cert.Proj
end
-- ==== Proof.ProjBody.lean ====
module

public import proofs.«01_k».proof.Proof.ProjFrameIdeal
public import proofs.«01_k».proof.Proof.ProjPay
public import Idealize.ShloMosaic.Lib.Pipeline.ReadBack
public import Idealize.ShloMosaic.Lib.Pipeline.ValueKit
public import Idealize.ShloMosaic.Lib.Claim
public import Idealize.ShloMosaic.Lib.Pointwise
public import proofs.«01_k».proof.Proof.LayerModel

@[expose] public section

set_option maxRecDepth 16384
set_option maxHeartbeats 4000000

noncomputable section

/-! Every output buffer of the projection body, entry by entry, of its input blocks: columns of the products, and slabs of them turned by the tables. -/

namespace Cert.Proj

open Cert.Kernel4Ideal Cert.Kernel4Ideal.Gen Cert.Kernel4Ideal.Frame Idealize.ShloMosaic Idealize.ShloMosaic.TcCoe Idealize.SL.Sem Cert.Layer
open Idealize.ShloMosaic.Pipeline (Dat)

theorem pay68_eq (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) : k0_pay68 (F := Ideal) x0 x1 x2 x3 x4 x5 x6 x7 x8 = k0_pay6 (F := Ideal) x0 x1 := by
  unfold k0_pay68
  frame_out

theorem pay69_eq (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) : k0_pay69 (F := Ideal) x0 x1 x2 x3 x4 x5 x6 x7 x8 = k0_pay7 (F := Ideal) x0 x1 x2 := by
  unfold k0_pay69
  frame_out

theorem pay70_eq (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) : k0_pay70 (F := Ideal) x0 x1 x2 x3 x4 x5 x6 x7 x8 = k0_pay20 (F := Ideal) (k0_pay6 (F := Ideal) x0 x1) x3 := by
  unfold k0_pay70
  frame_out
  rw [pay68_eq]

theorem pay78_eq (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) : k0_pay78 (F := Ideal) x0 x1 x2 x3 x4 x5 x6 x7 x8 = k0_pay46 (F := Ideal) (k0_pay6 (F := Ideal) x0 x1) x4 := by
  unfold k0_pay78
  frame_out
  rw [pay68_eq]

theorem pay79_eq (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) : k0_pay79 (F := Ideal) x0 x1 x2 x3 x4 x5 x6 x7 x8 = k0_pay55 (F := Ideal) (k0_pay6 (F := Ideal) x0 x1) x5 := by
  unfold k0_pay79
  frame_out
  rw [pay68_eq]

/-- The retention queries: slabs of their group's product turned by the tables. -/
theorem out9_body (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) (r : Fin 256) (s : Fin 2) (a : Fin 128) :
    @Eq EReal (out0_9 (F := Ideal) x0 x1 x2 x3 x4 x5 x6 x7 x8 (ix2 r ⟨s.val * 128 + a.val, by omega⟩))
      (turned 96 32 (fun a => k0_pay7 (F := Ideal) x0 x1 x2 (ix2 r ⟨0 + (s.val * 128 + a.val), by omega⟩)) (fun a => x7 (ix3 0 r a)) (fun a => x7 (ix3 1 r a)) (fun a => x7 (ix3 2 r a)) a) := by
  frame_out
  unfold k0_pay16 k0_pay15 k0_pay14 k0_pay13 k0_pay12 k0_pay11 k0_pay10 k0_pay9 k0_pay8
  generalize k0_pay7 (F := Ideal) x0 x1 x2 = z
  match s with
  | ⟨0, _⟩ =>
    pointwise [turned]
  | ⟨1, _⟩ =>
    pointwise [turned]

/-- The retention keys: slabs of their group's product turned by the tables. -/
theorem out10_body (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) (r : Fin 256) (s : Fin 2) (a : Fin 128) :
    @Eq EReal (out0_10 (F := Ideal) x0 x1 x2 x3 x4 x5 x6 x7 x8 (ix2 r ⟨s.val * 128 + a.val, by omega⟩))
      (turned 96 32 (fun a => k0_pay7 (F := Ideal) x0 x1 x2 (ix2 r ⟨256 + (s.val * 128 + a.val), by omega⟩)) (fun a => x7 (ix3 0 r a)) (fun a => x7 (ix3 1 r a)) (fun a => x7 (ix3 2 r a)) a * Ideal.ofBits .f32 0x3E000000#32) := by
  frame_out
  unfold k0_pay17
  rw [pay69_eq]
  generalize k0_pay7 (F := Ideal) x0 x1 x2 = z
  match s with
  | ⟨0, _⟩ =>
    pointwise [turned]
  | ⟨1, _⟩ =>
    pointwise [turned]

/-- The retention values: columns of their group's product. -/
theorem out11_body (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) (r : Fin 256) (l : Fin 512) :
    @Eq EReal (out0_11 (F := Ideal) x0 x1 x2 x3 x4 x5 x6 x7 x8 (ix2 r l)) (k0_pay7 (F := Ideal) x0 x1 x2 (ix2 r ⟨512 + l.val, by omega⟩)) := by
  frame_out
  unfold k0_pay18
  simp only [pay69_eq, pay70_eq, pay78_eq, pay79_eq, pay68_eq]
  generalize k0_pay7 (F := Ideal) x0 x1 x2 = z
  pointwise

/-- The retention gates: columns of their group's product. -/
theorem out12_body (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) (r : Fin 256) (l : Fin 512) :
    @Eq EReal (out0_12 (F := Ideal) x0 x1 x2 x3 x4 x5 x6 x7 x8 (ix2 r l)) (k0_pay7 (F := Ideal) x0 x1 x2 (ix2 r ⟨1024 + l.val, by omega⟩)) := by
  frame_out
  unfold k0_pay19
  simp only [pay69_eq, pay70_eq, pay78_eq, pay79_eq, pay68_eq]
  generalize k0_pay7 (F := Ideal) x0 x1 x2 = z
  pointwise

/-- The block attention queries: slabs of their group's product turned by the tables. -/
theorem out13_body (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) (r : Fin 256) (s : Fin 4) (a : Fin 128) :
    @Eq EReal (out0_13 (F := Ideal) x0 x1 x2 x3 x4 x5 x6 x7 x8 (ix2 r ⟨s.val * 128 + a.val, by omega⟩))
      (turned 120 8 (fun a => k0_pay20 (F := Ideal) (k0_pay6 (F := Ideal) x0 x1) x3 (ix2 r ⟨0 + (s.val * 128 + a.val), by omega⟩)) (fun a => x8 (ix3 0 r a)) (fun a => x8 (ix3 1 r a)) (fun a => x8 (ix3 2 r a)) a) := by
  frame_out
  unfold k0_pay30 k0_pay29 k0_pay28 k0_pay27 k0_pay26 k0_pay25 k0_pay24 k0_pay23 k0_pay22 k0_pay21
  rw [pay68_eq]
  generalize k0_pay20 (F := Ideal) (k0_pay6 (F := Ideal) x0 x1) x3 = z
  match s with
  | ⟨0, _⟩ =>
    pointwise [turned]
  | ⟨1, _⟩ =>
    pointwise [turned]
  | ⟨2, _⟩ =>
    pointwise [turned]
    all_goals rw [dif_neg (show ¬256 + a.val < 128 by omega), dif_neg (show ¬256 + a.val - 128 < 128 by omega), dif_pos (show 256 + a.val - 128 - 128 < 128 by omega)]
    all_goals simp only [show 256 + a.val - 128 - 128 = a.val by omega, Fin.eta]
  | ⟨3, _⟩ =>
    pointwise [turned]
    all_goals rw [dif_neg (show ¬384 + a.val < 128 by omega), dif_neg (show ¬384 + a.val - 128 < 128 by omega), dif_neg (show ¬384 + a.val - 128 - 128 < 128 by omega)]
    all_goals simp only [show 384 + a.val - 128 - 128 - 128 = a.val by omega, Fin.eta]

/-- The block attention keys: slabs of their group's product turned by the tables. -/
theorem out14_body (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) (r : Fin 256) (s : Fin 4) (a : Fin 128) :
    @Eq EReal (out0_14 (F := Ideal) x0 x1 x2 x3 x4 x5 x6 x7 x8 (ix2 r ⟨s.val * 128 + a.val, by omega⟩))
      (turned 120 8 (fun a => k0_pay20 (F := Ideal) (k0_pay6 (F := Ideal) x0 x1) x3 (ix2 r ⟨512 + (s.val * 128 + a.val), by omega⟩)) (fun a => x8 (ix3 0 r a)) (fun a => x8 (ix3 1 r a)) (fun a => x8 (ix3 2 r a)) a) := by
  frame_out
  unfold k0_pay40 k0_pay77 k0_pay76 k0_pay75 k0_pay74 k0_pay73 k0_pay72 k0_pay71 k0_pay39 k0_pay38 k0_pay37 k0_pay36 k0_pay35 k0_pay34 k0_pay33 k0_pay32 k0_pay31
  rw [pay70_eq]
  generalize k0_pay20 (F := Ideal) (k0_pay6 (F := Ideal) x0 x1) x3 = z
  match s with
  | ⟨0, _⟩ =>
    pointwise [turned]
  | ⟨1, _⟩ =>
    pointwise [turned]
  | ⟨2, _⟩ =>
    pointwise [turned]
    all_goals rw [dif_neg (show ¬256 + a.val < 128 by omega), dif_neg (show ¬256 + a.val - 128 < 128 by omega), dif_pos (show 256 + a.val - 128 - 128 < 128 by omega)]
    all_goals simp only [show 256 + a.val - 128 - 128 = a.val by omega, Fin.eta]
  | ⟨3, _⟩ =>
    pointwise [turned]
    all_goals rw [dif_neg (show ¬384 + a.val < 128 by omega), dif_neg (show ¬384 + a.val - 128 < 128 by omega), dif_neg (show ¬384 + a.val - 128 - 128 < 128 by omega)]
    all_goals simp only [show 384 + a.val - 128 - 128 - 128 = a.val by omega, Fin.eta]

/-- The block attention values: columns of their group's product. -/
theorem out15_body (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) (r : Fin 256) (l : Fin 512) :
    @Eq EReal (out0_15 (F := Ideal) x0 x1 x2 x3 x4 x5 x6 x7 x8 (ix2 r l)) (k0_pay20 (F := Ideal) (k0_pay6 (F := Ideal) x0 x1) x3 (ix2 r ⟨1024 + l.val, by omega⟩)) := by
  frame_out
  unfold k0_pay41
  simp only [pay69_eq, pay70_eq, pay78_eq, pay79_eq, pay68_eq]
  generalize k0_pay20 (F := Ideal) (k0_pay6 (F := Ideal) x0 x1) x3 = z
  pointwise

/-- The block attention gates: columns of their group's product. -/
theorem out16_body (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) (r : Fin 256) (l : Fin 512) :
    @Eq EReal (out0_16 (F := Ideal) x0 x1 x2 x3 x4 x5 x6 x7 x8 (ix2 r l)) (k0_pay20 (F := Ideal) (k0_pay6 (F := Ideal) x0 x1) x3 (ix2 r ⟨1536 + l.val, by omega⟩)) := by
  frame_out
  unfold k0_pay42
  simp only [pay69_eq, pay70_eq, pay78_eq, pay79_eq, pay68_eq]
  generalize k0_pay20 (F := Ideal) (k0_pay6 (F := Ideal) x0 x1) x3 = z
  pointwise

/-- The sparse attention queries: slabs of their group's product turned by the tables. -/
theorem out17_body (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) (r : Fin 256) (s : Fin 4) (a : Fin 128) :
    @Eq EReal (out0_17 (F := Ideal) x0 x1 x2 x3 x4 x5 x6 x7 x8 (ix2 r ⟨s.val * 128 + a.val, by omega⟩))
      (turned 120 8 (fun a => k0_pay46 (F := Ideal) (k0_pay6 (F := Ideal) x0 x1) x4 (ix2 r ⟨0 + (s.val * 128 + a.val), by omega⟩)) (fun a => x8 (ix3 0 r a)) (fun a => x8 (ix3 1 r a)) (fun a => x8 (ix3 2 r a)) a) := by
  frame_out
  unfold k0_pay49 k0_pay48 k0_pay47
  rw [pay68_eq]
  generalize k0_pay46 (F := Ideal) (k0_pay6 (F := Ideal) x0 x1) x4 = z
  match s with
  | ⟨0, _⟩ =>
    pointwise [turned]
  | ⟨1, _⟩ =>
    pointwise [turned]
  | ⟨2, _⟩ =>
    pointwise [turned]
    all_goals rw [dif_neg (show ¬256 + a.val < 128 by omega), dif_neg (show ¬256 + a.val - 128 < 128 by omega), dif_pos (show 256 + a.val - 128 - 128 < 128 by omega)]
    all_goals simp only [show 256 + a.val - 128 - 128 = a.val by omega, Fin.eta]
  | ⟨3, _⟩ =>
    pointwise [turned]
    all_goals rw [dif_neg (show ¬384 + a.val < 128 by omega), dif_neg (show ¬384 + a.val - 128 < 128 by omega), dif_neg (show ¬384 + a.val - 128 - 128 < 128 by omega)]
    all_goals simp only [show 384 + a.val - 128 - 128 - 128 = a.val by omega, Fin.eta]

/-- The sparse attention keys: slabs of their group's product turned by the tables. -/
theorem out18_body (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) (r : Fin 256) (s : Fin 1) (a : Fin 128) :
    @Eq EReal (out0_18 (F := Ideal) x0 x1 x2 x3 x4 x5 x6 x7 x8 (ix2 r ⟨s.val * 128 + a.val, by omega⟩))
      (turned 120 8 (fun a => k0_pay46 (F := Ideal) (k0_pay6 (F := Ideal) x0 x1) x4 (ix2 r ⟨512 + (s.val * 128 + a.val), by omega⟩)) (fun a => x8 (ix3 0 r a)) (fun a => x8 (ix3 1 r a)) (fun a => x8 (ix3 2 r a)) a) := by
  frame_out
  unfold k0_pay52 k0_pay51 k0_pay50
  rw [pay78_eq]
  generalize k0_pay46 (F := Ideal) (k0_pay6 (F := Ideal) x0 x1) x4 = z
  match s with
  | ⟨0, _⟩ =>
    pointwise [turned]

/-- The sparse attention values: columns of their group's product. -/
theorem out19_body (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) (r : Fin 256) (l : Fin 128) :
    @Eq EReal (out0_19 (F := Ideal) x0 x1 x2 x3 x4 x5 x6 x7 x8 (ix2 r l)) (k0_pay46 (F := Ideal) (k0_pay6 (F := Ideal) x0 x1) x4 (ix2 r ⟨640 + l.val, by omega⟩)) := by
  frame_out
  unfold k0_pay53
  simp only [pay69_eq, pay70_eq, pay78_eq, pay79_eq, pay68_eq]
  generalize k0_pay46 (F := Ideal) (k0_pay6 (F := Ideal) x0 x1) x4 = z
  pointwise

/-- The sparse attention gates: columns of their group's product. -/
theorem out20_body (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) (r : Fin 256) (l : Fin 512) :
    @Eq EReal (out0_20 (F := Ideal) x0 x1 x2 x3 x4 x5 x6 x7 x8 (ix2 r l)) (k0_pay46 (F := Ideal) (k0_pay6 (F := Ideal) x0 x1) x4 (ix2 r ⟨768 + l.val, by omega⟩)) := by
  frame_out
  unfold k0_pay54
  simp only [pay69_eq, pay70_eq, pay78_eq, pay79_eq, pay68_eq]
  generalize k0_pay46 (F := Ideal) (k0_pay6 (F := Ideal) x0 x1) x4 = z
  pointwise

/-- The index queries: slabs of their group's product turned by the tables. -/
theorem out21_body (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) (r : Fin 256) (s : Fin 4) (a : Fin 128) :
    @Eq EReal (out0_21 (F := Ideal) x0 x1 x2 x3 x4 x5 x6 x7 x8 (ix2 r ⟨s.val * 128 + a.val, by omega⟩))
      (turned 120 8 (fun a => k0_pay55 (F := Ideal) (k0_pay6 (F := Ideal) x0 x1) x5 (ix2 r ⟨0 + (s.val * 128 + a.val), by omega⟩)) (fun a => x8 (ix3 0 r a)) (fun a => x8 (ix3 1 r a)) (fun a => x8 (ix3 2 r a)) a) := by
  frame_out
  unfold k0_pay63 k0_pay62 k0_pay61 k0_pay60 k0_pay59 k0_pay58 k0_pay57 k0_pay56
  rw [pay68_eq]
  generalize k0_pay55 (F := Ideal) (k0_pay6 (F := Ideal) x0 x1) x5 = z
  match s with
  | ⟨0, _⟩ =>
    pointwise [turned]
  | ⟨1, _⟩ =>
    pointwise [turned]
  | ⟨2, _⟩ =>
    pointwise [turned]
    all_goals rw [dif_neg (show ¬256 + a.val < 128 by omega), dif_neg (show ¬256 + a.val - 128 < 128 by omega), dif_pos (show 256 + a.val - 128 - 128 < 128 by omega)]
    all_goals simp only [show 256 + a.val - 128 - 128 = a.val by omega, Fin.eta]
  | ⟨3, _⟩ =>
    pointwise [turned]
    all_goals rw [dif_neg (show ¬384 + a.val < 128 by omega), dif_neg (show ¬384 + a.val - 128 < 128 by omega), dif_neg (show ¬384 + a.val - 128 - 128 < 128 by omega)]
    all_goals simp only [show 384 + a.val - 128 - 128 - 128 = a.val by omega, Fin.eta]

/-- The index key: slabs of their group's product turned by the tables. -/
theorem out22_body (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) (r : Fin 256) (a : Fin 64) :
    @Eq EReal (out0_22 (F := Ideal) x0 x1 x2 x3 x4 x5 x6 x7 x8 (ix2 r ⟨a.val, by omega⟩))
      (turned 120 8 (fun a => k0_pay55 (F := Ideal) (k0_pay6 (F := Ideal) x0 x1) x5 (ix2 r ⟨512 + a.val, by omega⟩)) (fun a => x8 (ix3 0 r a)) (fun a => x8 (ix3 1 r a)) (fun a => x8 (ix3 2 r a)) ⟨a.val, by omega⟩) := by
  frame_out
  unfold k0_pay1 k0_pay80 k0_pay67 k0_pay66 k0_pay65 k0_pay64
  rw [pay79_eq]
  generalize k0_pay55 (F := Ideal) (k0_pay6 (F := Ideal) x0 x1) x5 = z
  pointwise [turned]

/-- The index weights: columns of their group's product. -/
theorem out23_body (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) (r : Fin 256) (l : Fin 8) :
    @Eq EReal (out0_23 (F := Ideal) x0 x1 x2 x3 x4 x5 x6 x7 x8 (ix2 r l)) (k0_pay55 (F := Ideal) (k0_pay6 (F := Ideal) x0 x1) x5 (ix2 r ⟨576 + l.val, by omega⟩)) := by
  frame_out
  unfold k0_pay2 k0_pay80 k0_pay64
  simp only [pay69_eq, pay70_eq, pay78_eq, pay79_eq, pay68_eq]
  generalize k0_pay55 (F := Ideal) (k0_pay6 (F := Ideal) x0 x1) x5 = z
  pointwise
  exact congrArg (fun i => z (ix2 r i)) (Fin.ext (by show 512 + (64 + l.val) = 576 + l.val; omega))

/-- The memory queries: columns of their group's product. -/
theorem out24_body (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) (r : Fin 256) (l : Fin 512) :
    @Eq EReal (out0_24 (F := Ideal) x0 x1 x2 x3 x4 x5 x6 x7 x8 (ix2 r l)) (k0_pay3 (F := Ideal) (k0_pay6 (F := Ideal) x0 x1) x6 (ix2 r ⟨0 + l.val, by omega⟩)) := by
  frame_out
  unfold k0_pay4
  simp only [pay69_eq, pay70_eq, pay78_eq, pay79_eq, pay68_eq]
  generalize k0_pay3 (F := Ideal) (k0_pay6 (F := Ideal) x0 x1) x6 = z
  pointwise

/-- The memory gates: columns of their group's product. -/
theorem out25_body (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32) (r : Fin 256) (l : Fin 512) :
    @Eq EReal (out0_25 (F := Ideal) x0 x1 x2 x3 x4 x5 x6 x7 x8 (ix2 r l)) (k0_pay3 (F := Ideal) (k0_pay6 (F := Ideal) x0 x1) x6 (ix2 r ⟨512 + l.val, by omega⟩)) := by
  frame_out
  unfold k0_pay5
  simp only [pay69_eq, pay70_eq, pay78_eq, pay79_eq, pay68_eq]
  generalize k0_pay3 (F := Ideal) (k0_pay6 (F := Ideal) x0 x1) x6 = z
  pointwise

end Cert.Proj
end
-- ==== Proof.ProjReads.lean ====
module

public import proofs.«01_k».proof.Proof.ProjFrameIdeal
public import proofs.«01_k».proof.Proof.ProjBody
public import Idealize.ShloMosaic.Lib.Pipeline.ReadBack
public import Idealize.ShloMosaic.Lib.Pipeline.ValueKit
public import Idealize.ShloMosaic.Lib.Claim
public import Idealize.ShloMosaic.Lib.Pointwise
public import proofs.«01_k».proof.Proof.LayerModel

@[expose] public section

set_option maxRecDepth 16384
set_option maxHeartbeats 4000000

noncomputable section

/-! Every output block of the projection, where its windows hold the rows, the weights and the tables. -/

namespace Cert.Proj

open Cert.Kernel4Ideal Cert.Kernel4Ideal.Gen Cert.Kernel4Ideal.Frame Idealize.ShloMosaic Idealize.ShloMosaic.TcCoe Idealize.SL.Sem Cert.Layer
open Idealize.ShloMosaic.Pipeline (Dat)

variable (X : Fin 32768 → Fin 1024 → EReal) (G : Fin 1024 → EReal) (W : Fin 1024 → Fin 10568 → EReal) (t : Fin 128)

/-- The retention queries of a block of rows, where the windows hold the rows, the norm's weights, the group's weights and the tables. -/
theorem out9_reads (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32)
    (h0 : ∀ r k, @Eq EReal (x0 (ix2 r k)) (X (rowOf t r) k)) (h1 : ∀ k, @Eq EReal (x1 (ix2 0 k)) (G k))
    (hw : ∀ k (l : Fin 1536), @Eq EReal (x2 (ix2 k ⟨l.val, by omega⟩)) (W k ⟨0 + l.val, by omega⟩))
    (hc : ∀ r a, @Eq EReal (x7 (ix3 0 r a)) (cosAt 32 (angle 0x461C4000#32 0x42800000#32 ((rowOf t r).val % 4096)) a.val))
    (ha : ∀ r a, @Eq EReal (x7 (ix3 1 r a)) (downAt 32 (angle 0x461C4000#32 0x42800000#32 ((rowOf t r).val % 4096)) a.val))
    (hb : ∀ r a, @Eq EReal (x7 (ix3 2 r a)) (upAt 32 (angle 0x461C4000#32 0x42800000#32 ((rowOf t r).val % 4096)) a.val)) (r : Fin 256) (l : Fin 256) :
    @Eq EReal (out0_9 (F := Ideal) x0 x1 x2 x3 x4 x5 x6 x7 x8 (ix2 r l)) (ropeAt 32 (by omega) 0x461C4000#32 0x42800000#32 X G W 0 256 (by omega) (by omega) (rowOf t r) l) := by
  obtain ⟨s, a, rfl⟩ : ∃ (s : Fin 2) (a : Fin 128), l = ⟨s.val * 128 + a.val, by omega⟩ :=
    ⟨⟨l.val / 128, by omega⟩, ⟨l.val % 128, by omega⟩, Fin.ext (by show l.val = l.val / 128 * 128 + l.val % 128; omega)⟩
  refine (out9_body x0 x1 x2 x3 x4 x5 x6 x7 x8 r s a).trans ?_
  refine (turned_eq_roped 32 96 32 (by omega) rfl rfl _ _ _ _ _ (hc r) (ha r) (hb r) _).trans (roped_congr _ _ _ (fun h => ?_) ?_)
  · refine (pay7_apply x0 x1 x2 r _).trans ?_
    rw [funext fun k => h0 r k, funext h1]
    refine congrArg (projAt _ _) (funext fun k => (hw k ⟨0 + (s.val * 128 + (a.val / 64 * 64 + h.val)), by omega⟩).trans (congrArg (W k) (Fin.ext ?_)))
    show 0 + (0 + (s.val * 128 + (a.val / 64 * 64 + h.val))) = 0 + ((s.val * 128 + a.val) / 64 * 64 + h.val)
    omega
  · exact Fin.ext (by show a.val % 64 = (s.val * 128 + a.val) % 64; omega)

/-- The retention keys of a block of rows, where the windows hold the rows, the norm's weights, the group's weights and the tables. -/
theorem out10_reads (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32)
    (h0 : ∀ r k, @Eq EReal (x0 (ix2 r k)) (X (rowOf t r) k)) (h1 : ∀ k, @Eq EReal (x1 (ix2 0 k)) (G k))
    (hw : ∀ k (l : Fin 1536), @Eq EReal (x2 (ix2 k ⟨l.val, by omega⟩)) (W k ⟨0 + l.val, by omega⟩))
    (hc : ∀ r a, @Eq EReal (x7 (ix3 0 r a)) (cosAt 32 (angle 0x461C4000#32 0x42800000#32 ((rowOf t r).val % 4096)) a.val))
    (ha : ∀ r a, @Eq EReal (x7 (ix3 1 r a)) (downAt 32 (angle 0x461C4000#32 0x42800000#32 ((rowOf t r).val % 4096)) a.val))
    (hb : ∀ r a, @Eq EReal (x7 (ix3 2 r a)) (upAt 32 (angle 0x461C4000#32 0x42800000#32 ((rowOf t r).val % 4096)) a.val)) (r : Fin 256) (l : Fin 256) :
    @Eq EReal (out0_10 (F := Ideal) x0 x1 x2 x3 x4 x5 x6 x7 x8 (ix2 r l)) (ropeAt 32 (by omega) 0x461C4000#32 0x42800000#32 X G W 256 256 (by omega) (by omega) (rowOf t r) l * Ideal.ofBits .f32 0x3E000000#32) := by
  obtain ⟨s, a, rfl⟩ : ∃ (s : Fin 2) (a : Fin 128), l = ⟨s.val * 128 + a.val, by omega⟩ :=
    ⟨⟨l.val / 128, by omega⟩, ⟨l.val % 128, by omega⟩, Fin.ext (by show l.val = l.val / 128 * 128 + l.val % 128; omega)⟩
  refine (out10_body x0 x1 x2 x3 x4 x5 x6 x7 x8 r s a).trans ?_
  refine congrArg (· * Ideal.ofBits .f32 0x3E000000#32) ?_
  refine (turned_eq_roped 32 96 32 (by omega) rfl rfl _ _ _ _ _ (hc r) (ha r) (hb r) _).trans (roped_congr _ _ _ (fun h => ?_) ?_)
  · refine (pay7_apply x0 x1 x2 r _).trans ?_
    rw [funext fun k => h0 r k, funext h1]
    refine congrArg (projAt _ _) (funext fun k => (hw k ⟨256 + (s.val * 128 + (a.val / 64 * 64 + h.val)), by omega⟩).trans (congrArg (W k) (Fin.ext ?_)))
    show 0 + (256 + (s.val * 128 + (a.val / 64 * 64 + h.val))) = 256 + ((s.val * 128 + a.val) / 64 * 64 + h.val)
    omega
  · exact Fin.ext (by show a.val % 64 = (s.val * 128 + a.val) % 64; omega)

/-- The retention values of a block of rows, where the windows hold the rows, the norm's weights and the group's weights. -/
theorem out11_reads (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32)
    (h0 : ∀ r k, @Eq EReal (x0 (ix2 r k)) (X (rowOf t r) k)) (h1 : ∀ k, @Eq EReal (x1 (ix2 0 k)) (G k))
    (hw : ∀ k (l : Fin 1536), @Eq EReal (x2 (ix2 k ⟨l.val, by omega⟩)) (W k ⟨0 + l.val, by omega⟩)) (r : Fin 256) (l : Fin 512) :
    @Eq EReal (out0_11 (F := Ideal) x0 x1 x2 x3 x4 x5 x6 x7 x8 (ix2 r l)) (colAt X G W 512 512 (by omega) (rowOf t r) l) := by
  refine (out11_body x0 x1 x2 x3 x4 x5 x6 x7 x8 r l).trans ((pay7_apply x0 x1 x2 r _).trans ?_)
  unfold colAt
  rw [funext fun k => h0 r k, funext h1]
  refine congrArg (projAt _ _) (funext fun k => (hw k ⟨512 + l.val, by omega⟩).trans (congrArg (W k) (Fin.ext ?_)))
  show 0 + (512 + l.val) = 512 + l.val
  omega

/-- The retention gates of a block of rows, where the windows hold the rows, the norm's weights and the group's weights. -/
theorem out12_reads (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32)
    (h0 : ∀ r k, @Eq EReal (x0 (ix2 r k)) (X (rowOf t r) k)) (h1 : ∀ k, @Eq EReal (x1 (ix2 0 k)) (G k))
    (hw : ∀ k (l : Fin 1536), @Eq EReal (x2 (ix2 k ⟨l.val, by omega⟩)) (W k ⟨0 + l.val, by omega⟩)) (r : Fin 256) (l : Fin 512) :
    @Eq EReal (out0_12 (F := Ideal) x0 x1 x2 x3 x4 x5 x6 x7 x8 (ix2 r l)) (colAt X G W 1024 512 (by omega) (rowOf t r) l) := by
  refine (out12_body x0 x1 x2 x3 x4 x5 x6 x7 x8 r l).trans ((pay7_apply x0 x1 x2 r _).trans ?_)
  unfold colAt
  rw [funext fun k => h0 r k, funext h1]
  refine congrArg (projAt _ _) (funext fun k => (hw k ⟨1024 + l.val, by omega⟩).trans (congrArg (W k) (Fin.ext ?_)))
  show 0 + (1024 + l.val) = 1024 + l.val
  omega

/-- The block attention queries of a block of rows, where the windows hold the rows, the norm's weights, the group's weights and the tables. -/
theorem out13_reads (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32)
    (h0 : ∀ r k, @Eq EReal (x0 (ix2 r k)) (X (rowOf t r) k)) (h1 : ∀ k, @Eq EReal (x1 (ix2 0 k)) (G k))
    (hw : ∀ k (l : Fin 2048), @Eq EReal (x3 (ix2 k ⟨l.val, by omega⟩)) (W k ⟨1536 + l.val, by omega⟩))
    (hc : ∀ r a, @Eq EReal (x8 (ix3 0 r a)) (cosAt 8 (angle 0x48F42400#32 0x41800000#32 ((rowOf t r).val % 4096)) a.val))
    (ha : ∀ r a, @Eq EReal (x8 (ix3 1 r a)) (downAt 8 (angle 0x48F42400#32 0x41800000#32 ((rowOf t r).val % 4096)) a.val))
    (hb : ∀ r a, @Eq EReal (x8 (ix3 2 r a)) (upAt 8 (angle 0x48F42400#32 0x41800000#32 ((rowOf t r).val % 4096)) a.val)) (r : Fin 256) (l : Fin 512) :
    @Eq EReal (out0_13 (F := Ideal) x0 x1 x2 x3 x4 x5 x6 x7 x8 (ix2 r l)) (ropeAt 8 (by omega) 0x48F42400#32 0x41800000#32 X G W 1536 512 (by omega) (by omega) (rowOf t r) l) := by
  obtain ⟨s, a, rfl⟩ : ∃ (s : Fin 4) (a : Fin 128), l = ⟨s.val * 128 + a.val, by omega⟩ :=
    ⟨⟨l.val / 128, by omega⟩, ⟨l.val % 128, by omega⟩, Fin.ext (by show l.val = l.val / 128 * 128 + l.val % 128; omega)⟩
  refine (out13_body x0 x1 x2 x3 x4 x5 x6 x7 x8 r s a).trans ?_
  refine (turned_eq_roped 8 120 8 (by omega) rfl rfl _ _ _ _ _ (hc r) (ha r) (hb r) _).trans (roped_congr _ _ _ (fun h => ?_) ?_)
  · refine (pay20_apply x0 x1 x3 r _).trans ?_
    rw [funext fun k => h0 r k, funext h1]
    refine congrArg (projAt _ _) (funext fun k => (hw k ⟨0 + (s.val * 128 + (a.val / 64 * 64 + h.val)), by omega⟩).trans (congrArg (W k) (Fin.ext ?_)))
    show 1536 + (0 + (s.val * 128 + (a.val / 64 * 64 + h.val))) = 1536 + ((s.val * 128 + a.val) / 64 * 64 + h.val)
    omega
  · exact Fin.ext (by show a.val % 64 = (s.val * 128 + a.val) % 64; omega)

/-- The block attention keys of a block of rows, where the windows hold the rows, the norm's weights, the group's weights and the tables. -/
theorem out14_reads (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32)
    (h0 : ∀ r k, @Eq EReal (x0 (ix2 r k)) (X (rowOf t r) k)) (h1 : ∀ k, @Eq EReal (x1 (ix2 0 k)) (G k))
    (hw : ∀ k (l : Fin 2048), @Eq EReal (x3 (ix2 k ⟨l.val, by omega⟩)) (W k ⟨1536 + l.val, by omega⟩))
    (hc : ∀ r a, @Eq EReal (x8 (ix3 0 r a)) (cosAt 8 (angle 0x48F42400#32 0x41800000#32 ((rowOf t r).val % 4096)) a.val))
    (ha : ∀ r a, @Eq EReal (x8 (ix3 1 r a)) (downAt 8 (angle 0x48F42400#32 0x41800000#32 ((rowOf t r).val % 4096)) a.val))
    (hb : ∀ r a, @Eq EReal (x8 (ix3 2 r a)) (upAt 8 (angle 0x48F42400#32 0x41800000#32 ((rowOf t r).val % 4096)) a.val)) (r : Fin 256) (l : Fin 512) :
    @Eq EReal (out0_14 (F := Ideal) x0 x1 x2 x3 x4 x5 x6 x7 x8 (ix2 r l)) (ropeAt 8 (by omega) 0x48F42400#32 0x41800000#32 X G W 2048 512 (by omega) (by omega) (rowOf t r) l) := by
  obtain ⟨s, a, rfl⟩ : ∃ (s : Fin 4) (a : Fin 128), l = ⟨s.val * 128 + a.val, by omega⟩ :=
    ⟨⟨l.val / 128, by omega⟩, ⟨l.val % 128, by omega⟩, Fin.ext (by show l.val = l.val / 128 * 128 + l.val % 128; omega)⟩
  refine (out14_body x0 x1 x2 x3 x4 x5 x6 x7 x8 r s a).trans ?_
  refine (turned_eq_roped 8 120 8 (by omega) rfl rfl _ _ _ _ _ (hc r) (ha r) (hb r) _).trans (roped_congr _ _ _ (fun h => ?_) ?_)
  · refine (pay20_apply x0 x1 x3 r _).trans ?_
    rw [funext fun k => h0 r k, funext h1]
    refine congrArg (projAt _ _) (funext fun k => (hw k ⟨512 + (s.val * 128 + (a.val / 64 * 64 + h.val)), by omega⟩).trans (congrArg (W k) (Fin.ext ?_)))
    show 1536 + (512 + (s.val * 128 + (a.val / 64 * 64 + h.val))) = 2048 + ((s.val * 128 + a.val) / 64 * 64 + h.val)
    omega
  · exact Fin.ext (by show a.val % 64 = (s.val * 128 + a.val) % 64; omega)

/-- The block attention values of a block of rows, where the windows hold the rows, the norm's weights and the group's weights. -/
theorem out15_reads (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32)
    (h0 : ∀ r k, @Eq EReal (x0 (ix2 r k)) (X (rowOf t r) k)) (h1 : ∀ k, @Eq EReal (x1 (ix2 0 k)) (G k))
    (hw : ∀ k (l : Fin 2048), @Eq EReal (x3 (ix2 k ⟨l.val, by omega⟩)) (W k ⟨1536 + l.val, by omega⟩)) (r : Fin 256) (l : Fin 512) :
    @Eq EReal (out0_15 (F := Ideal) x0 x1 x2 x3 x4 x5 x6 x7 x8 (ix2 r l)) (colAt X G W 2560 512 (by omega) (rowOf t r) l) := by
  refine (out15_body x0 x1 x2 x3 x4 x5 x6 x7 x8 r l).trans ((pay20_apply x0 x1 x3 r _).trans ?_)
  unfold colAt
  rw [funext fun k => h0 r k, funext h1]
  refine congrArg (projAt _ _) (funext fun k => (hw k ⟨1024 + l.val, by omega⟩).trans (congrArg (W k) (Fin.ext ?_)))
  show 1536 + (1024 + l.val) = 2560 + l.val
  omega

/-- The block attention gates of a block of rows, where the windows hold the rows, the norm's weights and the group's weights. -/
theorem out16_reads (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32)
    (h0 : ∀ r k, @Eq EReal (x0 (ix2 r k)) (X (rowOf t r) k)) (h1 : ∀ k, @Eq EReal (x1 (ix2 0 k)) (G k))
    (hw : ∀ k (l : Fin 2048), @Eq EReal (x3 (ix2 k ⟨l.val, by omega⟩)) (W k ⟨1536 + l.val, by omega⟩)) (r : Fin 256) (l : Fin 512) :
    @Eq EReal (out0_16 (F := Ideal) x0 x1 x2 x3 x4 x5 x6 x7 x8 (ix2 r l)) (colAt X G W 3072 512 (by omega) (rowOf t r) l) := by
  refine (out16_body x0 x1 x2 x3 x4 x5 x6 x7 x8 r l).trans ((pay20_apply x0 x1 x3 r _).trans ?_)
  unfold colAt
  rw [funext fun k => h0 r k, funext h1]
  refine congrArg (projAt _ _) (funext fun k => (hw k ⟨1536 + l.val, by omega⟩).trans (congrArg (W k) (Fin.ext ?_)))
  show 1536 + (1536 + l.val) = 3072 + l.val
  omega

/-- The sparse attention queries of a block of rows, where the windows hold the rows, the norm's weights, the group's weights and the tables. -/
theorem out17_reads (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32)
    (h0 : ∀ r k, @Eq EReal (x0 (ix2 r k)) (X (rowOf t r) k)) (h1 : ∀ k, @Eq EReal (x1 (ix2 0 k)) (G k))
    (hw : ∀ k (l : Fin 1280), @Eq EReal (x4 (ix2 k ⟨l.val, by omega⟩)) (W k ⟨3584 + l.val, by omega⟩))
    (hc : ∀ r a, @Eq EReal (x8 (ix3 0 r a)) (cosAt 8 (angle 0x48F42400#32 0x41800000#32 ((rowOf t r).val % 4096)) a.val))
    (ha : ∀ r a, @Eq EReal (x8 (ix3 1 r a)) (downAt 8 (angle 0x48F42400#32 0x41800000#32 ((rowOf t r).val % 4096)) a.val))
    (hb : ∀ r a, @Eq EReal (x8 (ix3 2 r a)) (upAt 8 (angle 0x48F42400#32 0x41800000#32 ((rowOf t r).val % 4096)) a.val)) (r : Fin 256) (l : Fin 512) :
    @Eq EReal (out0_17 (F := Ideal) x0 x1 x2 x3 x4 x5 x6 x7 x8 (ix2 r l)) (ropeAt 8 (by omega) 0x48F42400#32 0x41800000#32 X G W 3584 512 (by omega) (by omega) (rowOf t r) l) := by
  obtain ⟨s, a, rfl⟩ : ∃ (s : Fin 4) (a : Fin 128), l = ⟨s.val * 128 + a.val, by omega⟩ :=
    ⟨⟨l.val / 128, by omega⟩, ⟨l.val % 128, by omega⟩, Fin.ext (by show l.val = l.val / 128 * 128 + l.val % 128; omega)⟩
  refine (out17_body x0 x1 x2 x3 x4 x5 x6 x7 x8 r s a).trans ?_
  refine (turned_eq_roped 8 120 8 (by omega) rfl rfl _ _ _ _ _ (hc r) (ha r) (hb r) _).trans (roped_congr _ _ _ (fun h => ?_) ?_)
  · refine (pay46_apply x0 x1 x4 r _).trans ?_
    rw [funext fun k => h0 r k, funext h1]
    refine congrArg (projAt _ _) (funext fun k => (hw k ⟨0 + (s.val * 128 + (a.val / 64 * 64 + h.val)), by omega⟩).trans (congrArg (W k) (Fin.ext ?_)))
    show 3584 + (0 + (s.val * 128 + (a.val / 64 * 64 + h.val))) = 3584 + ((s.val * 128 + a.val) / 64 * 64 + h.val)
    omega
  · exact Fin.ext (by show a.val % 64 = (s.val * 128 + a.val) % 64; omega)

/-- The sparse attention keys of a block of rows, where the windows hold the rows, the norm's weights, the group's weights and the tables. -/
theorem out18_reads (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32)
    (h0 : ∀ r k, @Eq EReal (x0 (ix2 r k)) (X (rowOf t r) k)) (h1 : ∀ k, @Eq EReal (x1 (ix2 0 k)) (G k))
    (hw : ∀ k (l : Fin 1280), @Eq EReal (x4 (ix2 k ⟨l.val, by omega⟩)) (W k ⟨3584 + l.val, by omega⟩))
    (hc : ∀ r a, @Eq EReal (x8 (ix3 0 r a)) (cosAt 8 (angle 0x48F42400#32 0x41800000#32 ((rowOf t r).val % 4096)) a.val))
    (ha : ∀ r a, @Eq EReal (x8 (ix3 1 r a)) (downAt 8 (angle 0x48F42400#32 0x41800000#32 ((rowOf t r).val % 4096)) a.val))
    (hb : ∀ r a, @Eq EReal (x8 (ix3 2 r a)) (upAt 8 (angle 0x48F42400#32 0x41800000#32 ((rowOf t r).val % 4096)) a.val)) (r : Fin 256) (l : Fin 128) :
    @Eq EReal (out0_18 (F := Ideal) x0 x1 x2 x3 x4 x5 x6 x7 x8 (ix2 r l)) (ropeAt 8 (by omega) 0x48F42400#32 0x41800000#32 X G W 4096 128 (by omega) (by omega) (rowOf t r) l) := by
  obtain ⟨s, a, rfl⟩ : ∃ (s : Fin 1) (a : Fin 128), l = ⟨s.val * 128 + a.val, by omega⟩ :=
    ⟨⟨l.val / 128, by omega⟩, ⟨l.val % 128, by omega⟩, Fin.ext (by show l.val = l.val / 128 * 128 + l.val % 128; omega)⟩
  refine (out18_body x0 x1 x2 x3 x4 x5 x6 x7 x8 r s a).trans ?_
  refine (turned_eq_roped 8 120 8 (by omega) rfl rfl _ _ _ _ _ (hc r) (ha r) (hb r) _).trans (roped_congr _ _ _ (fun h => ?_) ?_)
  · refine (pay46_apply x0 x1 x4 r _).trans ?_
    rw [funext fun k => h0 r k, funext h1]
    refine congrArg (projAt _ _) (funext fun k => (hw k ⟨512 + (s.val * 128 + (a.val / 64 * 64 + h.val)), by omega⟩).trans (congrArg (W k) (Fin.ext ?_)))
    show 3584 + (512 + (s.val * 128 + (a.val / 64 * 64 + h.val))) = 4096 + ((s.val * 128 + a.val) / 64 * 64 + h.val)
    omega
  · exact Fin.ext (by show a.val % 64 = (s.val * 128 + a.val) % 64; omega)

/-- The sparse attention values of a block of rows, where the windows hold the rows, the norm's weights and the group's weights. -/
theorem out19_reads (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32)
    (h0 : ∀ r k, @Eq EReal (x0 (ix2 r k)) (X (rowOf t r) k)) (h1 : ∀ k, @Eq EReal (x1 (ix2 0 k)) (G k))
    (hw : ∀ k (l : Fin 1280), @Eq EReal (x4 (ix2 k ⟨l.val, by omega⟩)) (W k ⟨3584 + l.val, by omega⟩)) (r : Fin 256) (l : Fin 128) :
    @Eq EReal (out0_19 (F := Ideal) x0 x1 x2 x3 x4 x5 x6 x7 x8 (ix2 r l)) (colAt X G W 4224 128 (by omega) (rowOf t r) l) := by
  refine (out19_body x0 x1 x2 x3 x4 x5 x6 x7 x8 r l).trans ((pay46_apply x0 x1 x4 r _).trans ?_)
  unfold colAt
  rw [funext fun k => h0 r k, funext h1]
  refine congrArg (projAt _ _) (funext fun k => (hw k ⟨640 + l.val, by omega⟩).trans (congrArg (W k) (Fin.ext ?_)))
  show 3584 + (640 + l.val) = 4224 + l.val
  omega

/-- The sparse attention gates of a block of rows, where the windows hold the rows, the norm's weights and the group's weights. -/
theorem out20_reads (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32)
    (h0 : ∀ r k, @Eq EReal (x0 (ix2 r k)) (X (rowOf t r) k)) (h1 : ∀ k, @Eq EReal (x1 (ix2 0 k)) (G k))
    (hw : ∀ k (l : Fin 1280), @Eq EReal (x4 (ix2 k ⟨l.val, by omega⟩)) (W k ⟨3584 + l.val, by omega⟩)) (r : Fin 256) (l : Fin 512) :
    @Eq EReal (out0_20 (F := Ideal) x0 x1 x2 x3 x4 x5 x6 x7 x8 (ix2 r l)) (colAt X G W 4352 512 (by omega) (rowOf t r) l) := by
  refine (out20_body x0 x1 x2 x3 x4 x5 x6 x7 x8 r l).trans ((pay46_apply x0 x1 x4 r _).trans ?_)
  unfold colAt
  rw [funext fun k => h0 r k, funext h1]
  refine congrArg (projAt _ _) (funext fun k => (hw k ⟨768 + l.val, by omega⟩).trans (congrArg (W k) (Fin.ext ?_)))
  show 3584 + (768 + l.val) = 4352 + l.val
  omega

/-- The index queries of a block of rows, where the windows hold the rows, the norm's weights, the group's weights and the tables. -/
theorem out21_reads (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32)
    (h0 : ∀ r k, @Eq EReal (x0 (ix2 r k)) (X (rowOf t r) k)) (h1 : ∀ k, @Eq EReal (x1 (ix2 0 k)) (G k))
    (hw : ∀ k (l : Fin 584), @Eq EReal (x5 (ix2 k ⟨l.val, by omega⟩)) (W k ⟨4864 + l.val, by omega⟩))
    (hc : ∀ r a, @Eq EReal (x8 (ix3 0 r a)) (cosAt 8 (angle 0x48F42400#32 0x41800000#32 ((rowOf t r).val % 4096)) a.val))
    (ha : ∀ r a, @Eq EReal (x8 (ix3 1 r a)) (downAt 8 (angle 0x48F42400#32 0x41800000#32 ((rowOf t r).val % 4096)) a.val))
    (hb : ∀ r a, @Eq EReal (x8 (ix3 2 r a)) (upAt 8 (angle 0x48F42400#32 0x41800000#32 ((rowOf t r).val % 4096)) a.val)) (r : Fin 256) (l : Fin 512) :
    @Eq EReal (out0_21 (F := Ideal) x0 x1 x2 x3 x4 x5 x6 x7 x8 (ix2 r l)) (ropeAt 8 (by omega) 0x48F42400#32 0x41800000#32 X G W 4864 512 (by omega) (by omega) (rowOf t r) l) := by
  obtain ⟨s, a, rfl⟩ : ∃ (s : Fin 4) (a : Fin 128), l = ⟨s.val * 128 + a.val, by omega⟩ :=
    ⟨⟨l.val / 128, by omega⟩, ⟨l.val % 128, by omega⟩, Fin.ext (by show l.val = l.val / 128 * 128 + l.val % 128; omega)⟩
  refine (out21_body x0 x1 x2 x3 x4 x5 x6 x7 x8 r s a).trans ?_
  refine (turned_eq_roped 8 120 8 (by omega) rfl rfl _ _ _ _ _ (hc r) (ha r) (hb r) _).trans (roped_congr _ _ _ (fun h => ?_) ?_)
  · refine (pay55_apply x0 x1 x5 r _).trans ?_
    rw [funext fun k => h0 r k, funext h1]
    refine congrArg (projAt _ _) (funext fun k => (hw k ⟨0 + (s.val * 128 + (a.val / 64 * 64 + h.val)), by omega⟩).trans (congrArg (W k) (Fin.ext ?_)))
    show 4864 + (0 + (s.val * 128 + (a.val / 64 * 64 + h.val))) = 4864 + ((s.val * 128 + a.val) / 64 * 64 + h.val)
    omega
  · exact Fin.ext (by show a.val % 64 = (s.val * 128 + a.val) % 64; omega)

/-- The index key of a block of rows, where the windows hold the rows, the norm's weights, the group's weights and the tables. -/
theorem out22_reads (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32)
    (h0 : ∀ r k, @Eq EReal (x0 (ix2 r k)) (X (rowOf t r) k)) (h1 : ∀ k, @Eq EReal (x1 (ix2 0 k)) (G k))
    (hw : ∀ k (l : Fin 584), @Eq EReal (x5 (ix2 k ⟨l.val, by omega⟩)) (W k ⟨4864 + l.val, by omega⟩))
    (hc : ∀ r a, @Eq EReal (x8 (ix3 0 r a)) (cosAt 8 (angle 0x48F42400#32 0x41800000#32 ((rowOf t r).val % 4096)) a.val))
    (ha : ∀ r a, @Eq EReal (x8 (ix3 1 r a)) (downAt 8 (angle 0x48F42400#32 0x41800000#32 ((rowOf t r).val % 4096)) a.val))
    (hb : ∀ r a, @Eq EReal (x8 (ix3 2 r a)) (upAt 8 (angle 0x48F42400#32 0x41800000#32 ((rowOf t r).val % 4096)) a.val)) (r : Fin 256) (l : Fin 64) :
    @Eq EReal (out0_22 (F := Ideal) x0 x1 x2 x3 x4 x5 x6 x7 x8 (ix2 r l)) (ropeAt 8 (by omega) 0x48F42400#32 0x41800000#32 X G W 5376 64 (by omega) (by omega) (rowOf t r) l) := by
  obtain ⟨a, rfl⟩ : ∃ a : Fin 64, l = ⟨a.val, by omega⟩ := ⟨l, rfl⟩
  refine (out22_body x0 x1 x2 x3 x4 x5 x6 x7 x8 r a).trans ?_
  refine (turned_eq_roped 8 120 8 (by omega) rfl rfl _ _ _ _ _ (hc r) (ha r) (hb r) _).trans (roped_congr _ _ _ (fun h => ?_) ?_)
  · refine (pay55_apply x0 x1 x5 r _).trans ?_
    rw [funext fun k => h0 r k, funext h1]
    refine congrArg (projAt _ _) (funext fun k => (hw k ⟨512 + (a.val / 64 * 64 + h.val), by omega⟩).trans (congrArg (W k) (Fin.ext ?_)))
    show 4864 + (512 + (a.val / 64 * 64 + h.val)) = 5376 + (a.val / 64 * 64 + h.val)
    omega
  · exact Fin.ext (by show a.val % 64 = a.val % 64; omega)

/-- The index weights of a block of rows, where the windows hold the rows, the norm's weights and the group's weights. -/
theorem out23_reads (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32)
    (h0 : ∀ r k, @Eq EReal (x0 (ix2 r k)) (X (rowOf t r) k)) (h1 : ∀ k, @Eq EReal (x1 (ix2 0 k)) (G k))
    (hw : ∀ k (l : Fin 584), @Eq EReal (x5 (ix2 k ⟨l.val, by omega⟩)) (W k ⟨4864 + l.val, by omega⟩)) (r : Fin 256) (l : Fin 8) :
    @Eq EReal (out0_23 (F := Ideal) x0 x1 x2 x3 x4 x5 x6 x7 x8 (ix2 r l)) (colAt X G W 5440 8 (by omega) (rowOf t r) l) := by
  refine (out23_body x0 x1 x2 x3 x4 x5 x6 x7 x8 r l).trans ((pay55_apply x0 x1 x5 r _).trans ?_)
  unfold colAt
  rw [funext fun k => h0 r k, funext h1]
  refine congrArg (projAt _ _) (funext fun k => (hw k ⟨576 + l.val, by omega⟩).trans (congrArg (W k) (Fin.ext ?_)))
  show 4864 + (576 + l.val) = 5440 + l.val
  omega

/-- The memory queries of a block of rows, where the windows hold the rows, the norm's weights and the group's weights. -/
theorem out24_reads (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32)
    (h0 : ∀ r k, @Eq EReal (x0 (ix2 r k)) (X (rowOf t r) k)) (h1 : ∀ k, @Eq EReal (x1 (ix2 0 k)) (G k))
    (hw : ∀ k (l : Fin 1024), @Eq EReal (x6 (ix2 k ⟨l.val, by omega⟩)) (W k ⟨5448 + l.val, by omega⟩)) (r : Fin 256) (l : Fin 512) :
    @Eq EReal (out0_24 (F := Ideal) x0 x1 x2 x3 x4 x5 x6 x7 x8 (ix2 r l)) (colAt X G W 5448 512 (by omega) (rowOf t r) l) := by
  refine (out24_body x0 x1 x2 x3 x4 x5 x6 x7 x8 r l).trans ((pay3_apply x0 x1 x6 r _).trans ?_)
  unfold colAt
  rw [funext fun k => h0 r k, funext h1]
  refine congrArg (projAt _ _) (funext fun k => (hw k ⟨0 + l.val, by omega⟩).trans (congrArg (W k) (Fin.ext ?_)))
  show 5448 + (0 + l.val) = 5448 + l.val
  omega

/-- The memory gates of a block of rows, where the windows hold the rows, the norm's weights and the group's weights. -/
theorem out25_reads (x0 : Vec Ideal S256x1024 .f32) (x1 : Vec Ideal S1x1024 .f32) (x2 : Vec Ideal S1024x1536 .bf16) (x3 : Vec Ideal S1024x2048 .bf16) (x4 : Vec Ideal S1024x1280 .bf16) (x5 : Vec Ideal S1024x640 .bf16) (x6 : Vec Ideal S1024x1024 .bf16) (x7 x8 : Vec Ideal S3x256x128 .f32)
    (h0 : ∀ r k, @Eq EReal (x0 (ix2 r k)) (X (rowOf t r) k)) (h1 : ∀ k, @Eq EReal (x1 (ix2 0 k)) (G k))
    (hw : ∀ k (l : Fin 1024), @Eq EReal (x6 (ix2 k ⟨l.val, by omega⟩)) (W k ⟨5448 + l.val, by omega⟩)) (r : Fin 256) (l : Fin 512) :
    @Eq EReal (out0_25 (F := Ideal) x0 x1 x2 x3 x4 x5 x6 x7 x8 (ix2 r l)) (colAt X G W 5960 512 (by omega) (rowOf t r) l) := by
  refine (out25_body x0 x1 x2 x3 x4 x5 x6 x7 x8 r l).trans ((pay3_apply x0 x1 x6 r _).trans ?_)
  unfold colAt
  rw [funext fun k => h0 r k, funext h1]
  refine congrArg (projAt _ _) (funext fun k => (hw k ⟨512 + l.val, by omega⟩).trans (congrArg (W k) (Fin.ext ?_)))
  show 5448 + (512 + l.val) = 5960 + l.val
  omega

end Cert.Proj
end
-- ==== Proof.ProjKernel.lean ====
module

public import proofs.«01_k».proof.Proof.ProjFrameIdeal
public import proofs.«01_k».proof.Proof.ProjHost
public import proofs.«01_k».proof.Proof.ProjReads
public import Idealize.ShloMosaic.Lib.Pipeline.Value
public import Idealize.ShloMosaic.Lib.Pipeline.ReadBack
public import Idealize.ShloMosaic.Lib.Pipeline.ValueKit
public import Idealize.ShloMosaic.Lib.Claim
public import Idealize.ShloMosaic.Lib.Pointwise
public import proofs.«01_k».proof.Proof.LayerModel

@[expose] public section

set_option maxRecDepth 16384
set_option maxHeartbeats 4000000

noncomputable section

/-! The projection kernel's result arrays, by the model. -/

namespace Cert.Proj

open Cert.Kernel4Ideal Cert.Kernel4Ideal.Gen Cert.Kernel4Ideal.Frame Idealize.ShloMosaic Idealize.ShloMosaic.TcCoe Idealize.SL.Sem Cert.Layer
open Idealize.ShloMosaic.Pipeline (Dat)

variable (m : (ℓ : Loc nD τ sig) → Buf (Elt Idealize.ShloMosaic.Ideal) ℓ) (ρ : Dev nD → PrngReg) (c : Dev nD)

/-- Result 0's array. -/
theorem arr_9 : (dats m 0 c).arrAt 9 cfg0.N = fun y : S32768x256.Idx => (ropeAt 32 (by omega) 0x461C4000#32 0x42800000#32 (xOf m c) (gOf m c) (wOf m c) 0 256 (by omega) (by omega) (y 0) (y 1)) := by
  refine (dats m 0 c).arrAt_eq_of_covers 9 _ (by decide +kernel) fun t hf y => ?_
  obtain ⟨r, l, rfl⟩ : ∃ (r : Fin 256) (l : Fin 256), y = ix2 r l :=
    ⟨y (0 : Fin 2), y (1 : Fin 2), by funext a; match a with | ⟨0, _⟩ => rfl | ⟨1, _⟩ => rfl⟩
  refine Eq.trans ?_ (blk_9 (fun y : S32768x256.Idx => (ropeAt 32 (by omega) 0x461C4000#32 0x42800000#32 (xOf m c) (gOf m c) (wOf m c) 0 256 (by omega) (by omega) (y 0) (y 1))) t r l).symm
  refine Eq.trans ?_ (out9_reads (xOf m c) (gOf m c) (wOf m c) t (iblk m c 0 t) (iblk m c 1 t) (iblk m c 2 t) (iblk m c 3 t) (iblk m c 4 t) (iblk m c 5 t) (iblk m c 6 t) (iblk m c 7 t) (iblk m c 8 t) (read_0 m c t) (read_1 m c t) (read_2 m c t) (read_7_0 m c t) (read_7_1 m c t) (read_7_2 m c t) r l)
  exact congrFun (after0_9 m c t) (ix2 r l)

/-- Result 1's array. -/
theorem arr_10 : (dats m 0 c).arrAt 10 cfg0.N = fun y : S32768x256.Idx => (ropeAt 32 (by omega) 0x461C4000#32 0x42800000#32 (xOf m c) (gOf m c) (wOf m c) 256 256 (by omega) (by omega) (y 0) (y 1) * Ideal.ofBits .f32 0x3E000000#32) := by
  refine (dats m 0 c).arrAt_eq_of_covers 10 _ (by decide +kernel) fun t hf y => ?_
  obtain ⟨r, l, rfl⟩ : ∃ (r : Fin 256) (l : Fin 256), y = ix2 r l :=
    ⟨y (0 : Fin 2), y (1 : Fin 2), by funext a; match a with | ⟨0, _⟩ => rfl | ⟨1, _⟩ => rfl⟩
  refine Eq.trans ?_ (blk_10 (fun y : S32768x256.Idx => (ropeAt 32 (by omega) 0x461C4000#32 0x42800000#32 (xOf m c) (gOf m c) (wOf m c) 256 256 (by omega) (by omega) (y 0) (y 1) * Ideal.ofBits .f32 0x3E000000#32)) t r l).symm
  refine Eq.trans ?_ (out10_reads (xOf m c) (gOf m c) (wOf m c) t (iblk m c 0 t) (iblk m c 1 t) (iblk m c 2 t) (iblk m c 3 t) (iblk m c 4 t) (iblk m c 5 t) (iblk m c 6 t) (iblk m c 7 t) (iblk m c 8 t) (read_0 m c t) (read_1 m c t) (read_2 m c t) (read_7_0 m c t) (read_7_1 m c t) (read_7_2 m c t) r l)
  exact congrFun (after0_10 m c t) (ix2 r l)

/-- Result 2's array. -/
theorem arr_11 : (dats m 0 c).arrAt 11 cfg0.N = fun y : S32768x512.Idx => (colAt (xOf m c) (gOf m c) (wOf m c) 512 512 (by omega) (y 0) (y 1)) := by
  refine (dats m 0 c).arrAt_eq_of_covers 11 _ (by decide +kernel) fun t hf y => ?_
  obtain ⟨r, l, rfl⟩ : ∃ (r : Fin 256) (l : Fin 512), y = ix2 r l :=
    ⟨y (0 : Fin 2), y (1 : Fin 2), by funext a; match a with | ⟨0, _⟩ => rfl | ⟨1, _⟩ => rfl⟩
  refine Eq.trans ?_ (blk_11 (fun y : S32768x512.Idx => (colAt (xOf m c) (gOf m c) (wOf m c) 512 512 (by omega) (y 0) (y 1))) t r l).symm
  refine Eq.trans ?_ (out11_reads (xOf m c) (gOf m c) (wOf m c) t (iblk m c 0 t) (iblk m c 1 t) (iblk m c 2 t) (iblk m c 3 t) (iblk m c 4 t) (iblk m c 5 t) (iblk m c 6 t) (iblk m c 7 t) (iblk m c 8 t) (read_0 m c t) (read_1 m c t) (read_2 m c t) r l)
  exact congrFun (after0_11 m c t) (ix2 r l)

/-- Result 3's array. -/
theorem arr_12 : (dats m 0 c).arrAt 12 cfg0.N = fun y : S32768x512.Idx => (colAt (xOf m c) (gOf m c) (wOf m c) 1024 512 (by omega) (y 0) (y 1)) := by
  refine (dats m 0 c).arrAt_eq_of_covers 12 _ (by decide +kernel) fun t hf y => ?_
  obtain ⟨r, l, rfl⟩ : ∃ (r : Fin 256) (l : Fin 512), y = ix2 r l :=
    ⟨y (0 : Fin 2), y (1 : Fin 2), by funext a; match a with | ⟨0, _⟩ => rfl | ⟨1, _⟩ => rfl⟩
  refine Eq.trans ?_ (blk_12 (fun y : S32768x512.Idx => (colAt (xOf m c) (gOf m c) (wOf m c) 1024 512 (by omega) (y 0) (y 1))) t r l).symm
  refine Eq.trans ?_ (out12_reads (xOf m c) (gOf m c) (wOf m c) t (iblk m c 0 t) (iblk m c 1 t) (iblk m c 2 t) (iblk m c 3 t) (iblk m c 4 t) (iblk m c 5 t) (iblk m c 6 t) (iblk m c 7 t) (iblk m c 8 t) (read_0 m c t) (read_1 m c t) (read_2 m c t) r l)
  exact congrFun (after0_12 m c t) (ix2 r l)

/-- Result 4's array. -/
theorem arr_13 : (dats m 0 c).arrAt 13 cfg0.N = fun y : S32768x512.Idx => (ropeAt 8 (by omega) 0x48F42400#32 0x41800000#32 (xOf m c) (gOf m c) (wOf m c) 1536 512 (by omega) (by omega) (y 0) (y 1)) := by
  refine (dats m 0 c).arrAt_eq_of_covers 13 _ (by decide +kernel) fun t hf y => ?_
  obtain ⟨r, l, rfl⟩ : ∃ (r : Fin 256) (l : Fin 512), y = ix2 r l :=
    ⟨y (0 : Fin 2), y (1 : Fin 2), by funext a; match a with | ⟨0, _⟩ => rfl | ⟨1, _⟩ => rfl⟩
  refine Eq.trans ?_ (blk_13 (fun y : S32768x512.Idx => (ropeAt 8 (by omega) 0x48F42400#32 0x41800000#32 (xOf m c) (gOf m c) (wOf m c) 1536 512 (by omega) (by omega) (y 0) (y 1))) t r l).symm
  refine Eq.trans ?_ (out13_reads (xOf m c) (gOf m c) (wOf m c) t (iblk m c 0 t) (iblk m c 1 t) (iblk m c 2 t) (iblk m c 3 t) (iblk m c 4 t) (iblk m c 5 t) (iblk m c 6 t) (iblk m c 7 t) (iblk m c 8 t) (read_0 m c t) (read_1 m c t) (read_3 m c t) (read_8_0 m c t) (read_8_1 m c t) (read_8_2 m c t) r l)
  exact congrFun (after0_13 m c t) (ix2 r l)

/-- Result 5's array. -/
theorem arr_14 : (dats m 0 c).arrAt 14 cfg0.N = fun y : S32768x512.Idx => (ropeAt 8 (by omega) 0x48F42400#32 0x41800000#32 (xOf m c) (gOf m c) (wOf m c) 2048 512 (by omega) (by omega) (y 0) (y 1)) := by
  refine (dats m 0 c).arrAt_eq_of_covers 14 _ (by decide +kernel) fun t hf y => ?_
  obtain ⟨r, l, rfl⟩ : ∃ (r : Fin 256) (l : Fin 512), y = ix2 r l :=
    ⟨y (0 : Fin 2), y (1 : Fin 2), by funext a; match a with | ⟨0, _⟩ => rfl | ⟨1, _⟩ => rfl⟩
  refine Eq.trans ?_ (blk_14 (fun y : S32768x512.Idx => (ropeAt 8 (by omega) 0x48F42400#32 0x41800000#32 (xOf m c) (gOf m c) (wOf m c) 2048 512 (by omega) (by omega) (y 0) (y 1))) t r l).symm
  refine Eq.trans ?_ (out14_reads (xOf m c) (gOf m c) (wOf m c) t (iblk m c 0 t) (iblk m c 1 t) (iblk m c 2 t) (iblk m c 3 t) (iblk m c 4 t) (iblk m c 5 t) (iblk m c 6 t) (iblk m c 7 t) (iblk m c 8 t) (read_0 m c t) (read_1 m c t) (read_3 m c t) (read_8_0 m c t) (read_8_1 m c t) (read_8_2 m c t) r l)
  exact congrFun (after0_14 m c t) (ix2 r l)

/-- Result 6's array. -/
theorem arr_15 : (dats m 0 c).arrAt 15 cfg0.N = fun y : S32768x512.Idx => (colAt (xOf m c) (gOf m c) (wOf m c) 2560 512 (by omega) (y 0) (y 1)) := by
  refine (dats m 0 c).arrAt_eq_of_covers 15 _ (by decide +kernel) fun t hf y => ?_
  obtain ⟨r, l, rfl⟩ : ∃ (r : Fin 256) (l : Fin 512), y = ix2 r l :=
    ⟨y (0 : Fin 2), y (1 : Fin 2), by funext a; match a with | ⟨0, _⟩ => rfl | ⟨1, _⟩ => rfl⟩
  refine Eq.trans ?_ (blk_15 (fun y : S32768x512.Idx => (colAt (xOf m c) (gOf m c) (wOf m c) 2560 512 (by omega) (y 0) (y 1))) t r l).symm
  refine Eq.trans ?_ (out15_reads (xOf m c) (gOf m c) (wOf m c) t (iblk m c 0 t) (iblk m c 1 t) (iblk m c 2 t) (iblk m c 3 t) (iblk m c 4 t) (iblk m c 5 t) (iblk m c 6 t) (iblk m c 7 t) (iblk m c 8 t) (read_0 m c t) (read_1 m c t) (read_3 m c t) r l)
  exact congrFun (after0_15 m c t) (ix2 r l)

/-- Result 7's array. -/
theorem arr_16 : (dats m 0 c).arrAt 16 cfg0.N = fun y : S32768x512.Idx => (colAt (xOf m c) (gOf m c) (wOf m c) 3072 512 (by omega) (y 0) (y 1)) := by
  refine (dats m 0 c).arrAt_eq_of_covers 16 _ (by decide +kernel) fun t hf y => ?_
  obtain ⟨r, l, rfl⟩ : ∃ (r : Fin 256) (l : Fin 512), y = ix2 r l :=
    ⟨y (0 : Fin 2), y (1 : Fin 2), by funext a; match a with | ⟨0, _⟩ => rfl | ⟨1, _⟩ => rfl⟩
  refine Eq.trans ?_ (blk_16 (fun y : S32768x512.Idx => (colAt (xOf m c) (gOf m c) (wOf m c) 3072 512 (by omega) (y 0) (y 1))) t r l).symm
  refine Eq.trans ?_ (out16_reads (xOf m c) (gOf m c) (wOf m c) t (iblk m c 0 t) (iblk m c 1 t) (iblk m c 2 t) (iblk m c 3 t) (iblk m c 4 t) (iblk m c 5 t) (iblk m c 6 t) (iblk m c 7 t) (iblk m c 8 t) (read_0 m c t) (read_1 m c t) (read_3 m c t) r l)
  exact congrFun (after0_16 m c t) (ix2 r l)

/-- Result 8's array. -/
theorem arr_17 : (dats m 0 c).arrAt 17 cfg0.N = fun y : S32768x512.Idx => (ropeAt 8 (by omega) 0x48F42400#32 0x41800000#32 (xOf m c) (gOf m c) (wOf m c) 3584 512 (by omega) (by omega) (y 0) (y 1)) := by
  refine (dats m 0 c).arrAt_eq_of_covers 17 _ (by decide +kernel) fun t hf y => ?_
  obtain ⟨r, l, rfl⟩ : ∃ (r : Fin 256) (l : Fin 512), y = ix2 r l :=
    ⟨y (0 : Fin 2), y (1 : Fin 2), by funext a; match a with | ⟨0, _⟩ => rfl | ⟨1, _⟩ => rfl⟩
  refine Eq.trans ?_ (blk_17 (fun y : S32768x512.Idx => (ropeAt 8 (by omega) 0x48F42400#32 0x41800000#32 (xOf m c) (gOf m c) (wOf m c) 3584 512 (by omega) (by omega) (y 0) (y 1))) t r l).symm
  refine Eq.trans ?_ (out17_reads (xOf m c) (gOf m c) (wOf m c) t (iblk m c 0 t) (iblk m c 1 t) (iblk m c 2 t) (iblk m c 3 t) (iblk m c 4 t) (iblk m c 5 t) (iblk m c 6 t) (iblk m c 7 t) (iblk m c 8 t) (read_0 m c t) (read_1 m c t) (read_4 m c t) (read_8_0 m c t) (read_8_1 m c t) (read_8_2 m c t) r l)
  exact congrFun (after0_17 m c t) (ix2 r l)

/-- Result 9's array. -/
theorem arr_18 : (dats m 0 c).arrAt 18 cfg0.N = fun y : S32768x128.Idx => (ropeAt 8 (by omega) 0x48F42400#32 0x41800000#32 (xOf m c) (gOf m c) (wOf m c) 4096 128 (by omega) (by omega) (y 0) (y 1)) := by
  refine (dats m 0 c).arrAt_eq_of_covers 18 _ (by decide +kernel) fun t hf y => ?_
  obtain ⟨r, l, rfl⟩ : ∃ (r : Fin 256) (l : Fin 128), y = ix2 r l :=
    ⟨y (0 : Fin 2), y (1 : Fin 2), by funext a; match a with | ⟨0, _⟩ => rfl | ⟨1, _⟩ => rfl⟩
  refine Eq.trans ?_ (blk_18 (fun y : S32768x128.Idx => (ropeAt 8 (by omega) 0x48F42400#32 0x41800000#32 (xOf m c) (gOf m c) (wOf m c) 4096 128 (by omega) (by omega) (y 0) (y 1))) t r l).symm
  refine Eq.trans ?_ (out18_reads (xOf m c) (gOf m c) (wOf m c) t (iblk m c 0 t) (iblk m c 1 t) (iblk m c 2 t) (iblk m c 3 t) (iblk m c 4 t) (iblk m c 5 t) (iblk m c 6 t) (iblk m c 7 t) (iblk m c 8 t) (read_0 m c t) (read_1 m c t) (read_4 m c t) (read_8_0 m c t) (read_8_1 m c t) (read_8_2 m c t) r l)
  exact congrFun (after0_18 m c t) (ix2 r l)

/-- Result 10's array. -/
theorem arr_19 : (dats m 0 c).arrAt 19 cfg0.N = fun y : S32768x128.Idx => (colAt (xOf m c) (gOf m c) (wOf m c) 4224 128 (by omega) (y 0) (y 1)) := by
  refine (dats m 0 c).arrAt_eq_of_covers 19 _ (by decide +kernel) fun t hf y => ?_
  obtain ⟨r, l, rfl⟩ : ∃ (r : Fin 256) (l : Fin 128), y = ix2 r l :=
    ⟨y (0 : Fin 2), y (1 : Fin 2), by funext a; match a with | ⟨0, _⟩ => rfl | ⟨1, _⟩ => rfl⟩
  refine Eq.trans ?_ (blk_19 (fun y : S32768x128.Idx => (colAt (xOf m c) (gOf m c) (wOf m c) 4224 128 (by omega) (y 0) (y 1))) t r l).symm
  refine Eq.trans ?_ (out19_reads (xOf m c) (gOf m c) (wOf m c) t (iblk m c 0 t) (iblk m c 1 t) (iblk m c 2 t) (iblk m c 3 t) (iblk m c 4 t) (iblk m c 5 t) (iblk m c 6 t) (iblk m c 7 t) (iblk m c 8 t) (read_0 m c t) (read_1 m c t) (read_4 m c t) r l)
  exact congrFun (after0_19 m c t) (ix2 r l)

/-- Result 11's array. -/
theorem arr_20 : (dats m 0 c).arrAt 20 cfg0.N = fun y : S32768x512.Idx => (colAt (xOf m c) (gOf m c) (wOf m c) 4352 512 (by omega) (y 0) (y 1)) := by
  refine (dats m 0 c).arrAt_eq_of_covers 20 _ (by decide +kernel) fun t hf y => ?_
  obtain ⟨r, l, rfl⟩ : ∃ (r : Fin 256) (l : Fin 512), y = ix2 r l :=
    ⟨y (0 : Fin 2), y (1 : Fin 2), by funext a; match a with | ⟨0, _⟩ => rfl | ⟨1, _⟩ => rfl⟩
  refine Eq.trans ?_ (blk_20 (fun y : S32768x512.Idx => (colAt (xOf m c) (gOf m c) (wOf m c) 4352 512 (by omega) (y 0) (y 1))) t r l).symm
  refine Eq.trans ?_ (out20_reads (xOf m c) (gOf m c) (wOf m c) t (iblk m c 0 t) (iblk m c 1 t) (iblk m c 2 t) (iblk m c 3 t) (iblk m c 4 t) (iblk m c 5 t) (iblk m c 6 t) (iblk m c 7 t) (iblk m c 8 t) (read_0 m c t) (read_1 m c t) (read_4 m c t) r l)
  exact congrFun (after0_20 m c t) (ix2 r l)

/-- Result 12's array. -/
theorem arr_21 : (dats m 0 c).arrAt 21 cfg0.N = fun y : S32768x512.Idx => (ropeAt 8 (by omega) 0x48F42400#32 0x41800000#32 (xOf m c) (gOf m c) (wOf m c) 4864 512 (by omega) (by omega) (y 0) (y 1)) := by
  refine (dats m 0 c).arrAt_eq_of_covers 21 _ (by decide +kernel) fun t hf y => ?_
  obtain ⟨r, l, rfl⟩ : ∃ (r : Fin 256) (l : Fin 512), y = ix2 r l :=
    ⟨y (0 : Fin 2), y (1 : Fin 2), by funext a; match a with | ⟨0, _⟩ => rfl | ⟨1, _⟩ => rfl⟩
  refine Eq.trans ?_ (blk_21 (fun y : S32768x512.Idx => (ropeAt 8 (by omega) 0x48F42400#32 0x41800000#32 (xOf m c) (gOf m c) (wOf m c) 4864 512 (by omega) (by omega) (y 0) (y 1))) t r l).symm
  refine Eq.trans ?_ (out21_reads (xOf m c) (gOf m c) (wOf m c) t (iblk m c 0 t) (iblk m c 1 t) (iblk m c 2 t) (iblk m c 3 t) (iblk m c 4 t) (iblk m c 5 t) (iblk m c 6 t) (iblk m c 7 t) (iblk m c 8 t) (read_0 m c t) (read_1 m c t) (read_5 m c t) (read_8_0 m c t) (read_8_1 m c t) (read_8_2 m c t) r l)
  exact congrFun (after0_21 m c t) (ix2 r l)

/-- Result 13's array. -/
theorem arr_22 : (dats m 0 c).arrAt 22 cfg0.N = fun y : S32768x64.Idx => (ropeAt 8 (by omega) 0x48F42400#32 0x41800000#32 (xOf m c) (gOf m c) (wOf m c) 5376 64 (by omega) (by omega) (y 0) (y 1)) := by
  refine (dats m 0 c).arrAt_eq_of_covers 22 _ (by decide +kernel) fun t hf y => ?_
  obtain ⟨r, l, rfl⟩ : ∃ (r : Fin 256) (l : Fin 64), y = ix2 r l :=
    ⟨y (0 : Fin 2), y (1 : Fin 2), by funext a; match a with | ⟨0, _⟩ => rfl | ⟨1, _⟩ => rfl⟩
  refine Eq.trans ?_ (blk_22 (fun y : S32768x64.Idx => (ropeAt 8 (by omega) 0x48F42400#32 0x41800000#32 (xOf m c) (gOf m c) (wOf m c) 5376 64 (by omega) (by omega) (y 0) (y 1))) t r l).symm
  refine Eq.trans ?_ (out22_reads (xOf m c) (gOf m c) (wOf m c) t (iblk m c 0 t) (iblk m c 1 t) (iblk m c 2 t) (iblk m c 3 t) (iblk m c 4 t) (iblk m c 5 t) (iblk m c 6 t) (iblk m c 7 t) (iblk m c 8 t) (read_0 m c t) (read_1 m c t) (read_5 m c t) (read_8_0 m c t) (read_8_1 m c t) (read_8_2 m c t) r l)
  exact congrFun (after0_22 m c t) (ix2 r l)

/-- Result 14's array. -/
theorem arr_23 : (dats m 0 c).arrAt 23 cfg0.N = fun y : S32768x8.Idx => (colAt (xOf m c) (gOf m c) (wOf m c) 5440 8 (by omega) (y 0) (y 1)) := by
  refine (dats m 0 c).arrAt_eq_of_covers 23 _ (by decide +kernel) fun t hf y => ?_
  obtain ⟨r, l, rfl⟩ : ∃ (r : Fin 256) (l : Fin 8), y = ix2 r l :=
    ⟨y (0 : Fin 2), y (1 : Fin 2), by funext a; match a with | ⟨0, _⟩ => rfl | ⟨1, _⟩ => rfl⟩
  refine Eq.trans ?_ (blk_23 (fun y : S32768x8.Idx => (colAt (xOf m c) (gOf m c) (wOf m c) 5440 8 (by omega) (y 0) (y 1))) t r l).symm
  refine Eq.trans ?_ (out23_reads (xOf m c) (gOf m c) (wOf m c) t (iblk m c 0 t) (iblk m c 1 t) (iblk m c 2 t) (iblk m c 3 t) (iblk m c 4 t) (iblk m c 5 t) (iblk m c 6 t) (iblk m c 7 t) (iblk m c 8 t) (read_0 m c t) (read_1 m c t) (read_5 m c t) r l)
  exact congrFun (after0_23 m c t) (ix2 r l)

/-- Result 15's array. -/
theorem arr_24 : (dats m 0 c).arrAt 24 cfg0.N = fun y : S32768x512.Idx => (colAt (xOf m c) (gOf m c) (wOf m c) 5448 512 (by omega) (y 0) (y 1)) := by
  refine (dats m 0 c).arrAt_eq_of_covers 24 _ (by decide +kernel) fun t hf y => ?_
  obtain ⟨r, l, rfl⟩ : ∃ (r : Fin 256) (l : Fin 512), y = ix2 r l :=
    ⟨y (0 : Fin 2), y (1 : Fin 2), by funext a; match a with | ⟨0, _⟩ => rfl | ⟨1, _⟩ => rfl⟩
  refine Eq.trans ?_ (blk_24 (fun y : S32768x512.Idx => (colAt (xOf m c) (gOf m c) (wOf m c) 5448 512 (by omega) (y 0) (y 1))) t r l).symm
  refine Eq.trans ?_ (out24_reads (xOf m c) (gOf m c) (wOf m c) t (iblk m c 0 t) (iblk m c 1 t) (iblk m c 2 t) (iblk m c 3 t) (iblk m c 4 t) (iblk m c 5 t) (iblk m c 6 t) (iblk m c 7 t) (iblk m c 8 t) (read_0 m c t) (read_1 m c t) (read_6 m c t) r l)
  exact congrFun (after0_24 m c t) (ix2 r l)

/-- Result 16's array. -/
theorem arr_25 : (dats m 0 c).arrAt 25 cfg0.N = fun y : S32768x512.Idx => (colAt (xOf m c) (gOf m c) (wOf m c) 5960 512 (by omega) (y 0) (y 1)) := by
  refine (dats m 0 c).arrAt_eq_of_covers 25 _ (by decide +kernel) fun t hf y => ?_
  obtain ⟨r, l, rfl⟩ : ∃ (r : Fin 256) (l : Fin 512), y = ix2 r l :=
    ⟨y (0 : Fin 2), y (1 : Fin 2), by funext a; match a with | ⟨0, _⟩ => rfl | ⟨1, _⟩ => rfl⟩
  refine Eq.trans ?_ (blk_25 (fun y : S32768x512.Idx => (colAt (xOf m c) (gOf m c) (wOf m c) 5960 512 (by omega) (y 0) (y 1))) t r l).symm
  refine Eq.trans ?_ (out25_reads (xOf m c) (gOf m c) (wOf m c) t (iblk m c 0 t) (iblk m c 1 t) (iblk m c 2 t) (iblk m c 3 t) (iblk m c 4 t) (iblk m c 5 t) (iblk m c 6 t) (iblk m c 7 t) (iblk m c 8 t) (read_0 m c t) (read_1 m c t) (read_6 m c t) r l)
  exact congrFun (after0_25 m c t) (ix2 r l)

/-- The run, with each result's array named and the arguments unchanged. -/
theorem run_blocks : θ_run defs (onTc (τ := τ) (main (F := Idealize.ShloMosaic.Ideal))) ⟨m, fun _ => 0, ρ⟩ fun r => ∀ c : Dev nD,
      r.2.mem ((c : Thread nD τ).loc main_v87_0) = (dats m 0 c).arrAt 9 cfg0.N
      ∧ r.2.mem ((c : Thread nD τ).loc main_v87_1) = (dats m 0 c).arrAt 10 cfg0.N
      ∧ r.2.mem ((c : Thread nD τ).loc main_v87_2) = (dats m 0 c).arrAt 11 cfg0.N
      ∧ r.2.mem ((c : Thread nD τ).loc main_v87_3) = (dats m 0 c).arrAt 12 cfg0.N
      ∧ r.2.mem ((c : Thread nD τ).loc main_v87_4) = (dats m 0 c).arrAt 13 cfg0.N
      ∧ r.2.mem ((c : Thread nD τ).loc main_v87_5) = (dats m 0 c).arrAt 14 cfg0.N
      ∧ r.2.mem ((c : Thread nD τ).loc main_v87_6) = (dats m 0 c).arrAt 15 cfg0.N
      ∧ r.2.mem ((c : Thread nD τ).loc main_v87_7) = (dats m 0 c).arrAt 16 cfg0.N
      ∧ r.2.mem ((c : Thread nD τ).loc main_v87_8) = (dats m 0 c).arrAt 17 cfg0.N
      ∧ r.2.mem ((c : Thread nD τ).loc main_v87_9) = (dats m 0 c).arrAt 18 cfg0.N
      ∧ r.2.mem ((c : Thread nD τ).loc main_v87_10) = (dats m 0 c).arrAt 19 cfg0.N
      ∧ r.2.mem ((c : Thread nD τ).loc main_v87_11) = (dats m 0 c).arrAt 20 cfg0.N
      ∧ r.2.mem ((c : Thread nD τ).loc main_v87_12) = (dats m 0 c).arrAt 21 cfg0.N
      ∧ r.2.mem ((c : Thread nD τ).loc main_v87_13) = (dats m 0 c).arrAt 22 cfg0.N
      ∧ r.2.mem ((c : Thread nD τ).loc main_v87_14) = (dats m 0 c).arrAt 23 cfg0.N
      ∧ r.2.mem ((c : Thread nD τ).loc main_v87_15) = (dats m 0 c).arrAt 24 cfg0.N
      ∧ r.2.mem ((c : Thread nD τ).loc main_v87_16) = (dats m 0 c).arrAt 25 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 9, (h c).1 10, (h c).1 11, (h c).1 12, (h c).1 13, (h c).1 14, (h c).1 15, (h c).1 16, (h c).1 17, (h c).1 18, (h c).1 19, (h c).1 20, (h c).1 21, (h c).1 22, (h c).1 23, (h c).1 24, (h c).1 25,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Proj
end
-- ==== Proof.ProjReference.lean ====
module

public import proofs.«01_k».proof.Proof.Gen.Reference4Ideal.Read
public import Idealize.ShloMosaic.Lib.Pipeline.ValueKit
public import Idealize.ShloMosaic.Lib.Pointwise
public import proofs.«01_k».proof.Proof.ProjModel

@[expose] public section

set_option maxRecDepth 65536
set_option maxHeartbeats 4000000

noncomputable section

/-! The projection reference's arrays at an entry, down to its results. -/

namespace Cert.ProjRef

open Cert.Reference4Ideal Cert.Reference4Ideal.Gen Cert.Reference4Ideal.Value Cert.Reference4Ideal.Read
open Idealize.ShloMosaic Idealize.ShloMosaic.TcCoe Idealize.ShloMosaic.StableHlo Idealize.SL.Sem Cert.Layer
open Cert.Proj (projAt roped roped_congr angle colAt ropeAt)

variable (x0 : (⟨S32768x1024, .f32⟩ : BufTy).Contents (Elt Ideal)) (x1 : (⟨S1024, .f32⟩ : BufTy).Contents (Elt Ideal)) (x2 : (⟨S1024x10568, .f32⟩ : BufTy).Contents (Elt Ideal))

/-- Row `R` of the list of all rows is token `R % 4096` of sequence `R / 4096`. -/
def seqOf (R : Fin 32768) : Fin 8 := ⟨R.val / 4096, by omega⟩
/-- The token of row `R`. -/
def tokOf (R : Fin 32768) : Fin 4096 := ⟨R.val % 4096, by omega⟩
/-- The row of a token of a sequence. -/
def rowIn (b : Fin 8) (p : Fin 4096) : Fin 32768 := ⟨b.val * 4096 + p.val, by omega⟩

theorem rowIn_of (R : Fin 32768) : rowIn (seqOf R) (tokOf R) = R := Fin.ext (by show R.val / 4096 * 4096 + R.val % 4096 = R.val; omega)

/-- The normalised rows. -/
theorem v14_at (b : Fin 8) (p : Fin 4096) (k : Fin 1024) :
    @Eq EReal (val_main_v14 (F := Ideal) x0 x1 (ix3 b p k)) (rms (fun j => x0 (ix2 (rowIn b p) j)) (fun j => x1 (ix1 j)) k) := by
  pointwise [val_main_v14, val_main_v13, val_main_v12, val_main_v11, val_main_v10, val_main_v9, val_main_v8, val_main_v7, val_main_v6, val_main_v5, val_main_cst_1, val_main_v4,
    val_main_v3, val_main_cst_0, val_main_v2, val_main_v1, val_main_cst, rms, rowIn]

/-- The projected rows. -/
theorem v15_at (b : Fin 8) (p : Fin 4096) (l : Fin 10568) :
    @Eq EReal (val_main_v15 (F := Ideal) x0 x1 x2 (ix3 b p l)) (projAt (fun k => x0 (ix2 (rowIn b p) k)) (fun k => x1 (ix1 k)) (fun k => x2 (ix2 k l))) := by
  refine Eq.trans (b := ∑ k : Fin 1024, @HMul.hMul EReal EReal EReal _ (val_main_v14 (F := Ideal) x0 x1 (ix3 b p k)) (x2 (ix2 k l))) ?_
    (Finset.sum_congr rfl fun k _ => congrArg (fun z : EReal => z * (x2 (ix2 k l) : EReal)) (v14_at x0 x1 b p k))
  unfold val_main_v15
  pointwise

/-- The cosine of a pair's angle. -/
theorem v49_at (p : Fin 4096) (i : Fin 32) : @Eq EReal (val_main_v49 (F := Ideal) (ix2 p i)) (Ideal.cos (angle 0x461C4000#32 0x42800000#32 p.val i.val)) := by
  unfold val_main_v49 val_main_v48 val_main_v47 val_main_v46 val_main_v45 val_main_v44 val_main_v43 val_main_v42 val_main_v41 val_main_cst_4 val_main_v40 val_main_v39 val_main_cst_3 val_main_v38 val_main_v37 val_main_cst_2 val_main_v36 val_main_v35 val_main_v0
  pointwise [angle]

/-- The sine of a pair's angle. -/
theorem v51_at (p : Fin 4096) (i : Fin 32) : @Eq EReal (val_main_v51 (F := Ideal) (ix2 p i)) (Ideal.sin (angle 0x461C4000#32 0x42800000#32 p.val i.val)) := by
  unfold val_main_v51 val_main_v48 val_main_v47 val_main_v46 val_main_v45 val_main_v44 val_main_v43 val_main_v42 val_main_v41 val_main_cst_4 val_main_v40 val_main_v39 val_main_cst_3 val_main_v38 val_main_v37 val_main_cst_2 val_main_v36 val_main_v35 val_main_v0
  pointwise [angle]

/-- The first halves of the pairs, turned. -/
theorem v59_at (b : Fin 8) (p : Fin 4096) (g : Fin 4) (i : Fin 32) :
    @Eq EReal (val_main_v59 (F := Ideal) x0 x1 x2 (ix4 b p g i))
      (@HSub.hSub EReal EReal EReal _ (@HMul.hMul EReal EReal EReal _ (val_main_v34 (F := Ideal) x0 x1 x2 (ix4 b p g ⟨i.val, by omega⟩)) (Ideal.cos (angle 0x461C4000#32 0x42800000#32 p.val i.val)))
        (@HMul.hMul EReal EReal EReal _ (val_main_v34 (F := Ideal) x0 x1 x2 (ix4 b p g ⟨i.val + 32, by omega⟩)) (Ideal.sin (angle 0x461C4000#32 0x42800000#32 p.val i.val)))) := by
  rw [← v49_at, ← v51_at]
  unfold val_main_v59 val_main_v58 val_main_v57 val_main_v56 val_main_v55 val_main_v54 val_main_v53 val_main_v52 val_main_v50
  generalize val_main_v34 (F := Ideal) x0 x1 x2 = z
  generalize val_main_v49 (F := Ideal) = C
  generalize val_main_v51 (F := Ideal) = S
  pointwise
  simp only [Nat.add_comm 32 i.val]

/-- The second halves of the pairs, turned. -/
theorem v64_at (b : Fin 8) (p : Fin 4096) (g : Fin 4) (i : Fin 32) :
    @Eq EReal (val_main_v64 (F := Ideal) x0 x1 x2 (ix4 b p g i))
      (@HAdd.hAdd EReal EReal EReal _ (@HMul.hMul EReal EReal EReal _ (val_main_v34 (F := Ideal) x0 x1 x2 (ix4 b p g ⟨i.val + 32, by omega⟩)) (Ideal.cos (angle 0x461C4000#32 0x42800000#32 p.val i.val)))
        (@HMul.hMul EReal EReal EReal _ (val_main_v34 (F := Ideal) x0 x1 x2 (ix4 b p g ⟨i.val, by omega⟩)) (Ideal.sin (angle 0x461C4000#32 0x42800000#32 p.val i.val)))) := by
  rw [← v49_at, ← v51_at]
  unfold val_main_v64 val_main_v63 val_main_v62 val_main_v61 val_main_v60 val_main_v54 val_main_v53 val_main_v52 val_main_v50
  generalize val_main_v34 (F := Ideal) x0 x1 x2 = z
  generalize val_main_v49 (F := Ideal) = C
  generalize val_main_v51 (F := Ideal) = S
  pointwise
  simp only [Nat.add_comm 32 i.val]

/-- The pairs side by side again. -/
theorem v67_cat (b : Fin 8) (p : Fin 4096) (g : Fin 4) (h : Fin 64) :
    @Eq EReal (val_main_v67 (F := Ideal) x0 x1 x2 (ix4 b p g h))
      (if h1 : h.val < 32 then val_main_v59 (F := Ideal) x0 x1 x2 (ix4 b p g ⟨h.val, h1⟩) else val_main_v64 (F := Ideal) x0 x1 x2 (ix4 b p g ⟨h.val - 32, by omega⟩)) := by
  unfold val_main_v67 val_main_v65 val_main_v66
  generalize val_main_v34 (F := Ideal) x0 x1 x2 = z
  generalize val_main_v59 (F := Ideal) x0 x1 x2 = A
  generalize val_main_v64 (F := Ideal) x0 x1 x2 = B
  pointwise

/-- A head, embedded. -/
theorem v67_at (b : Fin 8) (p : Fin 4096) (g : Fin 4) (h : Fin 64) :
    @Eq EReal (val_main_v67 (F := Ideal) x0 x1 x2 (ix4 b p g h)) (roped 32 (by omega) (angle 0x461C4000#32 0x42800000#32 p.val) (fun h => val_main_v34 (F := Ideal) x0 x1 x2 (ix4 b p g h)) h) := by
  refine (v67_cat x0 x1 x2 b p g h).trans ?_
  unfold roped
  by_cases h1 : h.val < 32
  · rw [dif_pos h1, dif_pos h1]
    exact v59_at x0 x1 x2 b p g _
  · rw [dif_neg h1, dif_neg h1, dif_pos (show h.val < 2 * 32 by omega)]
    refine (v64_at x0 x1 x2 b p g ⟨h.val - 32, by omega⟩).trans ?_
    have e : (⟨h.val - 32 + 32, by omega⟩ : Fin 64) = h := Fin.ext (by show h.val - 32 + 32 = h.val; omega)
    simp only [e]

/-- A head's lane is a column of the projection. -/
theorem v34_at (b : Fin 8) (p : Fin 4096) (g : Fin 4) (h : Fin 64) :
    @Eq EReal (val_main_v34 (F := Ideal) x0 x1 x2 (ix4 b p g h)) (projAt (fun k => x0 (ix2 (rowIn b p) k)) (fun k => x1 (ix1 k)) (fun k => x2 (ix2 k ⟨0 + (g.val * 64 + h.val), by omega⟩))) := by
  refine Eq.trans ?_ (v15_at x0 x1 x2 b p _)
  unfold val_main_v34 val_main_v16
  generalize val_main_v15 (F := Ideal) x0 x1 x2 = z
  pointwise

/-- The heads' rows, flat. -/
theorem v68_flat (R : Fin 32768) (l : Fin 256) :
    @Eq EReal (val_main_v68 (F := Ideal) x0 x1 x2 (ix2 R l)) (val_main_v67 (F := Ideal) x0 x1 x2 (ix4 (seqOf R) (tokOf R) ⟨l.val / 64, by omega⟩ ⟨l.val % 64, by omega⟩)) := by
  unfold val_main_v68
  generalize val_main_v67 (F := Ideal) x0 x1 x2 = z
  pointwise [seqOf, tokOf]

/-- The result, by the model. -/
theorem v68_at (R : Fin 32768) (l : Fin 256) :
    @Eq EReal (val_main_v68 (F := Ideal) x0 x1 x2 (ix2 R l)) (ropeAt 32 (by omega) 0x461C4000#32 0x42800000#32 (fun R k => x0 (ix2 R k)) (fun k => x1 (ix1 k)) (fun k j => x2 (ix2 k j)) 0 256 (by omega) (by omega) R l) := by
  refine (v68_flat x0 x1 x2 R l).trans ((v67_at x0 x1 x2 _ _ _ _).trans ?_)
  unfold ropeAt
  refine roped_congr 32 _ _ (fun h => ?_) rfl
  refine (v34_at x0 x1 x2 _ _ _ h).trans ?_
  rw [rowIn_of]

/-- The cosine of a pair's angle. -/
theorem v84_at (p : Fin 4096) (i : Fin 32) : @Eq EReal (val_main_v84 (F := Ideal) (ix2 p i)) (Ideal.cos (angle 0x461C4000#32 0x42800000#32 p.val i.val)) := by
  unfold val_main_v84 val_main_v83 val_main_v82 val_main_v81 val_main_v80 val_main_v79 val_main_v78 val_main_v77 val_main_v76 val_main_cst_7 val_main_v75 val_main_v74 val_main_cst_6 val_main_v73 val_main_v72 val_main_cst_5 val_main_v71 val_main_v70 val_main_v0
  pointwise [angle]

/-- The sine of a pair's angle. -/
theorem v86_at (p : Fin 4096) (i : Fin 32) : @Eq EReal (val_main_v86 (F := Ideal) (ix2 p i)) (Ideal.sin (angle 0x461C4000#32 0x42800000#32 p.val i.val)) := by
  unfold val_main_v86 val_main_v83 val_main_v82 val_main_v81 val_main_v80 val_main_v79 val_main_v78 val_main_v77 val_main_v76 val_main_cst_7 val_main_v75 val_main_v74 val_main_cst_6 val_main_v73 val_main_v72 val_main_cst_5 val_main_v71 val_main_v70 val_main_v0
  pointwise [angle]

/-- The first halves of the pairs, turned. -/
theorem v94_at (b : Fin 8) (p : Fin 4096) (g : Fin 4) (i : Fin 32) :
    @Eq EReal (val_main_v94 (F := Ideal) x0 x1 x2 (ix4 b p g i))
      (@HSub.hSub EReal EReal EReal _ (@HMul.hMul EReal EReal EReal _ (val_main_v69 (F := Ideal) x0 x1 x2 (ix4 b p g ⟨i.val, by omega⟩)) (Ideal.cos (angle 0x461C4000#32 0x42800000#32 p.val i.val)))
        (@HMul.hMul EReal EReal EReal _ (val_main_v69 (F := Ideal) x0 x1 x2 (ix4 b p g ⟨i.val + 32, by omega⟩)) (Ideal.sin (angle 0x461C4000#32 0x42800000#32 p.val i.val)))) := by
  rw [← v84_at, ← v86_at]
  unfold val_main_v94 val_main_v93 val_main_v92 val_main_v91 val_main_v90 val_main_v89 val_main_v88 val_main_v87 val_main_v85
  generalize val_main_v69 (F := Ideal) x0 x1 x2 = z
  generalize val_main_v84 (F := Ideal) = C
  generalize val_main_v86 (F := Ideal) = S
  pointwise
  simp only [Nat.add_comm 32 i.val]

/-- The second halves of the pairs, turned. -/
theorem v99_at (b : Fin 8) (p : Fin 4096) (g : Fin 4) (i : Fin 32) :
    @Eq EReal (val_main_v99 (F := Ideal) x0 x1 x2 (ix4 b p g i))
      (@HAdd.hAdd EReal EReal EReal _ (@HMul.hMul EReal EReal EReal _ (val_main_v69 (F := Ideal) x0 x1 x2 (ix4 b p g ⟨i.val + 32, by omega⟩)) (Ideal.cos (angle 0x461C4000#32 0x42800000#32 p.val i.val)))
        (@HMul.hMul EReal EReal EReal _ (val_main_v69 (F := Ideal) x0 x1 x2 (ix4 b p g ⟨i.val, by omega⟩)) (Ideal.sin (angle 0x461C4000#32 0x42800000#32 p.val i.val)))) := by
  rw [← v84_at, ← v86_at]
  unfold val_main_v99 val_main_v98 val_main_v97 val_main_v96 val_main_v95 val_main_v89 val_main_v88 val_main_v87 val_main_v85
  generalize val_main_v69 (F := Ideal) x0 x1 x2 = z
  generalize val_main_v84 (F := Ideal) = C
  generalize val_main_v86 (F := Ideal) = S
  pointwise
  simp only [Nat.add_comm 32 i.val]

/-- The pairs side by side again. -/
theorem v102_cat (b : Fin 8) (p : Fin 4096) (g : Fin 4) (h : Fin 64) :
    @Eq EReal (val_main_v102 (F := Ideal) x0 x1 x2 (ix4 b p g h))
      (if h1 : h.val < 32 then val_main_v94 (F := Ideal) x0 x1 x2 (ix4 b p g ⟨h.val, h1⟩) else val_main_v99 (F := Ideal) x0 x1 x2 (ix4 b p g ⟨h.val - 32, by omega⟩)) := by
  unfold val_main_v102 val_main_v100 val_main_v101
  generalize val_main_v69 (F := Ideal) x0 x1 x2 = z
  generalize val_main_v94 (F := Ideal) x0 x1 x2 = A
  generalize val_main_v99 (F := Ideal) x0 x1 x2 = B
  pointwise

/-- A head, embedded. -/
theorem v102_at (b : Fin 8) (p : Fin 4096) (g : Fin 4) (h : Fin 64) :
    @Eq EReal (val_main_v102 (F := Ideal) x0 x1 x2 (ix4 b p g h)) (roped 32 (by omega) (angle 0x461C4000#32 0x42800000#32 p.val) (fun h => val_main_v69 (F := Ideal) x0 x1 x2 (ix4 b p g h)) h) := by
  refine (v102_cat x0 x1 x2 b p g h).trans ?_
  unfold roped
  by_cases h1 : h.val < 32
  · rw [dif_pos h1, dif_pos h1]
    exact v94_at x0 x1 x2 b p g _
  · rw [dif_neg h1, dif_neg h1, dif_pos (show h.val < 2 * 32 by omega)]
    refine (v99_at x0 x1 x2 b p g ⟨h.val - 32, by omega⟩).trans ?_
    have e : (⟨h.val - 32 + 32, by omega⟩ : Fin 64) = h := Fin.ext (by show h.val - 32 + 32 = h.val; omega)
    simp only [e]

/-- A head's lane is a column of the projection. -/
theorem v69_at (b : Fin 8) (p : Fin 4096) (g : Fin 4) (h : Fin 64) :
    @Eq EReal (val_main_v69 (F := Ideal) x0 x1 x2 (ix4 b p g h)) (projAt (fun k => x0 (ix2 (rowIn b p) k)) (fun k => x1 (ix1 k)) (fun k => x2 (ix2 k ⟨256 + (g.val * 64 + h.val), by omega⟩))) := by
  refine Eq.trans ?_ (v15_at x0 x1 x2 b p _)
  unfold val_main_v69 val_main_v17
  generalize val_main_v15 (F := Ideal) x0 x1 x2 = z
  pointwise

/-- The heads' rows, flat. -/
theorem v105_flat (R : Fin 32768) (l : Fin 256) :
    @Eq EReal (val_main_v105 (F := Ideal) x0 x1 x2 (ix2 R l)) (val_main_v104 (F := Ideal) x0 x1 x2 (ix4 (seqOf R) (tokOf R) ⟨l.val / 64, by omega⟩ ⟨l.val % 64, by omega⟩)) := by
  unfold val_main_v105
  generalize val_main_v104 (F := Ideal) x0 x1 x2 = z
  pointwise [seqOf, tokOf]

/-- The heads, scaled. -/
theorem v104_at (b : Fin 8) (p : Fin 4096) (g : Fin 4) (h : Fin 64) :
    @Eq EReal (val_main_v104 (F := Ideal) x0 x1 x2 (ix4 b p g h)) (@HMul.hMul EReal EReal EReal _ (val_main_v102 (F := Ideal) x0 x1 x2 (ix4 b p g h)) (Ideal.ofBits .f32 0x3E000000#32)) := by
  unfold val_main_v104 val_main_v103 val_main_cst_8
  generalize val_main_v102 (F := Ideal) x0 x1 x2 = z
  pointwise

/-- The result, by the model. -/
theorem v105_at (R : Fin 32768) (l : Fin 256) :
    @Eq EReal (val_main_v105 (F := Ideal) x0 x1 x2 (ix2 R l)) (ropeAt 32 (by omega) 0x461C4000#32 0x42800000#32 (fun R k => x0 (ix2 R k)) (fun k => x1 (ix1 k)) (fun k j => x2 (ix2 k j)) 256 256 (by omega) (by omega) R l * Ideal.ofBits .f32 0x3E000000#32) := by
  refine (v105_flat x0 x1 x2 R l).trans ((v104_at x0 x1 x2 _ _ _ _).trans (congrArg (fun z : EReal => z * Ideal.ofBits .f32 0x3E000000#32) ((v102_at x0 x1 x2 _ _ _ _).trans ?_)))
  unfold ropeAt
  refine roped_congr 32 _ _ (fun h => ?_) rfl
  refine (v69_at x0 x1 x2 _ _ _ h).trans ?_
  rw [rowIn_of]

/-- Columns 512 to 1024 of the projection. -/
theorem v106_at (R : Fin 32768) (l : Fin 512) :
    @Eq EReal (val_main_v106 (F := Ideal) x0 x1 x2 (ix2 R l)) (colAt (fun R k => x0 (ix2 R k)) (fun k => x1 (ix1 k)) (fun k j => x2 (ix2 k j)) 512 512 (by omega) R l) := by
  refine Eq.trans (b := val_main_v15 (F := Ideal) x0 x1 x2 (ix3 (seqOf R) (tokOf R) ⟨512 + l.val, by omega⟩)) ?_ ((v15_at x0 x1 x2 _ _ _).trans (by rw [rowIn_of]; rfl))
  unfold val_main_v106 val_main_v18
  generalize val_main_v15 (F := Ideal) x0 x1 x2 = z
  pointwise [seqOf, tokOf]

/-- Columns 1024 to 1536 of the projection. -/
theorem v107_at (R : Fin 32768) (l : Fin 512) :
    @Eq EReal (val_main_v107 (F := Ideal) x0 x1 x2 (ix2 R l)) (colAt (fun R k => x0 (ix2 R k)) (fun k => x1 (ix1 k)) (fun k j => x2 (ix2 k j)) 1024 512 (by omega) R l) := by
  refine Eq.trans (b := val_main_v15 (F := Ideal) x0 x1 x2 (ix3 (seqOf R) (tokOf R) ⟨1024 + l.val, by omega⟩)) ?_ ((v15_at x0 x1 x2 _ _ _).trans (by rw [rowIn_of]; rfl))
  unfold val_main_v107 val_main_v19
  generalize val_main_v15 (F := Ideal) x0 x1 x2 = z
  pointwise [seqOf, tokOf]

/-- The cosine of a pair's angle. -/
theorem v123_at (p : Fin 4096) (i : Fin 8) : @Eq EReal (val_main_v123 (F := Ideal) (ix2 p i)) (Ideal.cos (angle 0x48F42400#32 0x41800000#32 p.val i.val)) := by
  unfold val_main_v123 val_main_v122 val_main_v121 val_main_v120 val_main_v119 val_main_v118 val_main_v117 val_main_v116 val_main_v115 val_main_cst_11 val_main_v114 val_main_v113 val_main_cst_10 val_main_v112 val_main_v111 val_main_cst_9 val_main_v110 val_main_v109 val_main_v0
  pointwise [angle]

/-- The sine of a pair's angle. -/
theorem v125_at (p : Fin 4096) (i : Fin 8) : @Eq EReal (val_main_v125 (F := Ideal) (ix2 p i)) (Ideal.sin (angle 0x48F42400#32 0x41800000#32 p.val i.val)) := by
  unfold val_main_v125 val_main_v122 val_main_v121 val_main_v120 val_main_v119 val_main_v118 val_main_v117 val_main_v116 val_main_v115 val_main_cst_11 val_main_v114 val_main_v113 val_main_cst_10 val_main_v112 val_main_v111 val_main_cst_9 val_main_v110 val_main_v109 val_main_v0
  pointwise [angle]

/-- The first halves of the pairs, turned. -/
theorem v133_at (b : Fin 8) (p : Fin 4096) (g : Fin 8) (i : Fin 8) :
    @Eq EReal (val_main_v133 (F := Ideal) x0 x1 x2 (ix4 b p g i))
      (@HSub.hSub EReal EReal EReal _ (@HMul.hMul EReal EReal EReal _ (val_main_v108 (F := Ideal) x0 x1 x2 (ix4 b p g ⟨i.val, by omega⟩)) (Ideal.cos (angle 0x48F42400#32 0x41800000#32 p.val i.val)))
        (@HMul.hMul EReal EReal EReal _ (val_main_v108 (F := Ideal) x0 x1 x2 (ix4 b p g ⟨i.val + 8, by omega⟩)) (Ideal.sin (angle 0x48F42400#32 0x41800000#32 p.val i.val)))) := by
  rw [← v123_at, ← v125_at]
  unfold val_main_v133 val_main_v132 val_main_v131 val_main_v130 val_main_v129 val_main_v128 val_main_v127 val_main_v126 val_main_v124
  generalize val_main_v108 (F := Ideal) x0 x1 x2 = z
  generalize val_main_v123 (F := Ideal) = C
  generalize val_main_v125 (F := Ideal) = S
  pointwise
  simp only [Nat.add_comm 8 i.val]

/-- The second halves of the pairs, turned. -/
theorem v138_at (b : Fin 8) (p : Fin 4096) (g : Fin 8) (i : Fin 8) :
    @Eq EReal (val_main_v138 (F := Ideal) x0 x1 x2 (ix4 b p g i))
      (@HAdd.hAdd EReal EReal EReal _ (@HMul.hMul EReal EReal EReal _ (val_main_v108 (F := Ideal) x0 x1 x2 (ix4 b p g ⟨i.val + 8, by omega⟩)) (Ideal.cos (angle 0x48F42400#32 0x41800000#32 p.val i.val)))
        (@HMul.hMul EReal EReal EReal _ (val_main_v108 (F := Ideal) x0 x1 x2 (ix4 b p g ⟨i.val, by omega⟩)) (Ideal.sin (angle 0x48F42400#32 0x41800000#32 p.val i.val)))) := by
  rw [← v123_at, ← v125_at]
  unfold val_main_v138 val_main_v137 val_main_v136 val_main_v135 val_main_v134 val_main_v128 val_main_v127 val_main_v126 val_main_v124
  generalize val_main_v108 (F := Ideal) x0 x1 x2 = z
  generalize val_main_v123 (F := Ideal) = C
  generalize val_main_v125 (F := Ideal) = S
  pointwise
  simp only [Nat.add_comm 8 i.val]

/-- The pairs side by side again, and the lanes that stay. -/
theorem v141_cat (b : Fin 8) (p : Fin 4096) (g : Fin 8) (h : Fin 64) :
    @Eq EReal (val_main_v141 (F := Ideal) x0 x1 x2 (ix4 b p g h))
      (if h1 : h.val < 8 then val_main_v133 (F := Ideal) x0 x1 x2 (ix4 b p g ⟨h.val, h1⟩) else if h2 : h.val < 16 then val_main_v138 (F := Ideal) x0 x1 x2 (ix4 b p g ⟨h.val - 8, by omega⟩)
        else val_main_v108 (F := Ideal) x0 x1 x2 (ix4 b p g h)) := by
  unfold val_main_v141 val_main_v139 val_main_v140
  generalize val_main_v108 (F := Ideal) x0 x1 x2 = z
  generalize val_main_v133 (F := Ideal) x0 x1 x2 = A
  generalize val_main_v138 (F := Ideal) x0 x1 x2 = B
  by_cases h1 : h.val < 8
  · rw [dif_pos h1]
    pointwise
    all_goals rw [dif_pos (show h.val < 16 by omega), dif_pos h1]
  · by_cases h2 : h.val < 16
    · rw [dif_neg h1, dif_pos h2]
      pointwise
      all_goals rw [dif_pos h2, dif_neg h1]
    · rw [dif_neg h1, dif_neg h2]
      pointwise
      all_goals rw [dif_neg h2]
      all_goals simp only [show 16 + (h.val - 16) = h.val by omega, Fin.eta]

/-- A head, embedded. -/
theorem v141_at (b : Fin 8) (p : Fin 4096) (g : Fin 8) (h : Fin 64) :
    @Eq EReal (val_main_v141 (F := Ideal) x0 x1 x2 (ix4 b p g h)) (roped 8 (by omega) (angle 0x48F42400#32 0x41800000#32 p.val) (fun h => val_main_v108 (F := Ideal) x0 x1 x2 (ix4 b p g h)) h) := by
  refine (v141_cat x0 x1 x2 b p g h).trans ?_
  unfold roped
  by_cases h1 : h.val < 8
  · rw [dif_pos h1, dif_pos h1]
    exact v133_at x0 x1 x2 b p g _
  · by_cases h2 : h.val < 16
    · rw [dif_neg h1, dif_neg h1, dif_pos h2, dif_pos (show h.val < 2 * 8 by omega)]
      refine (v138_at x0 x1 x2 b p g ⟨h.val - 8, by omega⟩).trans ?_
      have e : (⟨h.val - 8 + 8, by omega⟩ : Fin 64) = h := Fin.ext (by show h.val - 8 + 8 = h.val; omega)
      simp only [e]
    · rw [dif_neg h1, dif_neg h1, dif_neg h2, dif_neg (show ¬ h.val < 2 * 8 by omega)]

/-- A head's lane is a column of the projection. -/
theorem v108_at (b : Fin 8) (p : Fin 4096) (g : Fin 8) (h : Fin 64) :
    @Eq EReal (val_main_v108 (F := Ideal) x0 x1 x2 (ix4 b p g h)) (projAt (fun k => x0 (ix2 (rowIn b p) k)) (fun k => x1 (ix1 k)) (fun k => x2 (ix2 k ⟨1536 + (g.val * 64 + h.val), by omega⟩))) := by
  refine Eq.trans ?_ (v15_at x0 x1 x2 b p _)
  unfold val_main_v108 val_main_v20
  generalize val_main_v15 (F := Ideal) x0 x1 x2 = z
  pointwise

/-- The heads' rows, flat. -/
theorem v142_flat (R : Fin 32768) (l : Fin 512) :
    @Eq EReal (val_main_v142 (F := Ideal) x0 x1 x2 (ix2 R l)) (val_main_v141 (F := Ideal) x0 x1 x2 (ix4 (seqOf R) (tokOf R) ⟨l.val / 64, by omega⟩ ⟨l.val % 64, by omega⟩)) := by
  unfold val_main_v142
  generalize val_main_v141 (F := Ideal) x0 x1 x2 = z
  pointwise [seqOf, tokOf]

/-- The result, by the model. -/
theorem v142_at (R : Fin 32768) (l : Fin 512) :
    @Eq EReal (val_main_v142 (F := Ideal) x0 x1 x2 (ix2 R l)) (ropeAt 8 (by omega) 0x48F42400#32 0x41800000#32 (fun R k => x0 (ix2 R k)) (fun k => x1 (ix1 k)) (fun k j => x2 (ix2 k j)) 1536 512 (by omega) (by omega) R l) := by
  refine (v142_flat x0 x1 x2 R l).trans ((v141_at x0 x1 x2 _ _ _ _).trans ?_)
  unfold ropeAt
  refine roped_congr 8 _ _ (fun h => ?_) rfl
  refine (v108_at x0 x1 x2 _ _ _ h).trans ?_
  rw [rowIn_of]

/-- The cosine of a pair's angle. -/
theorem v158_at (p : Fin 4096) (i : Fin 8) : @Eq EReal (val_main_v158 (F := Ideal) (ix2 p i)) (Ideal.cos (angle 0x48F42400#32 0x41800000#32 p.val i.val)) := by
  unfold val_main_v158 val_main_v157 val_main_v156 val_main_v155 val_main_v154 val_main_v153 val_main_v152 val_main_v151 val_main_v150 val_main_cst_14 val_main_v149 val_main_v148 val_main_cst_13 val_main_v147 val_main_v146 val_main_cst_12 val_main_v145 val_main_v144 val_main_v0
  pointwise [angle]

/-- The sine of a pair's angle. -/
theorem v160_at (p : Fin 4096) (i : Fin 8) : @Eq EReal (val_main_v160 (F := Ideal) (ix2 p i)) (Ideal.sin (angle 0x48F42400#32 0x41800000#32 p.val i.val)) := by
  unfold val_main_v160 val_main_v157 val_main_v156 val_main_v155 val_main_v154 val_main_v153 val_main_v152 val_main_v151 val_main_v150 val_main_cst_14 val_main_v149 val_main_v148 val_main_cst_13 val_main_v147 val_main_v146 val_main_cst_12 val_main_v145 val_main_v144 val_main_v0
  pointwise [angle]

/-- The first halves of the pairs, turned. -/
theorem v168_at (b : Fin 8) (p : Fin 4096) (g : Fin 8) (i : Fin 8) :
    @Eq EReal (val_main_v168 (F := Ideal) x0 x1 x2 (ix4 b p g i))
      (@HSub.hSub EReal EReal EReal _ (@HMul.hMul EReal EReal EReal _ (val_main_v143 (F := Ideal) x0 x1 x2 (ix4 b p g ⟨i.val, by omega⟩)) (Ideal.cos (angle 0x48F42400#32 0x41800000#32 p.val i.val)))
        (@HMul.hMul EReal EReal EReal _ (val_main_v143 (F := Ideal) x0 x1 x2 (ix4 b p g ⟨i.val + 8, by omega⟩)) (Ideal.sin (angle 0x48F42400#32 0x41800000#32 p.val i.val)))) := by
  rw [← v158_at, ← v160_at]
  unfold val_main_v168 val_main_v167 val_main_v166 val_main_v165 val_main_v164 val_main_v163 val_main_v162 val_main_v161 val_main_v159
  generalize val_main_v143 (F := Ideal) x0 x1 x2 = z
  generalize val_main_v158 (F := Ideal) = C
  generalize val_main_v160 (F := Ideal) = S
  pointwise
  simp only [Nat.add_comm 8 i.val]

/-- The second halves of the pairs, turned. -/
theorem v173_at (b : Fin 8) (p : Fin 4096) (g : Fin 8) (i : Fin 8) :
    @Eq EReal (val_main_v173 (F := Ideal) x0 x1 x2 (ix4 b p g i))
      (@HAdd.hAdd EReal EReal EReal _ (@HMul.hMul EReal EReal EReal _ (val_main_v143 (F := Ideal) x0 x1 x2 (ix4 b p g ⟨i.val + 8, by omega⟩)) (Ideal.cos (angle 0x48F42400#32 0x41800000#32 p.val i.val)))
        (@HMul.hMul EReal EReal EReal _ (val_main_v143 (F := Ideal) x0 x1 x2 (ix4 b p g ⟨i.val, by omega⟩)) (Ideal.sin (angle 0x48F42400#32 0x41800000#32 p.val i.val)))) := by
  rw [← v158_at, ← v160_at]
  unfold val_main_v173 val_main_v172 val_main_v171 val_main_v170 val_main_v169 val_main_v163 val_main_v162 val_main_v161 val_main_v159
  generalize val_main_v143 (F := Ideal) x0 x1 x2 = z
  generalize val_main_v158 (F := Ideal) = C
  generalize val_main_v160 (F := Ideal) = S
  pointwise
  simp only [Nat.add_comm 8 i.val]

/-- The pairs side by side again, and the lanes that stay. -/
theorem v176_cat (b : Fin 8) (p : Fin 4096) (g : Fin 8) (h : Fin 64) :
    @Eq EReal (val_main_v176 (F := Ideal) x0 x1 x2 (ix4 b p g h))
      (if h1 : h.val < 8 then val_main_v168 (F := Ideal) x0 x1 x2 (ix4 b p g ⟨h.val, h1⟩) else if h2 : h.val < 16 then val_main_v173 (F := Ideal) x0 x1 x2 (ix4 b p g ⟨h.val - 8, by omega⟩)
        else val_main_v143 (F := Ideal) x0 x1 x2 (ix4 b p g h)) := by
  unfold val_main_v176 val_main_v174 val_main_v175
  generalize val_main_v143 (F := Ideal) x0 x1 x2 = z
  generalize val_main_v168 (F := Ideal) x0 x1 x2 = A
  generalize val_main_v173 (F := Ideal) x0 x1 x2 = B
  by_cases h1 : h.val < 8
  · rw [dif_pos h1]
    pointwise
    all_goals rw [dif_pos (show h.val < 16 by omega), dif_pos h1]
  · by_cases h2 : h.val < 16
    · rw [dif_neg h1, dif_pos h2]
      pointwise
      all_goals rw [dif_pos h2, dif_neg h1]
    · rw [dif_neg h1, dif_neg h2]
      pointwise
      all_goals rw [dif_neg h2]
      all_goals simp only [show 16 + (h.val - 16) = h.val by omega, Fin.eta]

/-- A head, embedded. -/
theorem v176_at (b : Fin 8) (p : Fin 4096) (g : Fin 8) (h : Fin 64) :
    @Eq EReal (val_main_v176 (F := Ideal) x0 x1 x2 (ix4 b p g h)) (roped 8 (by omega) (angle 0x48F42400#32 0x41800000#32 p.val) (fun h => val_main_v143 (F := Ideal) x0 x1 x2 (ix4 b p g h)) h) := by
  refine (v176_cat x0 x1 x2 b p g h).trans ?_
  unfold roped
  by_cases h1 : h.val < 8
  · rw [dif_pos h1, dif_pos h1]
    exact v168_at x0 x1 x2 b p g _
  · by_cases h2 : h.val < 16
    · rw [dif_neg h1, dif_neg h1, dif_pos h2, dif_pos (show h.val < 2 * 8 by omega)]
      refine (v173_at x0 x1 x2 b p g ⟨h.val - 8, by omega⟩).trans ?_
      have e : (⟨h.val - 8 + 8, by omega⟩ : Fin 64) = h := Fin.ext (by show h.val - 8 + 8 = h.val; omega)
      simp only [e]
    · rw [dif_neg h1, dif_neg h1, dif_neg h2, dif_neg (show ¬ h.val < 2 * 8 by omega)]

/-- A head's lane is a column of the projection. -/
theorem v143_at (b : Fin 8) (p : Fin 4096) (g : Fin 8) (h : Fin 64) :
    @Eq EReal (val_main_v143 (F := Ideal) x0 x1 x2 (ix4 b p g h)) (projAt (fun k => x0 (ix2 (rowIn b p) k)) (fun k => x1 (ix1 k)) (fun k => x2 (ix2 k ⟨2048 + (g.val * 64 + h.val), by omega⟩))) := by
  refine Eq.trans ?_ (v15_at x0 x1 x2 b p _)
  unfold val_main_v143 val_main_v21
  generalize val_main_v15 (F := Ideal) x0 x1 x2 = z
  pointwise

/-- The heads' rows, flat. -/
theorem v177_flat (R : Fin 32768) (l : Fin 512) :
    @Eq EReal (val_main_v177 (F := Ideal) x0 x1 x2 (ix2 R l)) (val_main_v176 (F := Ideal) x0 x1 x2 (ix4 (seqOf R) (tokOf R) ⟨l.val / 64, by omega⟩ ⟨l.val % 64, by omega⟩)) := by
  unfold val_main_v177
  generalize val_main_v176 (F := Ideal) x0 x1 x2 = z
  pointwise [seqOf, tokOf]

/-- The result, by the model. -/
theorem v177_at (R : Fin 32768) (l : Fin 512) :
    @Eq EReal (val_main_v177 (F := Ideal) x0 x1 x2 (ix2 R l)) (ropeAt 8 (by omega) 0x48F42400#32 0x41800000#32 (fun R k => x0 (ix2 R k)) (fun k => x1 (ix1 k)) (fun k j => x2 (ix2 k j)) 2048 512 (by omega) (by omega) R l) := by
  refine (v177_flat x0 x1 x2 R l).trans ((v176_at x0 x1 x2 _ _ _ _).trans ?_)
  unfold ropeAt
  refine roped_congr 8 _ _ (fun h => ?_) rfl
  refine (v143_at x0 x1 x2 _ _ _ h).trans ?_
  rw [rowIn_of]

/-- Columns 2560 to 3072 of the projection. -/
theorem v178_at (R : Fin 32768) (l : Fin 512) :
    @Eq EReal (val_main_v178 (F := Ideal) x0 x1 x2 (ix2 R l)) (colAt (fun R k => x0 (ix2 R k)) (fun k => x1 (ix1 k)) (fun k j => x2 (ix2 k j)) 2560 512 (by omega) R l) := by
  refine Eq.trans (b := val_main_v15 (F := Ideal) x0 x1 x2 (ix3 (seqOf R) (tokOf R) ⟨2560 + l.val, by omega⟩)) ?_ ((v15_at x0 x1 x2 _ _ _).trans (by rw [rowIn_of]; rfl))
  unfold val_main_v178 val_main_v22
  generalize val_main_v15 (F := Ideal) x0 x1 x2 = z
  pointwise [seqOf, tokOf]

/-- Columns 3072 to 3584 of the projection. -/
theorem v179_at (R : Fin 32768) (l : Fin 512) :
    @Eq EReal (val_main_v179 (F := Ideal) x0 x1 x2 (ix2 R l)) (colAt (fun R k => x0 (ix2 R k)) (fun k => x1 (ix1 k)) (fun k j => x2 (ix2 k j)) 3072 512 (by omega) R l) := by
  refine Eq.trans (b := val_main_v15 (F := Ideal) x0 x1 x2 (ix3 (seqOf R) (tokOf R) ⟨3072 + l.val, by omega⟩)) ?_ ((v15_at x0 x1 x2 _ _ _).trans (by rw [rowIn_of]; rfl))
  unfold val_main_v179 val_main_v23
  generalize val_main_v15 (F := Ideal) x0 x1 x2 = z
  pointwise [seqOf, tokOf]

/-- The cosine of a pair's angle. -/
theorem v195_at (p : Fin 4096) (i : Fin 8) : @Eq EReal (val_main_v195 (F := Ideal) (ix2 p i)) (Ideal.cos (angle 0x48F42400#32 0x41800000#32 p.val i.val)) := by
  unfold val_main_v195 val_main_v194 val_main_v193 val_main_v192 val_main_v191 val_main_v190 val_main_v189 val_main_v188 val_main_v187 val_main_cst_17 val_main_v186 val_main_v185 val_main_cst_16 val_main_v184 val_main_v183 val_main_cst_15 val_main_v182 val_main_v181 val_main_v0
  pointwise [angle]

/-- The sine of a pair's angle. -/
theorem v197_at (p : Fin 4096) (i : Fin 8) : @Eq EReal (val_main_v197 (F := Ideal) (ix2 p i)) (Ideal.sin (angle 0x48F42400#32 0x41800000#32 p.val i.val)) := by
  unfold val_main_v197 val_main_v194 val_main_v193 val_main_v192 val_main_v191 val_main_v190 val_main_v189 val_main_v188 val_main_v187 val_main_cst_17 val_main_v186 val_main_v185 val_main_cst_16 val_main_v184 val_main_v183 val_main_cst_15 val_main_v182 val_main_v181 val_main_v0
  pointwise [angle]

/-- The first halves of the pairs, turned. -/
theorem v205_at (b : Fin 8) (p : Fin 4096) (g : Fin 8) (i : Fin 8) :
    @Eq EReal (val_main_v205 (F := Ideal) x0 x1 x2 (ix4 b p g i))
      (@HSub.hSub EReal EReal EReal _ (@HMul.hMul EReal EReal EReal _ (val_main_v180 (F := Ideal) x0 x1 x2 (ix4 b p g ⟨i.val, by omega⟩)) (Ideal.cos (angle 0x48F42400#32 0x41800000#32 p.val i.val)))
        (@HMul.hMul EReal EReal EReal _ (val_main_v180 (F := Ideal) x0 x1 x2 (ix4 b p g ⟨i.val + 8, by omega⟩)) (Ideal.sin (angle 0x48F42400#32 0x41800000#32 p.val i.val)))) := by
  rw [← v195_at, ← v197_at]
  unfold val_main_v205 val_main_v204 val_main_v203 val_main_v202 val_main_v201 val_main_v200 val_main_v199 val_main_v198 val_main_v196
  generalize val_main_v180 (F := Ideal) x0 x1 x2 = z
  generalize val_main_v195 (F := Ideal) = C
  generalize val_main_v197 (F := Ideal) = S
  pointwise
  simp only [Nat.add_comm 8 i.val]

/-- The second halves of the pairs, turned. -/
theorem v210_at (b : Fin 8) (p : Fin 4096) (g : Fin 8) (i : Fin 8) :
    @Eq EReal (val_main_v210 (F := Ideal) x0 x1 x2 (ix4 b p g i))
      (@HAdd.hAdd EReal EReal EReal _ (@HMul.hMul EReal EReal EReal _ (val_main_v180 (F := Ideal) x0 x1 x2 (ix4 b p g ⟨i.val + 8, by omega⟩)) (Ideal.cos (angle 0x48F42400#32 0x41800000#32 p.val i.val)))
        (@HMul.hMul EReal EReal EReal _ (val_main_v180 (F := Ideal) x0 x1 x2 (ix4 b p g ⟨i.val, by omega⟩)) (Ideal.sin (angle 0x48F42400#32 0x41800000#32 p.val i.val)))) := by
  rw [← v195_at, ← v197_at]
  unfold val_main_v210 val_main_v209 val_main_v208 val_main_v207 val_main_v206 val_main_v200 val_main_v199 val_main_v198 val_main_v196
  generalize val_main_v180 (F := Ideal) x0 x1 x2 = z
  generalize val_main_v195 (F := Ideal) = C
  generalize val_main_v197 (F := Ideal) = S
  pointwise
  simp only [Nat.add_comm 8 i.val]

/-- The pairs side by side again, and the lanes that stay. -/
theorem v213_cat (b : Fin 8) (p : Fin 4096) (g : Fin 8) (h : Fin 64) :
    @Eq EReal (val_main_v213 (F := Ideal) x0 x1 x2 (ix4 b p g h))
      (if h1 : h.val < 8 then val_main_v205 (F := Ideal) x0 x1 x2 (ix4 b p g ⟨h.val, h1⟩) else if h2 : h.val < 16 then val_main_v210 (F := Ideal) x0 x1 x2 (ix4 b p g ⟨h.val - 8, by omega⟩)
        else val_main_v180 (F := Ideal) x0 x1 x2 (ix4 b p g h)) := by
  unfold val_main_v213 val_main_v211 val_main_v212
  generalize val_main_v180 (F := Ideal) x0 x1 x2 = z
  generalize val_main_v205 (F := Ideal) x0 x1 x2 = A
  generalize val_main_v210 (F := Ideal) x0 x1 x2 = B
  by_cases h1 : h.val < 8
  · rw [dif_pos h1]
    pointwise
    all_goals rw [dif_pos (show h.val < 16 by omega), dif_pos h1]
  · by_cases h2 : h.val < 16
    · rw [dif_neg h1, dif_pos h2]
      pointwise
      all_goals rw [dif_pos h2, dif_neg h1]
    · rw [dif_neg h1, dif_neg h2]
      pointwise
      all_goals rw [dif_neg h2]
      all_goals simp only [show 16 + (h.val - 16) = h.val by omega, Fin.eta]

/-- A head, embedded. -/
theorem v213_at (b : Fin 8) (p : Fin 4096) (g : Fin 8) (h : Fin 64) :
    @Eq EReal (val_main_v213 (F := Ideal) x0 x1 x2 (ix4 b p g h)) (roped 8 (by omega) (angle 0x48F42400#32 0x41800000#32 p.val) (fun h => val_main_v180 (F := Ideal) x0 x1 x2 (ix4 b p g h)) h) := by
  refine (v213_cat x0 x1 x2 b p g h).trans ?_
  unfold roped
  by_cases h1 : h.val < 8
  · rw [dif_pos h1, dif_pos h1]
    exact v205_at x0 x1 x2 b p g _
  · by_cases h2 : h.val < 16
    · rw [dif_neg h1, dif_neg h1, dif_pos h2, dif_pos (show h.val < 2 * 8 by omega)]
      refine (v210_at x0 x1 x2 b p g ⟨h.val - 8, by omega⟩).trans ?_
      have e : (⟨h.val - 8 + 8, by omega⟩ : Fin 64) = h := Fin.ext (by show h.val - 8 + 8 = h.val; omega)
      simp only [e]
    · rw [dif_neg h1, dif_neg h1, dif_neg h2, dif_neg (show ¬ h.val < 2 * 8 by omega)]

/-- A head's lane is a column of the projection. -/
theorem v180_at (b : Fin 8) (p : Fin 4096) (g : Fin 8) (h : Fin 64) :
    @Eq EReal (val_main_v180 (F := Ideal) x0 x1 x2 (ix4 b p g h)) (projAt (fun k => x0 (ix2 (rowIn b p) k)) (fun k => x1 (ix1 k)) (fun k => x2 (ix2 k ⟨3584 + (g.val * 64 + h.val), by omega⟩))) := by
  refine Eq.trans ?_ (v15_at x0 x1 x2 b p _)
  unfold val_main_v180 val_main_v24
  generalize val_main_v15 (F := Ideal) x0 x1 x2 = z
  pointwise

/-- The heads' rows, flat. -/
theorem v214_flat (R : Fin 32768) (l : Fin 512) :
    @Eq EReal (val_main_v214 (F := Ideal) x0 x1 x2 (ix2 R l)) (val_main_v213 (F := Ideal) x0 x1 x2 (ix4 (seqOf R) (tokOf R) ⟨l.val / 64, by omega⟩ ⟨l.val % 64, by omega⟩)) := by
  unfold val_main_v214
  generalize val_main_v213 (F := Ideal) x0 x1 x2 = z
  pointwise [seqOf, tokOf]

/-- The result, by the model. -/
theorem v214_at (R : Fin 32768) (l : Fin 512) :
    @Eq EReal (val_main_v214 (F := Ideal) x0 x1 x2 (ix2 R l)) (ropeAt 8 (by omega) 0x48F42400#32 0x41800000#32 (fun R k => x0 (ix2 R k)) (fun k => x1 (ix1 k)) (fun k j => x2 (ix2 k j)) 3584 512 (by omega) (by omega) R l) := by
  refine (v214_flat x0 x1 x2 R l).trans ((v213_at x0 x1 x2 _ _ _ _).trans ?_)
  unfold ropeAt
  refine roped_congr 8 _ _ (fun h => ?_) rfl
  refine (v180_at x0 x1 x2 _ _ _ h).trans ?_
  rw [rowIn_of]

/-- The cosine of a pair's angle. -/
theorem v230_at (p : Fin 4096) (i : Fin 8) : @Eq EReal (val_main_v230 (F := Ideal) (ix2 p i)) (Ideal.cos (angle 0x48F42400#32 0x41800000#32 p.val i.val)) := by
  unfold val_main_v230 val_main_v229 val_main_v228 val_main_v227 val_main_v226 val_main_v225 val_main_v224 val_main_v223 val_main_v222 val_main_cst_20 val_main_v221 val_main_v220 val_main_cst_19 val_main_v219 val_main_v218 val_main_cst_18 val_main_v217 val_main_v216 val_main_v0
  pointwise [angle]

/-- The sine of a pair's angle. -/
theorem v232_at (p : Fin 4096) (i : Fin 8) : @Eq EReal (val_main_v232 (F := Ideal) (ix2 p i)) (Ideal.sin (angle 0x48F42400#32 0x41800000#32 p.val i.val)) := by
  unfold val_main_v232 val_main_v229 val_main_v228 val_main_v227 val_main_v226 val_main_v225 val_main_v224 val_main_v223 val_main_v222 val_main_cst_20 val_main_v221 val_main_v220 val_main_cst_19 val_main_v219 val_main_v218 val_main_cst_18 val_main_v217 val_main_v216 val_main_v0
  pointwise [angle]

/-- The first halves of the pairs, turned. -/
theorem v240_at (b : Fin 8) (p : Fin 4096) (g : Fin 2) (i : Fin 8) :
    @Eq EReal (val_main_v240 (F := Ideal) x0 x1 x2 (ix4 b p g i))
      (@HSub.hSub EReal EReal EReal _ (@HMul.hMul EReal EReal EReal _ (val_main_v215 (F := Ideal) x0 x1 x2 (ix4 b p g ⟨i.val, by omega⟩)) (Ideal.cos (angle 0x48F42400#32 0x41800000#32 p.val i.val)))
        (@HMul.hMul EReal EReal EReal _ (val_main_v215 (F := Ideal) x0 x1 x2 (ix4 b p g ⟨i.val + 8, by omega⟩)) (Ideal.sin (angle 0x48F42400#32 0x41800000#32 p.val i.val)))) := by
  rw [← v230_at, ← v232_at]
  unfold val_main_v240 val_main_v239 val_main_v238 val_main_v237 val_main_v236 val_main_v235 val_main_v234 val_main_v233 val_main_v231
  generalize val_main_v215 (F := Ideal) x0 x1 x2 = z
  generalize val_main_v230 (F := Ideal) = C
  generalize val_main_v232 (F := Ideal) = S
  pointwise
  simp only [Nat.add_comm 8 i.val]

/-- The second halves of the pairs, turned. -/
theorem v245_at (b : Fin 8) (p : Fin 4096) (g : Fin 2) (i : Fin 8) :
    @Eq EReal (val_main_v245 (F := Ideal) x0 x1 x2 (ix4 b p g i))
      (@HAdd.hAdd EReal EReal EReal _ (@HMul.hMul EReal EReal EReal _ (val_main_v215 (F := Ideal) x0 x1 x2 (ix4 b p g ⟨i.val + 8, by omega⟩)) (Ideal.cos (angle 0x48F42400#32 0x41800000#32 p.val i.val)))
        (@HMul.hMul EReal EReal EReal _ (val_main_v215 (F := Ideal) x0 x1 x2 (ix4 b p g ⟨i.val, by omega⟩)) (Ideal.sin (angle 0x48F42400#32 0x41800000#32 p.val i.val)))) := by
  rw [← v230_at, ← v232_at]
  unfold val_main_v245 val_main_v244 val_main_v243 val_main_v242 val_main_v241 val_main_v235 val_main_v234 val_main_v233 val_main_v231
  generalize val_main_v215 (F := Ideal) x0 x1 x2 = z
  generalize val_main_v230 (F := Ideal) = C
  generalize val_main_v232 (F := Ideal) = S
  pointwise
  simp only [Nat.add_comm 8 i.val]

/-- The pairs side by side again, and the lanes that stay. -/
theorem v248_cat (b : Fin 8) (p : Fin 4096) (g : Fin 2) (h : Fin 64) :
    @Eq EReal (val_main_v248 (F := Ideal) x0 x1 x2 (ix4 b p g h))
      (if h1 : h.val < 8 then val_main_v240 (F := Ideal) x0 x1 x2 (ix4 b p g ⟨h.val, h1⟩) else if h2 : h.val < 16 then val_main_v245 (F := Ideal) x0 x1 x2 (ix4 b p g ⟨h.val - 8, by omega⟩)
        else val_main_v215 (F := Ideal) x0 x1 x2 (ix4 b p g h)) := by
  unfold val_main_v248 val_main_v246 val_main_v247
  generalize val_main_v215 (F := Ideal) x0 x1 x2 = z
  generalize val_main_v240 (F := Ideal) x0 x1 x2 = A
  generalize val_main_v245 (F := Ideal) x0 x1 x2 = B
  by_cases h1 : h.val < 8
  · rw [dif_pos h1]
    pointwise
    all_goals rw [dif_pos (show h.val < 16 by omega), dif_pos h1]
  · by_cases h2 : h.val < 16
    · rw [dif_neg h1, dif_pos h2]
      pointwise
      all_goals rw [dif_pos h2, dif_neg h1]
    · rw [dif_neg h1, dif_neg h2]
      pointwise
      all_goals rw [dif_neg h2]
      all_goals simp only [show 16 + (h.val - 16) = h.val by omega, Fin.eta]

/-- A head, embedded. -/
theorem v248_at (b : Fin 8) (p : Fin 4096) (g : Fin 2) (h : Fin 64) :
    @Eq EReal (val_main_v248 (F := Ideal) x0 x1 x2 (ix4 b p g h)) (roped 8 (by omega) (angle 0x48F42400#32 0x41800000#32 p.val) (fun h => val_main_v215 (F := Ideal) x0 x1 x2 (ix4 b p g h)) h) := by
  refine (v248_cat x0 x1 x2 b p g h).trans ?_
  unfold roped
  by_cases h1 : h.val < 8
  · rw [dif_pos h1, dif_pos h1]
    exact v240_at x0 x1 x2 b p g _
  · by_cases h2 : h.val < 16
    · rw [dif_neg h1, dif_neg h1, dif_pos h2, dif_pos (show h.val < 2 * 8 by omega)]
      refine (v245_at x0 x1 x2 b p g ⟨h.val - 8, by omega⟩).trans ?_
      have e : (⟨h.val - 8 + 8, by omega⟩ : Fin 64) = h := Fin.ext (by show h.val - 8 + 8 = h.val; omega)
      simp only [e]
    · rw [dif_neg h1, dif_neg h1, dif_neg h2, dif_neg (show ¬ h.val < 2 * 8 by omega)]

/-- A head's lane is a column of the projection. -/
theorem v215_at (b : Fin 8) (p : Fin 4096) (g : Fin 2) (h : Fin 64) :
    @Eq EReal (val_main_v215 (F := Ideal) x0 x1 x2 (ix4 b p g h)) (projAt (fun k => x0 (ix2 (rowIn b p) k)) (fun k => x1 (ix1 k)) (fun k => x2 (ix2 k ⟨4096 + (g.val * 64 + h.val), by omega⟩))) := by
  refine Eq.trans ?_ (v15_at x0 x1 x2 b p _)
  unfold val_main_v215 val_main_v25
  generalize val_main_v15 (F := Ideal) x0 x1 x2 = z
  pointwise

/-- The heads' rows, flat. -/
theorem v249_flat (R : Fin 32768) (l : Fin 128) :
    @Eq EReal (val_main_v249 (F := Ideal) x0 x1 x2 (ix2 R l)) (val_main_v248 (F := Ideal) x0 x1 x2 (ix4 (seqOf R) (tokOf R) ⟨l.val / 64, by omega⟩ ⟨l.val % 64, by omega⟩)) := by
  unfold val_main_v249
  generalize val_main_v248 (F := Ideal) x0 x1 x2 = z
  pointwise [seqOf, tokOf]

/-- The result, by the model. -/
theorem v249_at (R : Fin 32768) (l : Fin 128) :
    @Eq EReal (val_main_v249 (F := Ideal) x0 x1 x2 (ix2 R l)) (ropeAt 8 (by omega) 0x48F42400#32 0x41800000#32 (fun R k => x0 (ix2 R k)) (fun k => x1 (ix1 k)) (fun k j => x2 (ix2 k j)) 4096 128 (by omega) (by omega) R l) := by
  refine (v249_flat x0 x1 x2 R l).trans ((v248_at x0 x1 x2 _ _ _ _).trans ?_)
  unfold ropeAt
  refine roped_congr 8 _ _ (fun h => ?_) rfl
  refine (v215_at x0 x1 x2 _ _ _ h).trans ?_
  rw [rowIn_of]

/-- Columns 4224 to 4352 of the projection. -/
theorem v250_at (R : Fin 32768) (l : Fin 128) :
    @Eq EReal (val_main_v250 (F := Ideal) x0 x1 x2 (ix2 R l)) (colAt (fun R k => x0 (ix2 R k)) (fun k => x1 (ix1 k)) (fun k j => x2 (ix2 k j)) 4224 128 (by omega) R l) := by
  refine Eq.trans (b := val_main_v15 (F := Ideal) x0 x1 x2 (ix3 (seqOf R) (tokOf R) ⟨4224 + l.val, by omega⟩)) ?_ ((v15_at x0 x1 x2 _ _ _).trans (by rw [rowIn_of]; rfl))
  unfold val_main_v250 val_main_v26
  generalize val_main_v15 (F := Ideal) x0 x1 x2 = z
  pointwise [seqOf, tokOf]

/-- Columns 4352 to 4864 of the projection. -/
theorem v251_at (R : Fin 32768) (l : Fin 512) :
    @Eq EReal (val_main_v251 (F := Ideal) x0 x1 x2 (ix2 R l)) (colAt (fun R k => x0 (ix2 R k)) (fun k => x1 (ix1 k)) (fun k j => x2 (ix2 k j)) 4352 512 (by omega) R l) := by
  refine Eq.trans (b := val_main_v15 (F := Ideal) x0 x1 x2 (ix3 (seqOf R) (tokOf R) ⟨4352 + l.val, by omega⟩)) ?_ ((v15_at x0 x1 x2 _ _ _).trans (by rw [rowIn_of]; rfl))
  unfold val_main_v251 val_main_v27
  generalize val_main_v15 (F := Ideal) x0 x1 x2 = z
  pointwise [seqOf, tokOf]

/-- The cosine of a pair's angle. -/
theorem v267_at (p : Fin 4096) (i : Fin 8) : @Eq EReal (val_main_v267 (F := Ideal) (ix2 p i)) (Ideal.cos (angle 0x48F42400#32 0x41800000#32 p.val i.val)) := by
  unfold val_main_v267 val_main_v266 val_main_v265 val_main_v264 val_main_v263 val_main_v262 val_main_v261 val_main_v260 val_main_v259 val_main_cst_23 val_main_v258 val_main_v257 val_main_cst_22 val_main_v256 val_main_v255 val_main_cst_21 val_main_v254 val_main_v253 val_main_v0
  pointwise [angle]

/-- The sine of a pair's angle. -/
theorem v269_at (p : Fin 4096) (i : Fin 8) : @Eq EReal (val_main_v269 (F := Ideal) (ix2 p i)) (Ideal.sin (angle 0x48F42400#32 0x41800000#32 p.val i.val)) := by
  unfold val_main_v269 val_main_v266 val_main_v265 val_main_v264 val_main_v263 val_main_v262 val_main_v261 val_main_v260 val_main_v259 val_main_cst_23 val_main_v258 val_main_v257 val_main_cst_22 val_main_v256 val_main_v255 val_main_cst_21 val_main_v254 val_main_v253 val_main_v0
  pointwise [angle]

/-- The first halves of the pairs, turned. -/
theorem v277_at (b : Fin 8) (p : Fin 4096) (g : Fin 8) (i : Fin 8) :
    @Eq EReal (val_main_v277 (F := Ideal) x0 x1 x2 (ix4 b p g i))
      (@HSub.hSub EReal EReal EReal _ (@HMul.hMul EReal EReal EReal _ (val_main_v252 (F := Ideal) x0 x1 x2 (ix4 b p g ⟨i.val, by omega⟩)) (Ideal.cos (angle 0x48F42400#32 0x41800000#32 p.val i.val)))
        (@HMul.hMul EReal EReal EReal _ (val_main_v252 (F := Ideal) x0 x1 x2 (ix4 b p g ⟨i.val + 8, by omega⟩)) (Ideal.sin (angle 0x48F42400#32 0x41800000#32 p.val i.val)))) := by
  rw [← v267_at, ← v269_at]
  unfold val_main_v277 val_main_v276 val_main_v275 val_main_v274 val_main_v273 val_main_v272 val_main_v271 val_main_v270 val_main_v268
  generalize val_main_v252 (F := Ideal) x0 x1 x2 = z
  generalize val_main_v267 (F := Ideal) = C
  generalize val_main_v269 (F := Ideal) = S
  pointwise
  simp only [Nat.add_comm 8 i.val]

/-- The second halves of the pairs, turned. -/
theorem v282_at (b : Fin 8) (p : Fin 4096) (g : Fin 8) (i : Fin 8) :
    @Eq EReal (val_main_v282 (F := Ideal) x0 x1 x2 (ix4 b p g i))
      (@HAdd.hAdd EReal EReal EReal _ (@HMul.hMul EReal EReal EReal _ (val_main_v252 (F := Ideal) x0 x1 x2 (ix4 b p g ⟨i.val + 8, by omega⟩)) (Ideal.cos (angle 0x48F42400#32 0x41800000#32 p.val i.val)))
        (@HMul.hMul EReal EReal EReal _ (val_main_v252 (F := Ideal) x0 x1 x2 (ix4 b p g ⟨i.val, by omega⟩)) (Ideal.sin (angle 0x48F42400#32 0x41800000#32 p.val i.val)))) := by
  rw [← v267_at, ← v269_at]
  unfold val_main_v282 val_main_v281 val_main_v280 val_main_v279 val_main_v278 val_main_v272 val_main_v271 val_main_v270 val_main_v268
  generalize val_main_v252 (F := Ideal) x0 x1 x2 = z
  generalize val_main_v267 (F := Ideal) = C
  generalize val_main_v269 (F := Ideal) = S
  pointwise
  simp only [Nat.add_comm 8 i.val]

/-- The pairs side by side again, and the lanes that stay. -/
theorem v285_cat (b : Fin 8) (p : Fin 4096) (g : Fin 8) (h : Fin 64) :
    @Eq EReal (val_main_v285 (F := Ideal) x0 x1 x2 (ix4 b p g h))
      (if h1 : h.val < 8 then val_main_v277 (F := Ideal) x0 x1 x2 (ix4 b p g ⟨h.val, h1⟩) else if h2 : h.val < 16 then val_main_v282 (F := Ideal) x0 x1 x2 (ix4 b p g ⟨h.val - 8, by omega⟩)
        else val_main_v252 (F := Ideal) x0 x1 x2 (ix4 b p g h)) := by
  unfold val_main_v285 val_main_v283 val_main_v284
  generalize val_main_v252 (F := Ideal) x0 x1 x2 = z
  generalize val_main_v277 (F := Ideal) x0 x1 x2 = A
  generalize val_main_v282 (F := Ideal) x0 x1 x2 = B
  by_cases h1 : h.val < 8
  · rw [dif_pos h1]
    pointwise
    all_goals rw [dif_pos (show h.val < 16 by omega), dif_pos h1]
  · by_cases h2 : h.val < 16
    · rw [dif_neg h1, dif_pos h2]
      pointwise
      all_goals rw [dif_pos h2, dif_neg h1]
    · rw [dif_neg h1, dif_neg h2]
      pointwise
      all_goals rw [dif_neg h2]
      all_goals simp only [show 16 + (h.val - 16) = h.val by omega, Fin.eta]

/-- A head, embedded. -/
theorem v285_at (b : Fin 8) (p : Fin 4096) (g : Fin 8) (h : Fin 64) :
    @Eq EReal (val_main_v285 (F := Ideal) x0 x1 x2 (ix4 b p g h)) (roped 8 (by omega) (angle 0x48F42400#32 0x41800000#32 p.val) (fun h => val_main_v252 (F := Ideal) x0 x1 x2 (ix4 b p g h)) h) := by
  refine (v285_cat x0 x1 x2 b p g h).trans ?_
  unfold roped
  by_cases h1 : h.val < 8
  · rw [dif_pos h1, dif_pos h1]
    exact v277_at x0 x1 x2 b p g _
  · by_cases h2 : h.val < 16
    · rw [dif_neg h1, dif_neg h1, dif_pos h2, dif_pos (show h.val < 2 * 8 by omega)]
      refine (v282_at x0 x1 x2 b p g ⟨h.val - 8, by omega⟩).trans ?_
      have e : (⟨h.val - 8 + 8, by omega⟩ : Fin 64) = h := Fin.ext (by show h.val - 8 + 8 = h.val; omega)
      simp only [e]
    · rw [dif_neg h1, dif_neg h1, dif_neg h2, dif_neg (show ¬ h.val < 2 * 8 by omega)]

/-- A head's lane is a column of the projection. -/
theorem v252_at (b : Fin 8) (p : Fin 4096) (g : Fin 8) (h : Fin 64) :
    @Eq EReal (val_main_v252 (F := Ideal) x0 x1 x2 (ix4 b p g h)) (projAt (fun k => x0 (ix2 (rowIn b p) k)) (fun k => x1 (ix1 k)) (fun k => x2 (ix2 k ⟨4864 + (g.val * 64 + h.val), by omega⟩))) := by
  refine Eq.trans ?_ (v15_at x0 x1 x2 b p _)
  unfold val_main_v252 val_main_v28
  generalize val_main_v15 (F := Ideal) x0 x1 x2 = z
  pointwise

/-- The heads' rows, flat. -/
theorem v286_flat (R : Fin 32768) (l : Fin 512) :
    @Eq EReal (val_main_v286 (F := Ideal) x0 x1 x2 (ix2 R l)) (val_main_v285 (F := Ideal) x0 x1 x2 (ix4 (seqOf R) (tokOf R) ⟨l.val / 64, by omega⟩ ⟨l.val % 64, by omega⟩)) := by
  unfold val_main_v286
  generalize val_main_v285 (F := Ideal) x0 x1 x2 = z
  pointwise [seqOf, tokOf]

/-- The result, by the model. -/
theorem v286_at (R : Fin 32768) (l : Fin 512) :
    @Eq EReal (val_main_v286 (F := Ideal) x0 x1 x2 (ix2 R l)) (ropeAt 8 (by omega) 0x48F42400#32 0x41800000#32 (fun R k => x0 (ix2 R k)) (fun k => x1 (ix1 k)) (fun k j => x2 (ix2 k j)) 4864 512 (by omega) (by omega) R l) := by
  refine (v286_flat x0 x1 x2 R l).trans ((v285_at x0 x1 x2 _ _ _ _).trans ?_)
  unfold ropeAt
  refine roped_congr 8 _ _ (fun h => ?_) rfl
  refine (v252_at x0 x1 x2 _ _ _ h).trans ?_
  rw [rowIn_of]

/-- The cosine of a pair's angle. -/
theorem v302_at (p : Fin 4096) (i : Fin 8) : @Eq EReal (val_main_v302 (F := Ideal) (ix2 p i)) (Ideal.cos (angle 0x48F42400#32 0x41800000#32 p.val i.val)) := by
  unfold val_main_v302 val_main_v301 val_main_v300 val_main_v299 val_main_v298 val_main_v297 val_main_v296 val_main_v295 val_main_v294 val_main_cst_26 val_main_v293 val_main_v292 val_main_cst_25 val_main_v291 val_main_v290 val_main_cst_24 val_main_v289 val_main_v288 val_main_v0
  pointwise [angle]

/-- The sine of a pair's angle. -/
theorem v304_at (p : Fin 4096) (i : Fin 8) : @Eq EReal (val_main_v304 (F := Ideal) (ix2 p i)) (Ideal.sin (angle 0x48F42400#32 0x41800000#32 p.val i.val)) := by
  unfold val_main_v304 val_main_v301 val_main_v300 val_main_v299 val_main_v298 val_main_v297 val_main_v296 val_main_v295 val_main_v294 val_main_cst_26 val_main_v293 val_main_v292 val_main_cst_25 val_main_v291 val_main_v290 val_main_cst_24 val_main_v289 val_main_v288 val_main_v0
  pointwise [angle]

/-- The first halves of the pairs, turned. -/
theorem v312_at (b : Fin 8) (p : Fin 4096) (g : Fin 1) (i : Fin 8) :
    @Eq EReal (val_main_v312 (F := Ideal) x0 x1 x2 (ix4 b p g i))
      (@HSub.hSub EReal EReal EReal _ (@HMul.hMul EReal EReal EReal _ (val_main_v287 (F := Ideal) x0 x1 x2 (ix4 b p g ⟨i.val, by omega⟩)) (Ideal.cos (angle 0x48F42400#32 0x41800000#32 p.val i.val)))
        (@HMul.hMul EReal EReal EReal _ (val_main_v287 (F := Ideal) x0 x1 x2 (ix4 b p g ⟨i.val + 8, by omega⟩)) (Ideal.sin (angle 0x48F42400#32 0x41800000#32 p.val i.val)))) := by
  obtain rfl : g = 0 := Subsingleton.elim _ _
  rw [← v302_at, ← v304_at]
  unfold val_main_v312 val_main_v311 val_main_v310 val_main_v309 val_main_v308 val_main_v307 val_main_v306 val_main_v305 val_main_v303
  generalize val_main_v287 (F := Ideal) x0 x1 x2 = z
  generalize val_main_v302 (F := Ideal) = C
  generalize val_main_v304 (F := Ideal) = S
  pointwise
  simp only [Nat.add_comm 8 i.val]

/-- The second halves of the pairs, turned. -/
theorem v317_at (b : Fin 8) (p : Fin 4096) (g : Fin 1) (i : Fin 8) :
    @Eq EReal (val_main_v317 (F := Ideal) x0 x1 x2 (ix4 b p g i))
      (@HAdd.hAdd EReal EReal EReal _ (@HMul.hMul EReal EReal EReal _ (val_main_v287 (F := Ideal) x0 x1 x2 (ix4 b p g ⟨i.val + 8, by omega⟩)) (Ideal.cos (angle 0x48F42400#32 0x41800000#32 p.val i.val)))
        (@HMul.hMul EReal EReal EReal _ (val_main_v287 (F := Ideal) x0 x1 x2 (ix4 b p g ⟨i.val, by omega⟩)) (Ideal.sin (angle 0x48F42400#32 0x41800000#32 p.val i.val)))) := by
  obtain rfl : g = 0 := Subsingleton.elim _ _
  rw [← v302_at, ← v304_at]
  unfold val_main_v317 val_main_v316 val_main_v315 val_main_v314 val_main_v313 val_main_v307 val_main_v306 val_main_v305 val_main_v303
  generalize val_main_v287 (F := Ideal) x0 x1 x2 = z
  generalize val_main_v302 (F := Ideal) = C
  generalize val_main_v304 (F := Ideal) = S
  pointwise
  simp only [Nat.add_comm 8 i.val]

/-- The pairs side by side again, and the lanes that stay. -/
theorem v320_cat (b : Fin 8) (p : Fin 4096) (g : Fin 1) (h : Fin 64) :
    @Eq EReal (val_main_v320 (F := Ideal) x0 x1 x2 (ix4 b p g h))
      (if h1 : h.val < 8 then val_main_v312 (F := Ideal) x0 x1 x2 (ix4 b p g ⟨h.val, h1⟩) else if h2 : h.val < 16 then val_main_v317 (F := Ideal) x0 x1 x2 (ix4 b p g ⟨h.val - 8, by omega⟩)
        else val_main_v287 (F := Ideal) x0 x1 x2 (ix4 b p g h)) := by
  obtain rfl : g = 0 := Subsingleton.elim _ _
  unfold val_main_v320 val_main_v318 val_main_v319
  generalize val_main_v287 (F := Ideal) x0 x1 x2 = z
  generalize val_main_v312 (F := Ideal) x0 x1 x2 = A
  generalize val_main_v317 (F := Ideal) x0 x1 x2 = B
  by_cases h1 : h.val < 8
  · rw [dif_pos h1]
    pointwise
    all_goals rw [dif_pos (show h.val < 16 by omega), dif_pos h1]
  · by_cases h2 : h.val < 16
    · rw [dif_neg h1, dif_pos h2]
      pointwise
      all_goals rw [dif_pos h2, dif_neg h1]
    · rw [dif_neg h1, dif_neg h2]
      pointwise
      all_goals rw [dif_neg h2]
      all_goals simp only [show 16 + (h.val - 16) = h.val by omega, Fin.eta]

/-- A head, embedded. -/
theorem v320_at (b : Fin 8) (p : Fin 4096) (g : Fin 1) (h : Fin 64) :
    @Eq EReal (val_main_v320 (F := Ideal) x0 x1 x2 (ix4 b p g h)) (roped 8 (by omega) (angle 0x48F42400#32 0x41800000#32 p.val) (fun h => val_main_v287 (F := Ideal) x0 x1 x2 (ix4 b p g h)) h) := by
  refine (v320_cat x0 x1 x2 b p g h).trans ?_
  unfold roped
  by_cases h1 : h.val < 8
  · rw [dif_pos h1, dif_pos h1]
    exact v312_at x0 x1 x2 b p g _
  · by_cases h2 : h.val < 16
    · rw [dif_neg h1, dif_neg h1, dif_pos h2, dif_pos (show h.val < 2 * 8 by omega)]
      refine (v317_at x0 x1 x2 b p g ⟨h.val - 8, by omega⟩).trans ?_
      have e : (⟨h.val - 8 + 8, by omega⟩ : Fin 64) = h := Fin.ext (by show h.val - 8 + 8 = h.val; omega)
      simp only [e]
    · rw [dif_neg h1, dif_neg h1, dif_neg h2, dif_neg (show ¬ h.val < 2 * 8 by omega)]

/-- A head's lane is a column of the projection. -/
theorem v287_at (b : Fin 8) (p : Fin 4096) (g : Fin 1) (h : Fin 64) :
    @Eq EReal (val_main_v287 (F := Ideal) x0 x1 x2 (ix4 b p g h)) (projAt (fun k => x0 (ix2 (rowIn b p) k)) (fun k => x1 (ix1 k)) (fun k => x2 (ix2 k ⟨5376 + (g.val * 64 + h.val), by omega⟩))) := by
  obtain rfl : g = 0 := Subsingleton.elim _ _
  refine Eq.trans ?_ (v15_at x0 x1 x2 b p _)
  unfold val_main_v287 val_main_v29
  generalize val_main_v15 (F := Ideal) x0 x1 x2 = z
  pointwise

/-- The heads' rows, flat. -/
theorem v321_flat (R : Fin 32768) (l : Fin 64) :
    @Eq EReal (val_main_v321 (F := Ideal) x0 x1 x2 (ix2 R l)) (val_main_v320 (F := Ideal) x0 x1 x2 (ix4 (seqOf R) (tokOf R) ⟨l.val / 64, by omega⟩ ⟨l.val % 64, by omega⟩)) := by
  unfold val_main_v321
  generalize val_main_v320 (F := Ideal) x0 x1 x2 = z
  pointwise [seqOf, tokOf]
  have e0 : (⟨l.val / 64, by omega⟩ : Fin 1) = 0 := Subsingleton.elim _ _
  have e1 : (⟨l.val % 64, by omega⟩ : Fin 64) = l := Fin.ext (by show l.val % 64 = l.val; omega)
  rw [e0, e1]

/-- The result, by the model. -/
theorem v321_at (R : Fin 32768) (l : Fin 64) :
    @Eq EReal (val_main_v321 (F := Ideal) x0 x1 x2 (ix2 R l)) (ropeAt 8 (by omega) 0x48F42400#32 0x41800000#32 (fun R k => x0 (ix2 R k)) (fun k => x1 (ix1 k)) (fun k j => x2 (ix2 k j)) 5376 64 (by omega) (by omega) R l) := by
  refine (v321_flat x0 x1 x2 R l).trans ((v320_at x0 x1 x2 _ _ _ _).trans ?_)
  unfold ropeAt
  refine roped_congr 8 _ _ (fun h => ?_) rfl
  refine (v287_at x0 x1 x2 _ _ _ h).trans ?_
  rw [rowIn_of]

/-- Columns 5440 to 5448 of the projection. -/
theorem v322_at (R : Fin 32768) (l : Fin 8) :
    @Eq EReal (val_main_v322 (F := Ideal) x0 x1 x2 (ix2 R l)) (colAt (fun R k => x0 (ix2 R k)) (fun k => x1 (ix1 k)) (fun k j => x2 (ix2 k j)) 5440 8 (by omega) R l) := by
  refine Eq.trans (b := val_main_v15 (F := Ideal) x0 x1 x2 (ix3 (seqOf R) (tokOf R) ⟨5440 + l.val, by omega⟩)) ?_ ((v15_at x0 x1 x2 _ _ _).trans (by rw [rowIn_of]; rfl))
  unfold val_main_v322 val_main_v30
  generalize val_main_v15 (F := Ideal) x0 x1 x2 = z
  pointwise [seqOf, tokOf]

/-- Columns 5448 to 5960 of the projection. -/
theorem v323_at (R : Fin 32768) (l : Fin 512) :
    @Eq EReal (val_main_v323 (F := Ideal) x0 x1 x2 (ix2 R l)) (colAt (fun R k => x0 (ix2 R k)) (fun k => x1 (ix1 k)) (fun k j => x2 (ix2 k j)) 5448 512 (by omega) R l) := by
  refine Eq.trans (b := val_main_v15 (F := Ideal) x0 x1 x2 (ix3 (seqOf R) (tokOf R) ⟨5448 + l.val, by omega⟩)) ?_ ((v15_at x0 x1 x2 _ _ _).trans (by rw [rowIn_of]; rfl))
  unfold val_main_v323 val_main_v31
  generalize val_main_v15 (F := Ideal) x0 x1 x2 = z
  pointwise [seqOf, tokOf]

/-- Columns 5960 to 6472 of the projection. -/
theorem v324_at (R : Fin 32768) (l : Fin 512) :
    @Eq EReal (val_main_v324 (F := Ideal) x0 x1 x2 (ix2 R l)) (colAt (fun R k => x0 (ix2 R k)) (fun k => x1 (ix1 k)) (fun k j => x2 (ix2 k j)) 5960 512 (by omega) R l) := by
  refine Eq.trans (b := val_main_v15 (F := Ideal) x0 x1 x2 (ix3 (seqOf R) (tokOf R) ⟨5960 + l.val, by omega⟩)) ?_ ((v15_at x0 x1 x2 _ _ _).trans (by rw [rowIn_of]; rfl))
  unfold val_main_v324 val_main_v32
  generalize val_main_v15 (F := Ideal) x0 x1 x2 = z
  pointwise [seqOf, tokOf]

end Cert.ProjRef
end
-- ==== Proof.ProjClaim.lean ====
module

public import proofs.«01_k».proof.Defs
public import proofs.«01_k».proof.Proof.ProjKernel
public import proofs.«01_k».proof.Proof.ProjReference
public import Idealize.ShloMosaic.Lib.Quiescent

@[expose] public section

set_option maxRecDepth 65536
set_option maxHeartbeats 4000000

noncomputable section

/-! The projection call's claims: the kernel's seventeen arrays are the reference's. -/

namespace Cert.Proj

open Idealize.ShloMosaic Idealize.ShloMosaic.TcCoe Idealize.SL.Sem

/-- The reference ends quiescent with its arguments unchanged. -/
theorem frame_reference : Cert.quiescent_Reference4Ideal := fun m ρ _ =>
  (θ_run Cert.Reference4Ideal.defs _ _).mono
    (fun r h => ⟨fun c => (h c).2.2.2.2.2.2.2.2.2.2.2.2.2.2.2.2.2, Idealize.ShloMosaic.sem_eq_zero_of_no_sems (by decide) r.2⟩)
    (Cert.Reference4Ideal.Value.run (F := Ideal) m ρ)

variable (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)

/-- The reference's arguments at a core. -/
abbrev arg0 := m' ((c.tc : Thread Cert.Reference4Ideal.nD Cert.Reference4Ideal.τ).loc Cert.Reference4Ideal.main_arg0)
abbrev arg1 := m' ((c.tc : Thread Cert.Reference4Ideal.nD Cert.Reference4Ideal.τ).loc Cert.Reference4Ideal.main_arg1)
abbrev arg2 := m' ((c.tc : Thread Cert.Reference4Ideal.nD Cert.Reference4Ideal.τ).loc Cert.Reference4Ideal.main_arg2)

/-- The two programs' arguments are the same. -/
abbrev Same : Prop :=
  arg0 m' c = m ((c.tc : Thread Cert.Kernel4Ideal.nD Cert.Kernel4Ideal.τ).loc Cert.Kernel4Ideal.main_arg0)
  ∧ arg1 m' c = m ((c.tc : Thread Cert.Kernel4Ideal.nD Cert.Kernel4Ideal.τ).loc Cert.Kernel4Ideal.main_arg1)
  ∧ arg2 m' c = m ((c.tc : Thread Cert.Kernel4Ideal.nD Cert.Kernel4Ideal.τ).loc Cert.Kernel4Ideal.main_arg2)

/-- Result 0: the reference's array is the kernel's. -/
theorem same_9 (hg : Same m m' c) : Cert.Reference4Ideal.Read.val_main_v68 (F := Ideal) (arg0 m' c) (arg1 m' c) (arg2 m' c) = (Cert.Kernel4Ideal.Frame.dats m 0 c).arrAt 9 Cert.Kernel4Ideal.cfg0.N := by
  obtain ⟨g0, g1, g2⟩ := hg
  have e0 : (fun R k => arg0 m' c (ix2 R k)) = xOf m c := by funext R k; exact congrFun g0 _
  have e1 : (fun k => arg1 m' c (ix1 k)) = gOf m c := by funext k; exact congrFun g1 _
  have e2 : (fun k j => arg2 m' c (ix2 k j)) = wOf m c := by funext k j; exact congrFun g2 _
  refine Eq.trans ?_ (arr_9 m c).symm
  funext y
  obtain ⟨r, l, rfl⟩ : ∃ (r : Fin 32768) (l : Fin 256), y = ix2 r l :=
    ⟨y (0 : Fin 2), y (1 : Fin 2), by funext a; match a with | ⟨0, _⟩ => rfl | ⟨1, _⟩ => rfl⟩
  refine (Cert.ProjRef.v68_at _ _ _ r l).trans ?_
  rw [e0, e1, e2]
  rfl

/-- Result 1: the reference's array is the kernel's. -/
theorem same_10 (hg : Same m m' c) : Cert.Reference4Ideal.Read.val_main_v105 (F := Ideal) (arg0 m' c) (arg1 m' c) (arg2 m' c) = (Cert.Kernel4Ideal.Frame.dats m 0 c).arrAt 10 Cert.Kernel4Ideal.cfg0.N := by
  obtain ⟨g0, g1, g2⟩ := hg
  have e0 : (fun R k => arg0 m' c (ix2 R k)) = xOf m c := by funext R k; exact congrFun g0 _
  have e1 : (fun k => arg1 m' c (ix1 k)) = gOf m c := by funext k; exact congrFun g1 _
  have e2 : (fun k j => arg2 m' c (ix2 k j)) = wOf m c := by funext k j; exact congrFun g2 _
  refine Eq.trans ?_ (arr_10 m c).symm
  funext y
  obtain ⟨r, l, rfl⟩ : ∃ (r : Fin 32768) (l : Fin 256), y = ix2 r l :=
    ⟨y (0 : Fin 2), y (1 : Fin 2), by funext a; match a with | ⟨0, _⟩ => rfl | ⟨1, _⟩ => rfl⟩
  refine (Cert.ProjRef.v105_at _ _ _ r l).trans ?_
  rw [e0, e1, e2]
  rfl

/-- Result 2: the reference's array is the kernel's. -/
theorem same_11 (hg : Same m m' c) : Cert.Reference4Ideal.Read.val_main_v106 (F := Ideal) (arg0 m' c) (arg1 m' c) (arg2 m' c) = (Cert.Kernel4Ideal.Frame.dats m 0 c).arrAt 11 Cert.Kernel4Ideal.cfg0.N := by
  obtain ⟨g0, g1, g2⟩ := hg
  have e0 : (fun R k => arg0 m' c (ix2 R k)) = xOf m c := by funext R k; exact congrFun g0 _
  have e1 : (fun k => arg1 m' c (ix1 k)) = gOf m c := by funext k; exact congrFun g1 _
  have e2 : (fun k j => arg2 m' c (ix2 k j)) = wOf m c := by funext k j; exact congrFun g2 _
  refine Eq.trans ?_ (arr_11 m c).symm
  funext y
  obtain ⟨r, l, rfl⟩ : ∃ (r : Fin 32768) (l : Fin 512), y = ix2 r l :=
    ⟨y (0 : Fin 2), y (1 : Fin 2), by funext a; match a with | ⟨0, _⟩ => rfl | ⟨1, _⟩ => rfl⟩
  refine (Cert.ProjRef.v106_at _ _ _ r l).trans ?_
  rw [e0, e1, e2]
  rfl

/-- Result 3: the reference's array is the kernel's. -/
theorem same_12 (hg : Same m m' c) : Cert.Reference4Ideal.Read.val_main_v107 (F := Ideal) (arg0 m' c) (arg1 m' c) (arg2 m' c) = (Cert.Kernel4Ideal.Frame.dats m 0 c).arrAt 12 Cert.Kernel4Ideal.cfg0.N := by
  obtain ⟨g0, g1, g2⟩ := hg
  have e0 : (fun R k => arg0 m' c (ix2 R k)) = xOf m c := by funext R k; exact congrFun g0 _
  have e1 : (fun k => arg1 m' c (ix1 k)) = gOf m c := by funext k; exact congrFun g1 _
  have e2 : (fun k j => arg2 m' c (ix2 k j)) = wOf m c := by funext k j; exact congrFun g2 _
  refine Eq.trans ?_ (arr_12 m c).symm
  funext y
  obtain ⟨r, l, rfl⟩ : ∃ (r : Fin 32768) (l : Fin 512), y = ix2 r l :=
    ⟨y (0 : Fin 2), y (1 : Fin 2), by funext a; match a with | ⟨0, _⟩ => rfl | ⟨1, _⟩ => rfl⟩
  refine (Cert.ProjRef.v107_at _ _ _ r l).trans ?_
  rw [e0, e1, e2]
  rfl

/-- Result 4: the reference's array is the kernel's. -/
theorem same_13 (hg : Same m m' c) : Cert.Reference4Ideal.Read.val_main_v142 (F := Ideal) (arg0 m' c) (arg1 m' c) (arg2 m' c) = (Cert.Kernel4Ideal.Frame.dats m 0 c).arrAt 13 Cert.Kernel4Ideal.cfg0.N := by
  obtain ⟨g0, g1, g2⟩ := hg
  have e0 : (fun R k => arg0 m' c (ix2 R k)) = xOf m c := by funext R k; exact congrFun g0 _
  have e1 : (fun k => arg1 m' c (ix1 k)) = gOf m c := by funext k; exact congrFun g1 _
  have e2 : (fun k j => arg2 m' c (ix2 k j)) = wOf m c := by funext k j; exact congrFun g2 _
  refine Eq.trans ?_ (arr_13 m c).symm
  funext y
  obtain ⟨r, l, rfl⟩ : ∃ (r : Fin 32768) (l : Fin 512), y = ix2 r l :=
    ⟨y (0 : Fin 2), y (1 : Fin 2), by funext a; match a with | ⟨0, _⟩ => rfl | ⟨1, _⟩ => rfl⟩
  refine (Cert.ProjRef.v142_at _ _ _ r l).trans ?_
  rw [e0, e1, e2]
  rfl

/-- Result 5: the reference's array is the kernel's. -/
theorem same_14 (hg : Same m m' c) : Cert.Reference4Ideal.Read.val_main_v177 (F := Ideal) (arg0 m' c) (arg1 m' c) (arg2 m' c) = (Cert.Kernel4Ideal.Frame.dats m 0 c).arrAt 14 Cert.Kernel4Ideal.cfg0.N := by
  obtain ⟨g0, g1, g2⟩ := hg
  have e0 : (fun R k => arg0 m' c (ix2 R k)) = xOf m c := by funext R k; exact congrFun g0 _
  have e1 : (fun k => arg1 m' c (ix1 k)) = gOf m c := by funext k; exact congrFun g1 _
  have e2 : (fun k j => arg2 m' c (ix2 k j)) = wOf m c := by funext k j; exact congrFun g2 _
  refine Eq.trans ?_ (arr_14 m c).symm
  funext y
  obtain ⟨r, l, rfl⟩ : ∃ (r : Fin 32768) (l : Fin 512), y = ix2 r l :=
    ⟨y (0 : Fin 2), y (1 : Fin 2), by funext a; match a with | ⟨0, _⟩ => rfl | ⟨1, _⟩ => rfl⟩
  refine (Cert.ProjRef.v177_at _ _ _ r l).trans ?_
  rw [e0, e1, e2]
  rfl

/-- Result 6: the reference's array is the kernel's. -/
theorem same_15 (hg : Same m m' c) : Cert.Reference4Ideal.Read.val_main_v178 (F := Ideal) (arg0 m' c) (arg1 m' c) (arg2 m' c) = (Cert.Kernel4Ideal.Frame.dats m 0 c).arrAt 15 Cert.Kernel4Ideal.cfg0.N := by
  obtain ⟨g0, g1, g2⟩ := hg
  have e0 : (fun R k => arg0 m' c (ix2 R k)) = xOf m c := by funext R k; exact congrFun g0 _
  have e1 : (fun k => arg1 m' c (ix1 k)) = gOf m c := by funext k; exact congrFun g1 _
  have e2 : (fun k j => arg2 m' c (ix2 k j)) = wOf m c := by funext k j; exact congrFun g2 _
  refine Eq.trans ?_ (arr_15 m c).symm
  funext y
  obtain ⟨r, l, rfl⟩ : ∃ (r : Fin 32768) (l : Fin 512), y = ix2 r l :=
    ⟨y (0 : Fin 2), y (1 : Fin 2), by funext a; match a with | ⟨0, _⟩ => rfl | ⟨1, _⟩ => rfl⟩
  refine (Cert.ProjRef.v178_at _ _ _ r l).trans ?_
  rw [e0, e1, e2]
  rfl

/-- Result 7: the reference's array is the kernel's. -/
theorem same_16 (hg : Same m m' c) : Cert.Reference4Ideal.Read.val_main_v179 (F := Ideal) (arg0 m' c) (arg1 m' c) (arg2 m' c) = (Cert.Kernel4Ideal.Frame.dats m 0 c).arrAt 16 Cert.Kernel4Ideal.cfg0.N := by
  obtain ⟨g0, g1, g2⟩ := hg
  have e0 : (fun R k => arg0 m' c (ix2 R k)) = xOf m c := by funext R k; exact congrFun g0 _
  have e1 : (fun k => arg1 m' c (ix1 k)) = gOf m c := by funext k; exact congrFun g1 _
  have e2 : (fun k j => arg2 m' c (ix2 k j)) = wOf m c := by funext k j; exact congrFun g2 _
  refine Eq.trans ?_ (arr_16 m c).symm
  funext y
  obtain ⟨r, l, rfl⟩ : ∃ (r : Fin 32768) (l : Fin 512), y = ix2 r l :=
    ⟨y (0 : Fin 2), y (1 : Fin 2), by funext a; match a with | ⟨0, _⟩ => rfl | ⟨1, _⟩ => rfl⟩
  refine (Cert.ProjRef.v179_at _ _ _ r l).trans ?_
  rw [e0, e1, e2]
  rfl

/-- Result 8: the reference's array is the kernel's. -/
theorem same_17 (hg : Same m m' c) : Cert.Reference4Ideal.Read.val_main_v214 (F := Ideal) (arg0 m' c) (arg1 m' c) (arg2 m' c) = (Cert.Kernel4Ideal.Frame.dats m 0 c).arrAt 17 Cert.Kernel4Ideal.cfg0.N := by
  obtain ⟨g0, g1, g2⟩ := hg
  have e0 : (fun R k => arg0 m' c (ix2 R k)) = xOf m c := by funext R k; exact congrFun g0 _
  have e1 : (fun k => arg1 m' c (ix1 k)) = gOf m c := by funext k; exact congrFun g1 _
  have e2 : (fun k j => arg2 m' c (ix2 k j)) = wOf m c := by funext k j; exact congrFun g2 _
  refine Eq.trans ?_ (arr_17 m c).symm
  funext y
  obtain ⟨r, l, rfl⟩ : ∃ (r : Fin 32768) (l : Fin 512), y = ix2 r l :=
    ⟨y (0 : Fin 2), y (1 : Fin 2), by funext a; match a with | ⟨0, _⟩ => rfl | ⟨1, _⟩ => rfl⟩
  refine (Cert.ProjRef.v214_at _ _ _ r l).trans ?_
  rw [e0, e1, e2]
  rfl

/-- Result 9: the reference's array is the kernel's. -/
theorem same_18 (hg : Same m m' c) : Cert.Reference4Ideal.Read.val_main_v249 (F := Ideal) (arg0 m' c) (arg1 m' c) (arg2 m' c) = (Cert.Kernel4Ideal.Frame.dats m 0 c).arrAt 18 Cert.Kernel4Ideal.cfg0.N := by
  obtain ⟨g0, g1, g2⟩ := hg
  have e0 : (fun R k => arg0 m' c (ix2 R k)) = xOf m c := by funext R k; exact congrFun g0 _
  have e1 : (fun k => arg1 m' c (ix1 k)) = gOf m c := by funext k; exact congrFun g1 _
  have e2 : (fun k j => arg2 m' c (ix2 k j)) = wOf m c := by funext k j; exact congrFun g2 _
  refine Eq.trans ?_ (arr_18 m c).symm
  funext y
  obtain ⟨r, l, rfl⟩ : ∃ (r : Fin 32768) (l : Fin 128), y = ix2 r l :=
    ⟨y (0 : Fin 2), y (1 : Fin 2), by funext a; match a with | ⟨0, _⟩ => rfl | ⟨1, _⟩ => rfl⟩
  refine (Cert.ProjRef.v249_at _ _ _ r l).trans ?_
  rw [e0, e1, e2]
  rfl

/-- Result 10: the reference's array is the kernel's. -/
theorem same_19 (hg : Same m m' c) : Cert.Reference4Ideal.Read.val_main_v250 (F := Ideal) (arg0 m' c) (arg1 m' c) (arg2 m' c) = (Cert.Kernel4Ideal.Frame.dats m 0 c).arrAt 19 Cert.Kernel4Ideal.cfg0.N := by
  obtain ⟨g0, g1, g2⟩ := hg
  have e0 : (fun R k => arg0 m' c (ix2 R k)) = xOf m c := by funext R k; exact congrFun g0 _
  have e1 : (fun k => arg1 m' c (ix1 k)) = gOf m c := by funext k; exact congrFun g1 _
  have e2 : (fun k j => arg2 m' c (ix2 k j)) = wOf m c := by funext k j; exact congrFun g2 _
  refine Eq.trans ?_ (arr_19 m c).symm
  funext y
  obtain ⟨r, l, rfl⟩ : ∃ (r : Fin 32768) (l : Fin 128), y = ix2 r l :=
    ⟨y (0 : Fin 2), y (1 : Fin 2), by funext a; match a with | ⟨0, _⟩ => rfl | ⟨1, _⟩ => rfl⟩
  refine (Cert.ProjRef.v250_at _ _ _ r l).trans ?_
  rw [e0, e1, e2]
  rfl

/-- Result 11: the reference's array is the kernel's. -/
theorem same_20 (hg : Same m m' c) : Cert.Reference4Ideal.Read.val_main_v251 (F := Ideal) (arg0 m' c) (arg1 m' c) (arg2 m' c) = (Cert.Kernel4Ideal.Frame.dats m 0 c).arrAt 20 Cert.Kernel4Ideal.cfg0.N := by
  obtain ⟨g0, g1, g2⟩ := hg
  have e0 : (fun R k => arg0 m' c (ix2 R k)) = xOf m c := by funext R k; exact congrFun g0 _
  have e1 : (fun k => arg1 m' c (ix1 k)) = gOf m c := by funext k; exact congrFun g1 _
  have e2 : (fun k j => arg2 m' c (ix2 k j)) = wOf m c := by funext k j; exact congrFun g2 _
  refine Eq.trans ?_ (arr_20 m c).symm
  funext y
  obtain ⟨r, l, rfl⟩ : ∃ (r : Fin 32768) (l : Fin 512), y = ix2 r l :=
    ⟨y (0 : Fin 2), y (1 : Fin 2), by funext a; match a with | ⟨0, _⟩ => rfl | ⟨1, _⟩ => rfl⟩
  refine (Cert.ProjRef.v251_at _ _ _ r l).trans ?_
  rw [e0, e1, e2]
  rfl

/-- Result 12: the reference's array is the kernel's. -/
theorem same_21 (hg : Same m m' c) : Cert.Reference4Ideal.Read.val_main_v286 (F := Ideal) (arg0 m' c) (arg1 m' c) (arg2 m' c) = (Cert.Kernel4Ideal.Frame.dats m 0 c).arrAt 21 Cert.Kernel4Ideal.cfg0.N := by
  obtain ⟨g0, g1, g2⟩ := hg
  have e0 : (fun R k => arg0 m' c (ix2 R k)) = xOf m c := by funext R k; exact congrFun g0 _
  have e1 : (fun k => arg1 m' c (ix1 k)) = gOf m c := by funext k; exact congrFun g1 _
  have e2 : (fun k j => arg2 m' c (ix2 k j)) = wOf m c := by funext k j; exact congrFun g2 _
  refine Eq.trans ?_ (arr_21 m c).symm
  funext y
  obtain ⟨r, l, rfl⟩ : ∃ (r : Fin 32768) (l : Fin 512), y = ix2 r l :=
    ⟨y (0 : Fin 2), y (1 : Fin 2), by funext a; match a with | ⟨0, _⟩ => rfl | ⟨1, _⟩ => rfl⟩
  refine (Cert.ProjRef.v286_at _ _ _ r l).trans ?_
  rw [e0, e1, e2]
  rfl

/-- Result 13: the reference's array is the kernel's. -/
theorem same_22 (hg : Same m m' c) : Cert.Reference4Ideal.Read.val_main_v321 (F := Ideal) (arg0 m' c) (arg1 m' c) (arg2 m' c) = (Cert.Kernel4Ideal.Frame.dats m 0 c).arrAt 22 Cert.Kernel4Ideal.cfg0.N := by
  obtain ⟨g0, g1, g2⟩ := hg
  have e0 : (fun R k => arg0 m' c (ix2 R k)) = xOf m c := by funext R k; exact congrFun g0 _
  have e1 : (fun k => arg1 m' c (ix1 k)) = gOf m c := by funext k; exact congrFun g1 _
  have e2 : (fun k j => arg2 m' c (ix2 k j)) = wOf m c := by funext k j; exact congrFun g2 _
  refine Eq.trans ?_ (arr_22 m c).symm
  funext y
  obtain ⟨r, l, rfl⟩ : ∃ (r : Fin 32768) (l : Fin 64), y = ix2 r l :=
    ⟨y (0 : Fin 2), y (1 : Fin 2), by funext a; match a with | ⟨0, _⟩ => rfl | ⟨1, _⟩ => rfl⟩
  refine (Cert.ProjRef.v321_at _ _ _ r l).trans ?_
  rw [e0, e1, e2]
  rfl

/-- Result 14: the reference's array is the kernel's. -/
theorem same_23 (hg : Same m m' c) : Cert.Reference4Ideal.Read.val_main_v322 (F := Ideal) (arg0 m' c) (arg1 m' c) (arg2 m' c) = (Cert.Kernel4Ideal.Frame.dats m 0 c).arrAt 23 Cert.Kernel4Ideal.cfg0.N := by
  obtain ⟨g0, g1, g2⟩ := hg
  have e0 : (fun R k => arg0 m' c (ix2 R k)) = xOf m c := by funext R k; exact congrFun g0 _
  have e1 : (fun k => arg1 m' c (ix1 k)) = gOf m c := by funext k; exact congrFun g1 _
  have e2 : (fun k j => arg2 m' c (ix2 k j)) = wOf m c := by funext k j; exact congrFun g2 _
  refine Eq.trans ?_ (arr_23 m c).symm
  funext y
  obtain ⟨r, l, rfl⟩ : ∃ (r : Fin 32768) (l : Fin 8), y = ix2 r l :=
    ⟨y (0 : Fin 2), y (1 : Fin 2), by funext a; match a with | ⟨0, _⟩ => rfl | ⟨1, _⟩ => rfl⟩
  refine (Cert.ProjRef.v322_at _ _ _ r l).trans ?_
  rw [e0, e1, e2]
  rfl

/-- Result 15: the reference's array is the kernel's. -/
theorem same_24 (hg : Same m m' c) : Cert.Reference4Ideal.Read.val_main_v323 (F := Ideal) (arg0 m' c) (arg1 m' c) (arg2 m' c) = (Cert.Kernel4Ideal.Frame.dats m 0 c).arrAt 24 Cert.Kernel4Ideal.cfg0.N := by
  obtain ⟨g0, g1, g2⟩ := hg
  have e0 : (fun R k => arg0 m' c (ix2 R k)) = xOf m c := by funext R k; exact congrFun g0 _
  have e1 : (fun k => arg1 m' c (ix1 k)) = gOf m c := by funext k; exact congrFun g1 _
  have e2 : (fun k j => arg2 m' c (ix2 k j)) = wOf m c := by funext k j; exact congrFun g2 _
  refine Eq.trans ?_ (arr_24 m c).symm
  funext y
  obtain ⟨r, l, rfl⟩ : ∃ (r : Fin 32768) (l : Fin 512), y = ix2 r l :=
    ⟨y (0 : Fin 2), y (1 : Fin 2), by funext a; match a with | ⟨0, _⟩ => rfl | ⟨1, _⟩ => rfl⟩
  refine (Cert.ProjRef.v323_at _ _ _ r l).trans ?_
  rw [e0, e1, e2]
  rfl

/-- Result 16: the reference's array is the kernel's. -/
theorem same_25 (hg : Same m m' c) : Cert.Reference4Ideal.Read.val_main_v324 (F := Ideal) (arg0 m' c) (arg1 m' c) (arg2 m' c) = (Cert.Kernel4Ideal.Frame.dats m 0 c).arrAt 25 Cert.Kernel4Ideal.cfg0.N := by
  obtain ⟨g0, g1, g2⟩ := hg
  have e0 : (fun R k => arg0 m' c (ix2 R k)) = xOf m c := by funext R k; exact congrFun g0 _
  have e1 : (fun k => arg1 m' c (ix1 k)) = gOf m c := by funext k; exact congrFun g1 _
  have e2 : (fun k j => arg2 m' c (ix2 k j)) = wOf m c := by funext k j; exact congrFun g2 _
  refine Eq.trans ?_ (arr_25 m c).symm
  funext y
  obtain ⟨r, l, rfl⟩ : ∃ (r : Fin 32768) (l : Fin 512), y = ix2 r l :=
    ⟨y (0 : Fin 2), y (1 : Fin 2), by funext a; match a with | ⟨0, _⟩ => rfl | ⟨1, _⟩ => rfl⟩
  refine (Cert.ProjRef.v324_at _ _ _ r l).trans ?_
  rw [e0, e1, e2]
  rfl

/-- The two programs, from equal arguments, end with equal results. -/
theorem algebraic : Cert.algebraic_Kernel4Ideal_Reference4Ideal := by
  intro m ρ m' ρ' _ hagree
  refine ⟨fun c => (Cert.Kernel4Ideal.Frame.dats m 0 c).arrAt 9 Cert.Kernel4Ideal.cfg0.N, fun c => (Cert.Kernel4Ideal.Frame.dats m 0 c).arrAt 10 Cert.Kernel4Ideal.cfg0.N, fun c => (Cert.Kernel4Ideal.Frame.dats m 0 c).arrAt 11 Cert.Kernel4Ideal.cfg0.N, fun c => (Cert.Kernel4Ideal.Frame.dats m 0 c).arrAt 12 Cert.Kernel4Ideal.cfg0.N, fun c => (Cert.Kernel4Ideal.Frame.dats m 0 c).arrAt 13 Cert.Kernel4Ideal.cfg0.N, fun c => (Cert.Kernel4Ideal.Frame.dats m 0 c).arrAt 14 Cert.Kernel4Ideal.cfg0.N, fun c => (Cert.Kernel4Ideal.Frame.dats m 0 c).arrAt 15 Cert.Kernel4Ideal.cfg0.N, fun c => (Cert.Kernel4Ideal.Frame.dats m 0 c).arrAt 16 Cert.Kernel4Ideal.cfg0.N, fun c => (Cert.Kernel4Ideal.Frame.dats m 0 c).arrAt 17 Cert.Kernel4Ideal.cfg0.N, fun c => (Cert.Kernel4Ideal.Frame.dats m 0 c).arrAt 18 Cert.Kernel4Ideal.cfg0.N, fun c => (Cert.Kernel4Ideal.Frame.dats m 0 c).arrAt 19 Cert.Kernel4Ideal.cfg0.N, fun c => (Cert.Kernel4Ideal.Frame.dats m 0 c).arrAt 20 Cert.Kernel4Ideal.cfg0.N, fun c => (Cert.Kernel4Ideal.Frame.dats m 0 c).arrAt 21 Cert.Kernel4Ideal.cfg0.N, fun c => (Cert.Kernel4Ideal.Frame.dats m 0 c).arrAt 22 Cert.Kernel4Ideal.cfg0.N, fun c => (Cert.Kernel4Ideal.Frame.dats m 0 c).arrAt 23 Cert.Kernel4Ideal.cfg0.N, fun c => (Cert.Kernel4Ideal.Frame.dats m 0 c).arrAt 24 Cert.Kernel4Ideal.cfg0.N, fun c => (Cert.Kernel4Ideal.Frame.dats m 0 c).arrAt 25 Cert.Kernel4Ideal.cfg0.N,
    run_blocks m ρ, ?_⟩
  refine (θ_run _ _ _).mono (fun _ h c => ?_) (Cert.Reference4Ideal.Value.run (F := Ideal) m' ρ')
  obtain ⟨h0, h1, h2, h3, h4, h5, h6, h7, h8, h9, h10, h11, h12, h13, h14, h15, h16, hk⟩ := h c
  exact ⟨h0.trans ((Cert.Reference4Ideal.Read.val_main_v68_eq _).trans (same_9 m m' c (hagree c))), h1.trans ((Cert.Reference4Ideal.Read.val_main_v105_eq _).trans (same_10 m m' c (hagree c))), h2.trans ((Cert.Reference4Ideal.Read.val_main_v106_eq _).trans (same_11 m m' c (hagree c))), h3.trans ((Cert.Reference4Ideal.Read.val_main_v107_eq _).trans (same_12 m m' c (hagree c))), h4.trans ((Cert.Reference4Ideal.Read.val_main_v142_eq _).trans (same_13 m m' c (hagree c))), h5.trans ((Cert.Reference4Ideal.Read.val_main_v177_eq _).trans (same_14 m m' c (hagree c))), h6.trans ((Cert.Reference4Ideal.Read.val_main_v178_eq _).trans (same_15 m m' c (hagree c))), h7.trans ((Cert.Reference4Ideal.Read.val_main_v179_eq _).trans (same_16 m m' c (hagree c))), h8.trans ((Cert.Reference4Ideal.Read.val_main_v214_eq _).trans (same_17 m m' c (hagree c))), h9.trans ((Cert.Reference4Ideal.Read.val_main_v249_eq _).trans (same_18 m m' c (hagree c))), h10.trans ((Cert.Reference4Ideal.Read.val_main_v250_eq _).trans (same_19 m m' c (hagree c))), h11.trans ((Cert.Reference4Ideal.Read.val_main_v251_eq _).trans (same_20 m m' c (hagree c))), h12.trans ((Cert.Reference4Ideal.Read.val_main_v286_eq _).trans (same_21 m m' c (hagree c))), h13.trans ((Cert.Reference4Ideal.Read.val_main_v321_eq _).trans (same_22 m m' c (hagree c))), h14.trans ((Cert.Reference4Ideal.Read.val_main_v322_eq _).trans (same_23 m m' c (hagree c))), h15.trans ((Cert.Reference4Ideal.Read.val_main_v323_eq _).trans (same_24 m m' c (hagree c))), h16.trans ((Cert.Reference4Ideal.Read.val_main_v324_eq _).trans (same_25 m m' c (hagree c))), hk⟩

end Cert.Proj
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Step
public import proofs.«01_k».proof.Proof.RetClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Read
public import proofs.«01_k».proof.Proof.MergeClaim
public import proofs.«01_k».proof.Proof.MemClaim
public import proofs.«01_k».proof.Proof.ProjClaim
public import proofs.«01_k».proof.Proof.ProjFrame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, by
  exact ⟨fun m ρ _ => Cert.Kernel.Gen.frame m ρ, fun m ρ _ => Cert.KernelIdeal.Gen.frame m ρ, Cert.Ret.frame_reference,
    fun m ρ _ => Cert.Kernel2.Gen.frame m ρ, fun m ρ _ => Cert.Kernel2Ideal.Gen.frame m ρ, Cert.Merge.frame_reference,
    fun m ρ _ => Cert.Kernel3.Gen.frame m ρ, fun m ρ _ => Cert.Kernel3Ideal.Gen.frame m ρ, Cert.Mem.frame_reference,
    fun m ρ _ => Cert.Kernel4.Frame.frame m ρ, fun m ρ _ => Cert.Kernel4Ideal.Frame.frame m ρ, Cert.Proj.frame_reference,
    trivial, Cert.Ret.algebraic, trivial, Cert.Merge.algebraic, trivial, Cert.Mem.algebraic, trivial, Cert.Proj.algebraic⟩⟩

end Cert.Proof

end
